-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x256 : Shape := ⟨2, ![65536, 256]⟩
abbrev S65536x1 : Shape := ⟨2, ![65536, 1]⟩
abbrev S64x1024 : Shape := ⟨2, ![64, 1024]⟩
abbrev S_ : Shape := ⟨0, ![]⟩
abbrev S1 : Shape := ⟨1, ![1]⟩
abbrev S2 : Shape := ⟨1, ![2]⟩
abbrev S1x1x1 : Shape := ⟨3, ![1, 1, 1]⟩
abbrev S1024x64x64 : Shape := ⟨3, ![1024, 64, 64]⟩
abbrev S64x64x1024 : Shape := ⟨3, ![64, 64, 1024]⟩
abbrev S64x64x4x256 : Shape := ⟨4, ![64, 64, 4, 256]⟩
abbrev S4x64x64x256 : Shape := ⟨4, ![4, 64, 64, 256]⟩
abbrev S64x256 : Shape := ⟨2, ![64, 256]⟩
abbrev S2x64x256 : Shape := ⟨3, ![2, 64, 256]⟩
abbrev S8x256 : Shape := ⟨2, ![8, 256]⟩
abbrev S1x2x64x256 : Shape := ⟨4, ![1, 2, 64, 256]⟩
abbrev S1x1x16 : Shape := ⟨3, ![1, 1, 16]⟩
abbrev S16 : Shape := ⟨1, ![16]⟩
abbrev S1x16 : Shape := ⟨2, ![1, 16]⟩
abbrev S1024 : Shape := ⟨1, ![1024]⟩
abbrev S1x1024 : Shape := ⟨2, ![1, 1024]⟩
abbrev S65536x2x128 : Shape := ⟨3, ![65536, 2, 128]⟩
abbrev S512x128 : Shape := ⟨2, ![512, 128]⟩
abbrev S16x128 : Shape := ⟨2, ![16, 128]⟩
abbrev S128x2x128 : Shape := ⟨3, ![128, 2, 128]⟩
abbrev S1x128 : Shape := ⟨2, ![1, 128]⟩
abbrev S128 : Shape := ⟨1, ![128]⟩

abbrev nBuf : Table → Nat
  | .hbm => 298
  | .local .tc .vmem => 5
  | .local .scVector .vmem => 9
  | _ => 0

abbrev hbmTy0_0 (i : Nat) : BufTy := match i % 128 with
  | 0 => ⟨S65536x256, .f32⟩
  | 1 => ⟨S65536x1, .f32⟩
  | 2 => ⟨S64x1024, .f32⟩
  | 3 => ⟨S64x1024, .f32⟩
  | 4 => ⟨S64x1024, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S1x1x1, .f32⟩
  | 19 => ⟨S1x1x1, .f32⟩
  | 20 => ⟨S1, .i32⟩
  | 21 => ⟨S_, .i32⟩
  | 22 => ⟨S1, .i32⟩
  | 23 => ⟨S_, .i32⟩
  | 24 => ⟨S1024x64x64, .i64⟩
  | 25 => ⟨S1024x64x64, .i64⟩
  | 26 => ⟨S1024x64x64, .i64⟩
  | 27 => ⟨S_, .i64⟩
  | 28 => ⟨S1024x64x64, .i64⟩
  | 29 => ⟨S1024x64x64, .i64⟩
  | 30 => ⟨S_, .i64⟩
  | 31 => ⟨S1024x64x64, .i64⟩
  | 32 => ⟨S1024x64x64, .i64⟩
  | 33 => ⟨S_, .i64⟩
  | 34 => ⟨S1024x64x64, .i64⟩
  | 35 => ⟨S1024x64x64, .i64⟩
  | 36 => ⟨S1024x64x64, .i64⟩
  | 37 => ⟨S1024x64x64, .i64⟩
  | 38 => ⟨S_, .i64⟩
  | 39 => ⟨S1024x64x64, .i64⟩
  | 40 => ⟨S1024x64x64, .i64⟩
  | 41 => ⟨S1024x64x64, .i32⟩
  | 42 => ⟨S1024x64x64, .i32⟩
  | 43 => ⟨S_, .i32⟩
  | 44 => ⟨S_, .i32⟩
  | 45 => ⟨S_, .i32⟩
  | 46 => ⟨S1024x64x64, .i32⟩
  | 47 => ⟨S1024x64x64, .i32⟩
  | 48 => ⟨S1024x64x64, .i32⟩
  | 49 => ⟨S1024x64x64, .i32⟩
  | 50 => ⟨S1024x64x64, .i32⟩
  | 51 => ⟨S_, .i32⟩
  | 52 => ⟨S1024x64x64, .i32⟩
  | 53 => ⟨S1024x64x64, .i32⟩
  | 54 => ⟨S_, .i32⟩
  | 55 => ⟨S1024x64x64, .i32⟩
  | 56 => ⟨S1024x64x64, .i32⟩
  | 57 => ⟨S1024x64x64, .i32⟩
  | 58 => ⟨S1024x64x64, .i32⟩
  | 59 => ⟨S1024x64x64, .i32⟩
  | 60 => ⟨S_, .i32⟩
  | 61 => ⟨S1024x64x64, .i32⟩
  | 62 => ⟨S1024x64x64, .i32⟩
  | 63 => ⟨S_, .i32⟩
  | 64 => ⟨S1024x64x64, .i32⟩
  | 65 => ⟨S1024x64x64, .i32⟩
  | 66 => ⟨S1024x64x64, .i32⟩
  | 67 => ⟨S1024x64x64, .i32⟩
  | 68 => ⟨S1024x64x64, .i32⟩
  | 69 => ⟨S_, .i32⟩
  | 70 => ⟨S1024x64x64, .i32⟩
  | 71 => ⟨S1024x64x64, .i32⟩
  | 72 => ⟨S_, .i32⟩
  | 73 => ⟨S1024x64x64, .i32⟩
  | 74 => ⟨S1024x64x64, .i32⟩
  | 75 => ⟨S1024x64x64, .i32⟩
  | 76 => ⟨S1024x64x64, .i32⟩
  | 77 => ⟨S1024x64x64, .i32⟩
  | 78 => ⟨S_, .i32⟩
  | 79 => ⟨S1024x64x64, .i32⟩
  | 80 => ⟨S1024x64x64, .i32⟩
  | 81 => ⟨S_, .i32⟩
  | 82 => ⟨S1024x64x64, .i32⟩
  | 83 => ⟨S1024x64x64, .i32⟩
  | 84 => ⟨S1024x64x64, .i32⟩
  | 85 => ⟨S1024x64x64, .i32⟩
  | 86 => ⟨S1024x64x64, .i32⟩
  | 87 => ⟨S1024x64x64, .i32⟩
  | 88 => ⟨S1024x64x64, .i32⟩
  | 89 => ⟨S1024x64x64, .i32⟩
  | 90 => ⟨S_, .i32⟩
  | 91 => ⟨S1024x64x64, .i32⟩
  | 92 => ⟨S1024x64x64, .i32⟩
  | 93 => ⟨S1024x64x64, .i32⟩
  | 94 => ⟨S_, .i32⟩
  | 95 => ⟨S1024x64x64, .i32⟩
  | 96 => ⟨S1024x64x64, .i32⟩
  | 97 => ⟨S_, .i32⟩
  | 98 => ⟨S1024x64x64, .i32⟩
  | 99 => ⟨S1024x64x64, .i32⟩
  | 100 => ⟨S1024x64x64, .i32⟩
  | 101 => ⟨S1024x64x64, .i32⟩
  | 102 => ⟨S1024x64x64, .i32⟩
  | 103 => ⟨S_, .i32⟩
  | 104 => ⟨S1024x64x64, .i32⟩
  | 105 => ⟨S1024x64x64, .i32⟩
  | 106 => ⟨S_, .i32⟩
  | 107 => ⟨S1024x64x64, .i32⟩
  | 108 => ⟨S1024x64x64, .i32⟩
  | 109 => ⟨S1024x64x64, .i32⟩
  | 110 => ⟨S1024x64x64, .i32⟩
  | 111 => ⟨S1024x64x64, .i32⟩
  | 112 => ⟨S_, .i32⟩
  | 113 => ⟨S1024x64x64, .i32⟩
  | 114 => ⟨S1024x64x64, .i32⟩
  | 115 => ⟨S_, .i32⟩
  | 116 => ⟨S1024x64x64, .i32⟩
  | 117 => ⟨S1024x64x64, .i32⟩
  | 118 => ⟨S1024x64x64, .i32⟩
  | 119 => ⟨S1024x64x64, .i32⟩
  | 120 => ⟨S1024x64x64, .i32⟩
  | 121 => ⟨S_, .i32⟩
  | 122 => ⟨S1024x64x64, .i32⟩
  | 123 => ⟨S1024x64x64, .i32⟩
  | 124 => ⟨S_, .i32⟩
  | 125 => ⟨S1024x64x64, .i32⟩
  | 126 => ⟨S1024x64x64, .i32⟩
  | 127 => ⟨S1024x64x64, .i32⟩
  | _ => ⟨S65536x256, .f32⟩

abbrev hbmTy0_1 (i : Nat) : BufTy := match i % 128 with
  | 0 => ⟨S1024x64x64, .i32⟩
  | 1 => ⟨S1024x64x64, .i32⟩
  | 2 => ⟨S1024x64x64, .i32⟩
  | 3 => ⟨S1024x64x64, .i32⟩
  | 4 => ⟨S1024x64x64, .i32⟩
  | 5 => ⟨S_, .i32⟩
  | 6 => ⟨S1024x64x64, .i32⟩
  | 7 => ⟨S1024x64x64, .i32⟩
  | 8 => ⟨S1024x64x64, .i32⟩
  | 9 => ⟨S_, .i32⟩
  | 10 => ⟨S1024x64x64, .i32⟩
  | 11 => ⟨S1024x64x64, .i32⟩
  | 12 => ⟨S_, .i32⟩
  | 13 => ⟨S1024x64x64, .i32⟩
  | 14 => ⟨S1024x64x64, .i32⟩
  | 15 => ⟨S1024x64x64, .i32⟩
  | 16 => ⟨S1024x64x64, .i32⟩
  | 17 => ⟨S1024x64x64, .i32⟩
  | 18 => ⟨S_, .i32⟩
  | 19 => ⟨S1024x64x64, .i32⟩
  | 20 => ⟨S1024x64x64, .i32⟩
  | 21 => ⟨S_, .i32⟩
  | 22 => ⟨S1024x64x64, .i32⟩
  | 23 => ⟨S1024x64x64, .i32⟩
  | 24 => ⟨S1024x64x64, .i32⟩
  | 25 => ⟨S1024x64x64, .i32⟩
  | 26 => ⟨S1024x64x64, .i32⟩
  | 27 => ⟨S_, .i32⟩
  | 28 => ⟨S1024x64x64, .i32⟩
  | 29 => ⟨S1024x64x64, .i32⟩
  | 30 => ⟨S_, .i32⟩
  | 31 => ⟨S1024x64x64, .i32⟩
  | 32 => ⟨S1024x64x64, .i32⟩
  | 33 => ⟨S1024x64x64, .i32⟩
  | 34 => ⟨S1024x64x64, .i32⟩
  | 35 => ⟨S1024x64x64, .i32⟩
  | 36 => ⟨S_, .i32⟩
  | 37 => ⟨S1024x64x64, .i32⟩
  | 38 => ⟨S1024x64x64, .i32⟩
  | 39 => ⟨S_, .i32⟩
  | 40 => ⟨S1024x64x64, .i32⟩
  | 41 => ⟨S1024x64x64, .i32⟩
  | 42 => ⟨S1024x64x64, .i32⟩
  | 43 => ⟨S1024x64x64, .i32⟩
  | 44 => ⟨S1024x64x64, .i32⟩
  | 45 => ⟨S1024x64x64, .i32⟩
  | 46 => ⟨S1024x64x64, .i32⟩
  | 47 => ⟨S1024x64x64, .i32⟩
  | 48 => ⟨S_, .i32⟩
  | 49 => ⟨S1024x64x64, .i32⟩
  | 50 => ⟨S1024x64x64, .i32⟩
  | 51 => ⟨S1024x64x64, .i32⟩
  | 52 => ⟨S_, .i32⟩
  | 53 => ⟨S1024x64x64, .i32⟩
  | 54 => ⟨S1024x64x64, .i32⟩
  | 55 => ⟨S_, .i32⟩
  | 56 => ⟨S1024x64x64, .i32⟩
  | 57 => ⟨S1024x64x64, .i32⟩
  | 58 => ⟨S1024x64x64, .i32⟩
  | 59 => ⟨S1024x64x64, .i32⟩
  | 60 => ⟨S1024x64x64, .i32⟩
  | 61 => ⟨S_, .i32⟩
  | 62 => ⟨S1024x64x64, .i32⟩
  | 63 => ⟨S1024x64x64, .i32⟩
  | 64 => ⟨S_, .i32⟩
  | 65 => ⟨S1024x64x64, .i32⟩
  | 66 => ⟨S1024x64x64, .i32⟩
  | 67 => ⟨S1024x64x64, .i32⟩
  | 68 => ⟨S1024x64x64, .i32⟩
  | 69 => ⟨S1024x64x64, .i32⟩
  | 70 => ⟨S_, .i32⟩
  | 71 => ⟨S1024x64x64, .i32⟩
  | 72 => ⟨S1024x64x64, .i32⟩
  | 73 => ⟨S_, .i32⟩
  | 74 => ⟨S1024x64x64, .i32⟩
  | 75 => ⟨S1024x64x64, .i32⟩
  | 76 => ⟨S1024x64x64, .i32⟩
  | 77 => ⟨S1024x64x64, .i32⟩
  | 78 => ⟨S1024x64x64, .i32⟩
  | 79 => ⟨S_, .i32⟩
  | 80 => ⟨S1024x64x64, .i32⟩
  | 81 => ⟨S1024x64x64, .i32⟩
  | 82 => ⟨S_, .i32⟩
  | 83 => ⟨S1024x64x64, .i32⟩
  | 84 => ⟨S1024x64x64, .i32⟩
  | 85 => ⟨S1024x64x64, .i32⟩
  | 86 => ⟨S1024x64x64, .i32⟩
  | 87 => ⟨S1024x64x64, .i32⟩
  | 88 => ⟨S1024x64x64, .i32⟩
  | 89 => ⟨S1024x64x64, .i32⟩
  | 90 => ⟨S1024x64x64, .i32⟩
  | 91 => ⟨S_, .i32⟩
  | 92 => ⟨S1024x64x64, .i32⟩
  | 93 => ⟨S1024x64x64, .i32⟩
  | 94 => ⟨S1024x64x64, .i32⟩
  | 95 => ⟨S_, .i32⟩
  | 96 => ⟨S1024x64x64, .i32⟩
  | 97 => ⟨S1024x64x64, .i32⟩
  | 98 => ⟨S_, .i32⟩
  | 99 => ⟨S1024x64x64, .i32⟩
  | 100 => ⟨S1024x64x64, .i32⟩
  | 101 => ⟨S1024x64x64, .i32⟩
  | 102 => ⟨S1024x64x64, .i32⟩
  | 103 => ⟨S1024x64x64, .i32⟩
  | 104 => ⟨S_, .i32⟩
  | 105 => ⟨S1024x64x64, .i32⟩
  | 106 => ⟨S1024x64x64, .i32⟩
  | 107 => ⟨S_, .i32⟩
  | 108 => ⟨S1024x64x64, .i32⟩
  | 109 => ⟨S1024x64x64, .i32⟩
  | 110 => ⟨S1024x64x64, .i32⟩
  | 111 => ⟨S1024x64x64, .i32⟩
  | 112 => ⟨S1024x64x64, .i32⟩
  | 113 => ⟨S_, .i32⟩
  | 114 => ⟨S1024x64x64, .i32⟩
  | 115 => ⟨S1024x64x64, .i32⟩
  | 116 => ⟨S_, .i32⟩
  | 117 => ⟨S1024x64x64, .i32⟩
  | 118 => ⟨S1024x64x64, .i32⟩
  | 119 => ⟨S1024x64x64, .i32⟩
  | 120 => ⟨S1024x64x64, .i32⟩
  | 121 => ⟨S1024x64x64, .i32⟩
  | 122 => ⟨S_, .i32⟩
  | 123 => ⟨S1024x64x64, .i32⟩
  | 124 => ⟨S1024x64x64, .i32⟩
  | 125 => ⟨S_, .i32⟩
  | 126 => ⟨S1024x64x64, .i32⟩
  | 127 => ⟨S1024x64x64, .i32⟩
  | _ => ⟨S65536x256, .f32⟩

abbrev hbmTy0_2 (i : Nat) : BufTy := match i % 128 with
  | 0 => ⟨S1024x64x64, .i32⟩
  | 1 => ⟨S1024x64x64, .i32⟩
  | 2 => ⟨S1024x64x64, .i32⟩
  | 3 => ⟨S1024x64x64, .i32⟩
  | 4 => ⟨S1024x64x64, .i32⟩
  | 5 => ⟨S1024x64x64, .i32⟩
  | 6 => ⟨S_, .i32⟩
  | 7 => ⟨S1024x64x64, .i32⟩
  | 8 => ⟨S1024x64x64, .i32⟩
  | 9 => ⟨S1024x64x64, .i32⟩
  | 10 => ⟨S_, .i32⟩
  | 11 => ⟨S1024x64x64, .i32⟩
  | 12 => ⟨S1024x64x64, .i32⟩
  | 13 => ⟨S_, .i32⟩
  | 14 => ⟨S1024x64x64, .i32⟩
  | 15 => ⟨S1024x64x64, .i32⟩
  | 16 => ⟨S1024x64x64, .f32⟩
  | 17 => ⟨S_, .f32⟩
  | 18 => ⟨S1024x64x64, .f32⟩
  | 19 => ⟨S1024x64x64, .f32⟩
  | 20 => ⟨S1x1x1, .f32⟩
  | 21 => ⟨S1024x64x64, .f32⟩
  | 22 => ⟨S1024x64x64, .f32⟩
  | 23 => ⟨S1024x64x64, .f32⟩
  | 24 => ⟨S1024x64x64, .f32⟩
  | 25 => ⟨S1024x64x64, .f32⟩
  | 26 => ⟨S1024x64x64, .f32⟩
  | 27 => ⟨S1024x64x64, .f32⟩
  | 28 => ⟨S1024x64x64, .f32⟩
  | 29 => ⟨S1024x64x64, .f32⟩
  | 30 => ⟨S1024x64x64, .f32⟩
  | 31 => ⟨S64x64x1024, .f32⟩
  | 32 => ⟨S64x64x4x256, .f32⟩
  | 33 => ⟨S4x64x64x256, .f32⟩
  | 34 => ⟨S64x1024, .i32⟩
  | 35 => ⟨S64x1024, .f32⟩
  | 36 => ⟨S64x1024, .f32⟩
  | 37 => ⟨S65536x2x128, .f32⟩
  | 38 => ⟨S512x128, .i32⟩
  | 39 => ⟨S65536x2x128, .f32⟩
  | 40 => ⟨S65536x256, .f32⟩
  | 41 => ⟨S65536x1, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (nBuf tb) → BufTy
  | .hbm, ⟨i, _⟩ => hbmTy i
  | .local .tc .vmem, ⟨0, _⟩ => ⟨S64x1024, .f32⟩
  | .local .tc .vmem, ⟨1, _⟩ => ⟨S64x1024, .f32⟩
  | .local .tc .vmem, ⟨2, _⟩ => ⟨S64x1024, .f32⟩
  | .local .tc .vmem, ⟨3, _⟩ => ⟨S64x1024, .f32⟩
  | .local .tc .vmem, ⟨4, _⟩ => ⟨S64x1024, .f32⟩
  | .local .scVector .vmem, ⟨0, _⟩ => ⟨S64x256, .f32⟩
  | .local .scVector .vmem, ⟨1, _⟩ => ⟨S64x256, .f32⟩
  | .local .scVector .vmem, ⟨2, _⟩ => ⟨S2x64x256, .f32⟩
  | .local .scVector .vmem, ⟨3, _⟩ => ⟨S2x64x256, .f32⟩
  | .local .scVector .vmem, ⟨4, _⟩ => ⟨S8x256, .i32⟩
  | .local .scVector .vmem, ⟨5, _⟩ => ⟨S8x256, .f32⟩
  | .local .scVector .vmem, ⟨6, _⟩ => ⟨S16x128, .i32⟩
  | .local .scVector .vmem, ⟨7, _⟩ => ⟨S128x2x128, .f32⟩
  | .local .scVector .vmem, ⟨8, _⟩ => ⟨S128x2x128, .f32⟩
  | _, _ => ⟨S65536x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_cst_0 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_c : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_c_0 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_call0_c_1 : Ref sig .tc := ⟨.hbm, 33, rfl⟩
abbrev main_call0_call0_v14 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_v17 : Ref sig .tc := ⟨.hbm, 37, rfl⟩
abbrev main_call0_call0_c_2 : Ref sig .tc := ⟨.hbm, 38, rfl⟩
abbrev main_call0_call0_v18 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_call0_call0_call0_v0 : Ref sig .tc := ⟨.hbm, 43, rfl⟩
abbrev main_call0_call0_call0_c : Ref sig .tc := ⟨.hbm, 44, rfl⟩
abbrev main_call0_call0_call0_v1 : Ref sig .tc := ⟨.hbm, 45, rfl⟩
abbrev main_call0_call0_call0_v2 : Ref sig .tc := ⟨.hbm, 46, rfl⟩
abbrev main_call0_call0_call0_v3 : Ref sig .tc := ⟨.hbm, 47, rfl⟩
abbrev main_call0_call0_call0_v4 : Ref sig .tc := ⟨.hbm, 48, rfl⟩
abbrev main_call0_call0_call0_v5 : Ref sig .tc := ⟨.hbm, 49, rfl⟩
abbrev main_call0_call0_call0_v6 : Ref sig .tc := ⟨.hbm, 50, rfl⟩
abbrev main_call0_call0_call0_c_0 : Ref sig .tc := ⟨.hbm, 51, rfl⟩
abbrev main_call0_call0_call0_v7 : Ref sig .tc := ⟨.hbm, 52, rfl⟩
abbrev main_call0_call0_call0_v8 : Ref sig .tc := ⟨.hbm, 53, rfl⟩
abbrev main_call0_call0_call0_c_1 : Ref sig .tc := ⟨.hbm, 54, rfl⟩
abbrev main_call0_call0_call0_v9 : Ref sig .tc := ⟨.hbm, 55, rfl⟩
abbrev main_call0_call0_call0_v10 : Ref sig .tc := ⟨.hbm, 56, rfl⟩
abbrev main_call0_call0_call0_v11 : Ref sig .tc := ⟨.hbm, 57, rfl⟩
abbrev main_call0_call0_call0_v12 : Ref sig .tc := ⟨.hbm, 58, rfl⟩
abbrev main_call0_call0_call0_v13 : Ref sig .tc := ⟨.hbm, 59, rfl⟩
abbrev main_call0_call0_call0_c_2 : Ref sig .tc := ⟨.hbm, 60, rfl⟩
abbrev main_call0_call0_call0_v14 : Ref sig .tc := ⟨.hbm, 61, rfl⟩
abbrev main_call0_call0_call0_v15 : Ref sig .tc := ⟨.hbm, 62, rfl⟩
abbrev main_call0_call0_call0_c_3 : Ref sig .tc := ⟨.hbm, 63, rfl⟩
abbrev main_call0_call0_call0_v16 : Ref sig .tc := ⟨.hbm, 64, rfl⟩
abbrev main_call0_call0_call0_v17 : Ref sig .tc := ⟨.hbm, 65, rfl⟩
abbrev main_call0_call0_call0_v18 : Ref sig .tc := ⟨.hbm, 66, rfl⟩
abbrev main_call0_call0_call0_v19 : Ref sig .tc := ⟨.hbm, 67, rfl⟩
abbrev main_call0_call0_call0_v20 : Ref sig .tc := ⟨.hbm, 68, rfl⟩
abbrev main_call0_call0_call0_c_4 : Ref sig .tc := ⟨.hbm, 69, rfl⟩
abbrev main_call0_call0_call0_v21 : Ref sig .tc := ⟨.hbm, 70, rfl⟩
abbrev main_call0_call0_call0_v22 : Ref sig .tc := ⟨.hbm, 71, rfl⟩
abbrev main_call0_call0_call0_c_5 : Ref sig .tc := ⟨.hbm, 72, rfl⟩
abbrev main_call0_call0_call0_v23 : Ref sig .tc := ⟨.hbm, 73, rfl⟩
abbrev main_call0_call0_call0_v24 : Ref sig .tc := ⟨.hbm, 74, rfl⟩
abbrev main_call0_call0_call0_v25 : Ref sig .tc := ⟨.hbm, 75, rfl⟩
abbrev main_call0_call0_call0_v26 : Ref sig .tc := ⟨.hbm, 76, rfl⟩
abbrev main_call0_call0_call0_v27 : Ref sig .tc := ⟨.hbm, 77, rfl⟩
abbrev main_call0_call0_call0_c_6 : Ref sig .tc := ⟨.hbm, 78, rfl⟩
abbrev main_call0_call0_call0_v28 : Ref sig .tc := ⟨.hbm, 79, rfl⟩
abbrev main_call0_call0_call0_v29 : Ref sig .tc := ⟨.hbm, 80, rfl⟩
abbrev main_call0_call0_call0_c_7 : Ref sig .tc := ⟨.hbm, 81, rfl⟩
abbrev main_call0_call0_call0_v30 : Ref sig .tc := ⟨.hbm, 82, rfl⟩
abbrev main_call0_call0_call0_v31 : Ref sig .tc := ⟨.hbm, 83, rfl⟩
abbrev main_call0_call0_call0_v32 : Ref sig .tc := ⟨.hbm, 84, rfl⟩
abbrev main_call0_call0_call0_v33 : Ref sig .tc := ⟨.hbm, 85, rfl⟩
abbrev main_call0_call0_call0_v34 : Ref sig .tc := ⟨.hbm, 86, rfl⟩
abbrev main_call0_call0_call0_v35 : Ref sig .tc := ⟨.hbm, 87, rfl⟩
abbrev main_call0_call0_call0_v36 : Ref sig .tc := ⟨.hbm, 88, rfl⟩
abbrev main_call0_call0_call0_v37 : Ref sig .tc := ⟨.hbm, 89, rfl⟩
abbrev main_call0_call0_call0_c_8 : Ref sig .tc := ⟨.hbm, 90, rfl⟩
abbrev main_call0_call0_call0_v38 : Ref sig .tc := ⟨.hbm, 91, rfl⟩
abbrev main_call0_call0_call0_v39 : Ref sig .tc := ⟨.hbm, 92, rfl⟩
abbrev main_call0_call0_call0_v40 : Ref sig .tc := ⟨.hbm, 93, rfl⟩
abbrev main_call0_call0_call0_c_9 : Ref sig .tc := ⟨.hbm, 94, rfl⟩
abbrev main_call0_call0_call0_v41 : Ref sig .tc := ⟨.hbm, 95, rfl⟩
abbrev main_call0_call0_call0_v42 : Ref sig .tc := ⟨.hbm, 96, rfl⟩
abbrev main_call0_call0_call0_c_10 : Ref sig .tc := ⟨.hbm, 97, rfl⟩
abbrev main_call0_call0_call0_v43 : Ref sig .tc := ⟨.hbm, 98, rfl⟩
abbrev main_call0_call0_call0_v44 : Ref sig .tc := ⟨.hbm, 99, rfl⟩
abbrev main_call0_call0_call0_v45 : Ref sig .tc := ⟨.hbm, 100, rfl⟩
abbrev main_call0_call0_call0_v46 : Ref sig .tc := ⟨.hbm, 101, rfl⟩
abbrev main_call0_call0_call0_v47 : Ref sig .tc := ⟨.hbm, 102, rfl⟩
abbrev main_call0_call0_call0_c_11 : Ref sig .tc := ⟨.hbm, 103, rfl⟩
abbrev main_call0_call0_call0_v48 : Ref sig .tc := ⟨.hbm, 104, rfl⟩
abbrev main_call0_call0_call0_v49 : Ref sig .tc := ⟨.hbm, 105, rfl⟩
abbrev main_call0_call0_call0_c_12 : Ref sig .tc := ⟨.hbm, 106, rfl⟩
abbrev main_call0_call0_call0_v50 : Ref sig .tc := ⟨.hbm, 107, rfl⟩
abbrev main_call0_call0_call0_v51 : Ref sig .tc := ⟨.hbm, 108, rfl⟩
abbrev main_call0_call0_call0_v52 : Ref sig .tc := ⟨.hbm, 109, rfl⟩
abbrev main_call0_call0_call0_v53 : Ref sig .tc := ⟨.hbm, 110, rfl⟩
abbrev main_call0_call0_call0_v54 : Ref sig .tc := ⟨.hbm, 111, rfl⟩
abbrev main_call0_call0_call0_c_13 : Ref sig .tc := ⟨.hbm, 112, rfl⟩
abbrev main_call0_call0_call0_v55 : Ref sig .tc := ⟨.hbm, 113, rfl⟩
abbrev main_call0_call0_call0_v56 : Ref sig .tc := ⟨.hbm, 114, rfl⟩
abbrev main_call0_call0_call0_c_14 : Ref sig .tc := ⟨.hbm, 115, rfl⟩
abbrev main_call0_call0_call0_v57 : Ref sig .tc := ⟨.hbm, 116, rfl⟩
abbrev main_call0_call0_call0_v58 : Ref sig .tc := ⟨.hbm, 117, rfl⟩
abbrev main_call0_call0_call0_v59 : Ref sig .tc := ⟨.hbm, 118, rfl⟩
abbrev main_call0_call0_call0_v60 : Ref sig .tc := ⟨.hbm, 119, rfl⟩
abbrev main_call0_call0_call0_v61 : Ref sig .tc := ⟨.hbm, 120, rfl⟩
abbrev main_call0_call0_call0_c_15 : Ref sig .tc := ⟨.hbm, 121, rfl⟩
abbrev main_call0_call0_call0_v62 : Ref sig .tc := ⟨.hbm, 122, rfl⟩
abbrev main_call0_call0_call0_v63 : Ref sig .tc := ⟨.hbm, 123, rfl⟩
abbrev main_call0_call0_call0_c_16 : Ref sig .tc := ⟨.hbm, 124, rfl⟩
abbrev main_call0_call0_call0_v64 : Ref sig .tc := ⟨.hbm, 125, rfl⟩
abbrev main_call0_call0_call0_v65 : Ref sig .tc := ⟨.hbm, 126, rfl⟩
abbrev main_call0_call0_call0_v66 : Ref sig .tc := ⟨.hbm, 127, rfl⟩
abbrev main_call0_call0_call0_v67 : Ref sig .tc := ⟨.hbm, 128, rfl⟩
abbrev main_call0_call0_call0_v68 : Ref sig .tc := ⟨.hbm, 129, rfl⟩
abbrev main_call0_call0_call0_v69 : Ref sig .tc := ⟨.hbm, 130, rfl⟩
abbrev main_call0_call0_call0_v70 : Ref sig .tc := ⟨.hbm, 131, rfl⟩
abbrev main_call0_call0_call0_v71 : Ref sig .tc := ⟨.hbm, 132, rfl⟩
abbrev main_call0_call0_call0_c_17 : Ref sig .tc := ⟨.hbm, 133, rfl⟩
abbrev main_call0_call0_call0_v72 : Ref sig .tc := ⟨.hbm, 134, rfl⟩
abbrev main_call0_call0_call0_v73 : Ref sig .tc := ⟨.hbm, 135, rfl⟩
abbrev main_call0_call0_call0_v74 : Ref sig .tc := ⟨.hbm, 136, rfl⟩
abbrev main_call0_call0_call0_c_18 : Ref sig .tc := ⟨.hbm, 137, rfl⟩
abbrev main_call0_call0_call0_v75 : Ref sig .tc := ⟨.hbm, 138, rfl⟩
abbrev main_call0_call0_call0_v76 : Ref sig .tc := ⟨.hbm, 139, rfl⟩
abbrev main_call0_call0_call0_c_19 : Ref sig .tc := ⟨.hbm, 140, rfl⟩
abbrev main_call0_call0_call0_v77 : Ref sig .tc := ⟨.hbm, 141, rfl⟩
abbrev main_call0_call0_call0_v78 : Ref sig .tc := ⟨.hbm, 142, rfl⟩
abbrev main_call0_call0_call0_v79 : Ref sig .tc := ⟨.hbm, 143, rfl⟩
abbrev main_call0_call0_call0_v80 : Ref sig .tc := ⟨.hbm, 144, rfl⟩
abbrev main_call0_call0_call0_v81 : Ref sig .tc := ⟨.hbm, 145, rfl⟩
abbrev main_call0_call0_call0_c_20 : Ref sig .tc := ⟨.hbm, 146, rfl⟩
abbrev main_call0_call0_call0_v82 : Ref sig .tc := ⟨.hbm, 147, rfl⟩
abbrev main_call0_call0_call0_v83 : Ref sig .tc := ⟨.hbm, 148, rfl⟩
abbrev main_call0_call0_call0_c_21 : Ref sig .tc := ⟨.hbm, 149, rfl⟩
abbrev main_call0_call0_call0_v84 : Ref sig .tc := ⟨.hbm, 150, rfl⟩
abbrev main_call0_call0_call0_v85 : Ref sig .tc := ⟨.hbm, 151, rfl⟩
abbrev main_call0_call0_call0_v86 : Ref sig .tc := ⟨.hbm, 152, rfl⟩
abbrev main_call0_call0_call0_v87 : Ref sig .tc := ⟨.hbm, 153, rfl⟩
abbrev main_call0_call0_call0_v88 : Ref sig .tc := ⟨.hbm, 154, rfl⟩
abbrev main_call0_call0_call0_c_22 : Ref sig .tc := ⟨.hbm, 155, rfl⟩
abbrev main_call0_call0_call0_v89 : Ref sig .tc := ⟨.hbm, 156, rfl⟩
abbrev main_call0_call0_call0_v90 : Ref sig .tc := ⟨.hbm, 157, rfl⟩
abbrev main_call0_call0_call0_c_23 : Ref sig .tc := ⟨.hbm, 158, rfl⟩
abbrev main_call0_call0_call0_v91 : Ref sig .tc := ⟨.hbm, 159, rfl⟩
abbrev main_call0_call0_call0_v92 : Ref sig .tc := ⟨.hbm, 160, rfl⟩
abbrev main_call0_call0_call0_v93 : Ref sig .tc := ⟨.hbm, 161, rfl⟩
abbrev main_call0_call0_call0_v94 : Ref sig .tc := ⟨.hbm, 162, rfl⟩
abbrev main_call0_call0_call0_v95 : Ref sig .tc := ⟨.hbm, 163, rfl⟩
abbrev main_call0_call0_call0_c_24 : Ref sig .tc := ⟨.hbm, 164, rfl⟩
abbrev main_call0_call0_call0_v96 : Ref sig .tc := ⟨.hbm, 165, rfl⟩
abbrev main_call0_call0_call0_v97 : Ref sig .tc := ⟨.hbm, 166, rfl⟩
abbrev main_call0_call0_call0_c_25 : Ref sig .tc := ⟨.hbm, 167, rfl⟩
abbrev main_call0_call0_call0_v98 : Ref sig .tc := ⟨.hbm, 168, rfl⟩
abbrev main_call0_call0_call0_v99 : Ref sig .tc := ⟨.hbm, 169, rfl⟩
abbrev main_call0_call0_call0_v100 : Ref sig .tc := ⟨.hbm, 170, rfl⟩
abbrev main_call0_call0_call0_v101 : Ref sig .tc := ⟨.hbm, 171, rfl⟩
abbrev main_call0_call0_call0_v102 : Ref sig .tc := ⟨.hbm, 172, rfl⟩
abbrev main_call0_call0_call0_v103 : Ref sig .tc := ⟨.hbm, 173, rfl⟩
abbrev main_call0_call0_call0_v104 : Ref sig .tc := ⟨.hbm, 174, rfl⟩
abbrev main_call0_call0_call0_v105 : Ref sig .tc := ⟨.hbm, 175, rfl⟩
abbrev main_call0_call0_call0_c_26 : Ref sig .tc := ⟨.hbm, 176, rfl⟩
abbrev main_call0_call0_call0_v106 : Ref sig .tc := ⟨.hbm, 177, rfl⟩
abbrev main_call0_call0_call0_v107 : Ref sig .tc := ⟨.hbm, 178, rfl⟩
abbrev main_call0_call0_call0_v108 : Ref sig .tc := ⟨.hbm, 179, rfl⟩
abbrev main_call0_call0_call0_c_27 : Ref sig .tc := ⟨.hbm, 180, rfl⟩
abbrev main_call0_call0_call0_v109 : Ref sig .tc := ⟨.hbm, 181, rfl⟩
abbrev main_call0_call0_call0_v110 : Ref sig .tc := ⟨.hbm, 182, rfl⟩
abbrev main_call0_call0_call0_c_28 : Ref sig .tc := ⟨.hbm, 183, rfl⟩
abbrev main_call0_call0_call0_v111 : Ref sig .tc := ⟨.hbm, 184, rfl⟩
abbrev main_call0_call0_call0_v112 : Ref sig .tc := ⟨.hbm, 185, rfl⟩
abbrev main_call0_call0_call0_v113 : Ref sig .tc := ⟨.hbm, 186, rfl⟩
abbrev main_call0_call0_call0_v114 : Ref sig .tc := ⟨.hbm, 187, rfl⟩
abbrev main_call0_call0_call0_v115 : Ref sig .tc := ⟨.hbm, 188, rfl⟩
abbrev main_call0_call0_call0_c_29 : Ref sig .tc := ⟨.hbm, 189, rfl⟩
abbrev main_call0_call0_call0_v116 : Ref sig .tc := ⟨.hbm, 190, rfl⟩
abbrev main_call0_call0_call0_v117 : Ref sig .tc := ⟨.hbm, 191, rfl⟩
abbrev main_call0_call0_call0_c_30 : Ref sig .tc := ⟨.hbm, 192, rfl⟩
abbrev main_call0_call0_call0_v118 : Ref sig .tc := ⟨.hbm, 193, rfl⟩
abbrev main_call0_call0_call0_v119 : Ref sig .tc := ⟨.hbm, 194, rfl⟩
abbrev main_call0_call0_call0_v120 : Ref sig .tc := ⟨.hbm, 195, rfl⟩
abbrev main_call0_call0_call0_v121 : Ref sig .tc := ⟨.hbm, 196, rfl⟩
abbrev main_call0_call0_call0_v122 : Ref sig .tc := ⟨.hbm, 197, rfl⟩
abbrev main_call0_call0_call0_c_31 : Ref sig .tc := ⟨.hbm, 198, rfl⟩
abbrev main_call0_call0_call0_v123 : Ref sig .tc := ⟨.hbm, 199, rfl⟩
abbrev main_call0_call0_call0_v124 : Ref sig .tc := ⟨.hbm, 200, rfl⟩
abbrev main_call0_call0_call0_c_32 : Ref sig .tc := ⟨.hbm, 201, rfl⟩
abbrev main_call0_call0_call0_v125 : Ref sig .tc := ⟨.hbm, 202, rfl⟩
abbrev main_call0_call0_call0_v126 : Ref sig .tc := ⟨.hbm, 203, rfl⟩
abbrev main_call0_call0_call0_v127 : Ref sig .tc := ⟨.hbm, 204, rfl⟩
abbrev main_call0_call0_call0_v128 : Ref sig .tc := ⟨.hbm, 205, rfl⟩
abbrev main_call0_call0_call0_v129 : Ref sig .tc := ⟨.hbm, 206, rfl⟩
abbrev main_call0_call0_call0_c_33 : Ref sig .tc := ⟨.hbm, 207, rfl⟩
abbrev main_call0_call0_call0_v130 : Ref sig .tc := ⟨.hbm, 208, rfl⟩
abbrev main_call0_call0_call0_v131 : Ref sig .tc := ⟨.hbm, 209, rfl⟩
abbrev main_call0_call0_call0_c_34 : Ref sig .tc := ⟨.hbm, 210, rfl⟩
abbrev main_call0_call0_call0_v132 : Ref sig .tc := ⟨.hbm, 211, rfl⟩
abbrev main_call0_call0_call0_v133 : Ref sig .tc := ⟨.hbm, 212, rfl⟩
abbrev main_call0_call0_call0_v134 : Ref sig .tc := ⟨.hbm, 213, rfl⟩
abbrev main_call0_call0_call0_v135 : Ref sig .tc := ⟨.hbm, 214, rfl⟩
abbrev main_call0_call0_call0_v136 : Ref sig .tc := ⟨.hbm, 215, rfl⟩
abbrev main_call0_call0_call0_v137 : Ref sig .tc := ⟨.hbm, 216, rfl⟩
abbrev main_call0_call0_call0_v138 : Ref sig .tc := ⟨.hbm, 217, rfl⟩
abbrev main_call0_call0_call0_v139 : Ref sig .tc := ⟨.hbm, 218, rfl⟩
abbrev main_call0_call0_call0_c_35 : Ref sig .tc := ⟨.hbm, 219, rfl⟩
abbrev main_call0_call0_call0_v140 : Ref sig .tc := ⟨.hbm, 220, rfl⟩
abbrev main_call0_call0_call0_v141 : Ref sig .tc := ⟨.hbm, 221, rfl⟩
abbrev main_call0_call0_call0_v142 : Ref sig .tc := ⟨.hbm, 222, rfl⟩
abbrev main_call0_call0_call0_c_36 : Ref sig .tc := ⟨.hbm, 223, rfl⟩
abbrev main_call0_call0_call0_v143 : Ref sig .tc := ⟨.hbm, 224, rfl⟩
abbrev main_call0_call0_call0_v144 : Ref sig .tc := ⟨.hbm, 225, rfl⟩
abbrev main_call0_call0_call0_c_37 : Ref sig .tc := ⟨.hbm, 226, rfl⟩
abbrev main_call0_call0_call0_v145 : Ref sig .tc := ⟨.hbm, 227, rfl⟩
abbrev main_call0_call0_call0_v146 : Ref sig .tc := ⟨.hbm, 228, rfl⟩
abbrev main_call0_call0_call0_v147 : Ref sig .tc := ⟨.hbm, 229, rfl⟩
abbrev main_call0_call0_call0_v148 : Ref sig .tc := ⟨.hbm, 230, rfl⟩
abbrev main_call0_call0_call0_v149 : Ref sig .tc := ⟨.hbm, 231, rfl⟩
abbrev main_call0_call0_call0_c_38 : Ref sig .tc := ⟨.hbm, 232, rfl⟩
abbrev main_call0_call0_call0_v150 : Ref sig .tc := ⟨.hbm, 233, rfl⟩
abbrev main_call0_call0_call0_v151 : Ref sig .tc := ⟨.hbm, 234, rfl⟩
abbrev main_call0_call0_call0_c_39 : Ref sig .tc := ⟨.hbm, 235, rfl⟩
abbrev main_call0_call0_call0_v152 : Ref sig .tc := ⟨.hbm, 236, rfl⟩
abbrev main_call0_call0_call0_v153 : Ref sig .tc := ⟨.hbm, 237, rfl⟩
abbrev main_call0_call0_call0_v154 : Ref sig .tc := ⟨.hbm, 238, rfl⟩
abbrev main_call0_call0_call0_v155 : Ref sig .tc := ⟨.hbm, 239, rfl⟩
abbrev main_call0_call0_call0_v156 : Ref sig .tc := ⟨.hbm, 240, rfl⟩
abbrev main_call0_call0_call0_c_40 : Ref sig .tc := ⟨.hbm, 241, rfl⟩
abbrev main_call0_call0_call0_v157 : Ref sig .tc := ⟨.hbm, 242, rfl⟩
abbrev main_call0_call0_call0_v158 : Ref sig .tc := ⟨.hbm, 243, rfl⟩
abbrev main_call0_call0_call0_c_41 : Ref sig .tc := ⟨.hbm, 244, rfl⟩
abbrev main_call0_call0_call0_v159 : Ref sig .tc := ⟨.hbm, 245, rfl⟩
abbrev main_call0_call0_call0_v160 : Ref sig .tc := ⟨.hbm, 246, rfl⟩
abbrev main_call0_call0_call0_v161 : Ref sig .tc := ⟨.hbm, 247, rfl⟩
abbrev main_call0_call0_call0_v162 : Ref sig .tc := ⟨.hbm, 248, rfl⟩
abbrev main_call0_call0_call0_v163 : Ref sig .tc := ⟨.hbm, 249, rfl⟩
abbrev main_call0_call0_call0_c_42 : Ref sig .tc := ⟨.hbm, 250, rfl⟩
abbrev main_call0_call0_call0_v164 : Ref sig .tc := ⟨.hbm, 251, rfl⟩
abbrev main_call0_call0_call0_v165 : Ref sig .tc := ⟨.hbm, 252, rfl⟩
abbrev main_call0_call0_call0_c_43 : Ref sig .tc := ⟨.hbm, 253, rfl⟩
abbrev main_call0_call0_call0_v166 : Ref sig .tc := ⟨.hbm, 254, rfl⟩
abbrev main_call0_call0_call0_v167 : Ref sig .tc := ⟨.hbm, 255, rfl⟩
abbrev main_call0_call0_call0_v168 : Ref sig .tc := ⟨.hbm, 256, rfl⟩
abbrev main_call0_call0_call0_v169 : Ref sig .tc := ⟨.hbm, 257, rfl⟩
abbrev main_call0_call0_call0_v170 : Ref sig .tc := ⟨.hbm, 258, rfl⟩
abbrev main_call0_call0_v22_0 : Ref sig .tc := ⟨.hbm, 259, rfl⟩
abbrev main_call0_call0_call0_v172 : Ref sig .tc := ⟨.hbm, 260, rfl⟩
abbrev main_call0_call0_call0_v173 : Ref sig .tc := ⟨.hbm, 261, rfl⟩
abbrev main_call0_call0_call0_c_44 : Ref sig .tc := ⟨.hbm, 262, rfl⟩
abbrev main_call0_call0_call0_v174 : Ref sig .tc := ⟨.hbm, 263, rfl⟩
abbrev main_call0_call0_v22_1 : Ref sig .tc := ⟨.hbm, 264, rfl⟩
abbrev main_call0_call0_v23 : Ref sig .tc := ⟨.hbm, 265, rfl⟩
abbrev main_call0_call0_c_3 : Ref sig .tc := ⟨.hbm, 266, rfl⟩
abbrev main_call0_call0_v24 : Ref sig .tc := ⟨.hbm, 267, rfl⟩
abbrev main_call0_call0_v25 : Ref sig .tc := ⟨.hbm, 268, rfl⟩
abbrev main_call0_call0_c_4 : Ref sig .tc := ⟨.hbm, 269, rfl⟩
abbrev main_call0_call0_v26 : Ref sig .tc := ⟨.hbm, 270, rfl⟩
abbrev main_call0_call0_v27 : Ref sig .tc := ⟨.hbm, 271, rfl⟩
abbrev main_call0_call0_v28 : Ref sig .tc := ⟨.hbm, 272, rfl⟩
abbrev main_call0_call0_cst : Ref sig .tc := ⟨.hbm, 273, rfl⟩
abbrev main_call0_call0_v29 : Ref sig .tc := ⟨.hbm, 274, rfl⟩
abbrev main_call0_call0_v30 : Ref sig .tc := ⟨.hbm, 275, rfl⟩
abbrev main_call0_call0_v31 : Ref sig .tc := ⟨.hbm, 276, rfl⟩
abbrev main_call0_call0_v32 : Ref sig .tc := ⟨.hbm, 277, rfl⟩
abbrev main_call0_call0_v33 : Ref sig .tc := ⟨.hbm, 278, rfl⟩
abbrev main_call0_call0_v34 : Ref sig .tc := ⟨.hbm, 279, rfl⟩
abbrev main_call0_call0_v35 : Ref sig .tc := ⟨.hbm, 280, rfl⟩
abbrev main_call0_call0_v36 : Ref sig .tc := ⟨.hbm, 281, rfl⟩
abbrev main_call0_v0 : Ref sig .tc := ⟨.hbm, 282, rfl⟩
abbrev main_call0_v1 : Ref sig .tc := ⟨.hbm, 283, rfl⟩
abbrev main_call0_v2 : Ref sig .tc := ⟨.hbm, 284, rfl⟩
abbrev main_call0_v3 : Ref sig .tc := ⟨.hbm, 285, rfl⟩
abbrev main_v9 : Ref sig .tc := ⟨.hbm, 286, rfl⟩
abbrev main_v10 : Ref sig .tc := ⟨.hbm, 287, rfl⟩
abbrev main_v11 : Ref sig .tc := ⟨.hbm, 288, rfl⟩
abbrev main_v12 : Ref sig .tc := ⟨.hbm, 289, rfl⟩
abbrev main_v13_0 : Ref sig .tc := ⟨.hbm, 290, rfl⟩
abbrev main_v13_1 : Ref sig .tc := ⟨.hbm, 291, rfl⟩
abbrev main_v14 : Ref sig .tc := ⟨.hbm, 292, rfl⟩
abbrev main_v15 : Ref sig .tc := ⟨.hbm, 293, rfl⟩
abbrev main_v16 : Ref sig .tc := ⟨.hbm, 294, rfl⟩
abbrev main_v17 : Ref sig .tc := ⟨.hbm, 295, rfl⟩
abbrev main_v18 : Ref sig .tc := ⟨.hbm, 296, rfl⟩
abbrev main_v19 : Ref sig .tc := ⟨.hbm, 297, rfl⟩
abbrev main_v12_scv : Ref sig .scVector := ⟨.hbm, 289, rfl⟩
abbrev main_v1_0_scv : Ref sig .scVector := ⟨.hbm, 3, rfl⟩
abbrev main_v1_1_scv : Ref sig .scVector := ⟨.hbm, 4, rfl⟩
abbrev main_v13_0_scv : Ref sig .scVector := ⟨.hbm, 290, rfl⟩
abbrev main_v13_1_scv : Ref sig .scVector := ⟨.hbm, 291, rfl⟩
abbrev main_v15_scv : Ref sig .scVector := ⟨.hbm, 293, rfl⟩
abbrev main_v16_scv : Ref sig .scVector := ⟨.hbm, 294, rfl⟩
abbrev main_v17_scv : Ref sig .scVector := ⟨.hbm, 295, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg1_0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc3_scratch0 : Ref sig .scVector := ⟨.vmem, 6, rfl⟩
abbrev cc3_scratch1 : Ref sig .scVector := ⟨.vmem, 7, rfl⟩
abbrev cc3_scratch2 : Ref sig .scVector := ⟨.vmem, 8, rfl⟩
abbrev cc0_sem0_0 : DmaSem sig := 0
abbrev cc0_sem1_0 : DmaSem sig := 1
abbrev cc0_sem2_0 : DmaSem sig := 2
abbrev cc2_sem0_0 : DmaSem sig := 9
abbrev cc2_sem1_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32_1929_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![0, v29.toNat]
def k1_off2 (i : grid1.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v30 : BitVec 32 := Scalar.muli v18 c8_i32
  let v31 : BitVec 32 := Scalar.addi v30 c0_i32_10
  let c0_i32_11 : BitVec 32 := 0#32
  let c0_i32_12 : BitVec 32 := 0#32
  ![v28.toNat, v31.toNat, 0, 0]
@[reducible] def k1_t1_loop : Scf.Loop 32 :=
  let c1_i32_37 : BitVec 32 := 1#32
  let c63_i32 : BitVec 32 := 63#32
  let v66 : BitVec 32 := Scalar.addi c1_i32_37 c63_i32
  let c1_i32_38 : BitVec 32 := 1#32
  ⟨c1_i32_37, v66, c1_i32_38⟩
def k1_off3 (k1_t1 : Fin k1_t1_loop.trips) : Fin 2 → Nat :=
  let c1_i32_37 : BitVec 32 := 1#32
  let c1_i32_38 : BitVec 32 := 1#32
  let arg15 : BitVec 32 := Scf.iv c1_i32_37 c1_i32_38 k1_t1
  let v3267 : Index := Scalar.indexCast arg15
  let c0_1929 : Index := 0#32
  ![v3267.toNat, 0]
def k1_off4 (k1_t1 : Fin k1_t1_loop.trips) : Fin 3 → Nat :=
  let c0_i32_1931 : BitVec 32 := 0#32
  let v3273 : Index := Scalar.indexCast c0_i32_1931
  let c1_i32_37 : BitVec 32 := 1#32
  let c1_i32_38 : BitVec 32 := 1#32
  let arg15 : BitVec 32 := Scf.iv c1_i32_37 c1_i32_38 k1_t1
  let v3274 : Index := Scalar.indexCast arg15
  let c0_1932 : Index := 0#32
  ![0, v3274.toNat, 0]
def k1_off5 (k1_t1 : Fin k1_t1_loop.trips) : Fin 3 → Nat :=
  let c1_i32_1933 : BitVec 32 := 1#32
  let v3278 : Index := Scalar.indexCast c1_i32_1933
  let c1_i32_37 : BitVec 32 := 1#32
  let c1_i32_38 : BitVec 32 := 1#32
  let arg15 : BitVec 32 := Scf.iv c1_i32_37 c1_i32_38 k1_t1
  let v3279 : Index := Scalar.indexCast arg15
  let c0_1934 : Index := 0#32
  ![1, v3279.toNat, 0]
@[reducible] def k1_t2_loop : Scf.Loop 32 :=
  let c1_i32_64 : BitVec 32 := 1#32
  let c63_i32_65 : BitVec 32 := 63#32
  let v116 : BitVec 32 := Scalar.addi c1_i32_64 c63_i32_65
  let c1_i32_66 : BitVec 32 := 1#32
  ⟨c1_i32_64, v116, c1_i32_66⟩
def k1_off6 (k1_t2 : Fin k1_t2_loop.trips) : Fin 2 → Nat :=
  let c1_i32_64 : BitVec 32 := 1#32
  let c1_i32_66 : BitVec 32 := 1#32
  let arg15 : BitVec 32 := Scf.iv c1_i32_64 c1_i32_66 k1_t2
  let v3267 : Index := Scalar.indexCast arg15
  let c16_1929 : Index := 16#32
  ![v3267.toNat, 16]
def k1_off7 (k1_t2 : Fin k1_t2_loop.trips) : Fin 3 → Nat :=
  let c0_i32_1931 : BitVec 32 := 0#32
  let v3273 : Index := Scalar.indexCast c0_i32_1931
  let c1_i32_64 : BitVec 32 := 1#32
  let c1_i32_66 : BitVec 32 := 1#32
  let arg15 : BitVec 32 := Scf.iv c1_i32_64 c1_i32_66 k1_t2
  let v3274 : Index := Scalar.indexCast arg15
  let c16_1932 : Index := 16#32
  ![0, v3274.toNat, 16]
def k1_off8 (k1_t2 : Fin k1_t2_loop.trips) : Fin 3 → Nat :=
  let c1_i32_1933 : BitVec 32 := 1#32
  let v3278 : Index := Scalar.indexCast c1_i32_1933
  let c1_i32_64 : BitVec 32 := 1#32
  let c1_i32_66 : BitVec 32 := 1#32
  let arg15 : BitVec 32 := Scf.iv c1_i32_64 c1_i32_66 k1_t2
  let v3279 : Index := Scalar.indexCast arg15
  let c16_1934 : Index := 16#32
  ![1, v3279.toNat, 16]
@[reducible] def k1_t3_loop : Scf.Loop 32 :=
  let c1_i32_92 : BitVec 32 := 1#32
  let c63_i32_93 : BitVec 32 := 63#32
  let v166 : BitVec 32 := Scalar.addi c1_i32_92 c63_i32_93
  let c1_i32_94 : BitVec 32 := 1#32
  ⟨c1_i32_92, v166, c1_i32_94⟩
def k1_off9 (k1_t3 : Fin k1_t3_loop.trips) : Fin 2 → Nat :=
  let c1_i32_92 : BitVec 32 := 1#32
  let c1_i32_94 : BitVec 32 := 1#32
  let arg15 : BitVec 32 := Scf.iv c1_i32_92 c1_i32_94 k1_t3
  let v3267 : Index := Scalar.indexCast arg15
  let c32_1929 : Index := 32#32
  ![v3267.toNat, 32]
def k1_off10 (k1_t3 : Fin k1_t3_loop.trips) : Fin 3 → Nat :=
  let c0_i32_1931 : BitVec 32 := 0#32
  let v3273 : Index := Scalar.indexCast c0_i32_1931
  let c1_i32_92 : BitVec 32 := 1#32
  let c1_i32_94 : BitVec 32 := 1#32
  let arg15 : BitVec 32 := Scf.iv c1_i32_92 c1_i32_94 k1_t3
  let v3274 : Index := Scalar.indexCast arg15
  let c32_1932 : Index := 32#32
  ![0, v3274.toNat, 32]
def k1_off11 (k1_t3 : Fin k1_t3_loop.trips) : Fin 3 → Nat :=
  let c1_i32_1933 : BitVec 32 := 1#32
  let v3278 : Index := Scalar.indexCast c1_i32_1933
  let c1_i32_92 : BitVec 32 := 1#32
  let c1_i32_94 : BitVec 32 := 1#32
  let arg15 : BitVec 32 := Scf.iv c1_i32_92 c1_i32_94 k1_t3
  let v3279 : Index := Scalar.indexCast arg15
  let c32_1934 : Index := 32#32
  ![1, v3279.toNat, 32]
@[reducible] def k1_t4_loop : Scf.Loop 32 :=
  let c1_i32_120 : BitVec 32 := 1#32
  let c63_i32_121 : BitVec 32 := 63#32
  let v216 : BitVec 32 := Scalar.addi c1_i32_120 c63_i32_121
  let c1_i32_122 : BitVec 32 := 1#32
  ⟨c1_i32_120, v216, c1_i32_122⟩
def k1_off12 (k1_t4 : Fin k1_t4_loop.trips) : Fin 2 → Nat :=
  let c1_i32_120 : BitVec 32 := 1#32
  let c1_i32_122 : BitVec 32 := 1#32
  let arg15 : BitVec 32 := Scf.iv c1_i32_120 c1_i32_122 k1_t4
  let v3267 : Index := Scalar.indexCast arg15
  let c48_1929 : Index := 48#32
  ![v3267.toNat, 48]
def k1_off13 (k1_t4 : Fin k1_t4_loop.trips) : Fin 3 → Nat :=
  let c0_i32_1931 : BitVec 32 := 0#32
  let v3273 : Index := Scalar.indexCast c0_i32_1931
  let c1_i32_120 : BitVec 32 := 1#32
  let c1_i32_122 : BitVec 32 := 1#32
  let arg15 : BitVec 32 := Scf.iv c1_i32_120 c1_i32_122 k1_t4
  let v3274 : Index := Scalar.indexCast arg15
  let c48_1932 : Index := 48#32
  ![0, v3274.toNat, 48]
def k1_off14 (k1_t4 : Fin k1_t4_loop.trips) : Fin 3 → Nat :=
  let c1_i32_1933 : BitVec 32 := 1#32
  let v3278 : Index := Scalar.indexCast c1_i32_1933
  let c1_i32_120 : BitVec 32 := 1#32
  let c1_i32_122 : BitVec 32 := 1#32
  let arg15 : BitVec 32 := Scf.iv c1_i32_120 c1_i32_122 k1_t4
  let v3279 : Index := Scalar.indexCast arg15
  let c48_1934 : Index := 48#32
  ![1, v3279.toNat, 48]
@[reducible] def k1_t5_loop : Scf.Loop 32 :=
  let c1_i32_148 : BitVec 32 := 1#32
  let c63_i32_149 : BitVec 32 := 63#32
  let v266 : BitVec 32 := Scalar.addi c1_i32_148 c63_i32_149
  let c1_i32_150 : BitVec 32 := 1#32
  ⟨c1_i32_148, v266, c1_i32_150⟩
def k1_off15 (k1_t5 : Fin k1_t5_loop.trips) : Fin 2 → Nat :=
  let c1_i32_148 : BitVec 32 := 1#32
  let c1_i32_150 : BitVec 32 := 1#32
  let arg15 : BitVec 32 := Scf.iv c1_i32_148 c1_i32_150 k1_t5
  let v3267 : Index := Scalar.indexCast arg15
  let c64_1929 : Index := 64#32
  ![v3267.toNat, 64]
def k1_off16 (k1_t5 : Fin k1_t5_loop.trips) : Fin 3 → Nat :=
  let c0_i32_1931 : BitVec 32 := 0#32
  let v3273 : Index := Scalar.indexCast c0_i32_1931
  let c1_i32_148 : BitVec 32 := 1#32
  let c1_i32_150 : BitVec 32 := 1#32
  let arg15 : BitVec 32 := Scf.iv c1_i32_148 c1_i32_150 k1_t5
  let v3274 : Index := Scalar.indexCast arg15
  let c64_1932 : Index := 64#32
  ![0, v3274.toNat, 64]
def k1_off17 (k1_t5 : Fin k1_t5_loop.trips) : Fin 3 → Nat :=
  let c1_i32_1933 : BitVec 32 := 1#32
  let v3278 : Index := Scalar.indexCast c1_i32_1933
  let c1_i32_148 : BitVec 32 := 1#32
  let c1_i32_150 : BitVec 32 := 1#32
  let arg15 : BitVec 32 := Scf.iv c1_i32_148 c1_i32_150 k1_t5
  let v3279 : Index := Scalar.indexCast arg15
  let c64_1934 : Index := 64#32
  ![1, v3279.toNat, 64]
@[reducible] def k1_t6_loop : Scf.Loop 32 :=
  let c1_i32_176 : BitVec 32 := 1#32
  let c63_i32_177 : BitVec 32 := 63#32
  let v316 : BitVec 32 := Scalar.addi c1_i32_176 c63_i32_177
  let c1_i32_178 : BitVec 32 := 1#32
  ⟨c1_i32_176, v316, c1_i32_178⟩
def k1_off18 (k1_t6 : Fin k1_t6_loop.trips) : Fin 2 → Nat :=
  let c1_i32_176 : BitVec 32 := 1#32
  let c1_i32_178 : BitVec 32 := 1#32
  let arg15 : BitVec 32 := Scf.iv c1_i32_176 c1_i32_178 k1_t6
  let v3267 : Index := Scalar.indexCast arg15
  let c80_1929 : Index := 80#32
  ![v3267.toNat, 80]
def k1_off19 (k1_t6 : Fin k1_t6_loop.trips) : Fin 3 → Nat :=
  let c0_i32_1931 : BitVec 32 := 0#32
  let v3273 : Index := Scalar.indexCast c0_i32_1931
  let c1_i32_176 : BitVec 32 := 1#32
  let c1_i32_178 : BitVec 32 := 1#32
  let arg15 : BitVec 32 := Scf.iv c1_i32_176 c1_i32_178 k1_t6
  let v3274 : Index := Scalar.indexCast arg15
  let c80_1932 : Index := 80#32
  ![0, v3274.toNat, 80]
def k1_off20 (k1_t6 : Fin k1_t6_loop.trips) : Fin 3 → Nat :=
  let c1_i32_1933 : BitVec 32 := 1#32
  let v3278 : Index := Scalar.indexCast c1_i32_1933
  let c1_i32_176 : BitVec 32 := 1#32
  let c1_i32_178 : BitVec 32 := 1#32
  let arg15 : BitVec 32 := Scf.iv c1_i32_176 c1_i32_178 k1_t6
  let v3279 : Index := Scalar.indexCast arg15
  let c80_1934 : Index := 80#32
  ![1, v3279.toNat, 80]
@[reducible] def k1_t7_loop : Scf.Loop 32 :=
  let c1_i32_204 : BitVec 32 := 1#32
  let c63_i32_205 : BitVec 32 := 63#32
  let v366 : BitVec 32 := Scalar.addi c1_i32_204 c63_i32_205
  let c1_i32_206 : BitVec 32 := 1#32
  ⟨c1_i32_204, v366, c1_i32_206⟩
def k1_off21 (k1_t7 : Fin k1_t7_loop.trips) : Fin 2 → Nat :=
  let c1_i32_204 : BitVec 32 := 1#32
  let c1_i32_206 : BitVec 32 := 1#32
  let arg15 : BitVec 32 := Scf.iv c1_i32_204 c1_i32_206 k1_t7
  let v3267 : Index := Scalar.indexCast arg15
  let c96_1929 : Index := 96#32
  ![v3267.toNat, 96]
def k1_off22 (k1_t7 : Fin k1_t7_loop.trips) : Fin 3 → Nat :=
  let c0_i32_1931 : BitVec 32 := 0#32
  let v3273 : Index := Scalar.indexCast c0_i32_1931
  let c1_i32_204 : BitVec 32 := 1#32
  let c1_i32_206 : BitVec 32 := 1#32
  let arg15 : BitVec 32 := Scf.iv c1_i32_204 c1_i32_206 k1_t7
  let v3274 : Index := Scalar.indexCast arg15
  let c96_1932 : Index := 96#32
  ![0, v3274.toNat, 96]
def k1_off23 (k1_t7 : Fin k1_t7_loop.trips) : Fin 3 → Nat :=
  let c1_i32_1933 : BitVec 32 := 1#32
  let v3278 : Index := Scalar.indexCast c1_i32_1933
  let c1_i32_204 : BitVec 32 := 1#32
  let c1_i32_206 : BitVec 32 := 1#32
  let arg15 : BitVec 32 := Scf.iv c1_i32_204 c1_i32_206 k1_t7
  let v3279 : Index := Scalar.indexCast arg15
  let c96_1934 : Index := 96#32
  ![1, v3279.toNat, 96]
@[reducible] def k1_t8_loop : Scf.Loop 32 :=
  let c1_i32_232 : BitVec 32 := 1#32
  let c63_i32_233 : BitVec 32 := 63#32
  let v416 : BitVec 32 := Scalar.addi c1_i32_232 c63_i32_233
  let c1_i32_234 : BitVec 32 := 1#32
  ⟨c1_i32_232, v416, c1_i32_234⟩
def k1_off24 (k1_t8 : Fin k1_t8_loop.trips) : Fin 2 → Nat :=
  let c1_i32_232 : BitVec 32 := 1#32
  let c1_i32_234 : BitVec 32 := 1#32
  let arg15 : BitVec 32 := Scf.iv c1_i32_232 c1_i32_234 k1_t8
  let v3267 : Index := Scalar.indexCast arg15
  let c112_1929 : Index := 112#32
  ![v3267.toNat, 112]
def k1_off25 (k1_t8 : Fin k1_t8_loop.trips) : Fin 3 → Nat :=
  let c0_i32_1931 : BitVec 32 := 0#32
  let v3273 : Index := Scalar.indexCast c0_i32_1931
  let c1_i32_232 : BitVec 32 := 1#32
  let c1_i32_234 : BitVec 32 := 1#32
  let arg15 : BitVec 32 := Scf.iv c1_i32_232 c1_i32_234 k1_t8
  let v3274 : Index := Scalar.indexCast arg15
  let c112_1932 : Index := 112#32
  ![0, v3274.toNat, 112]
def k1_off26 (k1_t8 : Fin k1_t8_loop.trips) : Fin 3 → Nat :=
  let c1_i32_1933 : BitVec 32 := 1#32
  let v3278 : Index := Scalar.indexCast c1_i32_1933
  let c1_i32_232 : BitVec 32 := 1#32
  let c1_i32_234 : BitVec 32 := 1#32
  let arg15 : BitVec 32 := Scf.iv c1_i32_232 c1_i32_234 k1_t8
  let v3279 : Index := Scalar.indexCast arg15
  let c112_1934 : Index := 112#32
  ![1, v3279.toNat, 112]
@[reducible] def k1_t9_loop : Scf.Loop 32 :=
  let c1_i32_260 : BitVec 32 := 1#32
  let c63_i32_261 : BitVec 32 := 63#32
  let v466 : BitVec 32 := Scalar.addi c1_i32_260 c63_i32_261
  let c1_i32_262 : BitVec 32 := 1#32
  ⟨c1_i32_260, v466, c1_i32_262⟩
def k1_off27 (k1_t9 : Fin k1_t9_loop.trips) : Fin 2 → Nat :=
  let c1_i32_260 : BitVec 32 := 1#32
  let c1_i32_262 : BitVec 32 := 1#32
  let arg15 : BitVec 32 := Scf.iv c1_i32_260 c1_i32_262 k1_t9
  let v3267 : Index := Scalar.indexCast arg15
  let c128_1929 : Index := 128#32
  ![v3267.toNat, 128]
def k1_off28 (k1_t9 : Fin k1_t9_loop.trips) : Fin 3 → Nat :=
  let c0_i32_1931 : BitVec 32 := 0#32
  let v3273 : Index := Scalar.indexCast c0_i32_1931
  let c1_i32_260 : BitVec 32 := 1#32
  let c1_i32_262 : BitVec 32 := 1#32
  let arg15 : BitVec 32 := Scf.iv c1_i32_260 c1_i32_262 k1_t9
  let v3274 : Index := Scalar.indexCast arg15
  let c128_1932 : Index := 128#32
  ![0, v3274.toNat, 128]
def k1_off29 (k1_t9 : Fin k1_t9_loop.trips) : Fin 3 → Nat :=
  let c1_i32_1933 : BitVec 32 := 1#32
  let v3278 : Index := Scalar.indexCast c1_i32_1933
  let c1_i32_260 : BitVec 32 := 1#32
  let c1_i32_262 : BitVec 32 := 1#32
  let arg15 : BitVec 32 := Scf.iv c1_i32_260 c1_i32_262 k1_t9
  let v3279 : Index := Scalar.indexCast arg15
  let c128_1934 : Index := 128#32
  ![1, v3279.toNat, 128]
@[reducible] def k1_t10_loop : Scf.Loop 32 :=
  let c1_i32_288 : BitVec 32 := 1#32
  let c63_i32_289 : BitVec 32 := 63#32
  let v516 : BitVec 32 := Scalar.addi c1_i32_288 c63_i32_289
  let c1_i32_290 : BitVec 32 := 1#32
  ⟨c1_i32_288, v516, c1_i32_290⟩
def k1_off30 (k1_t10 : Fin k1_t10_loop.trips) : Fin 2 → Nat :=
  let c1_i32_288 : BitVec 32 := 1#32
  let c1_i32_290 : BitVec 32 := 1#32
  let arg15 : BitVec 32 := Scf.iv c1_i32_288 c1_i32_290 k1_t10
  let v3267 : Index := Scalar.indexCast arg15
  let c144_1929 : Index := 144#32
  ![v3267.toNat, 144]
def k1_off31 (k1_t10 : Fin k1_t10_loop.trips) : Fin 3 → Nat :=
  let c0_i32_1931 : BitVec 32 := 0#32
  let v3273 : Index := Scalar.indexCast c0_i32_1931
  let c1_i32_288 : BitVec 32 := 1#32
  let c1_i32_290 : BitVec 32 := 1#32
  let arg15 : BitVec 32 := Scf.iv c1_i32_288 c1_i32_290 k1_t10
  let v3274 : Index := Scalar.indexCast arg15
  let c144_1932 : Index := 144#32
  ![0, v3274.toNat, 144]
def k1_off32 (k1_t10 : Fin k1_t10_loop.trips) : Fin 3 → Nat :=
  let c1_i32_1933 : BitVec 32 := 1#32
  let v3278 : Index := Scalar.indexCast c1_i32_1933
  let c1_i32_288 : BitVec 32 := 1#32
  let c1_i32_290 : BitVec 32 := 1#32
  let arg15 : BitVec 32 := Scf.iv c1_i32_288 c1_i32_290 k1_t10
  let v3279 : Index := Scalar.indexCast arg15
  let c144_1934 : Index := 144#32
  ![1, v3279.toNat, 144]
@[reducible] def k1_t11_loop : Scf.Loop 32 :=
  let c1_i32_316 : BitVec 32 := 1#32
  let c63_i32_317 : BitVec 32 := 63#32
  let v566 : BitVec 32 := Scalar.addi c1_i32_316 c63_i32_317
  let c1_i32_318 : BitVec 32 := 1#32
  ⟨c1_i32_316, v566, c1_i32_318⟩
def k1_off33 (k1_t11 : Fin k1_t11_loop.trips) : Fin 2 → Nat :=
  let c1_i32_316 : BitVec 32 := 1#32
  let c1_i32_318 : BitVec 32 := 1#32
  let arg15 : BitVec 32 := Scf.iv c1_i32_316 c1_i32_318 k1_t11
  let v3267 : Index := Scalar.indexCast arg15
  let c160_1929 : Index := 160#32
  ![v3267.toNat, 160]
def k1_off34 (k1_t11 : Fin k1_t11_loop.trips) : Fin 3 → Nat :=
  let c0_i32_1931 : BitVec 32 := 0#32
  let v3273 : Index := Scalar.indexCast c0_i32_1931
  let c1_i32_316 : BitVec 32 := 1#32
  let c1_i32_318 : BitVec 32 := 1#32
  let arg15 : BitVec 32 := Scf.iv c1_i32_316 c1_i32_318 k1_t11
  let v3274 : Index := Scalar.indexCast arg15
  let c160_1932 : Index := 160#32
  ![0, v3274.toNat, 160]
def k1_off35 (k1_t11 : Fin k1_t11_loop.trips) : Fin 3 → Nat :=
  let c1_i32_1933 : BitVec 32 := 1#32
  let v3278 : Index := Scalar.indexCast c1_i32_1933
  let c1_i32_316 : BitVec 32 := 1#32
  let c1_i32_318 : BitVec 32 := 1#32
  let arg15 : BitVec 32 := Scf.iv c1_i32_316 c1_i32_318 k1_t11
  let v3279 : Index := Scalar.indexCast arg15
  let c160_1934 : Index := 160#32
  ![1, v3279.toNat, 160]
@[reducible] def k1_t12_loop : Scf.Loop 32 :=
  let c1_i32_344 : BitVec 32 := 1#32
  let c63_i32_345 : BitVec 32 := 63#32
  let v616 : BitVec 32 := Scalar.addi c1_i32_344 c63_i32_345
  let c1_i32_346 : BitVec 32 := 1#32
  ⟨c1_i32_344, v616, c1_i32_346⟩
def k1_off36 (k1_t12 : Fin k1_t12_loop.trips) : Fin 2 → Nat :=
  let c1_i32_344 : BitVec 32 := 1#32
  let c1_i32_346 : BitVec 32 := 1#32
  let arg15 : BitVec 32 := Scf.iv c1_i32_344 c1_i32_346 k1_t12
  let v3267 : Index := Scalar.indexCast arg15
  let c176_1929 : Index := 176#32
  ![v3267.toNat, 176]
def k1_off37 (k1_t12 : Fin k1_t12_loop.trips) : Fin 3 → Nat :=
  let c0_i32_1931 : BitVec 32 := 0#32
  let v3273 : Index := Scalar.indexCast c0_i32_1931
  let c1_i32_344 : BitVec 32 := 1#32
  let c1_i32_346 : BitVec 32 := 1#32
  let arg15 : BitVec 32 := Scf.iv c1_i32_344 c1_i32_346 k1_t12
  let v3274 : Index := Scalar.indexCast arg15
  let c176_1932 : Index := 176#32
  ![0, v3274.toNat, 176]
def k1_off38 (k1_t12 : Fin k1_t12_loop.trips) : Fin 3 → Nat :=
  let c1_i32_1933 : BitVec 32 := 1#32
  let v3278 : Index := Scalar.indexCast c1_i32_1933
  let c1_i32_344 : BitVec 32 := 1#32
  let c1_i32_346 : BitVec 32 := 1#32
  let arg15 : BitVec 32 := Scf.iv c1_i32_344 c1_i32_346 k1_t12
  let v3279 : Index := Scalar.indexCast arg15
  let c176_1934 : Index := 176#32
  ![1, v3279.toNat, 176]
@[reducible] def k1_t13_loop : Scf.Loop 32 :=
  let c1_i32_372 : BitVec 32 := 1#32
  let c63_i32_373 : BitVec 32 := 63#32
  let v666 : BitVec 32 := Scalar.addi c1_i32_372 c63_i32_373
  let c1_i32_374 : BitVec 32 := 1#32
  ⟨c1_i32_372, v666, c1_i32_374⟩
def k1_off39 (k1_t13 : Fin k1_t13_loop.trips) : Fin 2 → Nat :=
  let c1_i32_372 : BitVec 32 := 1#32
  let c1_i32_374 : BitVec 32 := 1#32
  let arg15 : BitVec 32 := Scf.iv c1_i32_372 c1_i32_374 k1_t13
  let v3267 : Index := Scalar.indexCast arg15
  let c192_1929 : Index := 192#32
  ![v3267.toNat, 192]
def k1_off40 (k1_t13 : Fin k1_t13_loop.trips) : Fin 3 → Nat :=
  let c0_i32_1931 : BitVec 32 := 0#32
  let v3273 : Index := Scalar.indexCast c0_i32_1931
  let c1_i32_372 : BitVec 32 := 1#32
  let c1_i32_374 : BitVec 32 := 1#32
  let arg15 : BitVec 32 := Scf.iv c1_i32_372 c1_i32_374 k1_t13
  let v3274 : Index := Scalar.indexCast arg15
  let c192_1932 : Index := 192#32
  ![0, v3274.toNat, 192]
def k1_off41 (k1_t13 : Fin k1_t13_loop.trips) : Fin 3 → Nat :=
  let c1_i32_1933 : BitVec 32 := 1#32
  let v3278 : Index := Scalar.indexCast c1_i32_1933
  let c1_i32_372 : BitVec 32 := 1#32
  let c1_i32_374 : BitVec 32 := 1#32
  let arg15 : BitVec 32 := Scf.iv c1_i32_372 c1_i32_374 k1_t13
  let v3279 : Index := Scalar.indexCast arg15
  let c192_1934 : Index := 192#32
  ![1, v3279.toNat, 192]
@[reducible] def k1_t14_loop : Scf.Loop 32 :=
  let c1_i32_400 : BitVec 32 := 1#32
  let c63_i32_401 : BitVec 32 := 63#32
  let v716 : BitVec 32 := Scalar.addi c1_i32_400 c63_i32_401
  let c1_i32_402 : BitVec 32 := 1#32
  ⟨c1_i32_400, v716, c1_i32_402⟩
def k1_off42 (k1_t14 : Fin k1_t14_loop.trips) : Fin 2 → Nat :=
  let c1_i32_400 : BitVec 32 := 1#32
  let c1_i32_402 : BitVec 32 := 1#32
  let arg15 : BitVec 32 := Scf.iv c1_i32_400 c1_i32_402 k1_t14
  let v3267 : Index := Scalar.indexCast arg15
  let c208_1929 : Index := 208#32
  ![v3267.toNat, 208]
def k1_off43 (k1_t14 : Fin k1_t14_loop.trips) : Fin 3 → Nat :=
  let c0_i32_1931 : BitVec 32 := 0#32
  let v3273 : Index := Scalar.indexCast c0_i32_1931
  let c1_i32_400 : BitVec 32 := 1#32
  let c1_i32_402 : BitVec 32 := 1#32
  let arg15 : BitVec 32 := Scf.iv c1_i32_400 c1_i32_402 k1_t14
  let v3274 : Index := Scalar.indexCast arg15
  let c208_1932 : Index := 208#32
  ![0, v3274.toNat, 208]
def k1_off44 (k1_t14 : Fin k1_t14_loop.trips) : Fin 3 → Nat :=
  let c1_i32_1933 : BitVec 32 := 1#32
  let v3278 : Index := Scalar.indexCast c1_i32_1933
  let c1_i32_400 : BitVec 32 := 1#32
  let c1_i32_402 : BitVec 32 := 1#32
  let arg15 : BitVec 32 := Scf.iv c1_i32_400 c1_i32_402 k1_t14
  let v3279 : Index := Scalar.indexCast arg15
  let c208_1934 : Index := 208#32
  ![1, v3279.toNat, 208]
@[reducible] def k1_t15_loop : Scf.Loop 32 :=
  let c1_i32_428 : BitVec 32 := 1#32
  let c63_i32_429 : BitVec 32 := 63#32
  let v766 : BitVec 32 := Scalar.addi c1_i32_428 c63_i32_429
  let c1_i32_430 : BitVec 32 := 1#32
  ⟨c1_i32_428, v766, c1_i32_430⟩
def k1_off45 (k1_t15 : Fin k1_t15_loop.trips) : Fin 2 → Nat :=
  let c1_i32_428 : BitVec 32 := 1#32
  let c1_i32_430 : BitVec 32 := 1#32
  let arg15 : BitVec 32 := Scf.iv c1_i32_428 c1_i32_430 k1_t15
  let v3267 : Index := Scalar.indexCast arg15
  let c224_1929 : Index := 224#32
  ![v3267.toNat, 224]
def k1_off46 (k1_t15 : Fin k1_t15_loop.trips) : Fin 3 → Nat :=
  let c0_i32_1931 : BitVec 32 := 0#32
  let v3273 : Index := Scalar.indexCast c0_i32_1931
  let c1_i32_428 : BitVec 32 := 1#32
  let c1_i32_430 : BitVec 32 := 1#32
  let arg15 : BitVec 32 := Scf.iv c1_i32_428 c1_i32_430 k1_t15
  let v3274 : Index := Scalar.indexCast arg15
  let c224_1932 : Index := 224#32
  ![0, v3274.toNat, 224]
def k1_off47 (k1_t15 : Fin k1_t15_loop.trips) : Fin 3 → Nat :=
  let c1_i32_1933 : BitVec 32 := 1#32
  let v3278 : Index := Scalar.indexCast c1_i32_1933
  let c1_i32_428 : BitVec 32 := 1#32
  let c1_i32_430 : BitVec 32 := 1#32
  let arg15 : BitVec 32 := Scf.iv c1_i32_428 c1_i32_430 k1_t15
  let v3279 : Index := Scalar.indexCast arg15
  let c224_1934 : Index := 224#32
  ![1, v3279.toNat, 224]
@[reducible] def k1_t16_loop : Scf.Loop 32 :=
  let c1_i32_456 : BitVec 32 := 1#32
  let c63_i32_457 : BitVec 32 := 63#32
  let v816 : BitVec 32 := Scalar.addi c1_i32_456 c63_i32_457
  let c1_i32_458 : BitVec 32 := 1#32
  ⟨c1_i32_456, v816, c1_i32_458⟩
def k1_off48 (k1_t16 : Fin k1_t16_loop.trips) : Fin 2 → Nat :=
  let c1_i32_456 : BitVec 32 := 1#32
  let c1_i32_458 : BitVec 32 := 1#32
  let arg15 : BitVec 32 := Scf.iv c1_i32_456 c1_i32_458 k1_t16
  let v3267 : Index := Scalar.indexCast arg15
  let c240_1929 : Index := 240#32
  ![v3267.toNat, 240]
def k1_off49 (k1_t16 : Fin k1_t16_loop.trips) : Fin 3 → Nat :=
  let c0_i32_1931 : BitVec 32 := 0#32
  let v3273 : Index := Scalar.indexCast c0_i32_1931
  let c1_i32_456 : BitVec 32 := 1#32
  let c1_i32_458 : BitVec 32 := 1#32
  let arg15 : BitVec 32 := Scf.iv c1_i32_456 c1_i32_458 k1_t16
  let v3274 : Index := Scalar.indexCast arg15
  let c240_1932 : Index := 240#32
  ![0, v3274.toNat, 240]
def k1_off50 (k1_t16 : Fin k1_t16_loop.trips) : Fin 3 → Nat :=
  let c1_i32_1933 : BitVec 32 := 1#32
  let v3278 : Index := Scalar.indexCast c1_i32_1933
  let c1_i32_456 : BitVec 32 := 1#32
  let c1_i32_458 : BitVec 32 := 1#32
  let arg15 : BitVec 32 := Scf.iv c1_i32_456 c1_i32_458 k1_t16
  let v3279 : Index := Scalar.indexCast arg15
  let c240_1934 : Index := 240#32
  ![1, v3279.toNat, 240]
@[reducible] def k1_t17_loop : Scf.Loop 32 :=
  let c1_i32_494 : BitVec 32 := 1#32
  let c63_i32_495 : BitVec 32 := 63#32
  let v875 : BitVec 32 := Scalar.addi c1_i32_494 c63_i32_495
  let c1_i32_496 : BitVec 32 := 1#32
  ⟨c1_i32_494, v875, c1_i32_496⟩
def k1_off51 (k1_t17 : Fin k1_t17_loop.trips) : Fin 2 → Nat :=
  let c1_i32_494 : BitVec 32 := 1#32
  let c1_i32_496 : BitVec 32 := 1#32
  let arg15 : BitVec 32 := Scf.iv c1_i32_494 c1_i32_496 k1_t17
  let v3267 : Index := Scalar.indexCast arg15
  let c0_1929 : Index := 0#32
  ![v3267.toNat, 0]
def k1_off52 (k1_t17 : Fin k1_t17_loop.trips) : Fin 3 → Nat :=
  let c0_i32_1931 : BitVec 32 := 0#32
  let v3273 : Index := Scalar.indexCast c0_i32_1931
  let c1_i32_494 : BitVec 32 := 1#32
  let c1_i32_496 : BitVec 32 := 1#32
  let arg15 : BitVec 32 := Scf.iv c1_i32_494 c1_i32_496 k1_t17
  let v3274 : Index := Scalar.indexCast arg15
  let c0_1932 : Index := 0#32
  ![0, v3274.toNat, 0]
def k1_off53 (k1_t17 : Fin k1_t17_loop.trips) : Fin 3 → Nat :=
  let c1_i32_1933 : BitVec 32 := 1#32
  let v3278 : Index := Scalar.indexCast c1_i32_1933
  let c1_i32_494 : BitVec 32 := 1#32
  let c1_i32_496 : BitVec 32 := 1#32
  let arg15 : BitVec 32 := Scf.iv c1_i32_494 c1_i32_496 k1_t17
  let v3279 : Index := Scalar.indexCast arg15
  let c0_1934 : Index := 0#32
  ![1, v3279.toNat, 0]
@[reducible] def k1_t18_loop : Scf.Loop 32 :=
  let c1_i32_523 : BitVec 32 := 1#32
  let c63_i32_524 : BitVec 32 := 63#32
  let v925 : BitVec 32 := Scalar.addi c1_i32_523 c63_i32_524
  let c1_i32_525 : BitVec 32 := 1#32
  ⟨c1_i32_523, v925, c1_i32_525⟩
def k1_off54 (k1_t18 : Fin k1_t18_loop.trips) : Fin 2 → Nat :=
  let c1_i32_523 : BitVec 32 := 1#32
  let c1_i32_525 : BitVec 32 := 1#32
  let arg15 : BitVec 32 := Scf.iv c1_i32_523 c1_i32_525 k1_t18
  let v3267 : Index := Scalar.indexCast arg15
  let c16_1929 : Index := 16#32
  ![v3267.toNat, 16]
def k1_off55 (k1_t18 : Fin k1_t18_loop.trips) : Fin 3 → Nat :=
  let c0_i32_1931 : BitVec 32 := 0#32
  let v3273 : Index := Scalar.indexCast c0_i32_1931
  let c1_i32_523 : BitVec 32 := 1#32
  let c1_i32_525 : BitVec 32 := 1#32
  let arg15 : BitVec 32 := Scf.iv c1_i32_523 c1_i32_525 k1_t18
  let v3274 : Index := Scalar.indexCast arg15
  let c16_1932 : Index := 16#32
  ![0, v3274.toNat, 16]
def k1_off56 (k1_t18 : Fin k1_t18_loop.trips) : Fin 3 → Nat :=
  let c1_i32_1933 : BitVec 32 := 1#32
  let v3278 : Index := Scalar.indexCast c1_i32_1933
  let c1_i32_523 : BitVec 32 := 1#32
  let c1_i32_525 : BitVec 32 := 1#32
  let arg15 : BitVec 32 := Scf.iv c1_i32_523 c1_i32_525 k1_t18
  let v3279 : Index := Scalar.indexCast arg15
  let c16_1934 : Index := 16#32
  ![1, v3279.toNat, 16]
@[reducible] def k1_t19_loop : Scf.Loop 32 :=
  let c1_i32_553 : BitVec 32 := 1#32
  let c63_i32_554 : BitVec 32 := 63#32
  let v975 : BitVec 32 := Scalar.addi c1_i32_553 c63_i32_554
  let c1_i32_555 : BitVec 32 := 1#32
  ⟨c1_i32_553, v975, c1_i32_555⟩
def k1_off57 (k1_t19 : Fin k1_t19_loop.trips) : Fin 2 → Nat :=
  let c1_i32_553 : BitVec 32 := 1#32
  let c1_i32_555 : BitVec 32 := 1#32
  let arg15 : BitVec 32 := Scf.iv c1_i32_553 c1_i32_555 k1_t19
  let v3267 : Index := Scalar.indexCast arg15
  let c32_1929 : Index := 32#32
  ![v3267.toNat, 32]
def k1_off58 (k1_t19 : Fin k1_t19_loop.trips) : Fin 3 → Nat :=
  let c0_i32_1931 : BitVec 32 := 0#32
  let v3273 : Index := Scalar.indexCast c0_i32_1931
  let c1_i32_553 : BitVec 32 := 1#32
  let c1_i32_555 : BitVec 32 := 1#32
  let arg15 : BitVec 32 := Scf.iv c1_i32_553 c1_i32_555 k1_t19
  let v3274 : Index := Scalar.indexCast arg15
  let c32_1932 : Index := 32#32
  ![0, v3274.toNat, 32]
def k1_off59 (k1_t19 : Fin k1_t19_loop.trips) : Fin 3 → Nat :=
  let c1_i32_1933 : BitVec 32 := 1#32
  let v3278 : Index := Scalar.indexCast c1_i32_1933
  let c1_i32_553 : BitVec 32 := 1#32
  let c1_i32_555 : BitVec 32 := 1#32
  let arg15 : BitVec 32 := Scf.iv c1_i32_553 c1_i32_555 k1_t19
  let v3279 : Index := Scalar.indexCast arg15
  let c32_1934 : Index := 32#32
  ![1, v3279.toNat, 32]
@[reducible] def k1_t20_loop : Scf.Loop 32 :=
  let c1_i32_583 : BitVec 32 := 1#32
  let c63_i32_584 : BitVec 32 := 63#32
  let v1025 : BitVec 32 := Scalar.addi c1_i32_583 c63_i32_584
  let c1_i32_585 : BitVec 32 := 1#32
  ⟨c1_i32_583, v1025, c1_i32_585⟩
def k1_off60 (k1_t20 : Fin k1_t20_loop.trips) : Fin 2 → Nat :=
  let c1_i32_583 : BitVec 32 := 1#32
  let c1_i32_585 : BitVec 32 := 1#32
  let arg15 : BitVec 32 := Scf.iv c1_i32_583 c1_i32_585 k1_t20
  let v3267 : Index := Scalar.indexCast arg15
  let c48_1929 : Index := 48#32
  ![v3267.toNat, 48]
def k1_off61 (k1_t20 : Fin k1_t20_loop.trips) : Fin 3 → Nat :=
  let c0_i32_1931 : BitVec 32 := 0#32
  let v3273 : Index := Scalar.indexCast c0_i32_1931
  let c1_i32_583 : BitVec 32 := 1#32
  let c1_i32_585 : BitVec 32 := 1#32
  let arg15 : BitVec 32 := Scf.iv c1_i32_583 c1_i32_585 k1_t20
  let v3274 : Index := Scalar.indexCast arg15
  let c48_1932 : Index := 48#32
  ![0, v3274.toNat, 48]
def k1_off62 (k1_t20 : Fin k1_t20_loop.trips) : Fin 3 → Nat :=
  let c1_i32_1933 : BitVec 32 := 1#32
  let v3278 : Index := Scalar.indexCast c1_i32_1933
  let c1_i32_583 : BitVec 32 := 1#32
  let c1_i32_585 : BitVec 32 := 1#32
  let arg15 : BitVec 32 := Scf.iv c1_i32_583 c1_i32_585 k1_t20
  let v3279 : Index := Scalar.indexCast arg15
  let c48_1934 : Index := 48#32
  ![1, v3279.toNat, 48]
@[reducible] def k1_t21_loop : Scf.Loop 32 :=
  let c1_i32_613 : BitVec 32 := 1#32
  let c63_i32_614 : BitVec 32 := 63#32
  let v1075 : BitVec 32 := Scalar.addi c1_i32_613 c63_i32_614
  let c1_i32_615 : BitVec 32 := 1#32
  ⟨c1_i32_613, v1075, c1_i32_615⟩
def k1_off63 (k1_t21 : Fin k1_t21_loop.trips) : Fin 2 → Nat :=
  let c1_i32_613 : BitVec 32 := 1#32
  let c1_i32_615 : BitVec 32 := 1#32
  let arg15 : BitVec 32 := Scf.iv c1_i32_613 c1_i32_615 k1_t21
  let v3267 : Index := Scalar.indexCast arg15
  let c64_1929 : Index := 64#32
  ![v3267.toNat, 64]
def k1_off64 (k1_t21 : Fin k1_t21_loop.trips) : Fin 3 → Nat :=
  let c0_i32_1931 : BitVec 32 := 0#32
  let v3273 : Index := Scalar.indexCast c0_i32_1931
  let c1_i32_613 : BitVec 32 := 1#32
  let c1_i32_615 : BitVec 32 := 1#32
  let arg15 : BitVec 32 := Scf.iv c1_i32_613 c1_i32_615 k1_t21
  let v3274 : Index := Scalar.indexCast arg15
  let c64_1932 : Index := 64#32
  ![0, v3274.toNat, 64]
def k1_off65 (k1_t21 : Fin k1_t21_loop.trips) : Fin 3 → Nat :=
  let c1_i32_1933 : BitVec 32 := 1#32
  let v3278 : Index := Scalar.indexCast c1_i32_1933
  let c1_i32_613 : BitVec 32 := 1#32
  let c1_i32_615 : BitVec 32 := 1#32
  let arg15 : BitVec 32 := Scf.iv c1_i32_613 c1_i32_615 k1_t21
  let v3279 : Index := Scalar.indexCast arg15
  let c64_1934 : Index := 64#32
  ![1, v3279.toNat, 64]
@[reducible] def k1_t22_loop : Scf.Loop 32 :=
  let c1_i32_643 : BitVec 32 := 1#32
  let c63_i32_644 : BitVec 32 := 63#32
  let v1125 : BitVec 32 := Scalar.addi c1_i32_643 c63_i32_644
  let c1_i32_645 : BitVec 32 := 1#32
  ⟨c1_i32_643, v1125, c1_i32_645⟩
def k1_off66 (k1_t22 : Fin k1_t22_loop.trips) : Fin 2 → Nat :=
  let c1_i32_643 : BitVec 32 := 1#32
  let c1_i32_645 : BitVec 32 := 1#32
  let arg15 : BitVec 32 := Scf.iv c1_i32_643 c1_i32_645 k1_t22
  let v3267 : Index := Scalar.indexCast arg15
  let c80_1929 : Index := 80#32
  ![v3267.toNat, 80]
def k1_off67 (k1_t22 : Fin k1_t22_loop.trips) : Fin 3 → Nat :=
  let c0_i32_1931 : BitVec 32 := 0#32
  let v3273 : Index := Scalar.indexCast c0_i32_1931
  let c1_i32_643 : BitVec 32 := 1#32
  let c1_i32_645 : BitVec 32 := 1#32
  let arg15 : BitVec 32 := Scf.iv c1_i32_643 c1_i32_645 k1_t22
  let v3274 : Index := Scalar.indexCast arg15
  let c80_1932 : Index := 80#32
  ![0, v3274.toNat, 80]
def k1_off68 (k1_t22 : Fin k1_t22_loop.trips) : Fin 3 → Nat :=
  let c1_i32_1933 : BitVec 32 := 1#32
  let v3278 : Index := Scalar.indexCast c1_i32_1933
  let c1_i32_643 : BitVec 32 := 1#32
  let c1_i32_645 : BitVec 32 := 1#32
  let arg15 : BitVec 32 := Scf.iv c1_i32_643 c1_i32_645 k1_t22
  let v3279 : Index := Scalar.indexCast arg15
  let c80_1934 : Index := 80#32
  ![1, v3279.toNat, 80]
@[reducible] def k1_t23_loop : Scf.Loop 32 :=
  let c1_i32_673 : BitVec 32 := 1#32
  let c63_i32_674 : BitVec 32 := 63#32
  let v1175 : BitVec 32 := Scalar.addi c1_i32_673 c63_i32_674
  let c1_i32_675 : BitVec 32 := 1#32
  ⟨c1_i32_673, v1175, c1_i32_675⟩
def k1_off69 (k1_t23 : Fin k1_t23_loop.trips) : Fin 2 → Nat :=
  let c1_i32_673 : BitVec 32 := 1#32
  let c1_i32_675 : BitVec 32 := 1#32
  let arg15 : BitVec 32 := Scf.iv c1_i32_673 c1_i32_675 k1_t23
  let v3267 : Index := Scalar.indexCast arg15
  let c96_1929 : Index := 96#32
  ![v3267.toNat, 96]
def k1_off70 (k1_t23 : Fin k1_t23_loop.trips) : Fin 3 → Nat :=
  let c0_i32_1931 : BitVec 32 := 0#32
  let v3273 : Index := Scalar.indexCast c0_i32_1931
  let c1_i32_673 : BitVec 32 := 1#32
  let c1_i32_675 : BitVec 32 := 1#32
  let arg15 : BitVec 32 := Scf.iv c1_i32_673 c1_i32_675 k1_t23
  let v3274 : Index := Scalar.indexCast arg15
  let c96_1932 : Index := 96#32
  ![0, v3274.toNat, 96]
def k1_off71 (k1_t23 : Fin k1_t23_loop.trips) : Fin 3 → Nat :=
  let c1_i32_1933 : BitVec 32 := 1#32
  let v3278 : Index := Scalar.indexCast c1_i32_1933
  let c1_i32_673 : BitVec 32 := 1#32
  let c1_i32_675 : BitVec 32 := 1#32
  let arg15 : BitVec 32 := Scf.iv c1_i32_673 c1_i32_675 k1_t23
  let v3279 : Index := Scalar.indexCast arg15
  let c96_1934 : Index := 96#32
  ![1, v3279.toNat, 96]
@[reducible] def k1_t24_loop : Scf.Loop 32 :=
  let c1_i32_703 : BitVec 32 := 1#32
  let c63_i32_704 : BitVec 32 := 63#32
  let v1225 : BitVec 32 := Scalar.addi c1_i32_703 c63_i32_704
  let c1_i32_705 : BitVec 32 := 1#32
  ⟨c1_i32_703, v1225, c1_i32_705⟩
def k1_off72 (k1_t24 : Fin k1_t24_loop.trips) : Fin 2 → Nat :=
  let c1_i32_703 : BitVec 32 := 1#32
  let c1_i32_705 : BitVec 32 := 1#32
  let arg15 : BitVec 32 := Scf.iv c1_i32_703 c1_i32_705 k1_t24
  let v3267 : Index := Scalar.indexCast arg15
  let c112_1929 : Index := 112#32
  ![v3267.toNat, 112]
def k1_off73 (k1_t24 : Fin k1_t24_loop.trips) : Fin 3 → Nat :=
  let c0_i32_1931 : BitVec 32 := 0#32
  let v3273 : Index := Scalar.indexCast c0_i32_1931
  let c1_i32_703 : BitVec 32 := 1#32
  let c1_i32_705 : BitVec 32 := 1#32
  let arg15 : BitVec 32 := Scf.iv c1_i32_703 c1_i32_705 k1_t24
  let v3274 : Index := Scalar.indexCast arg15
  let c112_1932 : Index := 112#32
  ![0, v3274.toNat, 112]
def k1_off74 (k1_t24 : Fin k1_t24_loop.trips) : Fin 3 → Nat :=
  let c1_i32_1933 : BitVec 32 := 1#32
  let v3278 : Index := Scalar.indexCast c1_i32_1933
  let c1_i32_703 : BitVec 32 := 1#32
  let c1_i32_705 : BitVec 32 := 1#32
  let arg15 : BitVec 32 := Scf.iv c1_i32_703 c1_i32_705 k1_t24
  let v3279 : Index := Scalar.indexCast arg15
  let c112_1934 : Index := 112#32
  ![1, v3279.toNat, 112]
@[reducible] def k1_t25_loop : Scf.Loop 32 :=
  let c1_i32_733 : BitVec 32 := 1#32
  let c63_i32_734 : BitVec 32 := 63#32
  let v1275 : BitVec 32 := Scalar.addi c1_i32_733 c63_i32_734
  let c1_i32_735 : BitVec 32 := 1#32
  ⟨c1_i32_733, v1275, c1_i32_735⟩
def k1_off75 (k1_t25 : Fin k1_t25_loop.trips) : Fin 2 → Nat :=
  let c1_i32_733 : BitVec 32 := 1#32
  let c1_i32_735 : BitVec 32 := 1#32
  let arg15 : BitVec 32 := Scf.iv c1_i32_733 c1_i32_735 k1_t25
  let v3267 : Index := Scalar.indexCast arg15
  let c128_1929 : Index := 128#32
  ![v3267.toNat, 128]
def k1_off76 (k1_t25 : Fin k1_t25_loop.trips) : Fin 3 → Nat :=
  let c0_i32_1931 : BitVec 32 := 0#32
  let v3273 : Index := Scalar.indexCast c0_i32_1931
  let c1_i32_733 : BitVec 32 := 1#32
  let c1_i32_735 : BitVec 32 := 1#32
  let arg15 : BitVec 32 := Scf.iv c1_i32_733 c1_i32_735 k1_t25
  let v3274 : Index := Scalar.indexCast arg15
  let c128_1932 : Index := 128#32
  ![0, v3274.toNat, 128]
def k1_off77 (k1_t25 : Fin k1_t25_loop.trips) : Fin 3 → Nat :=
  let c1_i32_1933 : BitVec 32 := 1#32
  let v3278 : Index := Scalar.indexCast c1_i32_1933
  let c1_i32_733 : BitVec 32 := 1#32
  let c1_i32_735 : BitVec 32 := 1#32
  let arg15 : BitVec 32 := Scf.iv c1_i32_733 c1_i32_735 k1_t25
  let v3279 : Index := Scalar.indexCast arg15
  let c128_1934 : Index := 128#32
  ![1, v3279.toNat, 128]
@[reducible] def k1_t26_loop : Scf.Loop 32 :=
  let c1_i32_763 : BitVec 32 := 1#32
  let c63_i32_764 : BitVec 32 := 63#32
  let v1325 : BitVec 32 := Scalar.addi c1_i32_763 c63_i32_764
  let c1_i32_765 : BitVec 32 := 1#32
  ⟨c1_i32_763, v1325, c1_i32_765⟩
def k1_off78 (k1_t26 : Fin k1_t26_loop.trips) : Fin 2 → Nat :=
  let c1_i32_763 : BitVec 32 := 1#32
  let c1_i32_765 : BitVec 32 := 1#32
  let arg15 : BitVec 32 := Scf.iv c1_i32_763 c1_i32_765 k1_t26
  let v3267 : Index := Scalar.indexCast arg15
  let c144_1929 : Index := 144#32
  ![v3267.toNat, 144]
def k1_off79 (k1_t26 : Fin k1_t26_loop.trips) : Fin 3 → Nat :=
  let c0_i32_1931 : BitVec 32 := 0#32
  let v3273 : Index := Scalar.indexCast c0_i32_1931
  let c1_i32_763 : BitVec 32 := 1#32
  let c1_i32_765 : BitVec 32 := 1#32
  let arg15 : BitVec 32 := Scf.iv c1_i32_763 c1_i32_765 k1_t26
  let v3274 : Index := Scalar.indexCast arg15
  let c144_1932 : Index := 144#32
  ![0, v3274.toNat, 144]
def k1_off80 (k1_t26 : Fin k1_t26_loop.trips) : Fin 3 → Nat :=
  let c1_i32_1933 : BitVec 32 := 1#32
  let v3278 : Index := Scalar.indexCast c1_i32_1933
  let c1_i32_763 : BitVec 32 := 1#32
  let c1_i32_765 : BitVec 32 := 1#32
  let arg15 : BitVec 32 := Scf.iv c1_i32_763 c1_i32_765 k1_t26
  let v3279 : Index := Scalar.indexCast arg15
  let c144_1934 : Index := 144#32
  ![1, v3279.toNat, 144]
@[reducible] def k1_t27_loop : Scf.Loop 32 :=
  let c1_i32_793 : BitVec 32 := 1#32
  let c63_i32_794 : BitVec 32 := 63#32
  let v1375 : BitVec 32 := Scalar.addi c1_i32_793 c63_i32_794
  let c1_i32_795 : BitVec 32 := 1#32
  ⟨c1_i32_793, v1375, c1_i32_795⟩
def k1_off81 (k1_t27 : Fin k1_t27_loop.trips) : Fin 2 → Nat :=
  let c1_i32_793 : BitVec 32 := 1#32
  let c1_i32_795 : BitVec 32 := 1#32
  let arg15 : BitVec 32 := Scf.iv c1_i32_793 c1_i32_795 k1_t27
  let v3267 : Index := Scalar.indexCast arg15
  let c160_1929 : Index := 160#32
  ![v3267.toNat, 160]
def k1_off82 (k1_t27 : Fin k1_t27_loop.trips) : Fin 3 → Nat :=
  let c0_i32_1931 : BitVec 32 := 0#32
  let v3273 : Index := Scalar.indexCast c0_i32_1931
  let c1_i32_793 : BitVec 32 := 1#32
  let c1_i32_795 : BitVec 32 := 1#32
  let arg15 : BitVec 32 := Scf.iv c1_i32_793 c1_i32_795 k1_t27
  let v3274 : Index := Scalar.indexCast arg15
  let c160_1932 : Index := 160#32
  ![0, v3274.toNat, 160]
def k1_off83 (k1_t27 : Fin k1_t27_loop.trips) : Fin 3 → Nat :=
  let c1_i32_1933 : BitVec 32 := 1#32
  let v3278 : Index := Scalar.indexCast c1_i32_1933
  let c1_i32_793 : BitVec 32 := 1#32
  let c1_i32_795 : BitVec 32 := 1#32
  let arg15 : BitVec 32 := Scf.iv c1_i32_793 c1_i32_795 k1_t27
  let v3279 : Index := Scalar.indexCast arg15
  let c160_1934 : Index := 160#32
  ![1, v3279.toNat, 160]
@[reducible] def k1_t28_loop : Scf.Loop 32 :=
  let c1_i32_823 : BitVec 32 := 1#32
  let c63_i32_824 : BitVec 32 := 63#32
  let v1425 : BitVec 32 := Scalar.addi c1_i32_823 c63_i32_824
  let c1_i32_825 : BitVec 32 := 1#32
  ⟨c1_i32_823, v1425, c1_i32_825⟩
def k1_off84 (k1_t28 : Fin k1_t28_loop.trips) : Fin 2 → Nat :=
  let c1_i32_823 : BitVec 32 := 1#32
  let c1_i32_825 : BitVec 32 := 1#32
  let arg15 : BitVec 32 := Scf.iv c1_i32_823 c1_i32_825 k1_t28
  let v3267 : Index := Scalar.indexCast arg15
  let c176_1929 : Index := 176#32
  ![v3267.toNat, 176]
def k1_off85 (k1_t28 : Fin k1_t28_loop.trips) : Fin 3 → Nat :=
  let c0_i32_1931 : BitVec 32 := 0#32
  let v3273 : Index := Scalar.indexCast c0_i32_1931
  let c1_i32_823 : BitVec 32 := 1#32
  let c1_i32_825 : BitVec 32 := 1#32
  let arg15 : BitVec 32 := Scf.iv c1_i32_823 c1_i32_825 k1_t28
  let v3274 : Index := Scalar.indexCast arg15
  let c176_1932 : Index := 176#32
  ![0, v3274.toNat, 176]
def k1_off86 (k1_t28 : Fin k1_t28_loop.trips) : Fin 3 → Nat :=
  let c1_i32_1933 : BitVec 32 := 1#32
  let v3278 : Index := Scalar.indexCast c1_i32_1933
  let c1_i32_823 : BitVec 32 := 1#32
  let c1_i32_825 : BitVec 32 := 1#32
  let arg15 : BitVec 32 := Scf.iv c1_i32_823 c1_i32_825 k1_t28
  let v3279 : Index := Scalar.indexCast arg15
  let c176_1934 : Index := 176#32
  ![1, v3279.toNat, 176]
@[reducible] def k1_t29_loop : Scf.Loop 32 :=
  let c1_i32_853 : BitVec 32 := 1#32
  let c63_i32_854 : BitVec 32 := 63#32
  let v1475 : BitVec 32 := Scalar.addi c1_i32_853 c63_i32_854
  let c1_i32_855 : BitVec 32 := 1#32
  ⟨c1_i32_853, v1475, c1_i32_855⟩
def k1_off87 (k1_t29 : Fin k1_t29_loop.trips) : Fin 2 → Nat :=
  let c1_i32_853 : BitVec 32 := 1#32
  let c1_i32_855 : BitVec 32 := 1#32
  let arg15 : BitVec 32 := Scf.iv c1_i32_853 c1_i32_855 k1_t29
  let v3267 : Index := Scalar.indexCast arg15
  let c192_1929 : Index := 192#32
  ![v3267.toNat, 192]
def k1_off88 (k1_t29 : Fin k1_t29_loop.trips) : Fin 3 → Nat :=
  let c0_i32_1931 : BitVec 32 := 0#32
  let v3273 : Index := Scalar.indexCast c0_i32_1931
  let c1_i32_853 : BitVec 32 := 1#32
  let c1_i32_855 : BitVec 32 := 1#32
  let arg15 : BitVec 32 := Scf.iv c1_i32_853 c1_i32_855 k1_t29
  let v3274 : Index := Scalar.indexCast arg15
  let c192_1932 : Index := 192#32
  ![0, v3274.toNat, 192]
def k1_off89 (k1_t29 : Fin k1_t29_loop.trips) : Fin 3 → Nat :=
  let c1_i32_1933 : BitVec 32 := 1#32
  let v3278 : Index := Scalar.indexCast c1_i32_1933
  let c1_i32_853 : BitVec 32 := 1#32
  let c1_i32_855 : BitVec 32 := 1#32
  let arg15 : BitVec 32 := Scf.iv c1_i32_853 c1_i32_855 k1_t29
  let v3279 : Index := Scalar.indexCast arg15
  let c192_1934 : Index := 192#32
  ![1, v3279.toNat, 192]
@[reducible] def k1_t30_loop : Scf.Loop 32 :=
  let c1_i32_883 : BitVec 32 := 1#32
  let c63_i32_884 : BitVec 32 := 63#32
  let v1525 : BitVec 32 := Scalar.addi c1_i32_883 c63_i32_884
  let c1_i32_885 : BitVec 32 := 1#32
  ⟨c1_i32_883, v1525, c1_i32_885⟩
def k1_off90 (k1_t30 : Fin k1_t30_loop.trips) : Fin 2 → Nat :=
  let c1_i32_883 : BitVec 32 := 1#32
  let c1_i32_885 : BitVec 32 := 1#32
  let arg15 : BitVec 32 := Scf.iv c1_i32_883 c1_i32_885 k1_t30
  let v3267 : Index := Scalar.indexCast arg15
  let c208_1929 : Index := 208#32
  ![v3267.toNat, 208]
def k1_off91 (k1_t30 : Fin k1_t30_loop.trips) : Fin 3 → Nat :=
  let c0_i32_1931 : BitVec 32 := 0#32
  let v3273 : Index := Scalar.indexCast c0_i32_1931
  let c1_i32_883 : BitVec 32 := 1#32
  let c1_i32_885 : BitVec 32 := 1#32
  let arg15 : BitVec 32 := Scf.iv c1_i32_883 c1_i32_885 k1_t30
  let v3274 : Index := Scalar.indexCast arg15
  let c208_1932 : Index := 208#32
  ![0, v3274.toNat, 208]
def k1_off92 (k1_t30 : Fin k1_t30_loop.trips) : Fin 3 → Nat :=
  let c1_i32_1933 : BitVec 32 := 1#32
  let v3278 : Index := Scalar.indexCast c1_i32_1933
  let c1_i32_883 : BitVec 32 := 1#32
  let c1_i32_885 : BitVec 32 := 1#32
  let arg15 : BitVec 32 := Scf.iv c1_i32_883 c1_i32_885 k1_t30
  let v3279 : Index := Scalar.indexCast arg15
  let c208_1934 : Index := 208#32
  ![1, v3279.toNat, 208]
@[reducible] def k1_t31_loop : Scf.Loop 32 :=
  let c1_i32_913 : BitVec 32 := 1#32
  let c63_i32_914 : BitVec 32 := 63#32
  let v1575 : BitVec 32 := Scalar.addi c1_i32_913 c63_i32_914
  let c1_i32_915 : BitVec 32 := 1#32
  ⟨c1_i32_913, v1575, c1_i32_915⟩
def k1_off93 (k1_t31 : Fin k1_t31_loop.trips) : Fin 2 → Nat :=
  let c1_i32_913 : BitVec 32 := 1#32
  let c1_i32_915 : BitVec 32 := 1#32
  let arg15 : BitVec 32 := Scf.iv c1_i32_913 c1_i32_915 k1_t31
  let v3267 : Index := Scalar.indexCast arg15
  let c224_1929 : Index := 224#32
  ![v3267.toNat, 224]
def k1_off94 (k1_t31 : Fin k1_t31_loop.trips) : Fin 3 → Nat :=
  let c0_i32_1931 : BitVec 32 := 0#32
  let v3273 : Index := Scalar.indexCast c0_i32_1931
  let c1_i32_913 : BitVec 32 := 1#32
  let c1_i32_915 : BitVec 32 := 1#32
  let arg15 : BitVec 32 := Scf.iv c1_i32_913 c1_i32_915 k1_t31
  let v3274 : Index := Scalar.indexCast arg15
  let c224_1932 : Index := 224#32
  ![0, v3274.toNat, 224]
def k1_off95 (k1_t31 : Fin k1_t31_loop.trips) : Fin 3 → Nat :=
  let c1_i32_1933 : BitVec 32 := 1#32
  let v3278 : Index := Scalar.indexCast c1_i32_1933
  let c1_i32_913 : BitVec 32 := 1#32
  let c1_i32_915 : BitVec 32 := 1#32
  let arg15 : BitVec 32 := Scf.iv c1_i32_913 c1_i32_915 k1_t31
  let v3279 : Index := Scalar.indexCast arg15
  let c224_1934 : Index := 224#32
  ![1, v3279.toNat, 224]
@[reducible] def k1_t32_loop : Scf.Loop 32 :=
  let c1_i32_943 : BitVec 32 := 1#32
  let c63_i32_944 : BitVec 32 := 63#32
  let v1625 : BitVec 32 := Scalar.addi c1_i32_943 c63_i32_944
  let c1_i32_945 : BitVec 32 := 1#32
  ⟨c1_i32_943, v1625, c1_i32_945⟩
def k1_off96 (k1_t32 : Fin k1_t32_loop.trips) : Fin 2 → Nat :=
  let c1_i32_943 : BitVec 32 := 1#32
  let c1_i32_945 : BitVec 32 := 1#32
  let arg15 : BitVec 32 := Scf.iv c1_i32_943 c1_i32_945 k1_t32
  let v3267 : Index := Scalar.indexCast arg15
  let c240_1929 : Index := 240#32
  ![v3267.toNat, 240]
def k1_off97 (k1_t32 : Fin k1_t32_loop.trips) : Fin 3 → Nat :=
  let c0_i32_1931 : BitVec 32 := 0#32
  let v3273 : Index := Scalar.indexCast c0_i32_1931
  let c1_i32_943 : BitVec 32 := 1#32
  let c1_i32_945 : BitVec 32 := 1#32
  let arg15 : BitVec 32 := Scf.iv c1_i32_943 c1_i32_945 k1_t32
  let v3274 : Index := Scalar.indexCast arg15
  let c240_1932 : Index := 240#32
  ![0, v3274.toNat, 240]
def k1_off98 (k1_t32 : Fin k1_t32_loop.trips) : Fin 3 → Nat :=
  let c1_i32_1933 : BitVec 32 := 1#32
  let v3278 : Index := Scalar.indexCast c1_i32_1933
  let c1_i32_943 : BitVec 32 := 1#32
  let c1_i32_945 : BitVec 32 := 1#32
  let arg15 : BitVec 32 := Scf.iv c1_i32_943 c1_i32_945 k1_t32
  let v3279 : Index := Scalar.indexCast arg15
  let c240_1934 : Index := 240#32
  ![1, v3279.toNat, 240]
@[reducible] def k1_t33_loop : Scf.Loop 32 :=
  let c1_i32_981 : BitVec 32 := 1#32
  let c63_i32_982 : BitVec 32 := 63#32
  let v1684 : BitVec 32 := Scalar.addi c1_i32_981 c63_i32_982
  let c1_i32_983 : BitVec 32 := 1#32
  ⟨c1_i32_981, v1684, c1_i32_983⟩
def k1_off99 (k1_t33 : Fin k1_t33_loop.trips) : Fin 2 → Nat :=
  let c1_i32_981 : BitVec 32 := 1#32
  let c1_i32_983 : BitVec 32 := 1#32
  let arg15 : BitVec 32 := Scf.iv c1_i32_981 c1_i32_983 k1_t33
  let v3267 : Index := Scalar.indexCast arg15
  let c0_1929 : Index := 0#32
  ![v3267.toNat, 0]
def k1_off100 (k1_t33 : Fin k1_t33_loop.trips) : Fin 3 → Nat :=
  let c0_i32_1931 : BitVec 32 := 0#32
  let v3273 : Index := Scalar.indexCast c0_i32_1931
  let c1_i32_981 : BitVec 32 := 1#32
  let c1_i32_983 : BitVec 32 := 1#32
  let arg15 : BitVec 32 := Scf.iv c1_i32_981 c1_i32_983 k1_t33
  let v3274 : Index := Scalar.indexCast arg15
  let c0_1932 : Index := 0#32
  ![0, v3274.toNat, 0]
def k1_off101 (k1_t33 : Fin k1_t33_loop.trips) : Fin 3 → Nat :=
  let c1_i32_1933 : BitVec 32 := 1#32
  let v3278 : Index := Scalar.indexCast c1_i32_1933
  let c1_i32_981 : BitVec 32 := 1#32
  let c1_i32_983 : BitVec 32 := 1#32
  let arg15 : BitVec 32 := Scf.iv c1_i32_981 c1_i32_983 k1_t33
  let v3279 : Index := Scalar.indexCast arg15
  let c0_1934 : Index := 0#32
  ![1, v3279.toNat, 0]
@[reducible] def k1_t34_loop : Scf.Loop 32 :=
  let c1_i32_1010 : BitVec 32 := 1#32
  let c63_i32_1011 : BitVec 32 := 63#32
  let v1734 : BitVec 32 := Scalar.addi c1_i32_1010 c63_i32_1011
  let c1_i32_1012 : BitVec 32 := 1#32
  ⟨c1_i32_1010, v1734, c1_i32_1012⟩
def k1_off102 (k1_t34 : Fin k1_t34_loop.trips) : Fin 2 → Nat :=
  let c1_i32_1010 : BitVec 32 := 1#32
  let c1_i32_1012 : BitVec 32 := 1#32
  let arg15 : BitVec 32 := Scf.iv c1_i32_1010 c1_i32_1012 k1_t34
  let v3267 : Index := Scalar.indexCast arg15
  let c16_1929 : Index := 16#32
  ![v3267.toNat, 16]
def k1_off103 (k1_t34 : Fin k1_t34_loop.trips) : Fin 3 → Nat :=
  let c0_i32_1931 : BitVec 32 := 0#32
  let v3273 : Index := Scalar.indexCast c0_i32_1931
  let c1_i32_1010 : BitVec 32 := 1#32
  let c1_i32_1012 : BitVec 32 := 1#32
  let arg15 : BitVec 32 := Scf.iv c1_i32_1010 c1_i32_1012 k1_t34
  let v3274 : Index := Scalar.indexCast arg15
  let c16_1932 : Index := 16#32
  ![0, v3274.toNat, 16]
def k1_off104 (k1_t34 : Fin k1_t34_loop.trips) : Fin 3 → Nat :=
  let c1_i32_1933 : BitVec 32 := 1#32
  let v3278 : Index := Scalar.indexCast c1_i32_1933
  let c1_i32_1010 : BitVec 32 := 1#32
  let c1_i32_1012 : BitVec 32 := 1#32
  let arg15 : BitVec 32 := Scf.iv c1_i32_1010 c1_i32_1012 k1_t34
  let v3279 : Index := Scalar.indexCast arg15
  let c16_1934 : Index := 16#32
  ![1, v3279.toNat, 16]
@[reducible] def k1_t35_loop : Scf.Loop 32 :=
  let c1_i32_1040 : BitVec 32 := 1#32
  let c63_i32_1041 : BitVec 32 := 63#32
  let v1784 : BitVec 32 := Scalar.addi c1_i32_1040 c63_i32_1041
  let c1_i32_1042 : BitVec 32 := 1#32
  ⟨c1_i32_1040, v1784, c1_i32_1042⟩
def k1_off105 (k1_t35 : Fin k1_t35_loop.trips) : Fin 2 → Nat :=
  let c1_i32_1040 : BitVec 32 := 1#32
  let c1_i32_1042 : BitVec 32 := 1#32
  let arg15 : BitVec 32 := Scf.iv c1_i32_1040 c1_i32_1042 k1_t35
  let v3267 : Index := Scalar.indexCast arg15
  let c32_1929 : Index := 32#32
  ![v3267.toNat, 32]
def k1_off106 (k1_t35 : Fin k1_t35_loop.trips) : Fin 3 → Nat :=
  let c0_i32_1931 : BitVec 32 := 0#32
  let v3273 : Index := Scalar.indexCast c0_i32_1931
  let c1_i32_1040 : BitVec 32 := 1#32
  let c1_i32_1042 : BitVec 32 := 1#32
  let arg15 : BitVec 32 := Scf.iv c1_i32_1040 c1_i32_1042 k1_t35
  let v3274 : Index := Scalar.indexCast arg15
  let c32_1932 : Index := 32#32
  ![0, v3274.toNat, 32]
def k1_off107 (k1_t35 : Fin k1_t35_loop.trips) : Fin 3 → Nat :=
  let c1_i32_1933 : BitVec 32 := 1#32
  let v3278 : Index := Scalar.indexCast c1_i32_1933
  let c1_i32_1040 : BitVec 32 := 1#32
  let c1_i32_1042 : BitVec 32 := 1#32
  let arg15 : BitVec 32 := Scf.iv c1_i32_1040 c1_i32_1042 k1_t35
  let v3279 : Index := Scalar.indexCast arg15
  let c32_1934 : Index := 32#32
  ![1, v3279.toNat, 32]
@[reducible] def k1_t36_loop : Scf.Loop 32 :=
  let c1_i32_1070 : BitVec 32 := 1#32
  let c63_i32_1071 : BitVec 32 := 63#32
  let v1834 : BitVec 32 := Scalar.addi c1_i32_1070 c63_i32_1071
  let c1_i32_1072 : BitVec 32 := 1#32
  ⟨c1_i32_1070, v1834, c1_i32_1072⟩
def k1_off108 (k1_t36 : Fin k1_t36_loop.trips) : Fin 2 → Nat :=
  let c1_i32_1070 : BitVec 32 := 1#32
  let c1_i32_1072 : BitVec 32 := 1#32
  let arg15 : BitVec 32 := Scf.iv c1_i32_1070 c1_i32_1072 k1_t36
  let v3267 : Index := Scalar.indexCast arg15
  let c48_1929 : Index := 48#32
  ![v3267.toNat, 48]
def k1_off109 (k1_t36 : Fin k1_t36_loop.trips) : Fin 3 → Nat :=
  let c0_i32_1931 : BitVec 32 := 0#32
  let v3273 : Index := Scalar.indexCast c0_i32_1931
  let c1_i32_1070 : BitVec 32 := 1#32
  let c1_i32_1072 : BitVec 32 := 1#32
  let arg15 : BitVec 32 := Scf.iv c1_i32_1070 c1_i32_1072 k1_t36
  let v3274 : Index := Scalar.indexCast arg15
  let c48_1932 : Index := 48#32
  ![0, v3274.toNat, 48]
def k1_off110 (k1_t36 : Fin k1_t36_loop.trips) : Fin 3 → Nat :=
  let c1_i32_1933 : BitVec 32 := 1#32
  let v3278 : Index := Scalar.indexCast c1_i32_1933
  let c1_i32_1070 : BitVec 32 := 1#32
  let c1_i32_1072 : BitVec 32 := 1#32
  let arg15 : BitVec 32 := Scf.iv c1_i32_1070 c1_i32_1072 k1_t36
  let v3279 : Index := Scalar.indexCast arg15
  let c48_1934 : Index := 48#32
  ![1, v3279.toNat, 48]
@[reducible] def k1_t37_loop : Scf.Loop 32 :=
  let c1_i32_1100 : BitVec 32 := 1#32
  let c63_i32_1101 : BitVec 32 := 63#32
  let v1884 : BitVec 32 := Scalar.addi c1_i32_1100 c63_i32_1101
  let c1_i32_1102 : BitVec 32 := 1#32
  ⟨c1_i32_1100, v1884, c1_i32_1102⟩
def k1_off111 (k1_t37 : Fin k1_t37_loop.trips) : Fin 2 → Nat :=
  let c1_i32_1100 : BitVec 32 := 1#32
  let c1_i32_1102 : BitVec 32 := 1#32
  let arg15 : BitVec 32 := Scf.iv c1_i32_1100 c1_i32_1102 k1_t37
  let v3267 : Index := Scalar.indexCast arg15
  let c64_1929 : Index := 64#32
  ![v3267.toNat, 64]
def k1_off112 (k1_t37 : Fin k1_t37_loop.trips) : Fin 3 → Nat :=
  let c0_i32_1931 : BitVec 32 := 0#32
  let v3273 : Index := Scalar.indexCast c0_i32_1931
  let c1_i32_1100 : BitVec 32 := 1#32
  let c1_i32_1102 : BitVec 32 := 1#32
  let arg15 : BitVec 32 := Scf.iv c1_i32_1100 c1_i32_1102 k1_t37
  let v3274 : Index := Scalar.indexCast arg15
  let c64_1932 : Index := 64#32
  ![0, v3274.toNat, 64]
def k1_off113 (k1_t37 : Fin k1_t37_loop.trips) : Fin 3 → Nat :=
  let c1_i32_1933 : BitVec 32 := 1#32
  let v3278 : Index := Scalar.indexCast c1_i32_1933
  let c1_i32_1100 : BitVec 32 := 1#32
  let c1_i32_1102 : BitVec 32 := 1#32
  let arg15 : BitVec 32 := Scf.iv c1_i32_1100 c1_i32_1102 k1_t37
  let v3279 : Index := Scalar.indexCast arg15
  let c64_1934 : Index := 64#32
  ![1, v3279.toNat, 64]
@[reducible] def k1_t38_loop : Scf.Loop 32 :=
  let c1_i32_1130 : BitVec 32 := 1#32
  let c63_i32_1131 : BitVec 32 := 63#32
  let v1934 : BitVec 32 := Scalar.addi c1_i32_1130 c63_i32_1131
  let c1_i32_1132 : BitVec 32 := 1#32
  ⟨c1_i32_1130, v1934, c1_i32_1132⟩
def k1_off114 (k1_t38 : Fin k1_t38_loop.trips) : Fin 2 → Nat :=
  let c1_i32_1130 : BitVec 32 := 1#32
  let c1_i32_1132 : BitVec 32 := 1#32
  let arg15 : BitVec 32 := Scf.iv c1_i32_1130 c1_i32_1132 k1_t38
  let v3267 : Index := Scalar.indexCast arg15
  let c80_1929 : Index := 80#32
  ![v3267.toNat, 80]
def k1_off115 (k1_t38 : Fin k1_t38_loop.trips) : Fin 3 → Nat :=
  let c0_i32_1931 : BitVec 32 := 0#32
  let v3273 : Index := Scalar.indexCast c0_i32_1931
  let c1_i32_1130 : BitVec 32 := 1#32
  let c1_i32_1132 : BitVec 32 := 1#32
  let arg15 : BitVec 32 := Scf.iv c1_i32_1130 c1_i32_1132 k1_t38
  let v3274 : Index := Scalar.indexCast arg15
  let c80_1932 : Index := 80#32
  ![0, v3274.toNat, 80]
def k1_off116 (k1_t38 : Fin k1_t38_loop.trips) : Fin 3 → Nat :=
  let c1_i32_1933 : BitVec 32 := 1#32
  let v3278 : Index := Scalar.indexCast c1_i32_1933
  let c1_i32_1130 : BitVec 32 := 1#32
  let c1_i32_1132 : BitVec 32 := 1#32
  let arg15 : BitVec 32 := Scf.iv c1_i32_1130 c1_i32_1132 k1_t38
  let v3279 : Index := Scalar.indexCast arg15
  let c80_1934 : Index := 80#32
  ![1, v3279.toNat, 80]
@[reducible] def k1_t39_loop : Scf.Loop 32 :=
  let c1_i32_1160 : BitVec 32 := 1#32
  let c63_i32_1161 : BitVec 32 := 63#32
  let v1984 : BitVec 32 := Scalar.addi c1_i32_1160 c63_i32_1161
  let c1_i32_1162 : BitVec 32 := 1#32
  ⟨c1_i32_1160, v1984, c1_i32_1162⟩
def k1_off117 (k1_t39 : Fin k1_t39_loop.trips) : Fin 2 → Nat :=
  let c1_i32_1160 : BitVec 32 := 1#32
  let c1_i32_1162 : BitVec 32 := 1#32
  let arg15 : BitVec 32 := Scf.iv c1_i32_1160 c1_i32_1162 k1_t39
  let v3267 : Index := Scalar.indexCast arg15
  let c96_1929 : Index := 96#32
  ![v3267.toNat, 96]
def k1_off118 (k1_t39 : Fin k1_t39_loop.trips) : Fin 3 → Nat :=
  let c0_i32_1931 : BitVec 32 := 0#32
  let v3273 : Index := Scalar.indexCast c0_i32_1931
  let c1_i32_1160 : BitVec 32 := 1#32
  let c1_i32_1162 : BitVec 32 := 1#32
  let arg15 : BitVec 32 := Scf.iv c1_i32_1160 c1_i32_1162 k1_t39
  let v3274 : Index := Scalar.indexCast arg15
  let c96_1932 : Index := 96#32
  ![0, v3274.toNat, 96]
def k1_off119 (k1_t39 : Fin k1_t39_loop.trips) : Fin 3 → Nat :=
  let c1_i32_1933 : BitVec 32 := 1#32
  let v3278 : Index := Scalar.indexCast c1_i32_1933
  let c1_i32_1160 : BitVec 32 := 1#32
  let c1_i32_1162 : BitVec 32 := 1#32
  let arg15 : BitVec 32 := Scf.iv c1_i32_1160 c1_i32_1162 k1_t39
  let v3279 : Index := Scalar.indexCast arg15
  let c96_1934 : Index := 96#32
  ![1, v3279.toNat, 96]
@[reducible] def k1_t40_loop : Scf.Loop 32 :=
  let c1_i32_1190 : BitVec 32 := 1#32
  let c63_i32_1191 : BitVec 32 := 63#32
  let v2034 : BitVec 32 := Scalar.addi c1_i32_1190 c63_i32_1191
  let c1_i32_1192 : BitVec 32 := 1#32
  ⟨c1_i32_1190, v2034, c1_i32_1192⟩
def k1_off120 (k1_t40 : Fin k1_t40_loop.trips) : Fin 2 → Nat :=
  let c1_i32_1190 : BitVec 32 := 1#32
  let c1_i32_1192 : BitVec 32 := 1#32
  let arg15 : BitVec 32 := Scf.iv c1_i32_1190 c1_i32_1192 k1_t40
  let v3267 : Index := Scalar.indexCast arg15
  let c112_1929 : Index := 112#32
  ![v3267.toNat, 112]
def k1_off121 (k1_t40 : Fin k1_t40_loop.trips) : Fin 3 → Nat :=
  let c0_i32_1931 : BitVec 32 := 0#32
  let v3273 : Index := Scalar.indexCast c0_i32_1931
  let c1_i32_1190 : BitVec 32 := 1#32
  let c1_i32_1192 : BitVec 32 := 1#32
  let arg15 : BitVec 32 := Scf.iv c1_i32_1190 c1_i32_1192 k1_t40
  let v3274 : Index := Scalar.indexCast arg15
  let c112_1932 : Index := 112#32
  ![0, v3274.toNat, 112]
def k1_off122 (k1_t40 : Fin k1_t40_loop.trips) : Fin 3 → Nat :=
  let c1_i32_1933 : BitVec 32 := 1#32
  let v3278 : Index := Scalar.indexCast c1_i32_1933
  let c1_i32_1190 : BitVec 32 := 1#32
  let c1_i32_1192 : BitVec 32 := 1#32
  let arg15 : BitVec 32 := Scf.iv c1_i32_1190 c1_i32_1192 k1_t40
  let v3279 : Index := Scalar.indexCast arg15
  let c112_1934 : Index := 112#32
  ![1, v3279.toNat, 112]
@[reducible] def k1_t41_loop : Scf.Loop 32 :=
  let c1_i32_1220 : BitVec 32 := 1#32
  let c63_i32_1221 : BitVec 32 := 63#32
  let v2084 : BitVec 32 := Scalar.addi c1_i32_1220 c63_i32_1221
  let c1_i32_1222 : BitVec 32 := 1#32
  ⟨c1_i32_1220, v2084, c1_i32_1222⟩
def k1_off123 (k1_t41 : Fin k1_t41_loop.trips) : Fin 2 → Nat :=
  let c1_i32_1220 : BitVec 32 := 1#32
  let c1_i32_1222 : BitVec 32 := 1#32
  let arg15 : BitVec 32 := Scf.iv c1_i32_1220 c1_i32_1222 k1_t41
  let v3267 : Index := Scalar.indexCast arg15
  let c128_1929 : Index := 128#32
  ![v3267.toNat, 128]
def k1_off124 (k1_t41 : Fin k1_t41_loop.trips) : Fin 3 → Nat :=
  let c0_i32_1931 : BitVec 32 := 0#32
  let v3273 : Index := Scalar.indexCast c0_i32_1931
  let c1_i32_1220 : BitVec 32 := 1#32
  let c1_i32_1222 : BitVec 32 := 1#32
  let arg15 : BitVec 32 := Scf.iv c1_i32_1220 c1_i32_1222 k1_t41
  let v3274 : Index := Scalar.indexCast arg15
  let c128_1932 : Index := 128#32
  ![0, v3274.toNat, 128]
def k1_off125 (k1_t41 : Fin k1_t41_loop.trips) : Fin 3 → Nat :=
  let c1_i32_1933 : BitVec 32 := 1#32
  let v3278 : Index := Scalar.indexCast c1_i32_1933
  let c1_i32_1220 : BitVec 32 := 1#32
  let c1_i32_1222 : BitVec 32 := 1#32
  let arg15 : BitVec 32 := Scf.iv c1_i32_1220 c1_i32_1222 k1_t41
  let v3279 : Index := Scalar.indexCast arg15
  let c128_1934 : Index := 128#32
  ![1, v3279.toNat, 128]
@[reducible] def k1_t42_loop : Scf.Loop 32 :=
  let c1_i32_1250 : BitVec 32 := 1#32
  let c63_i32_1251 : BitVec 32 := 63#32
  let v2134 : BitVec 32 := Scalar.addi c1_i32_1250 c63_i32_1251
  let c1_i32_1252 : BitVec 32 := 1#32
  ⟨c1_i32_1250, v2134, c1_i32_1252⟩
def k1_off126 (k1_t42 : Fin k1_t42_loop.trips) : Fin 2 → Nat :=
  let c1_i32_1250 : BitVec 32 := 1#32
  let c1_i32_1252 : BitVec 32 := 1#32
  let arg15 : BitVec 32 := Scf.iv c1_i32_1250 c1_i32_1252 k1_t42
  let v3267 : Index := Scalar.indexCast arg15
  let c144_1929 : Index := 144#32
  ![v3267.toNat, 144]
def k1_off127 (k1_t42 : Fin k1_t42_loop.trips) : Fin 3 → Nat :=
  let c0_i32_1931 : BitVec 32 := 0#32
  let v3273 : Index := Scalar.indexCast c0_i32_1931
  let c1_i32_1250 : BitVec 32 := 1#32
  let c1_i32_1252 : BitVec 32 := 1#32
  let arg15 : BitVec 32 := Scf.iv c1_i32_1250 c1_i32_1252 k1_t42
  let v3274 : Index := Scalar.indexCast arg15
  let c144_1932 : Index := 144#32
  ![0, v3274.toNat, 144]
def k1_off128 (k1_t42 : Fin k1_t42_loop.trips) : Fin 3 → Nat :=
  let c1_i32_1933 : BitVec 32 := 1#32
  let v3278 : Index := Scalar.indexCast c1_i32_1933
  let c1_i32_1250 : BitVec 32 := 1#32
  let c1_i32_1252 : BitVec 32 := 1#32
  let arg15 : BitVec 32 := Scf.iv c1_i32_1250 c1_i32_1252 k1_t42
  let v3279 : Index := Scalar.indexCast arg15
  let c144_1934 : Index := 144#32
  ![1, v3279.toNat, 144]
@[reducible] def k1_t43_loop : Scf.Loop 32 :=
  let c1_i32_1280 : BitVec 32 := 1#32
  let c63_i32_1281 : BitVec 32 := 63#32
  let v2184 : BitVec 32 := Scalar.addi c1_i32_1280 c63_i32_1281
  let c1_i32_1282 : BitVec 32 := 1#32
  ⟨c1_i32_1280, v2184, c1_i32_1282⟩
def k1_off129 (k1_t43 : Fin k1_t43_loop.trips) : Fin 2 → Nat :=
  let c1_i32_1280 : BitVec 32 := 1#32
  let c1_i32_1282 : BitVec 32 := 1#32
  let arg15 : BitVec 32 := Scf.iv c1_i32_1280 c1_i32_1282 k1_t43
  let v3267 : Index := Scalar.indexCast arg15
  let c160_1929 : Index := 160#32
  ![v3267.toNat, 160]
def k1_off130 (k1_t43 : Fin k1_t43_loop.trips) : Fin 3 → Nat :=
  let c0_i32_1931 : BitVec 32 := 0#32
  let v3273 : Index := Scalar.indexCast c0_i32_1931
  let c1_i32_1280 : BitVec 32 := 1#32
  let c1_i32_1282 : BitVec 32 := 1#32
  let arg15 : BitVec 32 := Scf.iv c1_i32_1280 c1_i32_1282 k1_t43
  let v3274 : Index := Scalar.indexCast arg15
  let c160_1932 : Index := 160#32
  ![0, v3274.toNat, 160]
def k1_off131 (k1_t43 : Fin k1_t43_loop.trips) : Fin 3 → Nat :=
  let c1_i32_1933 : BitVec 32 := 1#32
  let v3278 : Index := Scalar.indexCast c1_i32_1933
  let c1_i32_1280 : BitVec 32 := 1#32
  let c1_i32_1282 : BitVec 32 := 1#32
  let arg15 : BitVec 32 := Scf.iv c1_i32_1280 c1_i32_1282 k1_t43
  let v3279 : Index := Scalar.indexCast arg15
  let c160_1934 : Index := 160#32
  ![1, v3279.toNat, 160]
@[reducible] def k1_t44_loop : Scf.Loop 32 :=
  let c1_i32_1310 : BitVec 32 := 1#32
  let c63_i32_1311 : BitVec 32 := 63#32
  let v2234 : BitVec 32 := Scalar.addi c1_i32_1310 c63_i32_1311
  let c1_i32_1312 : BitVec 32 := 1#32
  ⟨c1_i32_1310, v2234, c1_i32_1312⟩
def k1_off132 (k1_t44 : Fin k1_t44_loop.trips) : Fin 2 → Nat :=
  let c1_i32_1310 : BitVec 32 := 1#32
  let c1_i32_1312 : BitVec 32 := 1#32
  let arg15 : BitVec 32 := Scf.iv c1_i32_1310 c1_i32_1312 k1_t44
  let v3267 : Index := Scalar.indexCast arg15
  let c176_1929 : Index := 176#32
  ![v3267.toNat, 176]
def k1_off133 (k1_t44 : Fin k1_t44_loop.trips) : Fin 3 → Nat :=
  let c0_i32_1931 : BitVec 32 := 0#32
  let v3273 : Index := Scalar.indexCast c0_i32_1931
  let c1_i32_1310 : BitVec 32 := 1#32
  let c1_i32_1312 : BitVec 32 := 1#32
  let arg15 : BitVec 32 := Scf.iv c1_i32_1310 c1_i32_1312 k1_t44
  let v3274 : Index := Scalar.indexCast arg15
  let c176_1932 : Index := 176#32
  ![0, v3274.toNat, 176]
def k1_off134 (k1_t44 : Fin k1_t44_loop.trips) : Fin 3 → Nat :=
  let c1_i32_1933 : BitVec 32 := 1#32
  let v3278 : Index := Scalar.indexCast c1_i32_1933
  let c1_i32_1310 : BitVec 32 := 1#32
  let c1_i32_1312 : BitVec 32 := 1#32
  let arg15 : BitVec 32 := Scf.iv c1_i32_1310 c1_i32_1312 k1_t44
  let v3279 : Index := Scalar.indexCast arg15
  let c176_1934 : Index := 176#32
  ![1, v3279.toNat, 176]
@[reducible] def k1_t45_loop : Scf.Loop 32 :=
  let c1_i32_1340 : BitVec 32 := 1#32
  let c63_i32_1341 : BitVec 32 := 63#32
  let v2284 : BitVec 32 := Scalar.addi c1_i32_1340 c63_i32_1341
  let c1_i32_1342 : BitVec 32 := 1#32
  ⟨c1_i32_1340, v2284, c1_i32_1342⟩
def k1_off135 (k1_t45 : Fin k1_t45_loop.trips) : Fin 2 → Nat :=
  let c1_i32_1340 : BitVec 32 := 1#32
  let c1_i32_1342 : BitVec 32 := 1#32
  let arg15 : BitVec 32 := Scf.iv c1_i32_1340 c1_i32_1342 k1_t45
  let v3267 : Index := Scalar.indexCast arg15
  let c192_1929 : Index := 192#32
  ![v3267.toNat, 192]
def k1_off136 (k1_t45 : Fin k1_t45_loop.trips) : Fin 3 → Nat :=
  let c0_i32_1931 : BitVec 32 := 0#32
  let v3273 : Index := Scalar.indexCast c0_i32_1931
  let c1_i32_1340 : BitVec 32 := 1#32
  let c1_i32_1342 : BitVec 32 := 1#32
  let arg15 : BitVec 32 := Scf.iv c1_i32_1340 c1_i32_1342 k1_t45
  let v3274 : Index := Scalar.indexCast arg15
  let c192_1932 : Index := 192#32
  ![0, v3274.toNat, 192]
def k1_off137 (k1_t45 : Fin k1_t45_loop.trips) : Fin 3 → Nat :=
  let c1_i32_1933 : BitVec 32 := 1#32
  let v3278 : Index := Scalar.indexCast c1_i32_1933
  let c1_i32_1340 : BitVec 32 := 1#32
  let c1_i32_1342 : BitVec 32 := 1#32
  let arg15 : BitVec 32 := Scf.iv c1_i32_1340 c1_i32_1342 k1_t45
  let v3279 : Index := Scalar.indexCast arg15
  let c192_1934 : Index := 192#32
  ![1, v3279.toNat, 192]
@[reducible] def k1_t46_loop : Scf.Loop 32 :=
  let c1_i32_1370 : BitVec 32 := 1#32
  let c63_i32_1371 : BitVec 32 := 63#32
  let v2334 : BitVec 32 := Scalar.addi c1_i32_1370 c63_i32_1371
  let c1_i32_1372 : BitVec 32 := 1#32
  ⟨c1_i32_1370, v2334, c1_i32_1372⟩
def k1_off138 (k1_t46 : Fin k1_t46_loop.trips) : Fin 2 → Nat :=
  let c1_i32_1370 : BitVec 32 := 1#32
  let c1_i32_1372 : BitVec 32 := 1#32
  let arg15 : BitVec 32 := Scf.iv c1_i32_1370 c1_i32_1372 k1_t46
  let v3267 : Index := Scalar.indexCast arg15
  let c208_1929 : Index := 208#32
  ![v3267.toNat, 208]
def k1_off139 (k1_t46 : Fin k1_t46_loop.trips) : Fin 3 → Nat :=
  let c0_i32_1931 : BitVec 32 := 0#32
  let v3273 : Index := Scalar.indexCast c0_i32_1931
  let c1_i32_1370 : BitVec 32 := 1#32
  let c1_i32_1372 : BitVec 32 := 1#32
  let arg15 : BitVec 32 := Scf.iv c1_i32_1370 c1_i32_1372 k1_t46
  let v3274 : Index := Scalar.indexCast arg15
  let c208_1932 : Index := 208#32
  ![0, v3274.toNat, 208]
def k1_off140 (k1_t46 : Fin k1_t46_loop.trips) : Fin 3 → Nat :=
  let c1_i32_1933 : BitVec 32 := 1#32
  let v3278 : Index := Scalar.indexCast c1_i32_1933
  let c1_i32_1370 : BitVec 32 := 1#32
  let c1_i32_1372 : BitVec 32 := 1#32
  let arg15 : BitVec 32 := Scf.iv c1_i32_1370 c1_i32_1372 k1_t46
  let v3279 : Index := Scalar.indexCast arg15
  let c208_1934 : Index := 208#32
  ![1, v3279.toNat, 208]
@[reducible] def k1_t47_loop : Scf.Loop 32 :=
  let c1_i32_1400 : BitVec 32 := 1#32
  let c63_i32_1401 : BitVec 32 := 63#32
  let v2384 : BitVec 32 := Scalar.addi c1_i32_1400 c63_i32_1401
  let c1_i32_1402 : BitVec 32 := 1#32
  ⟨c1_i32_1400, v2384, c1_i32_1402⟩
def k1_off141 (k1_t47 : Fin k1_t47_loop.trips) : Fin 2 → Nat :=
  let c1_i32_1400 : BitVec 32 := 1#32
  let c1_i32_1402 : BitVec 32 := 1#32
  let arg15 : BitVec 32 := Scf.iv c1_i32_1400 c1_i32_1402 k1_t47
  let v3267 : Index := Scalar.indexCast arg15
  let c224_1929 : Index := 224#32
  ![v3267.toNat, 224]
def k1_off142 (k1_t47 : Fin k1_t47_loop.trips) : Fin 3 → Nat :=
  let c0_i32_1931 : BitVec 32 := 0#32
  let v3273 : Index := Scalar.indexCast c0_i32_1931
  let c1_i32_1400 : BitVec 32 := 1#32
  let c1_i32_1402 : BitVec 32 := 1#32
  let arg15 : BitVec 32 := Scf.iv c1_i32_1400 c1_i32_1402 k1_t47
  let v3274 : Index := Scalar.indexCast arg15
  let c224_1932 : Index := 224#32
  ![0, v3274.toNat, 224]
def k1_off143 (k1_t47 : Fin k1_t47_loop.trips) : Fin 3 → Nat :=
  let c1_i32_1933 : BitVec 32 := 1#32
  let v3278 : Index := Scalar.indexCast c1_i32_1933
  let c1_i32_1400 : BitVec 32 := 1#32
  let c1_i32_1402 : BitVec 32 := 1#32
  let arg15 : BitVec 32 := Scf.iv c1_i32_1400 c1_i32_1402 k1_t47
  let v3279 : Index := Scalar.indexCast arg15
  let c224_1934 : Index := 224#32
  ![1, v3279.toNat, 224]
@[reducible] def k1_t48_loop : Scf.Loop 32 :=
  let c1_i32_1430 : BitVec 32 := 1#32
  let c63_i32_1431 : BitVec 32 := 63#32
  let v2434 : BitVec 32 := Scalar.addi c1_i32_1430 c63_i32_1431
  let c1_i32_1432 : BitVec 32 := 1#32
  ⟨c1_i32_1430, v2434, c1_i32_1432⟩
def k1_off144 (k1_t48 : Fin k1_t48_loop.trips) : Fin 2 → Nat :=
  let c1_i32_1430 : BitVec 32 := 1#32
  let c1_i32_1432 : BitVec 32 := 1#32
  let arg15 : BitVec 32 := Scf.iv c1_i32_1430 c1_i32_1432 k1_t48
  let v3267 : Index := Scalar.indexCast arg15
  let c240_1929 : Index := 240#32
  ![v3267.toNat, 240]
def k1_off145 (k1_t48 : Fin k1_t48_loop.trips) : Fin 3 → Nat :=
  let c0_i32_1931 : BitVec 32 := 0#32
  let v3273 : Index := Scalar.indexCast c0_i32_1931
  let c1_i32_1430 : BitVec 32 := 1#32
  let c1_i32_1432 : BitVec 32 := 1#32
  let arg15 : BitVec 32 := Scf.iv c1_i32_1430 c1_i32_1432 k1_t48
  let v3274 : Index := Scalar.indexCast arg15
  let c240_1932 : Index := 240#32
  ![0, v3274.toNat, 240]
def k1_off146 (k1_t48 : Fin k1_t48_loop.trips) : Fin 3 → Nat :=
  let c1_i32_1933 : BitVec 32 := 1#32
  let v3278 : Index := Scalar.indexCast c1_i32_1933
  let c1_i32_1430 : BitVec 32 := 1#32
  let c1_i32_1432 : BitVec 32 := 1#32
  let arg15 : BitVec 32 := Scf.iv c1_i32_1430 c1_i32_1432 k1_t48
  let v3279 : Index := Scalar.indexCast arg15
  let c240_1934 : Index := 240#32
  ![1, v3279.toNat, 240]
@[reducible] def k1_t49_loop : Scf.Loop 32 :=
  let c1_i32_1464 : BitVec 32 := 1#32
  let c63_i32_1465 : BitVec 32 := 63#32
  let v2488 : BitVec 32 := Scalar.addi c1_i32_1464 c63_i32_1465
  let c1_i32_1466 : BitVec 32 := 1#32
  ⟨c1_i32_1464, v2488, c1_i32_1466⟩
def k1_off147 (k1_t49 : Fin k1_t49_loop.trips) : Fin 2 → Nat :=
  let c1_i32_1464 : BitVec 32 := 1#32
  let c1_i32_1466 : BitVec 32 := 1#32
  let arg15 : BitVec 32 := Scf.iv c1_i32_1464 c1_i32_1466 k1_t49
  let v3267 : Index := Scalar.indexCast arg15
  let c0_1929 : Index := 0#32
  ![v3267.toNat, 0]
def k1_off148 (k1_t49 : Fin k1_t49_loop.trips) : Fin 3 → Nat :=
  let c0_i32_1931 : BitVec 32 := 0#32
  let v3273 : Index := Scalar.indexCast c0_i32_1931
  let c1_i32_1464 : BitVec 32 := 1#32
  let c1_i32_1466 : BitVec 32 := 1#32
  let arg15 : BitVec 32 := Scf.iv c1_i32_1464 c1_i32_1466 k1_t49
  let v3274 : Index := Scalar.indexCast arg15
  let c0_1932 : Index := 0#32
  ![0, v3274.toNat, 0]
def k1_off149 (k1_t49 : Fin k1_t49_loop.trips) : Fin 3 → Nat :=
  let c1_i32_1933 : BitVec 32 := 1#32
  let v3278 : Index := Scalar.indexCast c1_i32_1933
  let c1_i32_1464 : BitVec 32 := 1#32
  let c1_i32_1466 : BitVec 32 := 1#32
  let arg15 : BitVec 32 := Scf.iv c1_i32_1464 c1_i32_1466 k1_t49
  let v3279 : Index := Scalar.indexCast arg15
  let c0_1934 : Index := 0#32
  ![1, v3279.toNat, 0]
@[reducible] def k1_t50_loop : Scf.Loop 32 :=
  let c1_i32_1493 : BitVec 32 := 1#32
  let c63_i32_1494 : BitVec 32 := 63#32
  let v2538 : BitVec 32 := Scalar.addi c1_i32_1493 c63_i32_1494
  let c1_i32_1495 : BitVec 32 := 1#32
  ⟨c1_i32_1493, v2538, c1_i32_1495⟩
def k1_off150 (k1_t50 : Fin k1_t50_loop.trips) : Fin 2 → Nat :=
  let c1_i32_1493 : BitVec 32 := 1#32
  let c1_i32_1495 : BitVec 32 := 1#32
  let arg15 : BitVec 32 := Scf.iv c1_i32_1493 c1_i32_1495 k1_t50
  let v3267 : Index := Scalar.indexCast arg15
  let c16_1929 : Index := 16#32
  ![v3267.toNat, 16]
def k1_off151 (k1_t50 : Fin k1_t50_loop.trips) : Fin 3 → Nat :=
  let c0_i32_1931 : BitVec 32 := 0#32
  let v3273 : Index := Scalar.indexCast c0_i32_1931
  let c1_i32_1493 : BitVec 32 := 1#32
  let c1_i32_1495 : BitVec 32 := 1#32
  let arg15 : BitVec 32 := Scf.iv c1_i32_1493 c1_i32_1495 k1_t50
  let v3274 : Index := Scalar.indexCast arg15
  let c16_1932 : Index := 16#32
  ![0, v3274.toNat, 16]
def k1_off152 (k1_t50 : Fin k1_t50_loop.trips) : Fin 3 → Nat :=
  let c1_i32_1933 : BitVec 32 := 1#32
  let v3278 : Index := Scalar.indexCast c1_i32_1933
  let c1_i32_1493 : BitVec 32 := 1#32
  let c1_i32_1495 : BitVec 32 := 1#32
  let arg15 : BitVec 32 := Scf.iv c1_i32_1493 c1_i32_1495 k1_t50
  let v3279 : Index := Scalar.indexCast arg15
  let c16_1934 : Index := 16#32
  ![1, v3279.toNat, 16]
@[reducible] def k1_t51_loop : Scf.Loop 32 :=
  let c1_i32_1523 : BitVec 32 := 1#32
  let c63_i32_1524 : BitVec 32 := 63#32
  let v2588 : BitVec 32 := Scalar.addi c1_i32_1523 c63_i32_1524
  let c1_i32_1525 : BitVec 32 := 1#32
  ⟨c1_i32_1523, v2588, c1_i32_1525⟩
def k1_off153 (k1_t51 : Fin k1_t51_loop.trips) : Fin 2 → Nat :=
  let c1_i32_1523 : BitVec 32 := 1#32
  let c1_i32_1525 : BitVec 32 := 1#32
  let arg15 : BitVec 32 := Scf.iv c1_i32_1523 c1_i32_1525 k1_t51
  let v3267 : Index := Scalar.indexCast arg15
  let c32_1929 : Index := 32#32
  ![v3267.toNat, 32]
def k1_off154 (k1_t51 : Fin k1_t51_loop.trips) : Fin 3 → Nat :=
  let c0_i32_1931 : BitVec 32 := 0#32
  let v3273 : Index := Scalar.indexCast c0_i32_1931
  let c1_i32_1523 : BitVec 32 := 1#32
  let c1_i32_1525 : BitVec 32 := 1#32
  let arg15 : BitVec 32 := Scf.iv c1_i32_1523 c1_i32_1525 k1_t51
  let v3274 : Index := Scalar.indexCast arg15
  let c32_1932 : Index := 32#32
  ![0, v3274.toNat, 32]
def k1_off155 (k1_t51 : Fin k1_t51_loop.trips) : Fin 3 → Nat :=
  let c1_i32_1933 : BitVec 32 := 1#32
  let v3278 : Index := Scalar.indexCast c1_i32_1933
  let c1_i32_1523 : BitVec 32 := 1#32
  let c1_i32_1525 : BitVec 32 := 1#32
  let arg15 : BitVec 32 := Scf.iv c1_i32_1523 c1_i32_1525 k1_t51
  let v3279 : Index := Scalar.indexCast arg15
  let c32_1934 : Index := 32#32
  ![1, v3279.toNat, 32]
@[reducible] def k1_t52_loop : Scf.Loop 32 :=
  let c1_i32_1553 : BitVec 32 := 1#32
  let c63_i32_1554 : BitVec 32 := 63#32
  let v2638 : BitVec 32 := Scalar.addi c1_i32_1553 c63_i32_1554
  let c1_i32_1555 : BitVec 32 := 1#32
  ⟨c1_i32_1553, v2638, c1_i32_1555⟩
def k1_off156 (k1_t52 : Fin k1_t52_loop.trips) : Fin 2 → Nat :=
  let c1_i32_1553 : BitVec 32 := 1#32
  let c1_i32_1555 : BitVec 32 := 1#32
  let arg15 : BitVec 32 := Scf.iv c1_i32_1553 c1_i32_1555 k1_t52
  let v3267 : Index := Scalar.indexCast arg15
  let c48_1929 : Index := 48#32
  ![v3267.toNat, 48]
def k1_off157 (k1_t52 : Fin k1_t52_loop.trips) : Fin 3 → Nat :=
  let c0_i32_1931 : BitVec 32 := 0#32
  let v3273 : Index := Scalar.indexCast c0_i32_1931
  let c1_i32_1553 : BitVec 32 := 1#32
  let c1_i32_1555 : BitVec 32 := 1#32
  let arg15 : BitVec 32 := Scf.iv c1_i32_1553 c1_i32_1555 k1_t52
  let v3274 : Index := Scalar.indexCast arg15
  let c48_1932 : Index := 48#32
  ![0, v3274.toNat, 48]
def k1_off158 (k1_t52 : Fin k1_t52_loop.trips) : Fin 3 → Nat :=
  let c1_i32_1933 : BitVec 32 := 1#32
  let v3278 : Index := Scalar.indexCast c1_i32_1933
  let c1_i32_1553 : BitVec 32 := 1#32
  let c1_i32_1555 : BitVec 32 := 1#32
  let arg15 : BitVec 32 := Scf.iv c1_i32_1553 c1_i32_1555 k1_t52
  let v3279 : Index := Scalar.indexCast arg15
  let c48_1934 : Index := 48#32
  ![1, v3279.toNat, 48]
@[reducible] def k1_t53_loop : Scf.Loop 32 :=
  let c1_i32_1583 : BitVec 32 := 1#32
  let c63_i32_1584 : BitVec 32 := 63#32
  let v2688 : BitVec 32 := Scalar.addi c1_i32_1583 c63_i32_1584
  let c1_i32_1585 : BitVec 32 := 1#32
  ⟨c1_i32_1583, v2688, c1_i32_1585⟩
def k1_off159 (k1_t53 : Fin k1_t53_loop.trips) : Fin 2 → Nat :=
  let c1_i32_1583 : BitVec 32 := 1#32
  let c1_i32_1585 : BitVec 32 := 1#32
  let arg15 : BitVec 32 := Scf.iv c1_i32_1583 c1_i32_1585 k1_t53
  let v3267 : Index := Scalar.indexCast arg15
  let c64_1929 : Index := 64#32
  ![v3267.toNat, 64]
def k1_off160 (k1_t53 : Fin k1_t53_loop.trips) : Fin 3 → Nat :=
  let c0_i32_1931 : BitVec 32 := 0#32
  let v3273 : Index := Scalar.indexCast c0_i32_1931
  let c1_i32_1583 : BitVec 32 := 1#32
  let c1_i32_1585 : BitVec 32 := 1#32
  let arg15 : BitVec 32 := Scf.iv c1_i32_1583 c1_i32_1585 k1_t53
  let v3274 : Index := Scalar.indexCast arg15
  let c64_1932 : Index := 64#32
  ![0, v3274.toNat, 64]
def k1_off161 (k1_t53 : Fin k1_t53_loop.trips) : Fin 3 → Nat :=
  let c1_i32_1933 : BitVec 32 := 1#32
  let v3278 : Index := Scalar.indexCast c1_i32_1933
  let c1_i32_1583 : BitVec 32 := 1#32
  let c1_i32_1585 : BitVec 32 := 1#32
  let arg15 : BitVec 32 := Scf.iv c1_i32_1583 c1_i32_1585 k1_t53
  let v3279 : Index := Scalar.indexCast arg15
  let c64_1934 : Index := 64#32
  ![1, v3279.toNat, 64]
@[reducible] def k1_t54_loop : Scf.Loop 32 :=
  let c1_i32_1613 : BitVec 32 := 1#32
  let c63_i32_1614 : BitVec 32 := 63#32
  let v2738 : BitVec 32 := Scalar.addi c1_i32_1613 c63_i32_1614
  let c1_i32_1615 : BitVec 32 := 1#32
  ⟨c1_i32_1613, v2738, c1_i32_1615⟩
def k1_off162 (k1_t54 : Fin k1_t54_loop.trips) : Fin 2 → Nat :=
  let c1_i32_1613 : BitVec 32 := 1#32
  let c1_i32_1615 : BitVec 32 := 1#32
  let arg15 : BitVec 32 := Scf.iv c1_i32_1613 c1_i32_1615 k1_t54
  let v3267 : Index := Scalar.indexCast arg15
  let c80_1929 : Index := 80#32
  ![v3267.toNat, 80]
def k1_off163 (k1_t54 : Fin k1_t54_loop.trips) : Fin 3 → Nat :=
  let c0_i32_1931 : BitVec 32 := 0#32
  let v3273 : Index := Scalar.indexCast c0_i32_1931
  let c1_i32_1613 : BitVec 32 := 1#32
  let c1_i32_1615 : BitVec 32 := 1#32
  let arg15 : BitVec 32 := Scf.iv c1_i32_1613 c1_i32_1615 k1_t54
  let v3274 : Index := Scalar.indexCast arg15
  let c80_1932 : Index := 80#32
  ![0, v3274.toNat, 80]
def k1_off164 (k1_t54 : Fin k1_t54_loop.trips) : Fin 3 → Nat :=
  let c1_i32_1933 : BitVec 32 := 1#32
  let v3278 : Index := Scalar.indexCast c1_i32_1933
  let c1_i32_1613 : BitVec 32 := 1#32
  let c1_i32_1615 : BitVec 32 := 1#32
  let arg15 : BitVec 32 := Scf.iv c1_i32_1613 c1_i32_1615 k1_t54
  let v3279 : Index := Scalar.indexCast arg15
  let c80_1934 : Index := 80#32
  ![1, v3279.toNat, 80]
@[reducible] def k1_t55_loop : Scf.Loop 32 :=
  let c1_i32_1643 : BitVec 32 := 1#32
  let c63_i32_1644 : BitVec 32 := 63#32
  let v2788 : BitVec 32 := Scalar.addi c1_i32_1643 c63_i32_1644
  let c1_i32_1645 : BitVec 32 := 1#32
  ⟨c1_i32_1643, v2788, c1_i32_1645⟩
def k1_off165 (k1_t55 : Fin k1_t55_loop.trips) : Fin 2 → Nat :=
  let c1_i32_1643 : BitVec 32 := 1#32
  let c1_i32_1645 : BitVec 32 := 1#32
  let arg15 : BitVec 32 := Scf.iv c1_i32_1643 c1_i32_1645 k1_t55
  let v3267 : Index := Scalar.indexCast arg15
  let c96_1929 : Index := 96#32
  ![v3267.toNat, 96]
def k1_off166 (k1_t55 : Fin k1_t55_loop.trips) : Fin 3 → Nat :=
  let c0_i32_1931 : BitVec 32 := 0#32
  let v3273 : Index := Scalar.indexCast c0_i32_1931
  let c1_i32_1643 : BitVec 32 := 1#32
  let c1_i32_1645 : BitVec 32 := 1#32
  let arg15 : BitVec 32 := Scf.iv c1_i32_1643 c1_i32_1645 k1_t55
  let v3274 : Index := Scalar.indexCast arg15
  let c96_1932 : Index := 96#32
  ![0, v3274.toNat, 96]
def k1_off167 (k1_t55 : Fin k1_t55_loop.trips) : Fin 3 → Nat :=
  let c1_i32_1933 : BitVec 32 := 1#32
  let v3278 : Index := Scalar.indexCast c1_i32_1933
  let c1_i32_1643 : BitVec 32 := 1#32
  let c1_i32_1645 : BitVec 32 := 1#32
  let arg15 : BitVec 32 := Scf.iv c1_i32_1643 c1_i32_1645 k1_t55
  let v3279 : Index := Scalar.indexCast arg15
  let c96_1934 : Index := 96#32
  ![1, v3279.toNat, 96]
@[reducible] def k1_t56_loop : Scf.Loop 32 :=
  let c1_i32_1673 : BitVec 32 := 1#32
  let c63_i32_1674 : BitVec 32 := 63#32
  let v2838 : BitVec 32 := Scalar.addi c1_i32_1673 c63_i32_1674
  let c1_i32_1675 : BitVec 32 := 1#32
  ⟨c1_i32_1673, v2838, c1_i32_1675⟩
def k1_off168 (k1_t56 : Fin k1_t56_loop.trips) : Fin 2 → Nat :=
  let c1_i32_1673 : BitVec 32 := 1#32
  let c1_i32_1675 : BitVec 32 := 1#32
  let arg15 : BitVec 32 := Scf.iv c1_i32_1673 c1_i32_1675 k1_t56
  let v3267 : Index := Scalar.indexCast arg15
  let c112_1929 : Index := 112#32
  ![v3267.toNat, 112]
def k1_off169 (k1_t56 : Fin k1_t56_loop.trips) : Fin 3 → Nat :=
  let c0_i32_1931 : BitVec 32 := 0#32
  let v3273 : Index := Scalar.indexCast c0_i32_1931
  let c1_i32_1673 : BitVec 32 := 1#32
  let c1_i32_1675 : BitVec 32 := 1#32
  let arg15 : BitVec 32 := Scf.iv c1_i32_1673 c1_i32_1675 k1_t56
  let v3274 : Index := Scalar.indexCast arg15
  let c112_1932 : Index := 112#32
  ![0, v3274.toNat, 112]
def k1_off170 (k1_t56 : Fin k1_t56_loop.trips) : Fin 3 → Nat :=
  let c1_i32_1933 : BitVec 32 := 1#32
  let v3278 : Index := Scalar.indexCast c1_i32_1933
  let c1_i32_1673 : BitVec 32 := 1#32
  let c1_i32_1675 : BitVec 32 := 1#32
  let arg15 : BitVec 32 := Scf.iv c1_i32_1673 c1_i32_1675 k1_t56
  let v3279 : Index := Scalar.indexCast arg15
  let c112_1934 : Index := 112#32
  ![1, v3279.toNat, 112]
@[reducible] def k1_t57_loop : Scf.Loop 32 :=
  let c1_i32_1703 : BitVec 32 := 1#32
  let c63_i32_1704 : BitVec 32 := 63#32
  let v2888 : BitVec 32 := Scalar.addi c1_i32_1703 c63_i32_1704
  let c1_i32_1705 : BitVec 32 := 1#32
  ⟨c1_i32_1703, v2888, c1_i32_1705⟩
def k1_off171 (k1_t57 : Fin k1_t57_loop.trips) : Fin 2 → Nat :=
  let c1_i32_1703 : BitVec 32 := 1#32
  let c1_i32_1705 : BitVec 32 := 1#32
  let arg15 : BitVec 32 := Scf.iv c1_i32_1703 c1_i32_1705 k1_t57
  let v3267 : Index := Scalar.indexCast arg15
  let c128_1929 : Index := 128#32
  ![v3267.toNat, 128]
def k1_off172 (k1_t57 : Fin k1_t57_loop.trips) : Fin 3 → Nat :=
  let c0_i32_1931 : BitVec 32 := 0#32
  let v3273 : Index := Scalar.indexCast c0_i32_1931
  let c1_i32_1703 : BitVec 32 := 1#32
  let c1_i32_1705 : BitVec 32 := 1#32
  let arg15 : BitVec 32 := Scf.iv c1_i32_1703 c1_i32_1705 k1_t57
  let v3274 : Index := Scalar.indexCast arg15
  let c128_1932 : Index := 128#32
  ![0, v3274.toNat, 128]
def k1_off173 (k1_t57 : Fin k1_t57_loop.trips) : Fin 3 → Nat :=
  let c1_i32_1933 : BitVec 32 := 1#32
  let v3278 : Index := Scalar.indexCast c1_i32_1933
  let c1_i32_1703 : BitVec 32 := 1#32
  let c1_i32_1705 : BitVec 32 := 1#32
  let arg15 : BitVec 32 := Scf.iv c1_i32_1703 c1_i32_1705 k1_t57
  let v3279 : Index := Scalar.indexCast arg15
  let c128_1934 : Index := 128#32
  ![1, v3279.toNat, 128]
@[reducible] def k1_t58_loop : Scf.Loop 32 :=
  let c1_i32_1733 : BitVec 32 := 1#32
  let c63_i32_1734 : BitVec 32 := 63#32
  let v2938 : BitVec 32 := Scalar.addi c1_i32_1733 c63_i32_1734
  let c1_i32_1735 : BitVec 32 := 1#32
  ⟨c1_i32_1733, v2938, c1_i32_1735⟩
def k1_off174 (k1_t58 : Fin k1_t58_loop.trips) : Fin 2 → Nat :=
  let c1_i32_1733 : BitVec 32 := 1#32
  let c1_i32_1735 : BitVec 32 := 1#32
  let arg15 : BitVec 32 := Scf.iv c1_i32_1733 c1_i32_1735 k1_t58
  let v3267 : Index := Scalar.indexCast arg15
  let c144_1929 : Index := 144#32
  ![v3267.toNat, 144]
def k1_off175 (k1_t58 : Fin k1_t58_loop.trips) : Fin 3 → Nat :=
  let c0_i32_1931 : BitVec 32 := 0#32
  let v3273 : Index := Scalar.indexCast c0_i32_1931
  let c1_i32_1733 : BitVec 32 := 1#32
  let c1_i32_1735 : BitVec 32 := 1#32
  let arg15 : BitVec 32 := Scf.iv c1_i32_1733 c1_i32_1735 k1_t58
  let v3274 : Index := Scalar.indexCast arg15
  let c144_1932 : Index := 144#32
  ![0, v3274.toNat, 144]
def k1_off176 (k1_t58 : Fin k1_t58_loop.trips) : Fin 3 → Nat :=
  let c1_i32_1933 : BitVec 32 := 1#32
  let v3278 : Index := Scalar.indexCast c1_i32_1933
  let c1_i32_1733 : BitVec 32 := 1#32
  let c1_i32_1735 : BitVec 32 := 1#32
  let arg15 : BitVec 32 := Scf.iv c1_i32_1733 c1_i32_1735 k1_t58
  let v3279 : Index := Scalar.indexCast arg15
  let c144_1934 : Index := 144#32
  ![1, v3279.toNat, 144]
@[reducible] def k1_t59_loop : Scf.Loop 32 :=
  let c1_i32_1763 : BitVec 32 := 1#32
  let c63_i32_1764 : BitVec 32 := 63#32
  let v2988 : BitVec 32 := Scalar.addi c1_i32_1763 c63_i32_1764
  let c1_i32_1765 : BitVec 32 := 1#32
  ⟨c1_i32_1763, v2988, c1_i32_1765⟩
def k1_off177 (k1_t59 : Fin k1_t59_loop.trips) : Fin 2 → Nat :=
  let c1_i32_1763 : BitVec 32 := 1#32
  let c1_i32_1765 : BitVec 32 := 1#32
  let arg15 : BitVec 32 := Scf.iv c1_i32_1763 c1_i32_1765 k1_t59
  let v3267 : Index := Scalar.indexCast arg15
  let c160_1929 : Index := 160#32
  ![v3267.toNat, 160]
def k1_off178 (k1_t59 : Fin k1_t59_loop.trips) : Fin 3 → Nat :=
  let c0_i32_1931 : BitVec 32 := 0#32
  let v3273 : Index := Scalar.indexCast c0_i32_1931
  let c1_i32_1763 : BitVec 32 := 1#32
  let c1_i32_1765 : BitVec 32 := 1#32
  let arg15 : BitVec 32 := Scf.iv c1_i32_1763 c1_i32_1765 k1_t59
  let v3274 : Index := Scalar.indexCast arg15
  let c160_1932 : Index := 160#32
  ![0, v3274.toNat, 160]
def k1_off179 (k1_t59 : Fin k1_t59_loop.trips) : Fin 3 → Nat :=
  let c1_i32_1933 : BitVec 32 := 1#32
  let v3278 : Index := Scalar.indexCast c1_i32_1933
  let c1_i32_1763 : BitVec 32 := 1#32
  let c1_i32_1765 : BitVec 32 := 1#32
  let arg15 : BitVec 32 := Scf.iv c1_i32_1763 c1_i32_1765 k1_t59
  let v3279 : Index := Scalar.indexCast arg15
  let c160_1934 : Index := 160#32
  ![1, v3279.toNat, 160]
@[reducible] def k1_t60_loop : Scf.Loop 32 :=
  let c1_i32_1793 : BitVec 32 := 1#32
  let c63_i32_1794 : BitVec 32 := 63#32
  let v3038 : BitVec 32 := Scalar.addi c1_i32_1793 c63_i32_1794
  let c1_i32_1795 : BitVec 32 := 1#32
  ⟨c1_i32_1793, v3038, c1_i32_1795⟩
def k1_off180 (k1_t60 : Fin k1_t60_loop.trips) : Fin 2 → Nat :=
  let c1_i32_1793 : BitVec 32 := 1#32
  let c1_i32_1795 : BitVec 32 := 1#32
  let arg15 : BitVec 32 := Scf.iv c1_i32_1793 c1_i32_1795 k1_t60
  let v3267 : Index := Scalar.indexCast arg15
  let c176_1929 : Index := 176#32
  ![v3267.toNat, 176]
def k1_off181 (k1_t60 : Fin k1_t60_loop.trips) : Fin 3 → Nat :=
  let c0_i32_1931 : BitVec 32 := 0#32
  let v3273 : Index := Scalar.indexCast c0_i32_1931
  let c1_i32_1793 : BitVec 32 := 1#32
  let c1_i32_1795 : BitVec 32 := 1#32
  let arg15 : BitVec 32 := Scf.iv c1_i32_1793 c1_i32_1795 k1_t60
  let v3274 : Index := Scalar.indexCast arg15
  let c176_1932 : Index := 176#32
  ![0, v3274.toNat, 176]
def k1_off182 (k1_t60 : Fin k1_t60_loop.trips) : Fin 3 → Nat :=
  let c1_i32_1933 : BitVec 32 := 1#32
  let v3278 : Index := Scalar.indexCast c1_i32_1933
  let c1_i32_1793 : BitVec 32 := 1#32
  let c1_i32_1795 : BitVec 32 := 1#32
  let arg15 : BitVec 32 := Scf.iv c1_i32_1793 c1_i32_1795 k1_t60
  let v3279 : Index := Scalar.indexCast arg15
  let c176_1934 : Index := 176#32
  ![1, v3279.toNat, 176]
@[reducible] def k1_t61_loop : Scf.Loop 32 :=
  let c1_i32_1823 : BitVec 32 := 1#32
  let c63_i32_1824 : BitVec 32 := 63#32
  let v3088 : BitVec 32 := Scalar.addi c1_i32_1823 c63_i32_1824
  let c1_i32_1825 : BitVec 32 := 1#32
  ⟨c1_i32_1823, v3088, c1_i32_1825⟩
def k1_off183 (k1_t61 : Fin k1_t61_loop.trips) : Fin 2 → Nat :=
  let c1_i32_1823 : BitVec 32 := 1#32
  let c1_i32_1825 : BitVec 32 := 1#32
  let arg15 : BitVec 32 := Scf.iv c1_i32_1823 c1_i32_1825 k1_t61
  let v3267 : Index := Scalar.indexCast arg15
  let c192_1929 : Index := 192#32
  ![v3267.toNat, 192]
def k1_off184 (k1_t61 : Fin k1_t61_loop.trips) : Fin 3 → Nat :=
  let c0_i32_1931 : BitVec 32 := 0#32
  let v3273 : Index := Scalar.indexCast c0_i32_1931
  let c1_i32_1823 : BitVec 32 := 1#32
  let c1_i32_1825 : BitVec 32 := 1#32
  let arg15 : BitVec 32 := Scf.iv c1_i32_1823 c1_i32_1825 k1_t61
  let v3274 : Index := Scalar.indexCast arg15
  let c192_1932 : Index := 192#32
  ![0, v3274.toNat, 192]
def k1_off185 (k1_t61 : Fin k1_t61_loop.trips) : Fin 3 → Nat :=
  let c1_i32_1933 : BitVec 32 := 1#32
  let v3278 : Index := Scalar.indexCast c1_i32_1933
  let c1_i32_1823 : BitVec 32 := 1#32
  let c1_i32_1825 : BitVec 32 := 1#32
  let arg15 : BitVec 32 := Scf.iv c1_i32_1823 c1_i32_1825 k1_t61
  let v3279 : Index := Scalar.indexCast arg15
  let c192_1934 : Index := 192#32
  ![1, v3279.toNat, 192]
@[reducible] def k1_t62_loop : Scf.Loop 32 :=
  let c1_i32_1853 : BitVec 32 := 1#32
  let c63_i32_1854 : BitVec 32 := 63#32
  let v3138 : BitVec 32 := Scalar.addi c1_i32_1853 c63_i32_1854
  let c1_i32_1855 : BitVec 32 := 1#32
  ⟨c1_i32_1853, v3138, c1_i32_1855⟩
def k1_off186 (k1_t62 : Fin k1_t62_loop.trips) : Fin 2 → Nat :=
  let c1_i32_1853 : BitVec 32 := 1#32
  let c1_i32_1855 : BitVec 32 := 1#32
  let arg15 : BitVec 32 := Scf.iv c1_i32_1853 c1_i32_1855 k1_t62
  let v3267 : Index := Scalar.indexCast arg15
  let c208_1929 : Index := 208#32
  ![v3267.toNat, 208]
def k1_off187 (k1_t62 : Fin k1_t62_loop.trips) : Fin 3 → Nat :=
  let c0_i32_1931 : BitVec 32 := 0#32
  let v3273 : Index := Scalar.indexCast c0_i32_1931
  let c1_i32_1853 : BitVec 32 := 1#32
  let c1_i32_1855 : BitVec 32 := 1#32
  let arg15 : BitVec 32 := Scf.iv c1_i32_1853 c1_i32_1855 k1_t62
  let v3274 : Index := Scalar.indexCast arg15
  let c208_1932 : Index := 208#32
  ![0, v3274.toNat, 208]
def k1_off188 (k1_t62 : Fin k1_t62_loop.trips) : Fin 3 → Nat :=
  let c1_i32_1933 : BitVec 32 := 1#32
  let v3278 : Index := Scalar.indexCast c1_i32_1933
  let c1_i32_1853 : BitVec 32 := 1#32
  let c1_i32_1855 : BitVec 32 := 1#32
  let arg15 : BitVec 32 := Scf.iv c1_i32_1853 c1_i32_1855 k1_t62
  let v3279 : Index := Scalar.indexCast arg15
  let c208_1934 : Index := 208#32
  ![1, v3279.toNat, 208]
@[reducible] def k1_t63_loop : Scf.Loop 32 :=
  let c1_i32_1883 : BitVec 32 := 1#32
  let c63_i32_1884 : BitVec 32 := 63#32
  let v3188 : BitVec 32 := Scalar.addi c1_i32_1883 c63_i32_1884
  let c1_i32_1885 : BitVec 32 := 1#32
  ⟨c1_i32_1883, v3188, c1_i32_1885⟩
def k1_off189 (k1_t63 : Fin k1_t63_loop.trips) : Fin 2 → Nat :=
  let c1_i32_1883 : BitVec 32 := 1#32
  let c1_i32_1885 : BitVec 32 := 1#32
  let arg15 : BitVec 32 := Scf.iv c1_i32_1883 c1_i32_1885 k1_t63
  let v3267 : Index := Scalar.indexCast arg15
  let c224_1929 : Index := 224#32
  ![v3267.toNat, 224]
def k1_off190 (k1_t63 : Fin k1_t63_loop.trips) : Fin 3 → Nat :=
  let c0_i32_1931 : BitVec 32 := 0#32
  let v3273 : Index := Scalar.indexCast c0_i32_1931
  let c1_i32_1883 : BitVec 32 := 1#32
  let c1_i32_1885 : BitVec 32 := 1#32
  let arg15 : BitVec 32 := Scf.iv c1_i32_1883 c1_i32_1885 k1_t63
  let v3274 : Index := Scalar.indexCast arg15
  let c224_1932 : Index := 224#32
  ![0, v3274.toNat, 224]
def k1_off191 (k1_t63 : Fin k1_t63_loop.trips) : Fin 3 → Nat :=
  let c1_i32_1933 : BitVec 32 := 1#32
  let v3278 : Index := Scalar.indexCast c1_i32_1933
  let c1_i32_1883 : BitVec 32 := 1#32
  let c1_i32_1885 : BitVec 32 := 1#32
  let arg15 : BitVec 32 := Scf.iv c1_i32_1883 c1_i32_1885 k1_t63
  let v3279 : Index := Scalar.indexCast arg15
  let c224_1934 : Index := 224#32
  ![1, v3279.toNat, 224]
@[reducible] def k1_t64_loop : Scf.Loop 32 :=
  let c1_i32_1913 : BitVec 32 := 1#32
  let c63_i32_1914 : BitVec 32 := 63#32
  let v3238 : BitVec 32 := Scalar.addi c1_i32_1913 c63_i32_1914
  let c1_i32_1915 : BitVec 32 := 1#32
  ⟨c1_i32_1913, v3238, c1_i32_1915⟩
def k1_off192 (k1_t64 : Fin k1_t64_loop.trips) : Fin 2 → Nat :=
  let c1_i32_1913 : BitVec 32 := 1#32
  let c1_i32_1915 : BitVec 32 := 1#32
  let arg15 : BitVec 32 := Scf.iv c1_i32_1913 c1_i32_1915 k1_t64
  let v3267 : Index := Scalar.indexCast arg15
  let c240_1929 : Index := 240#32
  ![v3267.toNat, 240]
def k1_off193 (k1_t64 : Fin k1_t64_loop.trips) : Fin 3 → Nat :=
  let c0_i32_1931 : BitVec 32 := 0#32
  let v3273 : Index := Scalar.indexCast c0_i32_1931
  let c1_i32_1913 : BitVec 32 := 1#32
  let c1_i32_1915 : BitVec 32 := 1#32
  let arg15 : BitVec 32 := Scf.iv c1_i32_1913 c1_i32_1915 k1_t64
  let v3274 : Index := Scalar.indexCast arg15
  let c240_1932 : Index := 240#32
  ![0, v3274.toNat, 240]
def k1_off194 (k1_t64 : Fin k1_t64_loop.trips) : Fin 3 → Nat :=
  let c1_i32_1933 : BitVec 32 := 1#32
  let v3278 : Index := Scalar.indexCast c1_i32_1933
  let c1_i32_1913 : BitVec 32 := 1#32
  let c1_i32_1915 : BitVec 32 := 1#32
  let arg15 : BitVec 32 := Scf.iv c1_i32_1913 c1_i32_1915 k1_t64
  let v3279 : Index := Scalar.indexCast arg15
  let c240_1934 : Index := 240#32
  ![1, v3279.toNat, 240]
def k1_off195 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v30 : BitVec 32 := Scalar.muli v18 c8_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v30.toNat, v29.toNat]
abbrev grid2 : Pipeline.Grid := .none

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_146_r0 : BitVec 32 := 0#32
  ![v3.toNat, 0]
def k3_off2 (i : grid3.Coords) (c0_i32_13 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v13 : BitVec 32 := Scalar.addi v2 c0_i32_13
  let c0_i32_146_r1 : BitVec 32 := 0#32
  let c0_i32_147_r1 : BitVec 32 := 0#32
  ![v13.toNat, 0, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S65536x256 : Shape := ⟨2, ![65536, 256]⟩
abbrev S65536x1 : Shape := ⟨2, ![65536, 1]⟩
abbrev S_ : Shape := ⟨0, ![]⟩
abbrev S64x1024 : Shape := ⟨2, ![64, 1024]⟩
abbrev S1024x64 : Shape := ⟨2, ![1024, 64]⟩
abbrev S1 : Shape := ⟨1, ![1]⟩
abbrev S2 : Shape := ⟨1, ![2]⟩
abbrev S1024x1x64 : Shape := ⟨3, ![1024, 1, 64]⟩
abbrev S1x1x1 : Shape := ⟨3, ![1, 1, 1]⟩
abbrev S1024x64x64 : Shape := ⟨3, ![1024, 64, 64]⟩
abbrev S1024 : Shape := ⟨1, ![1024]⟩
abbrev S1x1024 : Shape := ⟨2, ![1, 1024]⟩
abbrev S65536 : Shape := ⟨1, ![65536]⟩
abbrev S1x1 : Shape := ⟨2, ![1, 1]⟩
abbrev S64x1024x1 : Shape := ⟨3, ![64, 1024, 1]⟩
abbrev S1024x1 : Shape := ⟨2, ![1024, 1]⟩
abbrev S1x1024x1 : Shape := ⟨3, ![1, 1024, 1]⟩

abbrev nBuf : Space → Nat
  | .hbm => 389
  | .vmem => 0
  | .smem => 0
  | _ => 0

abbrev hbmTy0_0 (i : Nat) : BufTy := match i % 128 with
  | 0 => ⟨S65536x256, .f32⟩
  | 1 => ⟨S65536x1, .f32⟩
  | 2 => ⟨S65536x1, .f32⟩
  | 3 => ⟨S_, .f32⟩
  | 4 => ⟨S65536x1, .f32⟩
  | 5 => ⟨S65536x1, .f32⟩
  | 6 => ⟨S_, .f32⟩
  | 7 => ⟨S65536x1, .f32⟩
  | 8 => ⟨S65536x1, .f32⟩
  | 9 => ⟨S64x1024, .f32⟩
  | 10 => ⟨S1024x64, .f32⟩
  | 11 => ⟨S1024x64, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S1024x1x64, .f32⟩
  | 23 => ⟨S_, .f32⟩
  | 24 => ⟨S_, .f32⟩
  | 25 => ⟨S_, .f32⟩
  | 26 => ⟨S1x1x1, .f32⟩
  | 27 => ⟨S1x1x1, .f32⟩
  | 28 => ⟨S1, .i32⟩
  | 29 => ⟨S_, .i32⟩
  | 30 => ⟨S1, .i32⟩
  | 31 => ⟨S_, .i32⟩
  | 32 => ⟨S1024x64x64, .i64⟩
  | 33 => ⟨S1024x64x64, .i64⟩
  | 34 => ⟨S1024x64x64, .i64⟩
  | 35 => ⟨S_, .i64⟩
  | 36 => ⟨S1024x64x64, .i64⟩
  | 37 => ⟨S1024x64x64, .i64⟩
  | 38 => ⟨S_, .i64⟩
  | 39 => ⟨S1024x64x64, .i64⟩
  | 40 => ⟨S1024x64x64, .i64⟩
  | 41 => ⟨S_, .i64⟩
  | 42 => ⟨S1024x64x64, .i64⟩
  | 43 => ⟨S1024x64x64, .i64⟩
  | 44 => ⟨S1024x64x64, .i64⟩
  | 45 => ⟨S1024x64x64, .i64⟩
  | 46 => ⟨S_, .i64⟩
  | 47 => ⟨S1024x64x64, .i64⟩
  | 48 => ⟨S1024x64x64, .i64⟩
  | 49 => ⟨S1024x64x64, .i32⟩
  | 50 => ⟨S1024x64x64, .i32⟩
  | 51 => ⟨S_, .i32⟩
  | 52 => ⟨S_, .i32⟩
  | 53 => ⟨S_, .i32⟩
  | 54 => ⟨S1024x64x64, .i32⟩
  | 55 => ⟨S1024x64x64, .i32⟩
  | 56 => ⟨S1024x64x64, .i32⟩
  | 57 => ⟨S1024x64x64, .i32⟩
  | 58 => ⟨S1024x64x64, .i32⟩
  | 59 => ⟨S_, .i32⟩
  | 60 => ⟨S1024x64x64, .i32⟩
  | 61 => ⟨S1024x64x64, .i32⟩
  | 62 => ⟨S_, .i32⟩
  | 63 => ⟨S1024x64x64, .i32⟩
  | 64 => ⟨S1024x64x64, .i32⟩
  | 65 => ⟨S1024x64x64, .i32⟩
  | 66 => ⟨S1024x64x64, .i32⟩
  | 67 => ⟨S1024x64x64, .i32⟩
  | 68 => ⟨S_, .i32⟩
  | 69 => ⟨S1024x64x64, .i32⟩
  | 70 => ⟨S1024x64x64, .i32⟩
  | 71 => ⟨S_, .i32⟩
  | 72 => ⟨S1024x64x64, .i32⟩
  | 73 => ⟨S1024x64x64, .i32⟩
  | 74 => ⟨S1024x64x64, .i32⟩
  | 75 => ⟨S1024x64x64, .i32⟩
  | 76 => ⟨S1024x64x64, .i32⟩
  | 77 => ⟨S_, .i32⟩
  | 78 => ⟨S1024x64x64, .i32⟩
  | 79 => ⟨S1024x64x64, .i32⟩
  | 80 => ⟨S_, .i32⟩
  | 81 => ⟨S1024x64x64, .i32⟩
  | 82 => ⟨S1024x64x64, .i32⟩
  | 83 => ⟨S1024x64x64, .i32⟩
  | 84 => ⟨S1024x64x64, .i32⟩
  | 85 => ⟨S1024x64x64, .i32⟩
  | 86 => ⟨S_, .i32⟩
  | 87 => ⟨S1024x64x64, .i32⟩
  | 88 => ⟨S1024x64x64, .i32⟩
  | 89 => ⟨S_, .i32⟩
  | 90 => ⟨S1024x64x64, .i32⟩
  | 91 => ⟨S1024x64x64, .i32⟩
  | 92 => ⟨S1024x64x64, .i32⟩
  | 93 => ⟨S1024x64x64, .i32⟩
  | 94 => ⟨S1024x64x64, .i32⟩
  | 95 => ⟨S1024x64x64, .i32⟩
  | 96 => ⟨S1024x64x64, .i32⟩
  | 97 => ⟨S1024x64x64, .i32⟩
  | 98 => ⟨S_, .i32⟩
  | 99 => ⟨S1024x64x64, .i32⟩
  | 100 => ⟨S1024x64x64, .i32⟩
  | 101 => ⟨S1024x64x64, .i32⟩
  | 102 => ⟨S_, .i32⟩
  | 103 => ⟨S1024x64x64, .i32⟩
  | 104 => ⟨S1024x64x64, .i32⟩
  | 105 => ⟨S_, .i32⟩
  | 106 => ⟨S1024x64x64, .i32⟩
  | 107 => ⟨S1024x64x64, .i32⟩
  | 108 => ⟨S1024x64x64, .i32⟩
  | 109 => ⟨S1024x64x64, .i32⟩
  | 110 => ⟨S1024x64x64, .i32⟩
  | 111 => ⟨S_, .i32⟩
  | 112 => ⟨S1024x64x64, .i32⟩
  | 113 => ⟨S1024x64x64, .i32⟩
  | 114 => ⟨S_, .i32⟩
  | 115 => ⟨S1024x64x64, .i32⟩
  | 116 => ⟨S1024x64x64, .i32⟩
  | 117 => ⟨S1024x64x64, .i32⟩
  | 118 => ⟨S1024x64x64, .i32⟩
  | 119 => ⟨S1024x64x64, .i32⟩
  | 120 => ⟨S_, .i32⟩
  | 121 => ⟨S1024x64x64, .i32⟩
  | 122 => ⟨S1024x64x64, .i32⟩
  | 123 => ⟨S_, .i32⟩
  | 124 => ⟨S1024x64x64, .i32⟩
  | 125 => ⟨S1024x64x64, .i32⟩
  | 126 => ⟨S1024x64x64, .i32⟩
  | 127 => ⟨S1024x64x64, .i32⟩
  | _ => ⟨S65536x256, .f32⟩

abbrev hbmTy0_1 (i : Nat) : BufTy := match i % 128 with
  | 0 => ⟨S1024x64x64, .i32⟩
  | 1 => ⟨S_, .i32⟩
  | 2 => ⟨S1024x64x64, .i32⟩
  | 3 => ⟨S1024x64x64, .i32⟩
  | 4 => ⟨S_, .i32⟩
  | 5 => ⟨S1024x64x64, .i32⟩
  | 6 => ⟨S1024x64x64, .i32⟩
  | 7 => ⟨S1024x64x64, .i32⟩
  | 8 => ⟨S1024x64x64, .i32⟩
  | 9 => ⟨S1024x64x64, .i32⟩
  | 10 => ⟨S1024x64x64, .i32⟩
  | 11 => ⟨S1024x64x64, .i32⟩
  | 12 => ⟨S1024x64x64, .i32⟩
  | 13 => ⟨S_, .i32⟩
  | 14 => ⟨S1024x64x64, .i32⟩
  | 15 => ⟨S1024x64x64, .i32⟩
  | 16 => ⟨S1024x64x64, .i32⟩
  | 17 => ⟨S_, .i32⟩
  | 18 => ⟨S1024x64x64, .i32⟩
  | 19 => ⟨S1024x64x64, .i32⟩
  | 20 => ⟨S_, .i32⟩
  | 21 => ⟨S1024x64x64, .i32⟩
  | 22 => ⟨S1024x64x64, .i32⟩
  | 23 => ⟨S1024x64x64, .i32⟩
  | 24 => ⟨S1024x64x64, .i32⟩
  | 25 => ⟨S1024x64x64, .i32⟩
  | 26 => ⟨S_, .i32⟩
  | 27 => ⟨S1024x64x64, .i32⟩
  | 28 => ⟨S1024x64x64, .i32⟩
  | 29 => ⟨S_, .i32⟩
  | 30 => ⟨S1024x64x64, .i32⟩
  | 31 => ⟨S1024x64x64, .i32⟩
  | 32 => ⟨S1024x64x64, .i32⟩
  | 33 => ⟨S1024x64x64, .i32⟩
  | 34 => ⟨S1024x64x64, .i32⟩
  | 35 => ⟨S_, .i32⟩
  | 36 => ⟨S1024x64x64, .i32⟩
  | 37 => ⟨S1024x64x64, .i32⟩
  | 38 => ⟨S_, .i32⟩
  | 39 => ⟨S1024x64x64, .i32⟩
  | 40 => ⟨S1024x64x64, .i32⟩
  | 41 => ⟨S1024x64x64, .i32⟩
  | 42 => ⟨S1024x64x64, .i32⟩
  | 43 => ⟨S1024x64x64, .i32⟩
  | 44 => ⟨S_, .i32⟩
  | 45 => ⟨S1024x64x64, .i32⟩
  | 46 => ⟨S1024x64x64, .i32⟩
  | 47 => ⟨S_, .i32⟩
  | 48 => ⟨S1024x64x64, .i32⟩
  | 49 => ⟨S1024x64x64, .i32⟩
  | 50 => ⟨S1024x64x64, .i32⟩
  | 51 => ⟨S1024x64x64, .i32⟩
  | 52 => ⟨S1024x64x64, .i32⟩
  | 53 => ⟨S1024x64x64, .i32⟩
  | 54 => ⟨S1024x64x64, .i32⟩
  | 55 => ⟨S1024x64x64, .i32⟩
  | 56 => ⟨S_, .i32⟩
  | 57 => ⟨S1024x64x64, .i32⟩
  | 58 => ⟨S1024x64x64, .i32⟩
  | 59 => ⟨S1024x64x64, .i32⟩
  | 60 => ⟨S_, .i32⟩
  | 61 => ⟨S1024x64x64, .i32⟩
  | 62 => ⟨S1024x64x64, .i32⟩
  | 63 => ⟨S_, .i32⟩
  | 64 => ⟨S1024x64x64, .i32⟩
  | 65 => ⟨S1024x64x64, .i32⟩
  | 66 => ⟨S1024x64x64, .i32⟩
  | 67 => ⟨S1024x64x64, .i32⟩
  | 68 => ⟨S1024x64x64, .i32⟩
  | 69 => ⟨S_, .i32⟩
  | 70 => ⟨S1024x64x64, .i32⟩
  | 71 => ⟨S1024x64x64, .i32⟩
  | 72 => ⟨S_, .i32⟩
  | 73 => ⟨S1024x64x64, .i32⟩
  | 74 => ⟨S1024x64x64, .i32⟩
  | 75 => ⟨S1024x64x64, .i32⟩
  | 76 => ⟨S1024x64x64, .i32⟩
  | 77 => ⟨S1024x64x64, .i32⟩
  | 78 => ⟨S_, .i32⟩
  | 79 => ⟨S1024x64x64, .i32⟩
  | 80 => ⟨S1024x64x64, .i32⟩
  | 81 => ⟨S_, .i32⟩
  | 82 => ⟨S1024x64x64, .i32⟩
  | 83 => ⟨S1024x64x64, .i32⟩
  | 84 => ⟨S1024x64x64, .i32⟩
  | 85 => ⟨S1024x64x64, .i32⟩
  | 86 => ⟨S1024x64x64, .i32⟩
  | 87 => ⟨S_, .i32⟩
  | 88 => ⟨S1024x64x64, .i32⟩
  | 89 => ⟨S1024x64x64, .i32⟩
  | 90 => ⟨S_, .i32⟩
  | 91 => ⟨S1024x64x64, .i32⟩
  | 92 => ⟨S1024x64x64, .i32⟩
  | 93 => ⟨S1024x64x64, .i32⟩
  | 94 => ⟨S1024x64x64, .i32⟩
  | 95 => ⟨S1024x64x64, .i32⟩
  | 96 => ⟨S1024x64x64, .i32⟩
  | 97 => ⟨S1024x64x64, .i32⟩
  | 98 => ⟨S1024x64x64, .i32⟩
  | 99 => ⟨S_, .i32⟩
  | 100 => ⟨S1024x64x64, .i32⟩
  | 101 => ⟨S1024x64x64, .i32⟩
  | 102 => ⟨S1024x64x64, .i32⟩
  | 103 => ⟨S_, .i32⟩
  | 104 => ⟨S1024x64x64, .i32⟩
  | 105 => ⟨S1024x64x64, .i32⟩
  | 106 => ⟨S_, .i32⟩
  | 107 => ⟨S1024x64x64, .i32⟩
  | 108 => ⟨S1024x64x64, .i32⟩
  | 109 => ⟨S1024x64x64, .i32⟩
  | 110 => ⟨S1024x64x64, .i32⟩
  | 111 => ⟨S1024x64x64, .i32⟩
  | 112 => ⟨S_, .i32⟩
  | 113 => ⟨S1024x64x64, .i32⟩
  | 114 => ⟨S1024x64x64, .i32⟩
  | 115 => ⟨S_, .i32⟩
  | 116 => ⟨S1024x64x64, .i32⟩
  | 117 => ⟨S1024x64x64, .i32⟩
  | 118 => ⟨S1024x64x64, .i32⟩
  | 119 => ⟨S1024x64x64, .i32⟩
  | 120 => ⟨S1024x64x64, .i32⟩
  | 121 => ⟨S_, .i32⟩
  | 122 => ⟨S1024x64x64, .i32⟩
  | 123 => ⟨S1024x64x64, .i32⟩
  | 124 => ⟨S_, .i32⟩
  | 125 => ⟨S1024x64x64, .i32⟩
  | 126 => ⟨S1024x64x64, .i32⟩
  | 127 => ⟨S1024x64x64, .i32⟩
  | _ => ⟨S65536x256, .f32⟩

abbrev hbmTy0_2 (i : Nat) : BufTy := match i % 128 with
  | 0 => ⟨S1024x64x64, .i32⟩
  | 1 => ⟨S1024x64x64, .i32⟩
  | 2 => ⟨S_, .i32⟩
  | 3 => ⟨S1024x64x64, .i32⟩
  | 4 => ⟨S1024x64x64, .i32⟩
  | 5 => ⟨S_, .i32⟩
  | 6 => ⟨S1024x64x64, .i32⟩
  | 7 => ⟨S1024x64x64, .i32⟩
  | 8 => ⟨S1024x64x64, .i32⟩
  | 9 => ⟨S1024x64x64, .i32⟩
  | 10 => ⟨S1024x64x64, .i32⟩
  | 11 => ⟨S1024x64x64, .i32⟩
  | 12 => ⟨S1024x64x64, .i32⟩
  | 13 => ⟨S1024x64x64, .i32⟩
  | 14 => ⟨S_, .i32⟩
  | 15 => ⟨S1024x64x64, .i32⟩
  | 16 => ⟨S1024x64x64, .i32⟩
  | 17 => ⟨S1024x64x64, .i32⟩
  | 18 => ⟨S_, .i32⟩
  | 19 => ⟨S1024x64x64, .i32⟩
  | 20 => ⟨S1024x64x64, .i32⟩
  | 21 => ⟨S_, .i32⟩
  | 22 => ⟨S1024x64x64, .i32⟩
  | 23 => ⟨S1024x64x64, .i32⟩
  | 24 => ⟨S1024x64x64, .f32⟩
  | 25 => ⟨S_, .f32⟩
  | 26 => ⟨S1024x64x64, .f32⟩
  | 27 => ⟨S1024x64x64, .f32⟩
  | 28 => ⟨S1x1x1, .f32⟩
  | 29 => ⟨S1024x64x64, .f32⟩
  | 30 => ⟨S1024x64x64, .f32⟩
  | 31 => ⟨S1024x64x64, .f32⟩
  | 32 => ⟨S1024x64x64, .f32⟩
  | 33 => ⟨S1024x64x64, .f32⟩
  | 34 => ⟨S1024x64x64, .f32⟩
  | 35 => ⟨S1024x64x64, .f32⟩
  | 36 => ⟨S1024x64x64, .f32⟩
  | 37 => ⟨S1024x64x64, .f32⟩
  | 38 => ⟨S1024x64x64, .f32⟩
  | 39 => ⟨S1024x64x64, .f32⟩
  | 40 => ⟨S1024x64x64, .f32⟩
  | 41 => ⟨S1024x64x64, .i32⟩
  | 42 => ⟨S_, .f32⟩
  | 43 => ⟨S_, .i32⟩
  | 44 => ⟨S1024x64, .f32⟩
  | 45 => ⟨S1024x64, .i32⟩
  | 46 => ⟨S64x1024, .i32⟩
  | 47 => ⟨S1024, .i32⟩
  | 48 => ⟨S1x1024, .i32⟩
  | 49 => ⟨S_, .i32⟩
  | 50 => ⟨S64x1024, .i32⟩
  | 51 => ⟨S64x1024, .i32⟩
  | 52 => ⟨S64x1024, .i32⟩
  | 53 => ⟨S64x1024, .i32⟩
  | 54 => ⟨S65536, .i32⟩
  | 55 => ⟨S_, .i32⟩
  | 56 => ⟨S65536, .i32⟩
  | 57 => ⟨S65536, .i1⟩
  | 58 => ⟨S_, .i32⟩
  | 59 => ⟨S65536, .i32⟩
  | 60 => ⟨S65536, .i32⟩
  | 61 => ⟨S65536, .i32⟩
  | 62 => ⟨S65536x1, .i32⟩
  | 63 => ⟨S1, .i32⟩
  | 64 => ⟨S_, .i32⟩
  | 65 => ⟨S65536x1, .i32⟩
  | 66 => ⟨S65536x1, .i1⟩
  | 67 => ⟨S1x1, .i32⟩
  | 68 => ⟨S65536x1, .i32⟩
  | 69 => ⟨S65536x1, .i1⟩
  | 70 => ⟨S65536x1, .i1⟩
  | 71 => ⟨S_, .i1⟩
  | 72 => ⟨S65536, .i1⟩
  | 73 => ⟨S65536x256, .f32⟩
  | 74 => ⟨S65536x256, .i1⟩
  | 75 => ⟨S_, .f32⟩
  | 76 => ⟨S65536x256, .f32⟩
  | 77 => ⟨S65536x256, .f32⟩
  | 78 => ⟨S_, .i32⟩
  | 79 => ⟨S65536, .i32⟩
  | 80 => ⟨S65536, .i1⟩
  | 81 => ⟨S_, .i32⟩
  | 82 => ⟨S65536, .i32⟩
  | 83 => ⟨S65536, .i32⟩
  | 84 => ⟨S65536, .i32⟩
  | 85 => ⟨S65536x1, .i32⟩
  | 86 => ⟨S1, .i32⟩
  | 87 => ⟨S_, .i32⟩
  | 88 => ⟨S65536x1, .i32⟩
  | 89 => ⟨S65536x1, .i1⟩
  | 90 => ⟨S1x1, .i32⟩
  | 91 => ⟨S65536x1, .i32⟩
  | 92 => ⟨S65536x1, .i1⟩
  | 93 => ⟨S65536x1, .i1⟩
  | 94 => ⟨S_, .i1⟩
  | 95 => ⟨S65536, .i1⟩
  | 96 => ⟨S65536x1, .f32⟩
  | 97 => ⟨S65536x1, .i1⟩
  | 98 => ⟨S_, .f32⟩
  | 99 => ⟨S65536x1, .f32⟩
  | 100 => ⟨S65536x1, .f32⟩
  | 101 => ⟨S65536x1, .f32⟩
  | 102 => ⟨S_, .f32⟩
  | 103 => ⟨S65536x1, .f32⟩
  | 104 => ⟨S65536x1, .f32⟩
  | 105 => ⟨S_, .f32⟩
  | 106 => ⟨S65536x1, .f32⟩
  | 107 => ⟨S65536x1, .f32⟩
  | 108 => ⟨S65536x1, .f32⟩
  | 109 => ⟨S65536x1, .f32⟩
  | 110 => ⟨S64x1024x1, .f32⟩
  | 111 => ⟨S_, .f32⟩
  | 112 => ⟨S1024x1, .f32⟩
  | 113 => ⟨S1x1024x1, .f32⟩
  | 114 => ⟨S1x1024x1, .f32⟩
  | 115 => ⟨S_, .f32⟩
  | 116 => ⟨S1x1024x1, .f32⟩
  | 117 => ⟨S1x1024x1, .i1⟩
  | 118 => ⟨S_, .f32⟩
  | 119 => ⟨S_, .f32⟩
  | 120 => ⟨S1x1024x1, .f32⟩
  | 121 => ⟨S1x1024x1, .f32⟩
  | 122 => ⟨S64x1024x1, .f32⟩
  | 123 => ⟨S64x1024x1, .f32⟩
  | 124 => ⟨S64x1024x1, .f32⟩
  | 125 => ⟨S_, .f32⟩
  | 126 => ⟨S1024x1, .f32⟩
  | 127 => ⟨S1x1024x1, .f32⟩
  | _ => ⟨S65536x256, .f32⟩

abbrev hbmTy0_3 (i : Nat) : BufTy := match i % 128 with
  | 0 => ⟨S1x1024x1, .f32⟩
  | 1 => ⟨S1x1024x1, .f32⟩
  | 2 => ⟨S64x1024x1, .f32⟩
  | 3 => ⟨S64x1024x1, .f32⟩
  | 4 => ⟨S65536x1, .f32⟩
  | _ => ⟨S65536x256, .f32⟩

abbrev hbmTy (i : Nat) : BufTy := match i / 128 with
  | 0 => hbmTy0_0 i
  | 1 => hbmTy0_1 i
  | 2 => hbmTy0_2 i
  | 3 => hbmTy0_3 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_cst_0 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_c : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_call0_c_0 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_1 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_v17 : Ref sig .tc := ⟨.hbm, 45, rfl⟩
abbrev main_call0_call0_c_2 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_call0_call0_call0_v0 : Ref sig .tc := ⟨.hbm, 51, rfl⟩
abbrev main_call0_call0_call0_c : Ref sig .tc := ⟨.hbm, 52, rfl⟩
abbrev main_call0_call0_call0_v1 : Ref sig .tc := ⟨.hbm, 53, rfl⟩
abbrev main_call0_call0_call0_v2 : Ref sig .tc := ⟨.hbm, 54, rfl⟩
abbrev main_call0_call0_call0_v3 : Ref sig .tc := ⟨.hbm, 55, rfl⟩
abbrev main_call0_call0_call0_v4 : Ref sig .tc := ⟨.hbm, 56, rfl⟩
abbrev main_call0_call0_call0_v5 : Ref sig .tc := ⟨.hbm, 57, rfl⟩
abbrev main_call0_call0_call0_v6 : Ref sig .tc := ⟨.hbm, 58, rfl⟩
abbrev main_call0_call0_call0_c_0 : Ref sig .tc := ⟨.hbm, 59, rfl⟩
abbrev main_call0_call0_call0_v7 : Ref sig .tc := ⟨.hbm, 60, rfl⟩
abbrev main_call0_call0_call0_v8 : Ref sig .tc := ⟨.hbm, 61, rfl⟩
abbrev main_call0_call0_call0_c_1 : Ref sig .tc := ⟨.hbm, 62, rfl⟩
abbrev main_call0_call0_call0_v9 : Ref sig .tc := ⟨.hbm, 63, rfl⟩
abbrev main_call0_call0_call0_v10 : Ref sig .tc := ⟨.hbm, 64, rfl⟩
abbrev main_call0_call0_call0_v11 : Ref sig .tc := ⟨.hbm, 65, rfl⟩
abbrev main_call0_call0_call0_v12 : Ref sig .tc := ⟨.hbm, 66, rfl⟩
abbrev main_call0_call0_call0_v13 : Ref sig .tc := ⟨.hbm, 67, rfl⟩
abbrev main_call0_call0_call0_c_2 : Ref sig .tc := ⟨.hbm, 68, rfl⟩
abbrev main_call0_call0_call0_v14 : Ref sig .tc := ⟨.hbm, 69, rfl⟩
abbrev main_call0_call0_call0_v15 : Ref sig .tc := ⟨.hbm, 70, rfl⟩
abbrev main_call0_call0_call0_c_3 : Ref sig .tc := ⟨.hbm, 71, rfl⟩
abbrev main_call0_call0_call0_v16 : Ref sig .tc := ⟨.hbm, 72, rfl⟩
abbrev main_call0_call0_call0_v17 : Ref sig .tc := ⟨.hbm, 73, rfl⟩
abbrev main_call0_call0_call0_v18 : Ref sig .tc := ⟨.hbm, 74, rfl⟩
abbrev main_call0_call0_call0_v19 : Ref sig .tc := ⟨.hbm, 75, rfl⟩
abbrev main_call0_call0_call0_v20 : Ref sig .tc := ⟨.hbm, 76, rfl⟩
abbrev main_call0_call0_call0_c_4 : Ref sig .tc := ⟨.hbm, 77, rfl⟩
abbrev main_call0_call0_call0_v21 : Ref sig .tc := ⟨.hbm, 78, rfl⟩
abbrev main_call0_call0_call0_v22 : Ref sig .tc := ⟨.hbm, 79, rfl⟩
abbrev main_call0_call0_call0_c_5 : Ref sig .tc := ⟨.hbm, 80, rfl⟩
abbrev main_call0_call0_call0_v23 : Ref sig .tc := ⟨.hbm, 81, rfl⟩
abbrev main_call0_call0_call0_v24 : Ref sig .tc := ⟨.hbm, 82, rfl⟩
abbrev main_call0_call0_call0_v25 : Ref sig .tc := ⟨.hbm, 83, rfl⟩
abbrev main_call0_call0_call0_v26 : Ref sig .tc := ⟨.hbm, 84, rfl⟩
abbrev main_call0_call0_call0_v27 : Ref sig .tc := ⟨.hbm, 85, rfl⟩
abbrev main_call0_call0_call0_c_6 : Ref sig .tc := ⟨.hbm, 86, rfl⟩
abbrev main_call0_call0_call0_v28 : Ref sig .tc := ⟨.hbm, 87, rfl⟩
abbrev main_call0_call0_call0_v29 : Ref sig .tc := ⟨.hbm, 88, rfl⟩
abbrev main_call0_call0_call0_c_7 : Ref sig .tc := ⟨.hbm, 89, rfl⟩
abbrev main_call0_call0_call0_v30 : Ref sig .tc := ⟨.hbm, 90, rfl⟩
abbrev main_call0_call0_call0_v31 : Ref sig .tc := ⟨.hbm, 91, rfl⟩
abbrev main_call0_call0_call0_v32 : Ref sig .tc := ⟨.hbm, 92, rfl⟩
abbrev main_call0_call0_call0_v33 : Ref sig .tc := ⟨.hbm, 93, rfl⟩
abbrev main_call0_call0_call0_v34 : Ref sig .tc := ⟨.hbm, 94, rfl⟩
abbrev main_call0_call0_call0_v35 : Ref sig .tc := ⟨.hbm, 95, rfl⟩
abbrev main_call0_call0_call0_v36 : Ref sig .tc := ⟨.hbm, 96, rfl⟩
abbrev main_call0_call0_call0_v37 : Ref sig .tc := ⟨.hbm, 97, rfl⟩
abbrev main_call0_call0_call0_c_8 : Ref sig .tc := ⟨.hbm, 98, rfl⟩
abbrev main_call0_call0_call0_v38 : Ref sig .tc := ⟨.hbm, 99, rfl⟩
abbrev main_call0_call0_call0_v39 : Ref sig .tc := ⟨.hbm, 100, rfl⟩
abbrev main_call0_call0_call0_v40 : Ref sig .tc := ⟨.hbm, 101, rfl⟩
abbrev main_call0_call0_call0_c_9 : Ref sig .tc := ⟨.hbm, 102, rfl⟩
abbrev main_call0_call0_call0_v41 : Ref sig .tc := ⟨.hbm, 103, rfl⟩
abbrev main_call0_call0_call0_v42 : Ref sig .tc := ⟨.hbm, 104, rfl⟩
abbrev main_call0_call0_call0_c_10 : Ref sig .tc := ⟨.hbm, 105, rfl⟩
abbrev main_call0_call0_call0_v43 : Ref sig .tc := ⟨.hbm, 106, rfl⟩
abbrev main_call0_call0_call0_v44 : Ref sig .tc := ⟨.hbm, 107, rfl⟩
abbrev main_call0_call0_call0_v45 : Ref sig .tc := ⟨.hbm, 108, rfl⟩
abbrev main_call0_call0_call0_v46 : Ref sig .tc := ⟨.hbm, 109, rfl⟩
abbrev main_call0_call0_call0_v47 : Ref sig .tc := ⟨.hbm, 110, rfl⟩
abbrev main_call0_call0_call0_c_11 : Ref sig .tc := ⟨.hbm, 111, rfl⟩
abbrev main_call0_call0_call0_v48 : Ref sig .tc := ⟨.hbm, 112, rfl⟩
abbrev main_call0_call0_call0_v49 : Ref sig .tc := ⟨.hbm, 113, rfl⟩
abbrev main_call0_call0_call0_c_12 : Ref sig .tc := ⟨.hbm, 114, rfl⟩
abbrev main_call0_call0_call0_v50 : Ref sig .tc := ⟨.hbm, 115, rfl⟩
abbrev main_call0_call0_call0_v51 : Ref sig .tc := ⟨.hbm, 116, rfl⟩
abbrev main_call0_call0_call0_v52 : Ref sig .tc := ⟨.hbm, 117, rfl⟩
abbrev main_call0_call0_call0_v53 : Ref sig .tc := ⟨.hbm, 118, rfl⟩
abbrev main_call0_call0_call0_v54 : Ref sig .tc := ⟨.hbm, 119, rfl⟩
abbrev main_call0_call0_call0_c_13 : Ref sig .tc := ⟨.hbm, 120, rfl⟩
abbrev main_call0_call0_call0_v55 : Ref sig .tc := ⟨.hbm, 121, rfl⟩
abbrev main_call0_call0_call0_v56 : Ref sig .tc := ⟨.hbm, 122, rfl⟩
abbrev main_call0_call0_call0_c_14 : Ref sig .tc := ⟨.hbm, 123, rfl⟩
abbrev main_call0_call0_call0_v57 : Ref sig .tc := ⟨.hbm, 124, rfl⟩
abbrev main_call0_call0_call0_v58 : Ref sig .tc := ⟨.hbm, 125, rfl⟩
abbrev main_call0_call0_call0_v59 : Ref sig .tc := ⟨.hbm, 126, rfl⟩
abbrev main_call0_call0_call0_v60 : Ref sig .tc := ⟨.hbm, 127, rfl⟩
abbrev main_call0_call0_call0_v61 : Ref sig .tc := ⟨.hbm, 128, rfl⟩
abbrev main_call0_call0_call0_c_15 : Ref sig .tc := ⟨.hbm, 129, rfl⟩
abbrev main_call0_call0_call0_v62 : Ref sig .tc := ⟨.hbm, 130, rfl⟩
abbrev main_call0_call0_call0_v63 : Ref sig .tc := ⟨.hbm, 131, rfl⟩
abbrev main_call0_call0_call0_c_16 : Ref sig .tc := ⟨.hbm, 132, rfl⟩
abbrev main_call0_call0_call0_v64 : Ref sig .tc := ⟨.hbm, 133, rfl⟩
abbrev main_call0_call0_call0_v65 : Ref sig .tc := ⟨.hbm, 134, rfl⟩
abbrev main_call0_call0_call0_v66 : Ref sig .tc := ⟨.hbm, 135, rfl⟩
abbrev main_call0_call0_call0_v67 : Ref sig .tc := ⟨.hbm, 136, rfl⟩
abbrev main_call0_call0_call0_v68 : Ref sig .tc := ⟨.hbm, 137, rfl⟩
abbrev main_call0_call0_call0_v69 : Ref sig .tc := ⟨.hbm, 138, rfl⟩
abbrev main_call0_call0_call0_v70 : Ref sig .tc := ⟨.hbm, 139, rfl⟩
abbrev main_call0_call0_call0_v71 : Ref sig .tc := ⟨.hbm, 140, rfl⟩
abbrev main_call0_call0_call0_c_17 : Ref sig .tc := ⟨.hbm, 141, rfl⟩
abbrev main_call0_call0_call0_v72 : Ref sig .tc := ⟨.hbm, 142, rfl⟩
abbrev main_call0_call0_call0_v73 : Ref sig .tc := ⟨.hbm, 143, rfl⟩
abbrev main_call0_call0_call0_v74 : Ref sig .tc := ⟨.hbm, 144, rfl⟩
abbrev main_call0_call0_call0_c_18 : Ref sig .tc := ⟨.hbm, 145, rfl⟩
abbrev main_call0_call0_call0_v75 : Ref sig .tc := ⟨.hbm, 146, rfl⟩
abbrev main_call0_call0_call0_v76 : Ref sig .tc := ⟨.hbm, 147, rfl⟩
abbrev main_call0_call0_call0_c_19 : Ref sig .tc := ⟨.hbm, 148, rfl⟩
abbrev main_call0_call0_call0_v77 : Ref sig .tc := ⟨.hbm, 149, rfl⟩
abbrev main_call0_call0_call0_v78 : Ref sig .tc := ⟨.hbm, 150, rfl⟩
abbrev main_call0_call0_call0_v79 : Ref sig .tc := ⟨.hbm, 151, rfl⟩
abbrev main_call0_call0_call0_v80 : Ref sig .tc := ⟨.hbm, 152, rfl⟩
abbrev main_call0_call0_call0_v81 : Ref sig .tc := ⟨.hbm, 153, rfl⟩
abbrev main_call0_call0_call0_c_20 : Ref sig .tc := ⟨.hbm, 154, rfl⟩
abbrev main_call0_call0_call0_v82 : Ref sig .tc := ⟨.hbm, 155, rfl⟩
abbrev main_call0_call0_call0_v83 : Ref sig .tc := ⟨.hbm, 156, rfl⟩
abbrev main_call0_call0_call0_c_21 : Ref sig .tc := ⟨.hbm, 157, rfl⟩
abbrev main_call0_call0_call0_v84 : Ref sig .tc := ⟨.hbm, 158, rfl⟩
abbrev main_call0_call0_call0_v85 : Ref sig .tc := ⟨.hbm, 159, rfl⟩
abbrev main_call0_call0_call0_v86 : Ref sig .tc := ⟨.hbm, 160, rfl⟩
abbrev main_call0_call0_call0_v87 : Ref sig .tc := ⟨.hbm, 161, rfl⟩
abbrev main_call0_call0_call0_v88 : Ref sig .tc := ⟨.hbm, 162, rfl⟩
abbrev main_call0_call0_call0_c_22 : Ref sig .tc := ⟨.hbm, 163, rfl⟩
abbrev main_call0_call0_call0_v89 : Ref sig .tc := ⟨.hbm, 164, rfl⟩
abbrev main_call0_call0_call0_v90 : Ref sig .tc := ⟨.hbm, 165, rfl⟩
abbrev main_call0_call0_call0_c_23 : Ref sig .tc := ⟨.hbm, 166, rfl⟩
abbrev main_call0_call0_call0_v91 : Ref sig .tc := ⟨.hbm, 167, rfl⟩
abbrev main_call0_call0_call0_v92 : Ref sig .tc := ⟨.hbm, 168, rfl⟩
abbrev main_call0_call0_call0_v93 : Ref sig .tc := ⟨.hbm, 169, rfl⟩
abbrev main_call0_call0_call0_v94 : Ref sig .tc := ⟨.hbm, 170, rfl⟩
abbrev main_call0_call0_call0_v95 : Ref sig .tc := ⟨.hbm, 171, rfl⟩
abbrev main_call0_call0_call0_c_24 : Ref sig .tc := ⟨.hbm, 172, rfl⟩
abbrev main_call0_call0_call0_v96 : Ref sig .tc := ⟨.hbm, 173, rfl⟩
abbrev main_call0_call0_call0_v97 : Ref sig .tc := ⟨.hbm, 174, rfl⟩
abbrev main_call0_call0_call0_c_25 : Ref sig .tc := ⟨.hbm, 175, rfl⟩
abbrev main_call0_call0_call0_v98 : Ref sig .tc := ⟨.hbm, 176, rfl⟩
abbrev main_call0_call0_call0_v99 : Ref sig .tc := ⟨.hbm, 177, rfl⟩
abbrev main_call0_call0_call0_v100 : Ref sig .tc := ⟨.hbm, 178, rfl⟩
abbrev main_call0_call0_call0_v101 : Ref sig .tc := ⟨.hbm, 179, rfl⟩
abbrev main_call0_call0_call0_v102 : Ref sig .tc := ⟨.hbm, 180, rfl⟩
abbrev main_call0_call0_call0_v103 : Ref sig .tc := ⟨.hbm, 181, rfl⟩
abbrev main_call0_call0_call0_v104 : Ref sig .tc := ⟨.hbm, 182, rfl⟩
abbrev main_call0_call0_call0_v105 : Ref sig .tc := ⟨.hbm, 183, rfl⟩
abbrev main_call0_call0_call0_c_26 : Ref sig .tc := ⟨.hbm, 184, rfl⟩
abbrev main_call0_call0_call0_v106 : Ref sig .tc := ⟨.hbm, 185, rfl⟩
abbrev main_call0_call0_call0_v107 : Ref sig .tc := ⟨.hbm, 186, rfl⟩
abbrev main_call0_call0_call0_v108 : Ref sig .tc := ⟨.hbm, 187, rfl⟩
abbrev main_call0_call0_call0_c_27 : Ref sig .tc := ⟨.hbm, 188, rfl⟩
abbrev main_call0_call0_call0_v109 : Ref sig .tc := ⟨.hbm, 189, rfl⟩
abbrev main_call0_call0_call0_v110 : Ref sig .tc := ⟨.hbm, 190, rfl⟩
abbrev main_call0_call0_call0_c_28 : Ref sig .tc := ⟨.hbm, 191, rfl⟩
abbrev main_call0_call0_call0_v111 : Ref sig .tc := ⟨.hbm, 192, rfl⟩
abbrev main_call0_call0_call0_v112 : Ref sig .tc := ⟨.hbm, 193, rfl⟩
abbrev main_call0_call0_call0_v113 : Ref sig .tc := ⟨.hbm, 194, rfl⟩
abbrev main_call0_call0_call0_v114 : Ref sig .tc := ⟨.hbm, 195, rfl⟩
abbrev main_call0_call0_call0_v115 : Ref sig .tc := ⟨.hbm, 196, rfl⟩
abbrev main_call0_call0_call0_c_29 : Ref sig .tc := ⟨.hbm, 197, rfl⟩
abbrev main_call0_call0_call0_v116 : Ref sig .tc := ⟨.hbm, 198, rfl⟩
abbrev main_call0_call0_call0_v117 : Ref sig .tc := ⟨.hbm, 199, rfl⟩
abbrev main_call0_call0_call0_c_30 : Ref sig .tc := ⟨.hbm, 200, rfl⟩
abbrev main_call0_call0_call0_v118 : Ref sig .tc := ⟨.hbm, 201, rfl⟩
abbrev main_call0_call0_call0_v119 : Ref sig .tc := ⟨.hbm, 202, rfl⟩
abbrev main_call0_call0_call0_v120 : Ref sig .tc := ⟨.hbm, 203, rfl⟩
abbrev main_call0_call0_call0_v121 : Ref sig .tc := ⟨.hbm, 204, rfl⟩
abbrev main_call0_call0_call0_v122 : Ref sig .tc := ⟨.hbm, 205, rfl⟩
abbrev main_call0_call0_call0_c_31 : Ref sig .tc := ⟨.hbm, 206, rfl⟩
abbrev main_call0_call0_call0_v123 : Ref sig .tc := ⟨.hbm, 207, rfl⟩
abbrev main_call0_call0_call0_v124 : Ref sig .tc := ⟨.hbm, 208, rfl⟩
abbrev main_call0_call0_call0_c_32 : Ref sig .tc := ⟨.hbm, 209, rfl⟩
abbrev main_call0_call0_call0_v125 : Ref sig .tc := ⟨.hbm, 210, rfl⟩
abbrev main_call0_call0_call0_v126 : Ref sig .tc := ⟨.hbm, 211, rfl⟩
abbrev main_call0_call0_call0_v127 : Ref sig .tc := ⟨.hbm, 212, rfl⟩
abbrev main_call0_call0_call0_v128 : Ref sig .tc := ⟨.hbm, 213, rfl⟩
abbrev main_call0_call0_call0_v129 : Ref sig .tc := ⟨.hbm, 214, rfl⟩
abbrev main_call0_call0_call0_c_33 : Ref sig .tc := ⟨.hbm, 215, rfl⟩
abbrev main_call0_call0_call0_v130 : Ref sig .tc := ⟨.hbm, 216, rfl⟩
abbrev main_call0_call0_call0_v131 : Ref sig .tc := ⟨.hbm, 217, rfl⟩
abbrev main_call0_call0_call0_c_34 : Ref sig .tc := ⟨.hbm, 218, rfl⟩
abbrev main_call0_call0_call0_v132 : Ref sig .tc := ⟨.hbm, 219, rfl⟩
abbrev main_call0_call0_call0_v133 : Ref sig .tc := ⟨.hbm, 220, rfl⟩
abbrev main_call0_call0_call0_v134 : Ref sig .tc := ⟨.hbm, 221, rfl⟩
abbrev main_call0_call0_call0_v135 : Ref sig .tc := ⟨.hbm, 222, rfl⟩
abbrev main_call0_call0_call0_v136 : Ref sig .tc := ⟨.hbm, 223, rfl⟩
abbrev main_call0_call0_call0_v137 : Ref sig .tc := ⟨.hbm, 224, rfl⟩
abbrev main_call0_call0_call0_v138 : Ref sig .tc := ⟨.hbm, 225, rfl⟩
abbrev main_call0_call0_call0_v139 : Ref sig .tc := ⟨.hbm, 226, rfl⟩
abbrev main_call0_call0_call0_c_35 : Ref sig .tc := ⟨.hbm, 227, rfl⟩
abbrev main_call0_call0_call0_v140 : Ref sig .tc := ⟨.hbm, 228, rfl⟩
abbrev main_call0_call0_call0_v141 : Ref sig .tc := ⟨.hbm, 229, rfl⟩
abbrev main_call0_call0_call0_v142 : Ref sig .tc := ⟨.hbm, 230, rfl⟩
abbrev main_call0_call0_call0_c_36 : Ref sig .tc := ⟨.hbm, 231, rfl⟩
abbrev main_call0_call0_call0_v143 : Ref sig .tc := ⟨.hbm, 232, rfl⟩
abbrev main_call0_call0_call0_v144 : Ref sig .tc := ⟨.hbm, 233, rfl⟩
abbrev main_call0_call0_call0_c_37 : Ref sig .tc := ⟨.hbm, 234, rfl⟩
abbrev main_call0_call0_call0_v145 : Ref sig .tc := ⟨.hbm, 235, rfl⟩
abbrev main_call0_call0_call0_v146 : Ref sig .tc := ⟨.hbm, 236, rfl⟩
abbrev main_call0_call0_call0_v147 : Ref sig .tc := ⟨.hbm, 237, rfl⟩
abbrev main_call0_call0_call0_v148 : Ref sig .tc := ⟨.hbm, 238, rfl⟩
abbrev main_call0_call0_call0_v149 : Ref sig .tc := ⟨.hbm, 239, rfl⟩
abbrev main_call0_call0_call0_c_38 : Ref sig .tc := ⟨.hbm, 240, rfl⟩
abbrev main_call0_call0_call0_v150 : Ref sig .tc := ⟨.hbm, 241, rfl⟩
abbrev main_call0_call0_call0_v151 : Ref sig .tc := ⟨.hbm, 242, rfl⟩
abbrev main_call0_call0_call0_c_39 : Ref sig .tc := ⟨.hbm, 243, rfl⟩
abbrev main_call0_call0_call0_v152 : Ref sig .tc := ⟨.hbm, 244, rfl⟩
abbrev main_call0_call0_call0_v153 : Ref sig .tc := ⟨.hbm, 245, rfl⟩
abbrev main_call0_call0_call0_v154 : Ref sig .tc := ⟨.hbm, 246, rfl⟩
abbrev main_call0_call0_call0_v155 : Ref sig .tc := ⟨.hbm, 247, rfl⟩
abbrev main_call0_call0_call0_v156 : Ref sig .tc := ⟨.hbm, 248, rfl⟩
abbrev main_call0_call0_call0_c_40 : Ref sig .tc := ⟨.hbm, 249, rfl⟩
abbrev main_call0_call0_call0_v157 : Ref sig .tc := ⟨.hbm, 250, rfl⟩
abbrev main_call0_call0_call0_v158 : Ref sig .tc := ⟨.hbm, 251, rfl⟩
abbrev main_call0_call0_call0_c_41 : Ref sig .tc := ⟨.hbm, 252, rfl⟩
abbrev main_call0_call0_call0_v159 : Ref sig .tc := ⟨.hbm, 253, rfl⟩
abbrev main_call0_call0_call0_v160 : Ref sig .tc := ⟨.hbm, 254, rfl⟩
abbrev main_call0_call0_call0_v161 : Ref sig .tc := ⟨.hbm, 255, rfl⟩
abbrev main_call0_call0_call0_v162 : Ref sig .tc := ⟨.hbm, 256, rfl⟩
abbrev main_call0_call0_call0_v163 : Ref sig .tc := ⟨.hbm, 257, rfl⟩
abbrev main_call0_call0_call0_c_42 : Ref sig .tc := ⟨.hbm, 258, rfl⟩
abbrev main_call0_call0_call0_v164 : Ref sig .tc := ⟨.hbm, 259, rfl⟩
abbrev main_call0_call0_call0_v165 : Ref sig .tc := ⟨.hbm, 260, rfl⟩
abbrev main_call0_call0_call0_c_43 : Ref sig .tc := ⟨.hbm, 261, rfl⟩
abbrev main_call0_call0_call0_v166 : Ref sig .tc := ⟨.hbm, 262, rfl⟩
abbrev main_call0_call0_call0_v167 : Ref sig .tc := ⟨.hbm, 263, rfl⟩
abbrev main_call0_call0_call0_v168 : Ref sig .tc := ⟨.hbm, 264, rfl⟩
abbrev main_call0_call0_call0_v169 : Ref sig .tc := ⟨.hbm, 265, rfl⟩
abbrev main_call0_call0_call0_v170 : Ref sig .tc := ⟨.hbm, 266, rfl⟩
abbrev main_call0_call0_v22_0 : Ref sig .tc := ⟨.hbm, 267, rfl⟩
abbrev main_call0_call0_call0_v172 : Ref sig .tc := ⟨.hbm, 268, rfl⟩
abbrev main_call0_call0_call0_v173 : Ref sig .tc := ⟨.hbm, 269, rfl⟩
abbrev main_call0_call0_call0_c_44 : Ref sig .tc := ⟨.hbm, 270, rfl⟩
abbrev main_call0_call0_call0_v174 : Ref sig .tc := ⟨.hbm, 271, rfl⟩
abbrev main_call0_call0_v22_1 : Ref sig .tc := ⟨.hbm, 272, rfl⟩
abbrev main_call0_call0_v23 : Ref sig .tc := ⟨.hbm, 273, rfl⟩
abbrev main_call0_call0_c_3 : Ref sig .tc := ⟨.hbm, 274, rfl⟩
abbrev main_call0_call0_v24 : Ref sig .tc := ⟨.hbm, 275, rfl⟩
abbrev main_call0_call0_v25 : Ref sig .tc := ⟨.hbm, 276, rfl⟩
abbrev main_call0_call0_c_4 : Ref sig .tc := ⟨.hbm, 277, rfl⟩
abbrev main_call0_call0_v26 : Ref sig .tc := ⟨.hbm, 278, rfl⟩
abbrev main_call0_call0_v27 : Ref sig .tc := ⟨.hbm, 279, rfl⟩
abbrev main_call0_call0_v28 : Ref sig .tc := ⟨.hbm, 280, rfl⟩
abbrev main_call0_call0_cst : Ref sig .tc := ⟨.hbm, 281, rfl⟩
abbrev main_call0_call0_v29 : Ref sig .tc := ⟨.hbm, 282, rfl⟩
abbrev main_call0_call0_v30 : Ref sig .tc := ⟨.hbm, 283, rfl⟩
abbrev main_call0_call0_v31 : Ref sig .tc := ⟨.hbm, 284, rfl⟩
abbrev main_call0_call0_v32 : Ref sig .tc := ⟨.hbm, 285, rfl⟩
abbrev main_call0_call0_v33 : Ref sig .tc := ⟨.hbm, 286, rfl⟩
abbrev main_call0_call0_v34 : Ref sig .tc := ⟨.hbm, 287, rfl⟩
abbrev main_call0_call0_v35 : Ref sig .tc := ⟨.hbm, 288, rfl⟩
abbrev main_call0_call0_v36 : Ref sig .tc := ⟨.hbm, 289, rfl⟩
abbrev main_call0_v0 : Ref sig .tc := ⟨.hbm, 290, rfl⟩
abbrev main_call0_v1 : Ref sig .tc := ⟨.hbm, 291, rfl⟩
abbrev main_call0_v2 : Ref sig .tc := ⟨.hbm, 292, rfl⟩
abbrev main_call0_v3 : Ref sig .tc := ⟨.hbm, 293, rfl⟩
abbrev main_v16 : Ref sig .tc := ⟨.hbm, 294, rfl⟩
abbrev main_v17 : Ref sig .tc := ⟨.hbm, 295, rfl⟩
abbrev main_v18 : Ref sig .tc := ⟨.hbm, 296, rfl⟩
abbrev main_call1_v0 : Ref sig .tc := ⟨.hbm, 297, rfl⟩
abbrev main_call1_cst : Ref sig .tc := ⟨.hbm, 298, rfl⟩
abbrev main_call1_c : Ref sig .tc := ⟨.hbm, 299, rfl⟩
abbrev main_call1_v1_0 : Ref sig .tc := ⟨.hbm, 300, rfl⟩
abbrev main_v19 : Ref sig .tc := ⟨.hbm, 301, rfl⟩
abbrev main_v20 : Ref sig .tc := ⟨.hbm, 302, rfl⟩
abbrev main_v21 : Ref sig .tc := ⟨.hbm, 303, rfl⟩
abbrev main_v22 : Ref sig .tc := ⟨.hbm, 304, rfl⟩
abbrev main_c_3 : Ref sig .tc := ⟨.hbm, 305, rfl⟩
abbrev main_v23 : Ref sig .tc := ⟨.hbm, 306, rfl⟩
abbrev main_v24 : Ref sig .tc := ⟨.hbm, 307, rfl⟩
abbrev main_v25 : Ref sig .tc := ⟨.hbm, 308, rfl⟩
abbrev main_v26 : Ref sig .tc := ⟨.hbm, 309, rfl⟩
abbrev main_v27 : Ref sig .tc := ⟨.hbm, 310, rfl⟩
abbrev main_call2_c : Ref sig .tc := ⟨.hbm, 311, rfl⟩
abbrev main_call2_v0 : Ref sig .tc := ⟨.hbm, 312, rfl⟩
abbrev main_call2_v1 : Ref sig .tc := ⟨.hbm, 313, rfl⟩
abbrev main_call2_c_0 : Ref sig .tc := ⟨.hbm, 314, rfl⟩
abbrev main_call2_v2 : Ref sig .tc := ⟨.hbm, 315, rfl⟩
abbrev main_call2_v3 : Ref sig .tc := ⟨.hbm, 316, rfl⟩
abbrev main_call2_v4 : Ref sig .tc := ⟨.hbm, 317, rfl⟩
abbrev main_call2_v5 : Ref sig .tc := ⟨.hbm, 318, rfl⟩
abbrev main_call2_c_1 : Ref sig .tc := ⟨.hbm, 319, rfl⟩
abbrev main_call2_c_2 : Ref sig .tc := ⟨.hbm, 320, rfl⟩
abbrev main_call2_v6 : Ref sig .tc := ⟨.hbm, 321, rfl⟩
abbrev main_call2_v7 : Ref sig .tc := ⟨.hbm, 322, rfl⟩
abbrev main_call2_v8 : Ref sig .tc := ⟨.hbm, 323, rfl⟩
abbrev main_call2_v9 : Ref sig .tc := ⟨.hbm, 324, rfl⟩
abbrev main_call2_v10 : Ref sig .tc := ⟨.hbm, 325, rfl⟩
abbrev main_call2_v11 : Ref sig .tc := ⟨.hbm, 326, rfl⟩
abbrev main_call2_c_3 : Ref sig .tc := ⟨.hbm, 327, rfl⟩
abbrev main_call2_v12 : Ref sig .tc := ⟨.hbm, 328, rfl⟩
abbrev main_call2_v13 : Ref sig .tc := ⟨.hbm, 329, rfl⟩
abbrev main_call2_v14 : Ref sig .tc := ⟨.hbm, 330, rfl⟩
abbrev main_call2_cst : Ref sig .tc := ⟨.hbm, 331, rfl⟩
abbrev main_call2_v15 : Ref sig .tc := ⟨.hbm, 332, rfl⟩
abbrev main_v28 : Ref sig .tc := ⟨.hbm, 333, rfl⟩
abbrev main_call3_c : Ref sig .tc := ⟨.hbm, 334, rfl⟩
abbrev main_call3_v0 : Ref sig .tc := ⟨.hbm, 335, rfl⟩
abbrev main_call3_v1 : Ref sig .tc := ⟨.hbm, 336, rfl⟩
abbrev main_call3_c_0 : Ref sig .tc := ⟨.hbm, 337, rfl⟩
abbrev main_call3_v2 : Ref sig .tc := ⟨.hbm, 338, rfl⟩
abbrev main_call3_v3 : Ref sig .tc := ⟨.hbm, 339, rfl⟩
abbrev main_call3_v4 : Ref sig .tc := ⟨.hbm, 340, rfl⟩
abbrev main_call3_v5 : Ref sig .tc := ⟨.hbm, 341, rfl⟩
abbrev main_call3_c_1 : Ref sig .tc := ⟨.hbm, 342, rfl⟩
abbrev main_call3_c_2 : Ref sig .tc := ⟨.hbm, 343, rfl⟩
abbrev main_call3_v6 : Ref sig .tc := ⟨.hbm, 344, rfl⟩
abbrev main_call3_v7 : Ref sig .tc := ⟨.hbm, 345, rfl⟩
abbrev main_call3_v8 : Ref sig .tc := ⟨.hbm, 346, rfl⟩
abbrev main_call3_v9 : Ref sig .tc := ⟨.hbm, 347, rfl⟩
abbrev main_call3_v10 : Ref sig .tc := ⟨.hbm, 348, rfl⟩
abbrev main_call3_v11 : Ref sig .tc := ⟨.hbm, 349, rfl⟩
abbrev main_call3_c_3 : Ref sig .tc := ⟨.hbm, 350, rfl⟩
abbrev main_call3_v12 : Ref sig .tc := ⟨.hbm, 351, rfl⟩
abbrev main_call3_v13 : Ref sig .tc := ⟨.hbm, 352, rfl⟩
abbrev main_call3_v14 : Ref sig .tc := ⟨.hbm, 353, rfl⟩
abbrev main_call3_cst : Ref sig .tc := ⟨.hbm, 354, rfl⟩
abbrev main_call3_v15 : Ref sig .tc := ⟨.hbm, 355, rfl⟩
abbrev main_v29 : Ref sig .tc := ⟨.hbm, 356, rfl⟩
abbrev main_v30 : Ref sig .tc := ⟨.hbm, 357, rfl⟩
abbrev main_cst_4 : Ref sig .tc := ⟨.hbm, 358, rfl⟩
abbrev main_v31 : Ref sig .tc := ⟨.hbm, 359, rfl⟩
abbrev main_v32 : Ref sig .tc := ⟨.hbm, 360, rfl⟩
abbrev main_cst_5 : Ref sig .tc := ⟨.hbm, 361, rfl⟩
abbrev main_v33 : Ref sig .tc := ⟨.hbm, 362, rfl⟩
abbrev main_v34 : Ref sig .tc := ⟨.hbm, 363, rfl⟩
abbrev main_v35 : Ref sig .tc := ⟨.hbm, 364, rfl⟩
abbrev main_v36 : Ref sig .tc := ⟨.hbm, 365, rfl⟩
abbrev main_v37 : Ref sig .tc := ⟨.hbm, 366, rfl⟩
abbrev main_cst_6 : Ref sig .tc := ⟨.hbm, 367, rfl⟩
abbrev main_v38 : Ref sig .tc := ⟨.hbm, 368, rfl⟩
abbrev main_v39 : Ref sig .tc := ⟨.hbm, 369, rfl⟩
abbrev main_v40 : Ref sig .tc := ⟨.hbm, 370, rfl⟩
abbrev main_cst_7 : Ref sig .tc := ⟨.hbm, 371, rfl⟩
abbrev main_v41 : Ref sig .tc := ⟨.hbm, 372, rfl⟩
abbrev main_v42 : Ref sig .tc := ⟨.hbm, 373, rfl⟩
abbrev main_cst_8 : Ref sig .tc := ⟨.hbm, 374, rfl⟩
abbrev main_call4_v0 : Ref sig .tc := ⟨.hbm, 375, rfl⟩
abbrev main_call4_v1 : Ref sig .tc := ⟨.hbm, 376, rfl⟩
abbrev main_v43 : Ref sig .tc := ⟨.hbm, 377, rfl⟩
abbrev main_v44 : Ref sig .tc := ⟨.hbm, 378, rfl⟩
abbrev main_v45 : Ref sig .tc := ⟨.hbm, 379, rfl⟩
abbrev main_v46 : Ref sig .tc := ⟨.hbm, 380, rfl⟩
abbrev main_cst_9 : Ref sig .tc := ⟨.hbm, 381, rfl⟩
abbrev main_v47 : Ref sig .tc := ⟨.hbm, 382, rfl⟩
abbrev main_v48 : Ref sig .tc := ⟨.hbm, 383, rfl⟩
abbrev main_v49 : Ref sig .tc := ⟨.hbm, 384, rfl⟩
abbrev main_v50 : Ref sig .tc := ⟨.hbm, 385, rfl⟩
abbrev main_v51 : Ref sig .tc := ⟨.hbm, 386, rfl⟩
abbrev main_v52 : Ref sig .tc := ⟨.hbm, 387, rfl⟩
abbrev main_v53 : Ref sig .tc := ⟨.hbm, 388, rfl⟩

abbrev nD : Nat := 1
abbrev τ : Topo := Topo.v7x

variable {F : FTy → Type} [FloatOps F]
-- ==== Proof.Noise.lean ====
/- The noise of the draw as a function: the words of a counter-based generator at a fixed key, made uniform numbers and
   these the noise. Both programs compute it by the same operations. -/
module

public import proofs.«01_k».proof.Proof.Gen.ReferenceIdeal

@[expose] public section

noncomputable section

namespace Cert.Noise

open Cert.ReferenceIdeal Cert.ReferenceIdeal.Gen Idealize.ShloMosaic

/-- A word for each number drawn. -/
abbrev Word := IVec S1024x64x64 32

/-- One word for all. -/
def wide (k : IVec S_ 32) : Word := broadcastInDim S1024x64x64 ![] bcast_S_S1024x64x64 k

/-- The key: the seed's two halves. -/
def key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- Its halves again, and the third word made of them. -/
def ka : IVec S_ 32 := shapeCast S_ (extractStridedSlice S1 ![0] key slices_S2_S1_0) shapeCasts_S1_S_
def kb : IVec S_ 32 := shapeCast S_ (extractStridedSlice S1 ![1] key slices_S2_S1_1) shapeCasts_S1_S_
def kc : IVec S_ 32 := xori (xori ka kb) (constantI S_ 32 466688986#32)

/-- The place of each number in the array. -/
def place : IVec S1024x64x64 64 :=
  addi (addi (muli (broadcastInDim S1024x64x64 ![] bcast_S_S1024x64x64 (constantI S_ 64 4096#64)) (iotaInDim S1024x64x64 64 0))
      (muli (broadcastInDim S1024x64x64 ![] bcast_S_S1024x64x64 (constantI S_ 64 64#64)) (iotaInDim S1024x64x64 64 1)))
    (muli (broadcastInDim S1024x64x64 ![] bcast_S_S1024x64x64 (constantI S_ 64 1#64)) (iotaInDim S1024x64x64 64 2))

/-- Its two halves, the keys added. -/
def first : Word × Word :=
  (addi (trunci 32 (Host.shrui place (broadcastInDim S1024x64x64 ![] bcast_S_S1024x64x64 (constantI S_ 64 32#64))) natLt_32_64) (wide ka),
    addi (trunci 32 place natLt_32_64) (wide kb))

/-- One turn: the sum, and the second word turned by `r` places and mixed with it (`s` is 32 less `r`). -/
def turn (r s : BitVec 32) (p : Word × Word) : Word × Word :=
  (addi p.1 p.2, xori (addi p.1 p.2) (ori (Host.shli p.2 (wide (constantI S_ 32 r))) (Host.shrui p.2 (wide (constantI S_ 32 s)))))

def turnsA (p : Word × Word) : Word × Word := turn 6#32 26#32 (turn 26#32 6#32 (turn 15#32 17#32 (turn 13#32 19#32 p)))
def turnsB (p : Word × Word) : Word × Word := turn 24#32 8#32 (turn 16#32 16#32 (turn 29#32 3#32 (turn 17#32 15#32 p)))

/-- Two keys and the round's number added. -/
def keyed (k l : IVec S_ 32) (i : BitVec 32) (p : Word × Word) : Word × Word :=
  (addi p.1 (wide k), addi (addi p.2 (wide l)) (wide (constantI S_ 32 i)))

def state0 : Word × Word := first
def state1 : Word × Word := keyed kb kc 1#32 (turnsA state0)
def state2 : Word × Word := keyed kc ka 2#32 (turnsB state1)
def state3 : Word × Word := keyed ka kb 3#32 (turnsA state2)
def state4 : Word × Word := keyed kb kc 4#32 (turnsB state3)
def state5 : Word × Word := keyed kc ka 5#32 (turnsA state4)

variable {F : FTy → Type} [FloatOps F]

/-- The least and the greatest of the uniform numbers. -/
def lo : FVec F S1x1x1 .f32 := broadcastInDim S1x1x1 ![] bcast_S_S1x1x1 (constant S_ .f32 0x00800000#32)
def hi : FVec F S1x1x1 .f32 := broadcastInDim S1x1x1 ![] bcast_S_S1x1x1 (constant S_ .f32 0x3F800000#32)

/-- Two words of bits mixed, made a number from 0 up to 1 and then one between `a` and `b`. -/
def uniform (x y : Word) (a b : FVec F S1x1x1 .f32) : FVec F S1024x64x64 .f32 :=
  maximumf (broadcastInDim S1024x64x64 ![0, 1, 2] bcast_S1x1x1_S1024x64x64_0_1_2 a)
    (addf (mulf (subf (bitcastToFloat .f32 (ori (Host.shrui (xori x y) (wide (constantI S_ 32 9#32))) (wide (constantI S_ 32 1065353216#32))))
        (broadcastInDim S1024x64x64 ![] bcast_S_S1024x64x64 (constant S_ .f32 0x3F800000#32)))
      (broadcastInDim S1024x64x64 ![0, 1, 2] bcast_S1x1x1_S1024x64x64_0_1_2 (subf b a)))
    (broadcastInDim S1024x64x64 ![0, 1, 2] bcast_S1x1x1_S1024x64x64_0_1_2 a))

/-- The noise a uniform number stands for: minus the log of minus its log. -/
def made (x y : Word) (a b : FVec F S1x1x1 .f32) : FVec F S1024x64x64 .f32 :=
  Host.negf (Host.log (Host.negf (Host.log (uniform x y a b))))

/-- The noise drawn. -/
def noise : FVec F S1024x64x64 .f32 := made state5.1 state5.2 lo hi

end Cert.Noise

end
-- ==== Proof.SetupIdeal.lean ====
/- The program as the launch theorem sees it, and its arrays. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_0 : (K (F := F)).nSub 0 = 16 := rfl
theorem nCore_0 : (K (F := F)).nCore 0 = 2 := rfl
theorem nSub_1 : (K (F := F)).nSub 1 = 16 := rfl
theorem nCore_1 : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the rounds of the TensorCore calls' pipelines, the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## The arrays of @main -/

abbrev tabLoc (d : Dev nD) : Loc nD τ sig := (SparseCore.T d).loc main_arg0
abbrev probLoc (d : Dev nD) : Loc nD τ sig := (SparseCore.T d).loc main_arg1
abbrev p64Loc (d : Dev nD) : Loc nD τ sig := (SparseCore.T d).loc main_v0
abbrev lqLoc (d : Dev nD) : Loc nD τ sig := (SparseCore.T d).loc main_v1_0
abbrev lvLoc (d : Dev nD) : Loc nD τ sig := (SparseCore.T d).loc main_v1_1
abbrev gLoc (d : Dev nD) : Loc nD τ sig := (SparseCore.T d).loc main_v12
abbrev idxLoc (d : Dev nD) : Loc nD τ sig := (SparseCore.T d).loc main_v13_0
abbrev lvwLoc (d : Dev nD) : Loc nD τ sig := (SparseCore.T d).loc main_v13_1
abbrev nrmLoc (d : Dev nD) : Loc nD τ sig := (SparseCore.T d).loc main_v14
abbrev xLoc (d : Dev nD) : Loc nD τ sig := (SparseCore.T d).loc main_v15
abbrev iLoc (d : Dev nD) : Loc nD τ sig := (SparseCore.T d).loc main_v16
abbrev oLoc (d : Dev nD) : Loc nD τ sig := (SparseCore.T d).loc main_v17

end Cert.KernelIdeal.Whole

end
-- ==== Proof.ScanIdeal.lean ====
/- The loop of the argmax call: 16 lanes at a time it walks the 64 scores of two output rows, keeping of each lane the
   greatest score so far, the first place that has it, and the second table's entry at that place. -/
module

public import Idealize.ShloMosaic.Lib.Pipeline.Value
public import Idealize.ShloMosaic.Lib.Writes
public import proofs.«01_k».proof.Proof.SetupIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The operands and the buffers of a tile -/

abbrev gV : Memref sig Kind.scVector Space.hbm S4x64x64x256 EltTy.f32 := Memref.whole main_v12_scv
abbrev lqV : Memref sig Kind.scVector Space.hbm S64x1024 EltTy.f32 := Memref.whole main_v1_0_scv
abbrev lvV : Memref sig Kind.scVector Space.hbm S64x1024 EltTy.f32 := Memref.whole main_v1_1_scv
abbrev ioV : Memref sig Kind.scVector Space.hbm S64x1024 EltTy.i32 := Memref.whole main_v13_0_scv
abbrev loV : Memref sig Kind.scVector Space.hbm S64x1024 EltTy.f32 := Memref.whole main_v13_1_scv
abbrev lqB : Memref sig Kind.scVector Space.vmem S64x256 EltTy.f32 := Memref.whole cc1_scratch0
abbrev lvB : Memref sig Kind.scVector Space.vmem S64x256 EltTy.f32 := Memref.whole cc1_scratch1
abbrev gaB : Memref sig Kind.scVector Space.vmem S2x64x256 EltTy.f32 := Memref.whole cc1_scratch2
abbrev gbB : Memref sig Kind.scVector Space.vmem S2x64x256 EltTy.f32 := Memref.whole cc1_scratch3
abbrev ixB : Memref sig Kind.scVector Space.vmem S8x256 EltTy.i32 := Memref.whole cc1_scratch4
abbrev lwB : Memref sig Kind.scVector Space.vmem S8x256 EltTy.f32 := Memref.whole cc1_scratch5

abbrev cV1 (L : grid1.Coords) : Fin τ.nSC := (L 0).castLE hcore1
abbrev jV1 (L : grid1.Coords) : Fin τ.nSub := (L 1).castLE hsub1
abbrev VT1 (d : Dev nD) (L : grid1.Coords) : Thread nD τ := V d (cV1 L) (jV1 L)

/-! ## The first greatest of a sequence of scores -/

/-- Entry `(k, c)` of a 64 × 256 table. -/
def at2 {α : Type} (X : S64x256.Idx → α) (k c : ℕ) : α := X fun
  | 0 => (⟨k % 64, Nat.mod_lt _ (by decide)⟩ : Fin 64)
  | 1 => (⟨c % 256, Nat.mod_lt _ (by decide)⟩ : Fin 256)
  | ⟨_ + 2, h⟩ => absurd h (Nat.not_lt.2 (Nat.le_add_left _ _))

/-- Entry `(x, k, c)` of a 2 × 64 × 256 block. -/
def at3 {α : Type} (X : S2x64x256.Idx → α) (x k c : ℕ) : α := X fun
  | 0 => (⟨x % 2, Nat.mod_lt _ (by decide)⟩ : Fin 2)
  | 1 => (⟨k % 64, Nat.mod_lt _ (by decide)⟩ : Fin 64)
  | 2 => (⟨c % 256, Nat.mod_lt _ (by decide)⟩ : Fin 256)
  | ⟨_ + 3, h⟩ => absurd h (Nat.not_lt.2 (Nat.le_add_left _ _))

section Best
variable [FloatOps F]

/-- The greatest of the scores `s 0, …, s k`. -/
def bestVal (s : ℕ → F .f32) : ℕ → F .f32
  | 0 => s 0
  | k + 1 => FloatOps.maximumf (bestVal s k) (s (k + 1))

/-- The place of the score that no earlier one of `s 0, …, s k` reaches. -/
def bestAt (s : ℕ → F .f32) : ℕ → ℕ
  | 0 => 0
  | k + 1 => if FloatOps.cmpf .ogt (s (k + 1)) (bestVal s k) = 1 then k + 1 else bestAt s k

theorem bestAt_le (s : ℕ → F .f32) (k : ℕ) : bestAt s k ≤ k := by
  induction k with
  | zero => exact Nat.le_refl 0
  | succ k ih => unfold bestAt; split <;> omega

theorem bestAt_congr {s s' : ℕ → F .f32} (n : ℕ) (h : ∀ k, k ≤ n → s k = s' k) :
    bestVal s n = bestVal s' n ∧ bestAt s n = bestAt s' n := by
  induction n with
  | zero => exact ⟨h 0 (Nat.le_refl 0), rfl⟩
  | succ n ih =>
    obtain ⟨h1, h2⟩ := ih fun k hk => h k (by omega)
    unfold bestVal bestAt
    rw [h1, h2, h (n + 1) (Nat.le_refl _)]
    exact ⟨rfl, rfl⟩

/-- The scores of column `c` and row `x`. -/
def score (G : S2x64x256.Idx → Elt F .f32) (Q : S64x256.Idx → Elt F .f32) (x c k : ℕ) : F .f32 :=
  FloatOps.addf (at3 G x k c) (at2 Q k c)

/-- What the loop carries of a row: the greatest score, its place, the entry of `V` there. -/
abbrev Carry : Type := FVec F S16 .f32 × IVec S16 32 × FVec F S16 .f32 × FVec F S16 .f32 × IVec S16 32 × FVec F S16 .f32

def resM (G : S2x64x256.Idx → Elt F .f32) (Q : S64x256.Idx → Elt F .f32) (x cb k : ℕ) : FVec F S16 .f32 :=
  fun y => bestVal (score G Q x (cb + (y 0).val)) k
def resW (G : S2x64x256.Idx → Elt F .f32) (Q : S64x256.Idx → Elt F .f32) (x cb k : ℕ) : IVec S16 32 :=
  fun y => BitVec.ofNat 32 (bestAt (score G Q x (cb + (y 0).val)) k)
def resV (G : S2x64x256.Idx → Elt F .f32) (Q V : S64x256.Idx → Elt F .f32) (x cb k : ℕ) : FVec F S16 .f32 :=
  fun y => at2 V (bestAt (score G Q x (cb + (y 0).val)) k) (cb + (y 0).val)

/-- What the loop carries after `k` trips, the two rows. -/
def carried (G : S2x64x256.Idx → Elt F .f32) (Q V : S64x256.Idx → Elt F .f32) (cb k : ℕ) : Carry (F := F) :=
  (resM G Q 0 cb k, resW G Q 0 cb k, resV G Q V 0 cb k, resM G Q 1 cb k, resW G Q 1 cb k, resV G Q V 1 cb k)

/-! ## One trip -/

/-- A trip's arithmetic on what its four loads read. -/
def tripVal (w : BitVec 32) (st : Carry (F := F)) (q l : Vec F S1x16 .f32) (a b : Vec F S1x1x16 .f32) : Carry (F := F) :=
  let ql : FVec F S16 .f32 := shapeCast S16 q shapeCasts_S1x16_S16
  let ll : FVec F S16 .f32 := shapeCast S16 l shapeCasts_S1x16_S16
  let x0 : FVec F S16 .f32 := addf (shapeCast S16 a shapeCasts_S1x1x16_S16) ql
  let x1 : FVec F S16 .f32 := addf (shapeCast S16 b shapeCasts_S1x1x16_S16) ql
  let c0 : IVec S16 1 := cmpf .ogt x0 st.1
  let c1 : IVec S16 1 := cmpf .ogt x1 st.2.2.2.1
  (maximumf st.1 x0, select c0 (broadcast S16 w) st.2.1, select c0 ll st.2.2.1,
    maximumf st.2.2.2.1 x1, select c1 (broadcast S16 w) st.2.2.2.2.1, select c1 ll st.2.2.2.2.2)

variable (d : Dev nD) (L : grid1.Coords)

/-- A trip of the loop. -/
def trip (G : Memref sig .scVector .vmem S2x64x256 .f32) (oL : Fin 2 → Nat) (hL : ∀ a, oL a + S1x16.size a ≤ S64x256.size a)
    (oA : Fin 3 → Nat) (hA : ∀ a, oA a + S1x1x16.size a ≤ S2x64x256.size a)
    (oB : Fin 3 → Nat) (hB : ∀ a, oB a + S1x1x16.size a ≤ S2x64x256.size a) (w : BitVec 32) (st : Carry (F := F)) :
    Prog (TpuEff nD τ sig (Elt F) Λ₀ (.scVector (cV1 L) (jV1 L))) (Carry (F := F)) := do
  let q : Vec F S1x16 .f32 ← Prog.lift (.load lqB (Rect.unit (s := S64x256) oL S1x16.size hL).toLoadRect (View.loadsAt_vmem h_S1x16))
  let l : Vec F S1x16 .f32 ← Prog.lift (.load lvB (Rect.unit (s := S64x256) oL S1x16.size hL).toLoadRect (View.loadsAt_vmem h_S1x16))
  let a : Vec F S1x1x16 .f32 ← Prog.lift (.load G (Rect.unit (s := S2x64x256) oA S1x1x16.size hA).toLoadRect (View.loadsAt_vmem h_S1x1x16))
  let b : Vec F S1x1x16 .f32 ← Prog.lift (.load G (Rect.unit (s := S2x64x256) oB S1x1x16.size hB).toLoadRect (View.loadsAt_vmem h_S1x1x16))
  pure (tripVal w st q l a b)

/-- Sixteen entries of a row of a 64 × 256 table, as a vector. -/
theorem row2 {κ : Kind} {sp : Space} (v : View sig κ sp S64x256 .f32) (f : v.ty.Contents (Elt F)) (k cb : ℕ) (hk : k < 64) (hcb : cb + 16 ≤ 256)
    (o : Fin 2 → Nat) (ho : o = ![k, cb]) (h : ∀ a, o a + S1x16.size a ≤ S64x256.size a) :
    (shapeCast S16 (v.readAt (Elt F) (Rect.unit (s := S64x256) o S1x16.size h).toLoadRect f) shapeCasts_S1x16_S16 : FVec F S16 .f32)
      = fun y => at2 (v.read (Elt F) f) k (cb + (y 0).val) := by
  subst ho
  funext y
  have hy : (y 0).val < 16 := (y 0).isLt
  rw [shapeCast_apply (s := S1x16) _ _ y (fun
    | 0 => (⟨0, by decide⟩ : Fin 1)
    | 1 => (⟨(y 0).val, hy⟩ : Fin 16)
    | ⟨_ + 2, h⟩ => absurd h (Nat.not_lt.2 (Nat.le_add_left _ _))) (by
      refine (Shape.rowMajor_val_two _).trans ((Shape.rowMajor_val_one y).trans ?_).symm
      show (y 0).val = 0 * 16 + (y 0).val
      omega)]
  rw [View.readAt_apply]
  unfold at2
  refine congrArg (v.read (Elt F) f) (funext fun a => Fin.ext ?_)
  match a with
  | 0 => show k + 1 * 0 = k % 64; omega
  | 1 => show cb + 1 * (y 0).val = (cb + (y 0).val) % 256; omega

/-- Sixteen entries of a row of a 2 × 64 × 256 block, as a vector. -/
theorem row3 {κ : Kind} {sp : Space} (v : View sig κ sp S2x64x256 .f32) (f : v.ty.Contents (Elt F)) (x k cb : ℕ) (hx : x < 2) (hk : k < 64)
    (hcb : cb + 16 ≤ 256) (o : Fin 3 → Nat) (ho : o = ![x, k, cb]) (h : ∀ a, o a + S1x1x16.size a ≤ S2x64x256.size a) :
    (shapeCast S16 (v.readAt (Elt F) (Rect.unit (s := S2x64x256) o S1x1x16.size h).toLoadRect f) shapeCasts_S1x1x16_S16 : FVec F S16 .f32)
      = fun y => at3 (v.read (Elt F) f) x k (cb + (y 0).val) := by
  subst ho
  funext y
  have hy : (y 0).val < 16 := (y 0).isLt
  rw [shapeCast_apply (s := S1x1x16) _ _ y (fun
    | 0 => (⟨0, by decide⟩ : Fin 1)
    | 1 => (⟨0, by decide⟩ : Fin 1)
    | 2 => (⟨(y 0).val, hy⟩ : Fin 16)
    | ⟨_ + 3, h⟩ => absurd h (Nat.not_lt.2 (Nat.le_add_left _ _))) (by
      refine (Shape.rowMajor_val_three _).trans ((Shape.rowMajor_val_one y).trans ?_).symm
      show (y 0).val = (0 * 1 + 0) * 16 + (y 0).val
      omega)]
  rw [View.readAt_apply]
  unfold at3
  refine congrArg (v.read (Elt F) f) (funext fun a => Fin.ext ?_)
  match a with
  | 0 => show x + 1 * 0 = x % 2; omega
  | 1 => show k + 1 * 0 = k % 64; omega
  | 2 => show cb + 1 * (y 0).val = (cb + (y 0).val) % 256; omega

/-- A trip takes what is carried one place further. -/
theorem tripVal_carried (G : S2x64x256.Idx → Elt F .f32) (Q V : S64x256.Idx → Elt F .f32) (cb k : ℕ) (w : BitVec 32) (hw : w = BitVec.ofNat 32 (k + 1))
    (q l : Vec F S1x16 .f32) (a b : Vec F S1x1x16 .f32)
    (hq : (shapeCast S16 q shapeCasts_S1x16_S16 : FVec F S16 .f32) = fun y => at2 Q (k + 1) (cb + (y 0).val))
    (hl : (shapeCast S16 l shapeCasts_S1x16_S16 : FVec F S16 .f32) = fun y => at2 V (k + 1) (cb + (y 0).val))
    (ha : (shapeCast S16 a shapeCasts_S1x1x16_S16 : FVec F S16 .f32) = fun y => at3 G 0 (k + 1) (cb + (y 0).val))
    (hb : (shapeCast S16 b shapeCasts_S1x1x16_S16 : FVec F S16 .f32) = fun y => at3 G 1 (k + 1) (cb + (y 0).val)) :
    tripVal w (carried G Q V cb k) q l a b = carried G Q V cb (k + 1) := by
  have hM : ∀ x, maximumf (resM G Q x cb k) (addf (fun y : S16.Idx => at3 G x (k + 1) (cb + (y 0).val)) fun y => at2 Q (k + 1) (cb + (y 0).val))
      = resM G Q x cb (k + 1) := fun x => rfl
  have hW : ∀ x, select (cmpf .ogt (addf (fun y : S16.Idx => at3 G x (k + 1) (cb + (y 0).val)) fun y => at2 Q (k + 1) (cb + (y 0).val)) (resM G Q x cb k))
      (broadcast S16 w) (resW G Q x cb k) = resW G Q x cb (k + 1) := by
    intro x; subst hw; funext y
    show (if FloatOps.cmpf .ogt (score G Q x (cb + (y 0).val) (k + 1)) (bestVal (score G Q x (cb + (y 0).val)) k) = 1 then BitVec.ofNat 32 (k + 1)
      else BitVec.ofNat 32 (bestAt (score G Q x (cb + (y 0).val)) k)) = BitVec.ofNat 32 (bestAt (score G Q x (cb + (y 0).val)) (k + 1))
    conv_rhs => unfold bestAt
    split <;> rfl
  have hV : ∀ x, select (cmpf .ogt (addf (fun y : S16.Idx => at3 G x (k + 1) (cb + (y 0).val)) fun y => at2 Q (k + 1) (cb + (y 0).val)) (resM G Q x cb k))
      (fun y => at2 V (k + 1) (cb + (y 0).val)) (resV G Q V x cb k) = resV G Q V x cb (k + 1) := by
    intro x; funext y
    show (if FloatOps.cmpf .ogt (score G Q x (cb + (y 0).val) (k + 1)) (bestVal (score G Q x (cb + (y 0).val)) k) = 1 then at2 V (k + 1) (cb + (y 0).val)
      else at2 V (bestAt (score G Q x (cb + (y 0).val)) k) (cb + (y 0).val)) = at2 V (bestAt (score G Q x (cb + (y 0).val)) (k + 1)) (cb + (y 0).val)
    conv_rhs => unfold bestAt
    split <;> rfl
  unfold tripVal
  simp only [hq, hl, ha, hb]
  unfold carried
  simp only [hM, hW, hV]

/-- What the loop starts from. -/
theorem carried_zero (G : S2x64x256.Idx → Elt F .f32) (Q V : S64x256.Idx → Elt F .f32) (cb : ℕ)
    (q q' l : Vec F S1x16 .f32) (a b : Vec F S1x1x16 .f32)
    (hq : (shapeCast S16 q shapeCasts_S1x16_S16 : FVec F S16 .f32) = fun y => at2 Q 0 (cb + (y 0).val))
    (hq' : (shapeCast S16 q' shapeCasts_S1x16_S16 : FVec F S16 .f32) = fun y => at2 Q 0 (cb + (y 0).val))
    (hl : (shapeCast S16 l shapeCasts_S1x16_S16 : FVec F S16 .f32) = fun y => at2 V 0 (cb + (y 0).val))
    (ha : (shapeCast S16 a shapeCasts_S1x1x16_S16 : FVec F S16 .f32) = fun y => at3 G 0 0 (cb + (y 0).val))
    (hb : (shapeCast S16 b shapeCasts_S1x1x16_S16 : FVec F S16 .f32) = fun y => at3 G 1 0 (cb + (y 0).val)) :
    ((addf (shapeCast S16 a shapeCasts_S1x1x16_S16) (shapeCast S16 q shapeCasts_S1x16_S16), broadcast S16 0#32, shapeCast S16 l shapeCasts_S1x16_S16,
      addf (shapeCast S16 b shapeCasts_S1x1x16_S16) (shapeCast S16 q' shapeCasts_S1x16_S16), broadcast S16 0#32, shapeCast S16 l shapeCasts_S1x16_S16) : Carry (F := F))
      = carried G Q V cb 0 := by
  rw [hq, hq', hl, ha, hb]; rfl

/-! ## The loop -/

theorem wp_scan {β : Type} (G : Memref sig .scVector .vmem S2x64x256 .f32) (cb : ℕ) (hcb : cb + 16 ≤ 256)
    (bq : Buf (Elt F) (lqB.view.loc (VT1 d L))) (bv : Buf (Elt F) (lvB.view.loc (VT1 d L))) (bg : Buf (Elt F) (G.view.loc (VT1 d L)))
    (lp : Scf.Loop 32) (hok : lp.OK) (htr : lp.trips = 63) (i0 : FVec F S16 .f32) (i1 : IVec S16 32) (i2 i3 : FVec F S16 .f32) (i4 : IVec S16 32) (i5 : FVec F S16 .f32)
    (body : Fin lp.trips → Carry (F := F) → Prog (TpuEff nD τ sig (Elt F) Λ₀ (.scVector (cV1 L) (jV1 L))) (Carry (F := F)))
    (oL : Fin lp.trips → Fin 2 → Nat) (hL : ∀ k, ∀ a, oL k a + S1x16.size a ≤ S64x256.size a)
    (oA : Fin lp.trips → Fin 3 → Nat) (hA : ∀ k, ∀ a, oA k a + S1x1x16.size a ≤ S2x64x256.size a)
    (oB : Fin lp.trips → Fin 3 → Nat) (hB : ∀ k, ∀ a, oB k a + S1x1x16.size a ≤ S2x64x256.size a)
    (hb : ∀ k st, body k st = trip L G (oL k) (hL k) (oA k) (hA k) (oB k) (hB k) (Scf.iv 1#32 1#32 k) st)
    (eL : ∀ k, oL k = ![k.val + 1, cb]) (eA : ∀ k, oA k = ![0, k.val + 1, cb]) (eB : ∀ k, oB k = ![1, k.val + 1, cb])
    (Gf : S2x64x256.Idx → Elt F .f32) (Qf Vf : S64x256.Idx → Elt F .f32) (hG : G.view.read (Elt F) bg = Gf) (hQ : lqB.view.read (Elt F) bq = Qf)
    (hV : lvB.view.read (Elt F) bv = Vf) (hi0 : i0 = resM Gf Qf 0 cb 0) (hi1 : i1 = resW Gf Qf 0 cb 0)
    (hi2 : i2 = resV Gf Qf Vf 0 cb 0) (hi3 : i3 = resM Gf Qf 1 cb 0) (hi4 : i4 = resW Gf Qf 1 cb 0) (hi5 : i5 = resV Gf Qf Vf 1 cb 0)
    (kk : Carry (F := F) → Prog (TpuEff nD τ sig (Elt F) Λ₀ (.scVector (cV1 L) (jV1 L))) β) (Q : β → sProp 𝕄) :
    (iprop((lqB.view.loc (VT1 d L) ↦[lqB.view.set]{fullShare} bq) ∗ (lvB.view.loc (VT1 d L) ↦[lvB.view.set]{fullShare} bv)
        ∗ (G.view.loc (VT1 d L) ↦[G.view.set]{fullShare} bg)) : sProp 𝕄)
      ⊢ iprop((((lqB.view.loc (VT1 d L) ↦[lqB.view.set]{fullShare} bq) ∗ (lvB.view.loc (VT1 d L) ↦[lvB.view.set]{fullShare} bv)
          ∗ (G.view.loc (VT1 d L) ↦[G.view.set]{fullShare} bg))
          -∗ wp frame (wpE (defs₀ (F := F)) 𝒱₀ (VT1 d L) none) Set.univ
              (kk (resM Gf Qf 0 cb 63, resW Gf Qf 0 cb 63, resV Gf Qf Vf 0 cb 63, resM Gf Qf 1 cb 63, resW Gf Qf 1 cb 63, resV Gf Qf Vf 1 cb 63)) Q)
        -∗ wp frame (wpE (defs₀ (F := F)) 𝒱₀ (VT1 d L) none) Set.univ (lp.for hok (i0, i1, i2, i3, i4, i5) body >>= kk) Q) := by
  subst hG hQ hV
  set I : ℕ → Carry (F := F) → sProp 𝕄 := fun k st =>
    iprop(⌜st = carried (G.view.read (Elt F) bg) (lqB.view.read (Elt F) bq) (lvB.view.read (Elt F) bv) cb k⌝
      ∗ (lqB.view.loc (VT1 d L) ↦[lqB.view.set]{fullShare} bq) ∗ (lvB.view.loc (VT1 d L) ↦[lvB.view.set]{fullShare} bv)
      ∗ (G.view.loc (VT1 d L) ↦[G.view.set]{fullShare} bg)) with hI
  have key := Scf.wp_for_bind frame (wpE (defs₀ (F := F)) 𝒱₀ (VT1 d L) none) Set.univ lp.lb lp.ub lp.st hok (i0, i1, i2, i3, i4, i5) body I (by
    intro k st
    have hk : k.val < 63 := lt_of_lt_of_eq k.isLt htr
    rw [hb, hI]
    unfold trip
    iintro ⟨%hst, HQ, HV, HG⟩
    subst hst
    sl_exec
    sl_step
    isplitr
    · ipureintro
      refine tripVal_carried _ _ _ cb k.val _ ?_ _ _ _ _ (row2 _ _ _ _ (by omega) hcb _ (eL k) _) (row2 _ _ _ _ (by omega) hcb _ (eL k) _)
        (row3 _ _ _ _ _ (by decide) (by omega) hcb _ (eA k) _) (row3 _ _ _ _ _ (by decide) (by omega) hcb _ (eB k) _)
      show 1#32 + BitVec.ofNat 32 k.val * 1#32 = _
      rw [BitVec.mul_one, BitVec.add_comm, BitVec.ofNat_add]
    · isplitl [HQ]; · iexact HQ
      isplitl [HV]; · iexact HV
      iexact HG) (kk := kk) (Q := Q)
  iintro ⟨HQ, HV, HG⟩ HK
  iapply key $$ [HQ HV HG]
  · rw [hI]
    isplitr; · ipureintro; rw [hi0, hi1, hi2, hi3, hi4, hi5]; rfl
    isplitl [HQ]; · iexact HQ
    isplitl [HV]; · iexact HV
    iexact HG
  iintro %acc H
  rw [hI]
  icases H with ⟨%hst, HQ, HV, HG⟩
  have hst' : acc = carried (G.view.read (Elt F) bg) (lqB.view.read (Elt F) bq) (lvB.view.read (Elt F) bv) cb 63 := by rw [hst]; exact congrArg _ htr
  subst hst'
  iapply HK
  isplitl [HQ]; · iexact HQ
  isplitl [HV]; · iexact HV
  iexact HG

end Best

end Cert.KernelIdeal.Whole

end
-- ==== Proof.PiecesIdeal.lean ====
/- What a tile of the argmax call stores: the greatest score's place and the second table's entry there, of the tile's
   eight rows and 256 columns. -/
module

public import proofs.«01_k».proof.Proof.ScanIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)

/-! ## What the copies bring -/

/-- The tile's columns of a table. -/
abbrev colsQ (f : Buf (Elt F) (lqLoc d)) : S64x256.Idx → Elt F .f32 :=
  View.read (Elt F) (lqV.slice (Rect.unit (s := S64x1024) (k1_off1 L) S64x256.size (k1_off1_inb L)) (fun _ => rfl)).view f
abbrev colsV (f : Buf (Elt F) (lvLoc d)) : S64x256.Idx → Elt F .f32 :=
  View.read (Elt F) (lvV.slice (Rect.unit (s := S64x1024) (k1_off1 L) S64x256.size (k1_off1_inb L)) (fun _ => rfl)).view f
/-- Pair `r` of the tile's rows of the noise. -/
abbrev pairG (f : Buf (Elt F) (gLoc d)) (r : Fin 4) : S2x64x256.Idx → Elt F .f32 :=
  View.read (Elt F) ((gV.slice (Rect.unit (s := S4x64x64x256) (k1_off2 L (BitVec.ofNat 32 (2 * r.val))) S1x2x64x256.size (k1_off2_inb L r)) (fun _ => rfl)).squeeze
    S2x64x256 squeezes_S1x2x64x256_S2x64x256).view f

/-- A buffer written whole reads back the payload. -/
theorem read_writes_top {κ : Kind} {sp : Space} {t : Shape} {e : EltTy} (v : View sig κ sp t e) (f : v.ty.Contents (Elt F))
    (w : t.Idx → Elt F e) (older : List (View.Piece (Elt F) t e)) : v.read (Elt F) (v.writes (Elt F) f (⟨Rect.whole t, w⟩ :: older)) = w := by
  funext y
  have h := View.read_writes_cons_emb v f (Rect.whole t) w older y
  rwa [Rect.emb_whole_apply] at h

/-- What the loop starts from, read out of the buffers. -/
theorem startM [FloatOps F] (G : Memref sig .scVector .vmem S2x64x256 .f32) (x cb : ℕ) (hx : x < 2) (hcb : cb + 16 ≤ 256)
    (bq : List (View.Piece (Elt F) S64x256 .f32)) (bg : List (View.Piece (Elt F) S2x64x256 .f32))
    (h1 : ∀ a, (![0, cb] : Fin 2 → ℕ) a + S1x16.size a ≤ S64x256.size a)
    (h2 : ∀ a, (![x, 0, cb] : Fin 3 → ℕ) a + S1x1x16.size a ≤ S2x64x256.size a) :
    addf (shapeCast S16 (G.view.readCov bg (Rect.unit (s := S2x64x256) ![x, 0, cb] S1x1x16.size h2).toLoadRect) shapeCasts_S1x1x16_S16)
        (shapeCast S16 (lqB.view.readCov bq (Rect.unit (s := S64x256) ![0, cb] S1x16.size h1).toLoadRect) shapeCasts_S1x16_S16)
      = resM (G.view.read (Elt F) (G.view.writes (Elt F) G.view.junk bg)) (lqB.view.read (Elt F) (lqB.view.writes (Elt F) lqB.view.junk bq)) x cb 0 := by
  have e1 := row3 G.view (G.view.writes (Elt F) G.view.junk bg) x 0 cb hx (by decide) hcb _ rfl h2
  have e2 := row2 lqB.view (lqB.view.writes (Elt F) lqB.view.junk bq) 0 cb (by decide) hcb _ rfl h1
  exact (congrArg₂ addf e1 e2).trans rfl

theorem startV [FloatOps F] (cb : ℕ) (hcb : cb + 16 ≤ 256) (Gf : S2x64x256.Idx → Elt F .f32) (Qf : S64x256.Idx → Elt F .f32) (x : ℕ)
    (bv : List (View.Piece (Elt F) S64x256 .f32)) (h1 : ∀ a, (![0, cb] : Fin 2 → ℕ) a + S1x16.size a ≤ S64x256.size a) :
    shapeCast S16 (lvB.view.readCov bv (Rect.unit (s := S64x256) ![0, cb] S1x16.size h1).toLoadRect) shapeCasts_S1x16_S16
      = resV Gf Qf (lvB.view.read (Elt F) (lvB.view.writes (Elt F) lvB.view.junk bv)) x cb 0 :=
  row2 lvB.view (lvB.view.writes (Elt F) lvB.view.junk bv) 0 cb (by decide) hcb _ rfl h1

theorem resM_congr [FloatOps F] {G G' : S2x64x256.Idx → Elt F .f32} {Q Q' : S64x256.Idx → Elt F .f32} {x cb : ℕ} (hG : G = G') (hQ : Q = Q') :
    resM G Q x cb 0 = resM G' Q' x cb 0 := by rw [hG, hQ]

theorem resV_congr [FloatOps F] {G : S2x64x256.Idx → Elt F .f32} {Q V V' : S64x256.Idx → Elt F .f32} {x cb : ℕ} (hV : V = V') :
    resV G Q V x cb 0 = resV G Q V' x cb 0 := by rw [hV]

variable [FloatOps F]

/-! ## The two results -/

/-- Entry `(u, j, k, c)` of the noise. -/
def gAt {α : Type} (f : S4x64x64x256.Idx → α) (u j k c : ℕ) : α := f fun
  | 0 => (⟨u % 4, Nat.mod_lt _ (by decide)⟩ : Fin 4)
  | 1 => (⟨j % 64, Nat.mod_lt _ (by decide)⟩ : Fin 64)
  | 2 => (⟨k % 64, Nat.mod_lt _ (by decide)⟩ : Fin 64)
  | 3 => (⟨c % 256, Nat.mod_lt _ (by decide)⟩ : Fin 256)
  | ⟨_ + 4, h⟩ => absurd h (Nat.not_lt.2 (Nat.le_add_left _ _))

/-- Entry `(k, b)` of a 64 × 1024 table. -/
def qAt {α : Type} (f : S64x1024.Idx → α) (k b : ℕ) : α := f fun
  | 0 => (⟨k % 64, Nat.mod_lt _ (by decide)⟩ : Fin 64)
  | 1 => (⟨b % 1024, Nat.mod_lt _ (by decide)⟩ : Fin 1024)
  | ⟨_ + 2, h⟩ => absurd h (Nat.not_lt.2 (Nat.le_add_left _ _))

/-- The score of candidate `k` for output row `j`, column `b`. -/
def gScore (fg : S4x64x64x256.Idx → F .f32) (flq : S64x1024.Idx → F .f32) (j b k : ℕ) : F .f32 :=
  FloatOps.addf (gAt fg (b / 256) j k (b % 256)) (qAt flq k b)

/-- The candidate taken for row `j`, column `b`. -/
def pick (fg : S4x64x64x256.Idx → F .f32) (flq : S64x1024.Idx → F .f32) (j b : ℕ) : ℕ := bestAt (gScore fg flq j b) 63

theorem pick_lt (fg : S4x64x64x256.Idx → F .f32) (flq : S64x1024.Idx → F .f32) (j b : ℕ) : pick fg flq j b < 64 :=
  Nat.lt_of_le_of_lt (bestAt_le _ _) (by decide)

/-- The first result: the place of the candidate among the 64 · 1024. -/
def idxOut (fg : S4x64x64x256.Idx → F .f32) (flq : S64x1024.Idx → F .f32) : S64x1024.Idx → BitVec 32 :=
  fun p => BitVec.ofNat 32 (1024 * pick fg flq (p 0).val (p 1).val + (p 1).val)
/-- The second result: the candidate's weight. -/
def lvwOut (fg : S4x64x64x256.Idx → F .f32) (flq flv : S64x1024.Idx → F .f32) : S64x1024.Idx → F .f32 :=
  fun p => qAt flv (pick fg flq (p 0).val (p 1).val) (p 1).val

/-! ## Where a tile works -/

/-- The tile's number, its block of rows and its block of columns. -/
abbrev wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega

theorem off1_eq : ∀ L : grid1.Coords, k1_off1 L = ![0, 256 * (wid L % 4)] := by decide +kernel
theorem off195_eq : ∀ L : grid1.Coords, k1_off195 L = ![8 * (wid L / 4), 256 * (wid L % 4)] := by decide +kernel
theorem off2_eq : ∀ L : grid1.Coords, ∀ r : Fin 4,
    k1_off2 L (BitVec.ofNat 32 (2 * r.val)) = ![wid L % 4, 8 * (wid L / 4) + 2 * r.val, 0, 0] := by decide +kernel

/-- The block of columns, as the body computes it. -/
def bgW (L : grid1.Coords) : BitVec 32 :=
  let v1 := Scalar.addi (Scalar.muli (BitVec.ofNat 32 (L 1).val) 2#32) (BitVec.ofNat 32 (L 0).val)
  let v20 := Scalar.select (Scalar.cmpi .eq 4#32 0#32) 1#32 4#32
  let v21 := Scalar.remsi v1 v20
  Scalar.select (Scalar.andi (Scalar.xori (Scalar.cmpi .slt v21 0#32) (Scalar.cmpi .slt v20 0#32)) (Scalar.cmpi .ne v21 0#32))
    (Scalar.addi v21 v20) v21
theorem bgW_eq : ∀ L : grid1.Coords, bgW L = BitVec.ofNat 32 (wid L % 4) := by decide +kernel

/-- The tile's blocks of the two results. -/
abbrev ioS : Memref sig .scVector .hbm S8x256 .i32 :=
  ioV.slice (Rect.unit (s := S64x1024) (k1_off195 L) S8x256.size (k1_off195_inb L)) (fun _ => rfl)
abbrev loS : Memref sig .scVector .hbm S8x256 .f32 :=
  loV.slice (Rect.unit (s := S64x1024) (k1_off195 L) S8x256.size (k1_off195_inb L)) (fun _ => rfl)

theorem colsQ_at (f : Buf (Elt F) (lqLoc d)) (k c : ℕ) (hc : c < 256) : at2 (colsQ d L f) k c = qAt f k (256 * (wid L % 4) + c) := by
  unfold at2 qAt colsQ
  rw [View.read_apply]
  refine congrArg f (funext fun a => Fin.ext ?_)
  have hw := wid_lt L
  match a with
  | 0 => show k1_off1 L 0 + 1 * (k % 64) = k % 64; rw [off1_eq]; simp
  | 1 => show k1_off1 L 1 + 1 * (c % 256) = (256 * (wid L % 4) + c) % 1024; rw [off1_eq]; show 256 * (wid L % 4) + 1 * (c % 256) = _; omega

theorem colsV_at (f : Buf (Elt F) (lvLoc d)) (k c : ℕ) (hc : c < 256) : at2 (colsV d L f) k c = qAt f k (256 * (wid L % 4) + c) := by
  unfold at2 qAt colsV
  rw [View.read_apply]
  refine congrArg f (funext fun a => Fin.ext ?_)
  have hw := wid_lt L
  match a with
  | 0 => show k1_off1 L 0 + 1 * (k % 64) = k % 64; rw [off1_eq]; simp
  | 1 => show k1_off1 L 1 + 1 * (c % 256) = (256 * (wid L % 4) + c) % 1024; rw [off1_eq]; show 256 * (wid L % 4) + 1 * (c % 256) = _; omega

theorem pairG_at (f : Buf (Elt F) (gLoc d)) (r : Fin 4) (x k c : ℕ) (hx : x < 2) (hc : c < 256) :
    at3 (pairG d L f r) x k c = gAt f (wid L % 4) (8 * (wid L / 4) + 2 * r.val + x) k c := by
  unfold at3 gAt pairG
  have hw := wid_lt L
  have hr := r.isLt
  rw [View.read_apply]
  have e := off2_eq L r
  refine congrArg f (funext fun a => Fin.ext ?_)
  set y : S2x64x256.Idx := fun
    | 0 => (⟨x % 2, Nat.mod_lt _ (by decide)⟩ : Fin 2)
    | 1 => (⟨k % 64, Nat.mod_lt _ (by decide)⟩ : Fin 64)
    | 2 => (⟨c % 256, Nat.mod_lt _ (by decide)⟩ : Fin 256)
    | ⟨_ + 3, h⟩ => absurd h (Nat.not_lt.2 (Nat.le_add_left _ _)) with hy
  have hz : (Shape.reshapeEquiv squeezes_S1x2x64x256_S2x64x256.numel_eq y : S1x2x64x256.Idx)
      = (fun
        | 0 => (⟨0, by decide⟩ : Fin 1)
        | 1 => (⟨x % 2, Nat.mod_lt _ (by decide)⟩ : Fin 2)
        | 2 => (⟨k % 64, Nat.mod_lt _ (by decide)⟩ : Fin 64)
        | 3 => (⟨c % 256, Nat.mod_lt _ (by decide)⟩ : Fin 256)
        | ⟨_ + 4, h⟩ => absurd h (Nat.not_lt.2 (Nat.le_add_left _ _))) := by
    refine Shape.reshapeEquiv_eq_of_rowMajor _ ?_
    refine (Shape.rowMajor_val_four _).trans ((Shape.rowMajor_val_three y).trans ?_).symm
    show ((x % 2) * 64 + k % 64) * 256 + c % 256 = ((0 * 2 + x % 2) * 64 + k % 64) * 256 + c % 256
    omega
  show (((Rect.unit (s := S4x64x64x256) (k1_off2 L (BitVec.ofNat 32 (2 * r.val))) S1x2x64x256.size (k1_off2_inb L r)).emb
    (Shape.reshapeEquiv squeezes_S1x2x64x256_S2x64x256.numel_eq y)) a).val = _
  rw [hz, Rect.emb_apply]
  match a with
  | 0 => show k1_off2 L (BitVec.ofNat 32 (2 * r.val)) 0 + 1 * 0 = wid L % 4 % 4; rw [congrFun e 0]; show wid L % 4 + 1 * 0 = _; omega
  | 1 =>
    show k1_off2 L (BitVec.ofNat 32 (2 * r.val)) 1 + 1 * (x % 2) = (8 * (wid L / 4) + 2 * r.val + x) % 64
    rw [congrFun e 1]; show 8 * (wid L / 4) + 2 * r.val + 1 * (x % 2) = _; omega
  | 2 => show k1_off2 L (BitVec.ofNat 32 (2 * r.val)) 2 + 1 * (k % 64) = k % 64; rw [congrFun e 2]; show 0 + 1 * (k % 64) = _; omega
  | 3 => show k1_off2 L (BitVec.ofNat 32 (2 * r.val)) 3 + 1 * (c % 256) = c % 256; rw [congrFun e 3]; show 0 + 1 * (c % 256) = _; omega

/-- A tile's scores are the scores of its rows and columns. -/
theorem score_eq (fg : Buf (Elt F) (gLoc d)) (flq : Buf (Elt F) (lqLoc d)) (r : Fin 4) (x c k : ℕ) (hx : x < 2) (hc : c < 256) :
    score (pairG d L fg r) (colsQ d L flq) x c k = gScore fg flq (8 * (wid L / 4) + 2 * r.val + x) (256 * (wid L % 4) + c) k := by
  unfold score gScore
  rw [pairG_at d L fg r x k c hx hc, colsQ_at d L flq k c hc]
  have e1 : (256 * (wid L % 4) + c) / 256 = wid L % 4 := by omega
  have e2 : (256 * (wid L % 4) + c) % 256 = c := by omega
  rw [e1, e2]

theorem best_eq (fg : Buf (Elt F) (gLoc d)) (flq : Buf (Elt F) (lqLoc d)) (r : Fin 4) (x c : ℕ) (hx : x < 2) (hc : c < 256) :
    bestAt (score (pairG d L fg r) (colsQ d L flq) x c) 63 = pick fg flq (8 * (wid L / 4) + 2 * r.val + x) (256 * (wid L % 4) + c) :=
  (bestAt_congr 63 fun k _ => score_eq d L fg flq r x c k hx hc).2

/-! ## One stored piece -/

/-- Sixteen lanes stored as a row of a block. -/
theorem lanes {α : Type} (v : S16.Idx → α) (y : S1x16.Idx) :
    shapeCast S1x16 v shapeCasts_S16_S1x16 y = v fun | 0 => (⟨(y 1).val, (y 1).isLt⟩ : Fin 16) | ⟨_ + 1, h⟩ => absurd h (Nat.not_lt.2 (Nat.le_add_left _ _)) := by
  refine shapeCast_apply (s := S16) _ _ y _ ?_
  refine (Shape.rowMajor_val_one _).trans (Eq.symm ((Shape.rowMajor_val_two y).trans ?_))
  have h0 : (y 0).val < 1 := (y 0).isLt
  show (y 0).val * 16 + (y 1).val = (y 1).val
  omega

theorem io_at (r cb : ℕ) (inb : ∀ a, (![r, cb] : Fin 2 → ℕ) a + S1x16.size a ≤ S8x256.size a) (y : S1x16.Idx) :
    (((Rect.unit (s := S64x1024) (k1_off195 L) S8x256.size (k1_off195_inb L)).emb ((Rect.unit (s := S8x256) ![r, cb] S1x16.size inb).emb y)) 0).val
        = 8 * (wid L / 4) + r
      ∧ (((Rect.unit (s := S64x1024) (k1_off195 L) S8x256.size (k1_off195_inb L)).emb ((Rect.unit (s := S8x256) ![r, cb] S1x16.size inb).emb y)) 1).val
        = 256 * (wid L % 4) + (cb + (y 1).val) := by
  have h0 : (y 0).val < 1 := (y 0).isLt
  refine ⟨?_, ?_⟩
  · show k1_off195 L 0 + 1 * (r + 1 * (y 0).val) = _
    rw [off195_eq]; show 8 * (wid L / 4) + 1 * (r + 1 * (y 0).val) = _; omega
  · show k1_off195 L 1 + 1 * (cb + 1 * (y 1).val) = _
    rw [off195_eq]; show 256 * (wid L % 4) + 1 * (cb + 1 * (y 1).val) = _; omega

/-- A stored piece of weights. -/
theorem pieceV (fg : Buf (Elt F) (gLoc d)) (flq : Buf (Elt F) (lqLoc d)) (flv : Buf (Elt F) (lvLoc d)) (jp : Fin 4) (x : ℕ) (hx : x < 2)
    (r cb : ℕ) (inb : ∀ a, (![r, cb] : Fin 2 → ℕ) a + S1x16.size a ≤ S8x256.size a) (w : S1x16.Idx → Elt F .f32)
    (hr : r = 2 * jp.val + x) (hcb : cb + 16 ≤ 256)
    (hw : w = shapeCast S1x16 (resV (pairG d L fg jp) (colsQ d L flq) (colsV d L flv) x cb 63) shapeCasts_S16_S1x16) :
    ∀ y, (⟨Rect.unit (s := S8x256) ![r, cb] S1x16.size inb, w⟩ : View.Piece (Elt F) S8x256 .f32).2 y
      = View.read (Elt F) (loS L).view (lvwOut fg flq flv) ((⟨Rect.unit (s := S8x256) ![r, cb] S1x16.size inb, w⟩ : View.Piece (Elt F) S8x256 .f32).1.emb y) := by
  intro y
  have hy : (y 1).val < 16 := (y 1).isLt
  obtain ⟨e0, e1⟩ := io_at L r cb inb y
  subst hw hr
  refine (lanes (α := F .f32) (resV (pairG d L fg jp) (colsQ d L flq) (colsV d L flv) x cb 63) y).trans ?_
  refine Eq.trans ?_ (congrArg₂ (fun a b => qAt flv (pick fg flq a b) b) e0 e1).symm
  show at2 (colsV d L flv) (bestAt (score (pairG d L fg jp) (colsQ d L flq) x (cb + (y 1).val)) 63) (cb + (y 1).val)
    = qAt flv (pick fg flq (8 * (wid L / 4) + (2 * jp.val + x)) (256 * (wid L % 4) + (cb + (y 1).val))) (256 * (wid L % 4) + (cb + (y 1).val))
  rw [best_eq d L fg flq jp x _ hx (by omega), colsV_at d L flv _ _ (by omega), Nat.add_assoc]

/-- A stored piece of places. -/
theorem pieceI (fg : Buf (Elt F) (gLoc d)) (flq : Buf (Elt F) (lqLoc d)) (jp : Fin 4) (x : ℕ) (hx : x < 2)
    (r cb : ℕ) (inb : ∀ a, (![r, cb] : Fin 2 → ℕ) a + S1x16.size a ≤ S8x256.size a) (w : S1x16.Idx → Elt F .i32)
    (hr : r = 2 * jp.val + x) (hcb : cb + 16 ≤ 256)
    (hw : w = shapeCast S1x16 (addi (muli (resW (pairG d L fg jp) (colsQ d L flq) x cb 63) (broadcast S16 1024#32))
      (addi (iota .scVector S16 32 [0] iota_S16_d0_w32_scVector) (broadcast S16 (Scalar.addi (BitVec.ofNat 32 cb) (Scalar.muli (bgW L) 256#32)))))
        shapeCasts_S16_S1x16) :
    ∀ y, (⟨Rect.unit (s := S8x256) ![r, cb] S1x16.size inb, w⟩ : View.Piece (Elt F) S8x256 .i32).2 y
      = View.read (Elt F) (ioS L).view (idxOut fg flq) ((⟨Rect.unit (s := S8x256) ![r, cb] S1x16.size inb, w⟩ : View.Piece (Elt F) S8x256 .i32).1.emb y) := by
  intro y
  have hy : (y 1).val < 16 := (y 1).isLt
  obtain ⟨e0, e1⟩ := io_at L r cb inb y
  subst hw hr
  refine (lanes (α := BitVec 32) (addi (muli (resW (pairG d L fg jp) (colsQ d L flq) x cb 63) (broadcast S16 1024#32))
      (addi (iota .scVector S16 32 [0] iota_S16_d0_w32_scVector) (broadcast S16 (Scalar.addi (BitVec.ofNat 32 cb) (Scalar.muli (bgW L) 256#32))))) y).trans ?_
  refine Eq.trans ?_ (congrArg₂ (fun a b => BitVec.ofNat 32 (1024 * pick fg flq a b + b)) e0 e1).symm
  show BitVec.ofNat 32 (bestAt (score (pairG d L fg jp) (colsQ d L flq) x (cb + (y 1).val)) 63) * 1024#32
      + (BitVec.ofNat 32 (0 * 16 + (y 1).val) + (BitVec.ofNat 32 cb + bgW L * 256#32))
    = BitVec.ofNat 32 (1024 * pick fg flq (8 * (wid L / 4) + (2 * jp.val + x)) (256 * (wid L % 4) + (cb + (y 1).val)) + (256 * (wid L % 4) + (cb + (y 1).val)))
  rw [best_eq d L fg flq jp x _ hx (by omega), bgW_eq, Nat.add_assoc]
  simp only [← BitVec.ofNat_add, ← BitVec.ofNat_mul]
  congr 1
  omega

end Cert.KernelIdeal.Whole

end
-- ==== Proof.CallsIdeal.lean ====
/- What the two SparseCore calls are handed and hand back: the arrays, the tiles' pieces of them, the results. -/
module

public import proofs.«01_k».proof.Proof.PiecesIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The gather's operands and buffers -/

abbrev xV : Memref sig Kind.scVector Space.hbm S65536x2x128 EltTy.f32 := Memref.whole main_v15_scv
abbrev iV : Memref sig Kind.scVector Space.hbm S512x128 EltTy.i32 := Memref.whole main_v16_scv
abbrev oV : Memref sig Kind.scVector Space.hbm S65536x2x128 EltTy.f32 := Memref.whole main_v17_scv
/-- A tile's list of indices and its two row buffers. -/
abbrev lV : Memref sig Kind.scVector Space.vmem S16x128 EltTy.i32 := Memref.whole cc3_scratch0
abbrev aV : Memref sig Kind.scVector Space.vmem S128x2x128 EltTy.f32 := Memref.whole cc3_scratch1
abbrev bV : Memref sig Kind.scVector Space.vmem S128x2x128 EltTy.f32 := Memref.whole cc3_scratch2

/-! ## What the gather computes -/

/-- The row a word names. -/
def rowOf (w : BitVec 32) : Fin 65536 := ⟨w.toNat % 65536, Nat.mod_lt _ (by decide)⟩

/-- The place of output row `n`'s index in the index array. -/
def placeOf (n : Fin 65536) : S512x128.Idx := fun
  | 0 => (⟨n.val / 128, by have := n.isLt; omega⟩ : Fin 512)
  | 1 => (⟨n.val % 128, Nat.mod_lt _ (by decide)⟩ : Fin 128)
  | ⟨_ + 2, h⟩ => absurd h (Nat.not_lt.2 (Nat.le_add_left _ _))

/-- Row `r` of the table at `p`'s other two coordinates. -/
def atRow (r : Fin 65536) (p : S65536x2x128.Idx) : S65536x2x128.Idx := fun
  | 0 => r
  | 1 => p 1
  | 2 => p 2
  | ⟨_ + 3, h⟩ => absurd h (Nat.not_lt.2 (Nat.le_add_left _ _))

/-- The rows of `X` that the words of `I` name, one output row a word. -/
def lookup {α : Type} (X : S65536x2x128.Idx → α) (I : S512x128.Idx → BitVec 32) : S65536x2x128.Idx → α :=
  fun p => X (atRow (rowOf (I (placeOf (p 0)))) p)

/-! ## Tiles and their pieces -/

abbrev cV (L : grid3.Coords) : Fin τ.nSC := (L 0).castLE hcore3
abbrev jV (L : grid3.Coords) : Fin τ.nSub := (L 1).castLE hsub3
abbrev VT (d : Dev nD) (L : grid3.Coords) : Thread nD τ := V d (cV L) (jV L)

/-- The tile's 16 rows of the index array. -/
abbrev iRows (L : grid3.Coords) : Memref sig .scVector .hbm S16x128 .i32 :=
  iV.slice (Rect.unit (s := S512x128) (k3_off1 L) S16x128.size (k3_off1_inb L)) (fun _ => rfl)
/-- Block `r` of the tile's part of the output: 128 rows. -/
abbrev oBlk (L : grid3.Coords) (r : Fin 16) : Memref sig .scVector .hbm S128x2x128 .f32 :=
  oV.slice (Rect.unit (s := S65536x2x128) (k3_off2 L (BitVec.ofNat 32 (128 * r.val))) S128x2x128.size (k3_off2_inb L r)) (fun _ => rfl)

abbrev iSet (L : grid3.Coords) : Finset S512x128.Idx := (iRows L).view.set
abbrev oSet (L : grid3.Coords) (r : Fin 16) : Finset S65536x2x128.Idx := (oBlk L r).view.set

/-- The coordinates of tile `s` of SparseCore `c`. -/
def tile (c : Fin 2) (s : Fin 16) : grid3.Coords :=
  fun | 0 => c | 1 => s | ⟨_ + 2, h⟩ => absurd h (Nat.not_lt.2 (Nat.le_add_left _ _))

/-- The number of a tile's `k`-th share of the table. -/
def shareIx (L : grid3.Coords) (k : Fin 2) : Fin 64 :=
  ⟨4 * (L 1).val + 2 * (L 0).val + k.val, by
    have h0 : (L 0).val < 2 := (L 0).isLt
    have h1 : (L 1).val < 16 := (L 1).isLt
    omega⟩
/-- The tile's two shares of the table, one for each gather in flight. -/
abbrev xq (L : grid3.Coords) (k : Fin 2) : PosShare TreeShare := pieceOf fullShare 64 (by decide) (shareIx L k)

/-! ## The argmax call's tiles -/

/-- The coordinates of tile `s` of SparseCore `c`. -/
def tile1 (c : Fin 2) (s : Fin 16) : grid1.Coords :=
  fun | 0 => c | 1 => s | ⟨_ + 2, h⟩ => absurd h (Nat.not_lt.2 (Nat.le_add_left _ _))

/-- The number of a tile's `k`-th share of the noise. -/
def shareIx1 (L : grid1.Coords) (k : Fin 2) : Fin 64 :=
  ⟨4 * (L 1).val + 2 * (L 0).val + k.val, by
    have h0 : (L 0).val < 2 := (L 0).isLt
    have h1 : (L 1).val < 16 := (L 1).isLt
    omega⟩
/-- The tile's two shares of the noise, one for each copy in flight, and its share of each table. -/
abbrev gq (L : grid1.Coords) (k : Fin 2) : PosShare TreeShare := pieceOf fullShare 64 (by decide) (shareIx1 L k)
abbrev tq (L : grid1.Coords) : PosShare TreeShare := pieceOf fullShare 32 (by decide) ⟨wid L, wid_lt L⟩

abbrev ioSet (L : grid1.Coords) : Finset S64x1024.Idx := (ioS L).view.set
abbrev loSet (L : grid1.Coords) : Finset S64x1024.Idx := (loS L).view.set

/-! ## What the handshakes carry -/

/-- What the arrays of the two calls hold when the calls start. -/
structure Args (F : FTy → Type) where
  g : (d : Dev nD) → Buf (Elt F) (gLoc d)
  lq : (d : Dev nD) → Buf (Elt F) (lqLoc d)
  lv : (d : Dev nD) → Buf (Elt F) (lvLoc d)
  io : (d : Dev nD) → Buf (Elt F) (idxLoc d)
  lo : (d : Dev nD) → Buf (Elt F) (lvwLoc d)
  x : (d : Dev nD) → Buf (Elt F) (xLoc d)
  i : (d : Dev nD) → Buf (Elt F) (iLoc d)
  o : (d : Dev nD) → Buf (Elt F) (oLoc d)

/-- The output of the gather when it ends. -/
def Args.out (A : Args F) (d : Dev nD) : Buf (Elt F) (oLoc d) :=
  lookup (α := Elt F .f32) (A.x d) (A.i d)

/-- Every index names a row of the table. -/
def Args.Ok (A : Args F) : Prop := ∀ (d : Dev nD) (j : S512x128.Idx), (show BitVec 32 from A.i d j).toNat < 65536

variable [FloatOps F] (A : Args F)

/-- The results of the argmax call when it ends. -/
def Args.places (A : Args F) (d : Dev nD) : Buf (Elt F) (idxLoc d) := idxOut (F := F) (A.g d) (A.lq d)
def Args.weights (A : Args F) (d : Dev nD) : Buf (Elt F) (lvwLoc d) := lvwOut (F := F) (A.g d) (A.lq d) (A.lv d)

/-- A tile's pieces of the argmax call, the results at contents `o` and `w`. -/
def pieces1 (d : Dev nD) (L : grid1.Coords) (o : Buf (Elt F) (idxLoc d)) (w : Buf (Elt F) (lvwLoc d)) : sProp 𝕄 :=
  iprop((gLoc d ↦{gq L 0} A.g d) ∗ (gLoc d ↦{gq L 1} A.g d) ∗ (lqLoc d ↦{tq L} A.lq d) ∗ (lvLoc d ↦{tq L} A.lv d)
    ∗ (idxLoc d ↦[ioSet L]{fullShare} o) ∗ lvwLoc d ↦[loSet L]{fullShare} w)

/-- A SparseCore's pieces: its tiles'. -/
def corePieces1 (d : Dev nD) (c : Fin 2) (o : Buf (Elt F) (idxLoc d)) (w : Buf (Elt F) (lvwLoc d)) : sProp 𝕄 :=
  bigSep Finset.univ fun s : Fin 16 => pieces1 A d (tile1 c s) o w

/-- A tile's pieces of the gather, the output at contents `o`. -/
def pieces (d : Dev nD) (L : grid3.Coords) (o : Buf (Elt F) (oLoc d)) : sProp 𝕄 :=
  iprop((iLoc d ↦[iSet L]{fullShare} A.i d) ∗ (xLoc d ↦{xq L 0} A.x d) ∗ (xLoc d ↦{xq L 1} A.x d)
    ∗ bigSep Finset.univ fun r : Fin 16 => oLoc d ↦[oSet L r]{fullShare} o)

/-- A SparseCore's pieces: its tiles'. -/
def corePieces (d : Dev nD) (c : Fin 2) (o : Buf (Elt F) (oLoc d)) : sProp 𝕄 :=
  bigSep Finset.univ fun s : Fin 16 => pieces A d (tile c s) o

instance pieces1_storable (d : Dev nD) (L : grid1.Coords) (o : Buf (Elt F) (idxLoc d)) (w : Buf (Elt F) (lvwLoc d)) :
    BI.Storable (upEmb : UEmb _ 𝕄) (pieces1 A d L o w) := by unfold pieces1; infer_instance
instance corePieces1_storable (d : Dev nD) (c : Fin 2) (o : Buf (Elt F) (idxLoc d)) (w : Buf (Elt F) (lvwLoc d)) :
    BI.Storable (upEmb : UEmb _ 𝕄) (corePieces1 A d c o w) := by unfold corePieces1; infer_instance
instance pieces_storable (d : Dev nD) (L : grid3.Coords) (o : Buf (Elt F) (oLoc d)) :
    BI.Storable (upEmb : UEmb _ 𝕄) (pieces A d L o) := by unfold pieces; infer_instance
instance corePieces_storable (d : Dev nD) (c : Fin 2) (o : Buf (Elt F) (oLoc d)) :
    BI.Storable (upEmb : UEmb _ 𝕄) (corePieces A d c o) := by unfold corePieces; infer_instance

def P : (K (F := F)).Pay (nD := nD) (Val := Elt F) (Name := ℕ) (U := UU) where
  st := fun q d c => match q with
    | 0 => corePieces1 A d (Fin.cast nCore_0 c) (A.io d) (A.lo d)
    | 1 => corePieces A d (Fin.cast nCore_1 c) (A.o d)
  dn := fun q d c => match q with
    | 0 => corePieces1 A d (Fin.cast nCore_0 c) (A.places d) (A.weights d)
    | 1 => corePieces A d (Fin.cast nCore_1 c) (A.out d)
  go := fun q d c i => match q with
    | 0 => pieces1 A d (tile1 (Fin.cast nCore_0 c) (Fin.cast nSub_0 i)) (A.io d) (A.lo d)
    | 1 => pieces A d (tile (Fin.cast nCore_1 c) (Fin.cast nSub_1 i)) (A.o d)
  td := fun q d c i => match q with
    | 0 => pieces1 A d (tile1 (Fin.cast nCore_0 c) (Fin.cast nSub_0 i)) (A.places d) (A.weights d)
    | 1 => pieces A d (tile (Fin.cast nCore_1 c) (Fin.cast nSub_1 i)) (A.out d)
  x := fun _ _ => iprop(emp)

instance P_storable : (P (F := F) A).IsStorable where
  st q d c := match q with | 0 => corePieces1_storable A d _ _ _ | 1 => corePieces_storable A d _ _
  dn q d c := match q with | 0 => corePieces1_storable A d _ _ _ | 1 => corePieces_storable A d _ _
  go q d c i := match q with | 0 => pieces1_storable A d _ _ _ | 1 => pieces_storable A d _ _
  td q d c i := match q with | 0 => pieces1_storable A d _ _ _ | 1 => pieces_storable A d _ _

end Cert.KernelIdeal.Whole

end
-- ==== Proof.TileIdeal.lean ====
/- One tile's run: it fetches its 16 rows of indices, then gathers the 16 blocks of 128 rows they name, two in flight at a
   time in two buffers, and copies each block out. -/
module

public import proofs.«01_k».proof.Proof.CallsIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (A : Args F) (d : Dev nD) (L : grid3.Coords)

/-! ## The list's rows -/

/-- Row `off` of the tile's list, as the body slices it. -/
abbrev lRow (off : Fin 2 → Nat) (h : ∀ a, off a + S1x128.size a ≤ S16x128.size a)
    (hq : (Rect.unit (s := S16x128) off S1x128.size h).shape.Squeezes S128) : Memref sig .scVector .vmem S128 .i32 :=
  (lV.slice (Rect.unit (s := S16x128) off S1x128.size h) (fun _ => rfl)).squeeze S128 hq

/-- What the fetch brings: the tile's rows of the index array. -/
abbrev fetched : S16x128.Idx → Elt F .i32 := View.read (Elt F) (iRows L).view (A.i d)

/-- A word of a list row, whatever the list held before the fetch, is the fetched word at its place. -/
theorem lRow_read (g : Buf (Elt F) (lV.view.loc (VT d L))) (pay : S16x128.Idx → Elt F .i32)
    (off : Fin 2 → Nat) (h : ∀ a, off a + S1x128.size a ≤ S16x128.size a)
    (hq : (Rect.unit (s := S16x128) off S1x128.size h).shape.Squeezes S128) (x : S128.Idx) :
    View.read (Elt F) (lRow off h hq).view (lV.view.writes (Elt F) g [⟨Rect.whole cc3_scratch0.ty.shape, pay⟩]) x
      = pay ((Rect.unit (s := S16x128) off S1x128.size h).emb ((Shape.reshapeEquiv hq.numel_eq) x)) := by
  have e : View.read (Elt F) (lRow off h hq).view (lV.view.writes (Elt F) g [⟨Rect.whole cc3_scratch0.ty.shape, pay⟩]) x
      = View.read (Elt F) lV.view (lV.view.writes (Elt F) g [⟨Rect.whole cc3_scratch0.ty.shape, pay⟩])
          ((Rect.unit (s := S16x128) off S1x128.size h).emb ((Shape.reshapeEquiv hq.numel_eq) x)) := by
    rw [View.read_apply, View.read_apply]; rfl
  rw [e]
  exact congrFun (View.read_writes_whole (v := lV.view) (f := g) (x := pay)) _

/-- Every word of a list row names a row of the table. -/
theorem lRow_inb (hok : A.Ok) (g : Buf (Elt F) (lV.view.loc (VT d L))) (pay : S16x128.Idx → Elt F .i32) (hpay : pay = fetched A d L)
    (off : Fin 2 → Nat) (h : ∀ a, off a + S1x128.size a ≤ S16x128.size a)
    (hq : (Rect.unit (s := S16x128) off S1x128.size h).shape.Squeezes S128) :
    ∀ x, (View.read (Elt F) (lRow off h hq).view (lV.view.writes (Elt F) g [⟨Rect.whole cc3_scratch0.ty.shape, pay⟩]) x).toNat
      < S65536x2x128.size gathers_S65536x2x128_S128x2x128.axis := by
  subst hpay; intro x
  rw [lRow_read]
  exact hok d _

/-- Two rows of the list do not meet. -/
theorem lRow_disjoint (j k : Nat) (hjk : j ≠ k) (hj hk hq hq') :
    Disjoint (lRow ![j, 0] hj hq).view.set (lRow ![k, 0] hk hq').view.set := by
  simp only [Memref.view, View.set_reshape, View.set_slice]
  refine (Finset.disjoint_map _).mpr (Rect.disjoint_of_separated _ _ 0 ?_)
  rcases Nat.lt_or_gt_of_ne hjk with h | h
  · exact .inl (.inr (by simp; omega))
  · exact .inr (.inr (by simp; omega))

/-! ## What a block's gather delivers -/

/-- Word `x` of row `r` of the fetched rows is the index of output row `128 r + x` of the tile. -/
theorem fetched_at (r : Fin 16) (h : ∀ a, (![r.val, 0] : Fin 2 → Nat) a + S1x128.size a ≤ S16x128.size a)
    (hq : (Rect.unit (s := S16x128) ![r.val, 0] S1x128.size h).shape.Squeezes S128) (x : S128.Idx) (y : S128x2x128.Idx)
    (hxy : (x 0).val = (y 0).val) :
    fetched A d L ((Rect.unit (s := S16x128) ![r.val, 0] S1x128.size h).emb ((Shape.reshapeEquiv hq.numel_eq) x))
      = A.i d (placeOf ((oBlk L r).view.emb y 0)) := by
  have hz : ((Shape.reshapeEquiv hq.numel_eq) x : (Rect.unit (s := S16x128) ![r.val, 0] S1x128.size h).shape.Idx)
      = (fun | 0 => (⟨0, by decide⟩ : Fin 1) | 1 => (⟨(x 0).val, (x 0).isLt⟩ : Fin 128) | ⟨_ + 2, h⟩ => absurd h (Nat.not_lt.2 (Nat.le_add_left _ _))) := by
    refine Shape.reshapeEquiv_eq_of_rowMajor _ ?_
    refine (Shape.rowMajor_val_two _).trans ((Shape.rowMajor_val_one x).trans ?_).symm
    show (x 0).val = 0 * 128 + (x 0).val
    omega
  rw [hz]
  show A.i d ((Rect.unit (s := S512x128) (k3_off1 L) S16x128.size (k3_off1_inb L)).emb _) = _
  refine congrArg (A.i d) (funext fun a => Fin.ext ?_)
  have hy : ((oBlk L r).view.emb y 0).val = k3_off2 L (BitVec.ofNat 32 (128 * r.val)) 0 + 1 * (y 0).val := rfl
  rw [k3_off2_eq] at hy
  have hy' : ((oBlk L r).view.emb y 0).val = 4096 * (L 1).val + 2048 * (L 0).val + 128 * r.val + (y 0).val := by
    rw [hy]; simp
  have hyl : (y 0).val < 128 := (y 0).isLt
  match a with
  | 0 =>
    show k3_off1 L 0 + 1 * (r.val + 1 * 0) = ((oBlk L r).view.emb y 0).val / 128
    rw [hy', k3_off1_eq]
    show 32 * (L 1).val + 16 * (L 0).val + 1 * (r.val + 1 * 0) = _
    omega
  | 1 =>
    show k3_off1 L 1 + 1 * (0 + 1 * (x 0).val) = ((oBlk L r).view.emb y 0).val % 128
    rw [hy', k3_off1_eq, hxy]
    show 0 + 1 * (0 + 1 * (y 0).val) = _
    omega

/-- The gather of block `r` delivers the block's rows of the output. -/
theorem payload_eq (r : Fin 16) (h : ∀ a, (![r.val, 0] : Fin 2 → Nat) a + S1x128.size a ≤ S16x128.size a)
    (hq : (Rect.unit (s := S16x128) ![r.val, 0] S1x128.size h).shape.Squeezes S128) (g : Buf (Elt F) (lV.view.loc (VT d L)))
    (hx : ∀ a, (![0, 0, 0] : Fin 3 → Nat) a + S65536x2x128.size a ≤ S65536x2x128.size a) (hn : S128.numel = S128x2x128.size gathers_S65536x2x128_S128x2x128.axis')
    (hin : ∀ x, (View.read (Elt F) (lRow ![r.val, 0] h hq).view (lV.view.writes (Elt F) g [⟨Rect.whole cc3_scratch0.ty.shape, fetched A d L⟩]) x).toNat
      < S65536x2x128.size gathers_S65536x2x128_S128x2x128.axis) :
    SparseCore.gatherPayload (F := F) (e := .f32) gathers_S65536x2x128_S128x2x128
        (View.read (Elt F) (xV.slice (Rect.unit (s := S65536x2x128) ![0, 0, 0] S65536x2x128.size hx) (fun _ => rfl)).view (A.x d))
        (SparseCore.rows (F := F) (View.read (Elt F) (lRow ![r.val, 0] h hq).view (lV.view.writes (Elt F) g [⟨Rect.whole cc3_scratch0.ty.shape, fetched A d L⟩])) hn hin)
      = View.read (Elt F) (oBlk L r).view (A.out d) := by
  funext y
  show A.x d ((Rect.unit (s := S65536x2x128) ![0, 0, 0] S65536x2x128.size hx).emb (gathers_S65536x2x128_S128x2x128.idx _ y))
    = A.x d (atRow (rowOf (A.i d (placeOf ((oBlk L r).view.emb y 0)))) ((oBlk L r).view.emb y))
  refine congrArg (A.x d) (funext fun a => Fin.ext ?_)
  rw [Rect.emb_apply]
  match a with
  | 0 =>
    show 0 + 1 * _ = (rowOf (A.i d (placeOf ((oBlk L r).view.emb y 0)))).val
    have e := Shape.Gathers.idx_axis gathers_S65536x2x128_S128x2x128
      (SparseCore.rows (F := F) (View.read (Elt F) (lRow ![r.val, 0] h hq).view (lV.view.writes (Elt F) g [⟨Rect.whole cc3_scratch0.ty.shape, fetched A d L⟩])) hn hin) y
    refine (congrArg (fun n : Nat => 0 + 1 * n) (congrArg Fin.val e)).trans ?_
    have hk := lRow_read (F := F) d L g (fetched A d L) ![r.val, 0] h hq
      (S128.rowMajor.symm ((y 0).cast hn.symm))
    have hv : ((S128.rowMajor.symm ((y 0).cast hn.symm)) 0).val = (y 0).val := by
      rw [← Shape.rowMajor_val_one]; exact congrArg Fin.val (S128.rowMajor.apply_symm_apply _)
    rw [fetched_at A d L r h hq _ y hv] at hk
    have hlt := hin (S128.rowMajor.symm ((y 0).cast hn.symm))
    rw [hk] at hlt
    show 0 + 1 * (View.read (Elt F) (lRow ![r.val, 0] h hq).view (lV.view.writes (Elt F) g [⟨Rect.whole cc3_scratch0.ty.shape, fetched A d L⟩])
      (S128.rowMajor.symm ((y 0).cast hn.symm))).toNat = _
    rw [hk]
    refine (Nat.zero_add _).trans ((Nat.one_mul _).trans ?_)
    exact (Nat.mod_eq_of_lt hlt).symm
  | 1 =>
    show 0 + 1 * (gathers_S65536x2x128_S128x2x128.idx _ y 1).val = ((oBlk L r).view.emb y 1).val
    rw [Shape.Gathers.idx_of_ne _ _ _ _ (by decide)]
    show 0 + 1 * (y 1).val = k3_off2 L (BitVec.ofNat 32 (128 * r.val)) 1 + 1 * (y 1).val
    rw [k3_off2_eq]; rfl
  | 2 =>
    show 0 + 1 * (gathers_S65536x2x128_S128x2x128.idx _ y 2).val = ((oBlk L r).view.emb y 2).val
    rw [Shape.Gathers.idx_of_ne _ _ _ _ (by decide)]
    show 0 + 1 * (y 2).val = k3_off2 L (BitVec.ofNat 32 (128 * r.val)) 2 + 1 * (y 2).val
    rw [k3_off2_eq]; rfl

/-- Contents that read alike through a view are alike on its elements. -/
theorem pts_of_read {sp : Space} {t : Shape} {e : EltTy} (v : View sig .scVector sp t e) (f g : Buf (Elt F) (v.loc (VT d L)))
    (q : PosShare TreeShare) (h : v.read (Elt F) f = v.read (Elt F) g) :
    (v.loc (VT d L) ↦[v.set]{q} f : sProp 𝕄) = v.loc (VT d L) ↦[v.set]{q} g := by
  refine pointsTo_congr fun i hi => ?_
  obtain ⟨y, -, rfl⟩ := Finset.mem_map.mp hi
  have := congrFun h y
  rw [View.read_apply, View.read_apply] at this
  exact (cast_inj _).mp this

/-! ## The cells -/

abbrev tsem (k : Nat) (hk : k < 30 := by decide) : DmaSem sig := ⟨k, hk⟩
abbrev dcell (d : Dev nD) (c : Fin τ.nSC) (i : Fin τ.nSub) (k : Fin 19) : GSem nD τ sig := (V d c i, .dma (tsem (11 + k.val) (by omega)))

variable [FloatOps F]

/-- The cells at zero. -/
abbrev cells0 (d : Dev nD) (L : grid3.Coords) : sProp 𝕄 :=
  bigSep Finset.univ fun k : Fin 19 => semVal (dcell d (cV L) (jV L) k) 0

/-- A family over nineteen, written out. -/
theorem bigSep_nineteen (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) := by
  rw [show (Finset.univ : Finset (Fin 19)) = {0, 1, 2, 3, 4, 5, 6, 7, 8, 9, 10, 11, 12, 13, 14, 15, 16, 17, 18} by decide]
  iterate 18 rw [SparseCore.bigSep_insert' (by decide)]
  rw [bigSep_singleton]
/-- A family over sixteen, written out. -/
theorem bigSep_sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

theorem cells0_eq : (cells0 d L : sProp 𝕄)
    = iprop(semVal (VT d L, SemLoc.dma (tsem 11)) 0 ∗ semVal (VT d L, SemLoc.dma (tsem 12)) 0 ∗ semVal (VT d L, SemLoc.dma (tsem 13)) 0
      ∗ semVal (VT d L, SemLoc.dma (tsem 14)) 0 ∗ semVal (VT d L, SemLoc.dma (tsem 15)) 0 ∗ semVal (VT d L, SemLoc.dma (tsem 16)) 0
      ∗ semVal (VT d L, SemLoc.dma (tsem 17)) 0 ∗ semVal (VT d L, SemLoc.dma (tsem 18)) 0 ∗ semVal (VT d L, SemLoc.dma (tsem 19)) 0
      ∗ semVal (VT d L, SemLoc.dma (tsem 20)) 0 ∗ semVal (VT d L, SemLoc.dma (tsem 21)) 0 ∗ semVal (VT d L, SemLoc.dma (tsem 22)) 0
      ∗ semVal (VT d L, SemLoc.dma (tsem 23)) 0 ∗ semVal (VT d L, SemLoc.dma (tsem 24)) 0 ∗ semVal (VT d L, SemLoc.dma (tsem 25)) 0
      ∗ semVal (VT d L, SemLoc.dma (tsem 26)) 0 ∗ semVal (VT d L, SemLoc.dma (tsem 27)) 0 ∗ semVal (VT d L, SemLoc.dma (tsem 28)) 0
      ∗ semVal (VT d L, SemLoc.dma (tsem 29)) 0) := bigSep_nineteen _

/-- The output's blocks of a tile, in the body's spelling. -/
theorem oBlks_eq (f : Buf (Elt F) (oLoc d)) : (bigSep Finset.univ fun r : Fin 16 => oLoc d ↦[oSet L r]{fullShare} f : sProp 𝕄)
    = iprop(((oBlk L 0).view.loc (VT d L) ↦[(oBlk L 0).view.set]{fullShare} f) ∗ ((oBlk L 1).view.loc (VT d L) ↦[(oBlk L 1).view.set]{fullShare} f)
      ∗ ((oBlk L 2).view.loc (VT d L) ↦[(oBlk L 2).view.set]{fullShare} f) ∗ ((oBlk L 3).view.loc (VT d L) ↦[(oBlk L 3).view.set]{fullShare} f)
      ∗ ((oBlk L 4).view.loc (VT d L) ↦[(oBlk L 4).view.set]{fullShare} f) ∗ ((oBlk L 5).view.loc (VT d L) ↦[(oBlk L 5).view.set]{fullShare} f)
      ∗ ((oBlk L 6).view.loc (VT d L) ↦[(oBlk L 6).view.set]{fullShare} f) ∗ ((oBlk L 7).view.loc (VT d L) ↦[(oBlk L 7).view.set]{fullShare} f)
      ∗ ((oBlk L 8).view.loc (VT d L) ↦[(oBlk L 8).view.set]{fullShare} f) ∗ ((oBlk L 9).view.loc (VT d L) ↦[(oBlk L 9).view.set]{fullShare} f)
      ∗ ((oBlk L 10).view.loc (VT d L) ↦[(oBlk L 10).view.set]{fullShare} f) ∗ ((oBlk L 11).view.loc (VT d L) ↦[(oBlk L 11).view.set]{fullShare} f)
      ∗ ((oBlk L 12).view.loc (VT d L) ↦[(oBlk L 12).view.set]{fullShare} f) ∗ ((oBlk L 13).view.loc (VT d L) ↦[(oBlk L 13).view.set]{fullShare} f)
      ∗ ((oBlk L 14).view.loc (VT d L) ↦[(oBlk L 14).view.set]{fullShare} f) ∗ ((oBlk L 15).view.loc (VT d L) ↦[(oBlk L 15).view.set]{fullShare} f)) := bigSep_sixteen _

theorem waits_insert' {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with rfl | hp
  · exact .inr rfl
  · exact h p hp

/-- Block `r`, copied out of a buffer that holds the rows its indices name. -/
theorem blk_out (r : Fin 16) (w : S128x2x128.Idx → Elt F .f32) (hw : w = View.read (Elt F) (oBlk L r).view (A.out d)) :
    ((oBlk L r).view.loc (VT d L) ↦[(oBlk L r).view.set]{fullShare}
        (oBlk L r).view.writes (Elt F) (A.o d) [⟨Rect.whole S128x2x128, w⟩] : sProp 𝕄)
      ⊢ (oBlk L r).view.loc (VT d L) ↦[(oBlk L r).view.set]{fullShare} A.out d :=
  Entails.of_eq (pts_of_read d L _ _ _ _ ((read_writes_top _ _ _ _).trans hw))

set_option maxRecDepth 16384 in
set_option maxHeartbeats 0 in
/-- The body run from the tile's pieces. -/
theorem tile_run (hok : A.Ok) (O : CellTallies nD τ sig (HIx 2)) (W : Waits sig (HIx 2))
    (g0 : Buf (Elt F) (lV.view.loc (VT d L))) (a0 : Buf (Elt F) (aV.view.loc (VT d L))) (b0 : Buf (Elt F) (bV.view.loc (VT d L))) :
    (iprop(Transfers.MayWaits (VT d L) (default : HIx 2) O
        ∗ ((iRows L).view.loc (VT d L) ↦[(iRows L).view.set]{fullShare} A.i d)
        ∗ (xV.view.loc (VT d L) ↦{xq L 0} A.x d)
        ∗ (xV.view.loc (VT d L) ↦{xq L 1} A.x d)
        ∗ (bigSep Finset.univ fun r : Fin 16 => oLoc d ↦[oSet L r]{fullShare} A.o d)
        ∗ (lV.view.loc (VT d L) ↦[lV.view.set]{fullShare} g0)
        ∗ (aV.view.loc (VT d L) ↦[aV.view.set]{fullShare} a0)
        ∗ (bV.view.loc (VT d L) ↦[bV.view.set]{fullShare} b0)
        ∗ cells0 d L
        ∗ owes (VT d L) O W) : sProp 𝕄)
      ⊢ wp frame (wpE (defs₀ (F := F)) 𝒱₀ (VT d L) none) Set.univ
          (cc3__gather_body L xV (Memref.isWhole_whole _) iV (Memref.isWhole_whole _) oV (Memref.isWhole_whole _)
            lV (Memref.isWhole_whole _) aV (Memref.isWhole_whole _) bV (Memref.isWhole_whole _) cc3_scratch3 cc3_scratch4
            cc3_scoped0 cc3_scoped1 cc3_scoped2 cc3_scoped3 cc3_scoped4 cc3_scoped5 cc3_scoped6 cc3_scoped7 cc3_scoped8
            cc3_scoped9 cc3_scoped10 cc3_scoped11 cc3_scoped12 cc3_scoped13 cc3_scoped14 cc3_scoped15 cc3_scoped16)
          fun _ => iprop(((iRows L).view.loc (VT d L) ↦[(iRows L).view.set]{fullShare} A.i d)
            ∗ (xV.view.loc (VT d L) ↦{xq L 0} A.x d)
            ∗ (xV.view.loc (VT d L) ↦{xq L 1} A.x d)
            ∗ (bigSep Finset.univ fun r : Fin 16 => oLoc d ↦[oSet L r]{fullShare} A.out d)
            ∗ (∃ g, lV.view.loc (VT d L) ↦[lV.view.set]{fullShare} g)
            ∗ (∃ g, aV.view.loc (VT d L) ↦[aV.view.set]{fullShare} g)
            ∗ (∃ g, bV.view.loc (VT d L) ↦[bV.view.set]{fullShare} g)
            ∗ cells0 d L
            ∗ ∃ W', ⌜∀ p ∈ W', p ∈ W ∨ p.2 = none⌝ ∗ owes (VT d L) O W') := by
  rw [cells0_eq, oBlks_eq]
  iintro ⟨#Hmw, HI, HX0, HX1, ⟨HO0, HO1, HO2, HO3, HO4, HO5, HO6, HO7, HO8, HO9, HO10, HO11, HO12, HO13, HO14, HO15⟩, HL, HA, HB,
    ⟨Hc0, Hc1, Hc2, Hc3, Hc4, Hc5, Hc6, Hc7, Hc8, Hc9, Hc10, Hc11, Hc12, Hc13, Hc14, Hc15, Hc16, Hc17, Hc18⟩, HO⟩
  have hdj := lRow_disjoint
  sl_unfold [cc3__gather_body, k3_part1, k3_part2, k3_part3, k3_part4, k3_part5, k3_part6, k3_part7, k3_part8, k3_part9]
  sl_exec
  have hin := fun g => lRow_inb A d L hok g (tile_run.sl.dma0 A d L) rfl
  sl_exec
  sl_step
  rw [oBlks_eq]
  isplitl [HI]; · iexact HI
  isplitl [HX0]; · iexact HX0
  isplitl [HX1]; · iexact HX1
  isplitl [HO0 HO1 HO2 HO3 HO4 HO5 HO6 HO7 HO8 HO9 HO10 HO11 HO12 HO13 HO14 HO15]
  · isplitl [HO0]; · iapply (blk_out A d L 0 (tile_run.sl.dma0_1 A d L a0 hin)
      ((read_writes_top aV.view a0 _ _).trans (payload_eq A d L 0 _ _ _ _ _ _))) $$ HO0
    isplitl [HO1]; · iapply (blk_out A d L 1 (tile_run.sl.dma0_2 A d L b0 hin)
      ((read_writes_top bV.view b0 _ _).trans (payload_eq A d L 1 _ _ _ _ _ _))) $$ HO1
    isplitl [HO2]; · iapply (blk_out A d L 2 (tile_run.sl.dma0_3 A d L a0 hin)
      ((read_writes_top aV.view a0 _ _).trans (payload_eq A d L 2 _ _ _ _ _ _))) $$ HO2
    isplitl [HO3]; · iapply (blk_out A d L 3 (tile_run.sl.dma0_4 A d L b0 hin)
      ((read_writes_top bV.view b0 _ _).trans (payload_eq A d L 3 _ _ _ _ _ _))) $$ HO3
    isplitl [HO4]; · iapply (blk_out A d L 4 (tile_run.sl.dma0_5 A d L a0 hin)
      ((read_writes_top aV.view a0 _ _).trans (payload_eq A d L 4 _ _ _ _ _ _))) $$ HO4
    isplitl [HO5]; · iapply (blk_out A d L 5 (tile_run.sl.dma0_6 A d L b0 hin)
      ((read_writes_top bV.view b0 _ _).trans (payload_eq A d L 5 _ _ _ _ _ _))) $$ HO5
    isplitl [HO6]; · iapply (blk_out A d L 6 (tile_run.sl.dma0_7 A d L a0 hin)
      ((read_writes_top aV.view a0 _ _).trans (payload_eq A d L 6 _ _ _ _ _ _))) $$ HO6
    isplitl [HO7]; · iapply (blk_out A d L 7 (tile_run.sl.dma0_8 A d L b0 hin)
      ((read_writes_top bV.view b0 _ _).trans (payload_eq A d L 7 _ _ _ _ _ _))) $$ HO7
    isplitl [HO8]; · iapply (blk_out A d L 8 (tile_run.sl.dma0_9 A d L a0 hin)
      ((read_writes_top aV.view a0 _ _).trans (payload_eq A d L 8 _ _ _ _ _ _))) $$ HO8
    isplitl [HO9]; · iapply (blk_out A d L 9 (tile_run.sl.dma0_10 A d L b0 hin)
      ((read_writes_top bV.view b0 _ _).trans (payload_eq A d L 9 _ _ _ _ _ _))) $$ HO9
    isplitl [HO10]; · iapply (blk_out A d L 10 (tile_run.sl.dma0_11 A d L a0 hin)
      ((read_writes_top aV.view a0 _ _).trans (payload_eq A d L 10 _ _ _ _ _ _))) $$ HO10
    isplitl [HO11]; · iapply (blk_out A d L 11 (tile_run.sl.dma0_12 A d L b0 hin)
      ((read_writes_top bV.view b0 _ _).trans (payload_eq A d L 11 _ _ _ _ _ _))) $$ HO11
    isplitl [HO12]; · iapply (blk_out A d L 12 (tile_run.sl.dma0_13 A d L a0 hin)
      ((read_writes_top aV.view a0 _ _).trans (payload_eq A d L 12 _ _ _ _ _ _))) $$ HO12
    isplitl [HO13]; · iapply (blk_out A d L 13 (tile_run.sl.dma0_14 A d L b0 hin)
      ((read_writes_top bV.view b0 _ _).trans (payload_eq A d L 13 _ _ _ _ _ _))) $$ HO13
    isplitl [HO14]; · iapply (blk_out A d L 14 (tile_run.sl.dma0_15 A d L a0 hin)
      ((read_writes_top aV.view a0 _ _).trans (payload_eq A d L 14 _ _ _ _ _ _))) $$ HO14
    iapply (blk_out A d L 15 (tile_run.sl.dma0_16 A d L b0 hin)
      ((read_writes_top bV.view b0 _ _).trans (payload_eq A d L 15 _ _ _ _ _ _))) $$ HO15
  isplitl [HL]; · iexists _; iexact HL
  isplitl [HA]; · iexists _; iexact HA
  isplitl [HB]; · iexists _; iexact HB
  isplitr [HO]
  · sl_close
  iexists _; isplitr; swap
  · iexact HO
  ipureintro
  iterate 33 refine waits_insert' _ ?_
  exact fun p hp => .inl hp

end Cert.KernelIdeal.Whole

end
-- ==== Proof.TaskIdeal.lean ====
/- What each tile of the gather is asked by the launch, met by its run. -/
module

public import proofs.«01_k».proof.Proof.TileIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (A : Args F) (d : Dev nD) (L : grid3.Coords)

omit [FloatOps F] in
theorem dcell_mem (c : Fin τ.nSC) (i : Fin τ.nSub) (k : Fin 19) : dcell d c i k ∈ ownCells (V d c i) :=
  mem_ownCells.mpr ⟨rfl, (show ∀ s : DmaSem sig, (SemLoc.dma s : SemLoc sig).isScoped .scVector = true by decide) _⟩

omit [FloatOps F] in
/-- A tile's cells at zero: the nineteen its body names and the rest. -/
theorem ownSems0_V :
    (ownSems0 (VT d L) : sProp 𝕄)
      = iprop((bigSep Finset.univ fun k : Fin 19 => semVal (dcell d (cV L) (jV L) k) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]

/-- A tile's three scratch buffers among its own. -/
abbrev s0 : DevRef τ sig := (Proc.scVector (cV L) (jV L)).devRef cc3_scratch0
abbrev s1 : DevRef τ sig := (Proc.scVector (cV L) (jV L)).devRef cc3_scratch1
abbrev s2 : DevRef τ sig := (Proc.scVector (cV L) (jV L)).devRef cc3_scratch2

omit [FloatOps F] in
theorem ownBufs_V :
    (ownBufs (VT d L) : sProp 𝕄)
      = iprop((∃ f, lV.view.loc (VT d L) ↦[lV.view.set]{fullShare} f) ∗ (∃ f, aV.view.loc (VT d L) ↦[aV.view.set]{fullShare} f)
          ∗ (∃ f, bV.view.loc (VT d L) ↦[bV.view.set]{fullShare} f)
          ∗ bigSep ((((ownRefs (τ := τ) (.scVector (cV L) (jV L))).erase (s0 L)).erase (s1 L)).erase (s2 L))
              fun b => iprop(∃ f, ((d, b) : Loc nD τ sig) ↦{fullShare} f)) := by
  have hl : lV.view.set = Finset.univ := View.set_whole _
  have ha : aV.view.set = Finset.univ := View.set_whole _
  have hb : bV.view.set = Finset.univ := View.set_whole _
  rw [hl, ha, hb]
  unfold SparseCore.Cfg.ownBufs
  have m0 : s0 L ∈ ownRefs (τ := τ) (.scVector (cV L) (jV L)) := SparseCore.Cfg.mem_ownRefs_of_owner rfl
  have m1 : s1 L ∈ ownRefs (τ := τ) (.scVector (cV L) (jV L)) := SparseCore.Cfg.mem_ownRefs_of_owner rfl
  have m2 : s2 L ∈ ownRefs (τ := τ) (.scVector (cV L) (jV L)) := SparseCore.Cfg.mem_ownRefs_of_owner rfl
  have n10 : s1 L ≠ s0 L := fun e => absurd (Proc.devRef_injective _ e) (show (cc3_scratch1 : Ref sig .scVector) ≠ cc3_scratch0 by decide)
  have n20 : s2 L ≠ s0 L := fun e => absurd (Proc.devRef_injective _ e) (show (cc3_scratch2 : Ref sig .scVector) ≠ cc3_scratch0 by decide)
  have n21 : s2 L ≠ s1 L := fun e => absurd (Proc.devRef_injective _ e) (show (cc3_scratch2 : Ref sig .scVector) ≠ cc3_scratch1 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-- The task on a tile, from what the launch hands it to what it hands back. -/
theorem tile_body (hF : (K (F := F)).Facts) (hok : A.Ok) (O : CellTallies nD τ sig (HIx 2)) (W : Waits sig (HIx 2)) (hO : ∀ g, O g none = 0) :
    iprop(levAts (K (F := F)).L (K (F := F)).lev ∗ emp ∗ pieces A d L (A.o d)
        ∗ scopedBufs (VT d L) ∗ scopedSems0 (VT d L) ∗ owes (VT d L) O W)
      ⊢ wp frame (wpE (defs₀ (F := F)) 𝒱₀ (VT d L) none) Set.univ
          (cc3__gather_body L xV (Memref.isWhole_whole _) iV (Memref.isWhole_whole _) oV (Memref.isWhole_whole _)
            lV (Memref.isWhole_whole _) aV (Memref.isWhole_whole _) bV (Memref.isWhole_whole _) cc3_scratch3 cc3_scratch4
            cc3_scoped0 cc3_scoped1 cc3_scoped2 cc3_scoped3 cc3_scoped4 cc3_scoped5 cc3_scoped6 cc3_scoped7 cc3_scoped8
            cc3_scoped9 cc3_scoped10 cc3_scoped11 cc3_scoped12 cc3_scoped13 cc3_scoped14 cc3_scoped15 cc3_scoped16)
          fun _ => iprop(pieces A d L (A.out d) ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  unfold pieces
  iintro ⟨#Hlv, -, ⟨HI, HX0, HX1, HOs⟩, ⟨⟨%g0, HL⟩, ⟨%a0, HA⟩, ⟨%b0, HB⟩, Hbufs⟩, ⟨HC, Hsems⟩, HO⟩
  ihave Hmw := (show levAts (K (F := F)).L (K (F := F)).lev ⊢ Transfers.MayWaits (VT d L) (default : HIx 2) O from
    (K (F := F)).mayWaits_none (thr := VT d L) hO) $$ Hlv
  iapply (wp_wand_r Idealize.ShloMosaic.frame (wpE (defs₀ (F := F)) 𝒱₀ (VT d L) none) Set.univ)
  isplitl [HI HX0 HX1 HOs HL HA HB HC HO]
  · iapply (tile_run A d L hok O W g0 a0 b0)
    isplitr; · iexact Hmw
    isplitl [HI]; · iexact HI
    isplitl [HX0]; · iexact HX0
    isplitl [HX1]; · iexact HX1
    isplitl [HOs]; · iexact HOs
    isplitl [HL]; · iexact HL
    isplitl [HA]; · iexact HA
    isplitl [HB]; · iexact HB
    isplitl [HC]; · iexact HC
    iexact HO
  iintro %_ ⟨HI, HX0, HX1, HOs, HL, HA, HB, HC, HO⟩
  isplitl [HI HX0 HX1 HOs]
  · isplitl [HI]; · iexact HI
    isplitl [HX0]; · iexact HX0
    isplitl [HX1]; · iexact HX1
    iexact HOs
  isplitl [HL HA HB Hbufs]
  · isplitl [HL]; · iexact HL
    isplitl [HA]; · iexact HA
    isplitl [HB]; · iexact HB
    iexact Hbufs
  isplitl [HC Hsems]
  · isplitl [HC]; · iexact HC
    iexact Hsems
  iexact HO

/-! ## The obligation -/

omit [FloatOps F] in
/-- The evidence of the waits, weakened to what the launch asks. -/
theorem waits_weaken (R R₁ R₂ : sProp 𝕄) {thr : Thread nD τ} {O : CellTallies nD τ sig (HIx 2)} {W : Waits sig (HIx 2)} (Z : Option (Fin 2) → Prop) :
    iprop(R ∗ R₁ ∗ R₂ ∗ ∃ W', ⌜∀ p ∈ W', p ∈ W ∨ p.2 = none⌝ ∗ owes thr O W')
      ⊢ (iprop(R ∗ R₁ ∗ R₂ ∗ ∃ W', ⌜∀ p ∈ W', p ∈ W ∨ p.2 = none ∨ Z p.2⌝ ∗ owes thr O W') : sProp 𝕄) := by
  iintro ⟨HR, HR₁, HR₂, %W', %hW, HO⟩
  isplitl [HR]; · iexact HR
  isplitl [HR₁]; · iexact HR₁
  isplitl [HR₂]; · iexact HR₂
  iexists W'; isplitr
  · ipureintro; exact fun p hp => (hW p hp).imp id .inl
  iexact HO

theorem defs₀_vector (c : Fin τ.nSC) (s : Fin τ.nSub) :
    defs₀ (F := F) (.scVector c s) 3 ()
      = SparseCore.onTile hcore3 hsub3 (fun c s => cc3__gather_body (tile c s)
          xV (Memref.isWhole_whole _) iV (Memref.isWhole_whole _) oV (Memref.isWhole_whole _)
          lV (Memref.isWhole_whole _) aV (Memref.isWhole_whole _) bV (Memref.isWhole_whole _) cc3_scratch3 cc3_scratch4
          cc3_scoped0 cc3_scoped1 cc3_scoped2 cc3_scoped3 cc3_scoped4 cc3_scoped5 cc3_scoped6 cc3_scoped7 cc3_scoped8
          cc3_scoped9 cc3_scoped10 cc3_scoped11 cc3_scoped12 cc3_scoped13 cc3_scoped14 cc3_scoped15 cc3_scoped16) ⟨⟩ c s := rfl

theorem tileObl (hok : A.Ok) : (K (F := F)).TileObl (D (F := F)) 𝒱 (P A) v₀ 1 := by
  intro d c i O W hO _ _
  simp only [show (P A).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine (tile_body A d (tile ⟨_, hci.1⟩ ⟨_, hci.2⟩) scFacts hok O W hO).trans (wp_mono _ _ _ fun _ => waits_weaken (F := F) _ _ _ _)

/-- A SparseCore's pieces are its tiles', before and after. -/
theorem vecSplit : (K (F := F)).VecSplit' (P A) 1 := by
  intro d c
  show corePieces A d (Fin.cast nCore_1 c) (A.o d) ⊢ |={Set.univ}=> iprop(corePieces A d (Fin.cast nCore_1 c) (A.o d)
      ∗ (corePieces A d (Fin.cast nCore_1 c) (A.out d) -∗ corePieces A d (Fin.cast nCore_1 c) (A.out d)))
  iintro H; imodintro
  isplitl [H]; · iexact H
  iintro H; iexact H

end Cert.KernelIdeal.Whole

end
-- ==== Proof.ArgmaxIdeal.lean ====
/- One tile's run of the argmax call: it fetches its columns of the two tables and its rows of the noise, two pairs of rows in
   flight at a time in two buffers, walks the candidates 16 columns at a time, and copies out the places and the weights. -/
module

public import proofs.«01_k».proof.Proof.PiecesIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (d : Dev nD) (L : grid1.Coords)

/-! ## The cells -/

abbrev csem (k : Nat) (hk : k < 30 := by decide) : DmaSem sig := ⟨k, hk⟩

/-- The cells of the call at zero. -/
abbrev cells1 : sProp 𝕄 :=
    iprop(semVal (VT1 d L, SemLoc.dma (csem 3)) 0 ∗ semVal (VT1 d L, SemLoc.dma (csem 4)) 0 ∗ semVal (VT1 d L, SemLoc.dma (csem 5)) 0
      ∗ semVal (VT1 d L, SemLoc.dma (csem 6)) 0 ∗ semVal (VT1 d L, SemLoc.dma (csem 7)) 0 ∗ semVal (VT1 d L, SemLoc.dma (csem 8)) 0)
theorem waits_insert {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with rfl | hp
  · exact .inr rfl
  · exact h p hp

/-- The tile's block of a result, written with what the result is there. -/
theorem pts_of_read1 {sp : Space} {t : Shape} {e : EltTy} (v : View sig .scVector sp t e) (f g : Buf (Elt F) (v.loc (VT1 d L)))
    (q : PosShare TreeShare) (h : v.read (Elt F) f = v.read (Elt F) g) :
    (v.loc (VT1 d L) ↦[v.set]{q} f : sProp 𝕄) = v.loc (VT1 d L) ↦[v.set]{q} g := by
  refine pointsTo_congr fun i hi => ?_
  obtain ⟨y, -, rfl⟩ := Finset.mem_map.mp hi
  have := congrFun h y
  rw [View.read_apply, View.read_apply] at this
  exact (cast_inj _).mp this

set_option maxRecDepth 16384 in
set_option maxHeartbeats 0 in
/-- The body run from the tile's pieces. -/
theorem tile_run1 (O : CellTallies nD τ sig (HIx 2)) (W : Waits sig (HIx 2)) (q1 q2 q3 q4 : PosShare TreeShare)
    (fg : Buf (Elt F) (gLoc d)) (flq : Buf (Elt F) (lqLoc d)) (flv : Buf (Elt F) (lvLoc d)) (fi : Buf (Elt F) (idxLoc d)) (fo : Buf (Elt F) (lvwLoc d))
    (b0 : Buf (Elt F) (lqB.view.loc (VT1 d L))) (b1 : Buf (Elt F) (lvB.view.loc (VT1 d L))) (b2 : Buf (Elt F) (gaB.view.loc (VT1 d L)))
    (b3 : Buf (Elt F) (gbB.view.loc (VT1 d L))) (b4 : Buf (Elt F) (ixB.view.loc (VT1 d L))) (b5 : Buf (Elt F) (lwB.view.loc (VT1 d L))) :
    (iprop(Transfers.MayWaits (VT1 d L) (default : HIx 2) O
        ∗ (gV.view.loc (VT1 d L) ↦{q1} fg)
        ∗ (gV.view.loc (VT1 d L) ↦{q4} fg)
        ∗ (lqV.view.loc (VT1 d L) ↦{q2} flq)
        ∗ (lvV.view.loc (VT1 d L) ↦{q3} flv)
        ∗ ((ioS L).view.loc (VT1 d L) ↦[(ioS L).view.set]{fullShare} fi)
        ∗ ((loS L).view.loc (VT1 d L) ↦[(loS L).view.set]{fullShare} fo)
        ∗ (lqB.view.loc (VT1 d L) ↦[lqB.view.set]{fullShare} b0)
        ∗ (lvB.view.loc (VT1 d L) ↦[lvB.view.set]{fullShare} b1)
        ∗ (gaB.view.loc (VT1 d L) ↦[gaB.view.set]{fullShare} b2)
        ∗ (gbB.view.loc (VT1 d L) ↦[gbB.view.set]{fullShare} b3)
        ∗ (ixB.view.loc (VT1 d L) ↦[ixB.view.set]{fullShare} b4)
        ∗ (lwB.view.loc (VT1 d L) ↦[lwB.view.set]{fullShare} b5)
        ∗ cells1 d L
        ∗ owes (VT1 d L) O W) : sProp 𝕄)
      ⊢ wp frame (wpE (defs₀ (F := F)) 𝒱₀ (VT1 d L) none) Set.univ
          (cc1__argmax_body L gV (Memref.isWhole_whole _) lqV (Memref.isWhole_whole _) lvV (Memref.isWhole_whole _)
            ioV (Memref.isWhole_whole _) loV (Memref.isWhole_whole _)
            lqB (Memref.isWhole_whole _) lvB (Memref.isWhole_whole _) gaB (Memref.isWhole_whole _) gbB (Memref.isWhole_whole _)
            ixB (Memref.isWhole_whole _) lwB (Memref.isWhole_whole _)
            cc1_scratch6 cc1_scratch7 cc1_scoped0 cc1_scoped1 cc1_scoped2 cc1_scoped3)
          fun _ => iprop((gV.view.loc (VT1 d L) ↦{q1} fg)
            ∗ (gV.view.loc (VT1 d L) ↦{q4} fg)
            ∗ (lqV.view.loc (VT1 d L) ↦{q2} flq)
            ∗ (lvV.view.loc (VT1 d L) ↦{q3} flv)
            ∗ ((ioS L).view.loc (VT1 d L) ↦[(ioS L).view.set]{fullShare} (idxOut fg flq : Buf (Elt F) (idxLoc d)))
            ∗ ((loS L).view.loc (VT1 d L) ↦[(loS L).view.set]{fullShare} (lvwOut fg flq flv : Buf (Elt F) (lvwLoc d)))
            ∗ (∃ g, lqB.view.loc (VT1 d L) ↦[lqB.view.set]{fullShare} g)
            ∗ (∃ g, lvB.view.loc (VT1 d L) ↦[lvB.view.set]{fullShare} g)
            ∗ (∃ g, gaB.view.loc (VT1 d L) ↦[gaB.view.set]{fullShare} g)
            ∗ (∃ g, gbB.view.loc (VT1 d L) ↦[gbB.view.set]{fullShare} g)
            ∗ (∃ g, ixB.view.loc (VT1 d L) ↦[ixB.view.set]{fullShare} g)
            ∗ (∃ g, lwB.view.loc (VT1 d L) ↦[lwB.view.set]{fullShare} g)
            ∗ cells1 d L
            ∗ ∃ W', ⌜∀ p ∈ W', p ∈ W ∨ p.2 = none⌝ ∗ owes (VT1 d L) O W') := by
  iintro ⟨#Hmw, HG, HG', HLQ, HLV, HIO, HLO, HB0, HB1, HB2, HB3, HB4, HB5, ⟨Hc3, Hc4, Hc5, Hc6, Hc7, Hc8⟩, HO⟩
  sl_unfold [cc1__argmax_body]
  sl_exec
  iterate 16
    iapply (wp_scan d L gaB _ ?_ _ _ _ _ _ ?_ _ _ _ _ _ _ (hb := ?_)
      (eL := ?_) (eA := ?_) (eB := ?_) (hG := ?_) (hQ := ?_) (hV := ?_)
      (hi0 := ?_) (hi1 := ?_) (hi2 := ?_) (hi3 := ?_) (hi4 := ?_) (hi5 := ?_)) $$ [HB0 HB1 HB2]
    rotate_left 15
    · isplitl [HB0]; · iexact HB0
      isplitl [HB1]; · iexact HB1
      iexact HB2
    rotate_right 15
    -- the body of the loop, then where it reads
    on_goal 3 => intro k ⟨a0, a1, a2, a3, a4, a5⟩; rfl
    on_goal 3 => first
        | (with_reducible exact k1_off3_eq) | (with_reducible exact k1_off6_eq) | (with_reducible exact k1_off9_eq)
        | (with_reducible exact k1_off12_eq) | (with_reducible exact k1_off15_eq) | (with_reducible exact k1_off18_eq)
        | (with_reducible exact k1_off21_eq) | (with_reducible exact k1_off24_eq) | (with_reducible exact k1_off27_eq)
        | (with_reducible exact k1_off30_eq) | (with_reducible exact k1_off33_eq) | (with_reducible exact k1_off36_eq)
        | (with_reducible exact k1_off39_eq) | (with_reducible exact k1_off42_eq) | (with_reducible exact k1_off45_eq)
        | (with_reducible exact k1_off48_eq) | (with_reducible exact k1_off51_eq) | (with_reducible exact k1_off54_eq)
        | (with_reducible exact k1_off57_eq) | (with_reducible exact k1_off60_eq) | (with_reducible exact k1_off63_eq)
        | (with_reducible exact k1_off66_eq) | (with_reducible exact k1_off69_eq) | (with_reducible exact k1_off72_eq)
        | (with_reducible exact k1_off75_eq) | (with_reducible exact k1_off78_eq) | (with_reducible exact k1_off81_eq)
        | (with_reducible exact k1_off84_eq) | (with_reducible exact k1_off87_eq) | (with_reducible exact k1_off90_eq)
        | (with_reducible exact k1_off93_eq) | (with_reducible exact k1_off96_eq) | (with_reducible exact k1_off99_eq)
        | (with_reducible exact k1_off102_eq) | (with_reducible exact k1_off105_eq) | (with_reducible exact k1_off108_eq)
        | (with_reducible exact k1_off111_eq) | (with_reducible exact k1_off114_eq) | (with_reducible exact k1_off117_eq)
        | (with_reducible exact k1_off120_eq) | (with_reducible exact k1_off123_eq) | (with_reducible exact k1_off126_eq)
        | (with_reducible exact k1_off129_eq) | (with_reducible exact k1_off132_eq) | (with_reducible exact k1_off135_eq)
        | (with_reducible exact k1_off138_eq) | (with_reducible exact k1_off141_eq) | (with_reducible exact k1_off144_eq)
        | (with_reducible exact k1_off147_eq) | (with_reducible exact k1_off150_eq) | (with_reducible exact k1_off153_eq)
        | (with_reducible exact k1_off156_eq) | (with_reducible exact k1_off159_eq) | (with_reducible exact k1_off162_eq)
        | (with_reducible exact k1_off165_eq) | (with_reducible exact k1_off168_eq) | (with_reducible exact k1_off171_eq)
        | (with_reducible exact k1_off174_eq) | (with_reducible exact k1_off177_eq) | (with_reducible exact k1_off180_eq)
        | (with_reducible exact k1_off183_eq) | (with_reducible exact k1_off186_eq) | (with_reducible exact k1_off189_eq)
        | (with_reducible exact k1_off192_eq)
    on_goal 3 => decide +kernel
    on_goal 3 => decide +kernel
    on_goal 1 => decide
    on_goal 1 => decide
    -- what the buffers hold, then what the round starts from
    on_goal 1 => exact read_writes_top _ _ _ _
    on_goal 1 => exact read_writes_top _ _ _ _
    on_goal 1 => exact read_writes_top _ _ _ _
    on_goal 1 => exact Eq.trans (startM gaB 0 _ (by decide) (by decide) _ _ _ _) (resM_congr (read_writes_top _ _ _ _) (read_writes_top _ _ _ _))
    on_goal 1 => rfl
    on_goal 1 => exact Eq.trans (startV (F := F) _ (by decide) _ _ 0 _ _) (resV_congr (read_writes_top _ _ _ _))
    on_goal 1 => exact Eq.trans (startM gaB 1 _ (by decide) (by decide) _ _ _ _) (resM_congr (read_writes_top _ _ _ _) (read_writes_top _ _ _ _))
    on_goal 1 => rfl
    on_goal 1 => exact Eq.trans (startV (F := F) _ (by decide) _ _ 1 _ _) (resV_congr (read_writes_top _ _ _ _))
    iintro ⟨HB0, HB1, HB2⟩
    sl_exec
  iterate 16
    iapply (wp_scan d L gbB _ ?_ _ _ _ _ _ ?_ _ _ _ _ _ _ (hb := ?_)
      (eL := ?_) (eA := ?_) (eB := ?_) (hG := ?_) (hQ := ?_) (hV := ?_)
      (hi0 := ?_) (hi1 := ?_) (hi2 := ?_) (hi3 := ?_) (hi4 := ?_) (hi5 := ?_)) $$ [HB0 HB1 HB3]
    rotate_left 15
    · isplitl [HB0]; · iexact HB0
      isplitl [HB1]; · iexact HB1
      iexact HB3
    rotate_right 15
    -- the body of the loop, then where it reads
    on_goal 3 => intro k ⟨a0, a1, a2, a3, a4, a5⟩; rfl
    on_goal 3 => first
        | (with_reducible exact k1_off3_eq) | (with_reducible exact k1_off6_eq) | (with_reducible exact k1_off9_eq)
        | (with_reducible exact k1_off12_eq) | (with_reducible exact k1_off15_eq) | (with_reducible exact k1_off18_eq)
        | (with_reducible exact k1_off21_eq) | (with_reducible exact k1_off24_eq) | (with_reducible exact k1_off27_eq)
        | (with_reducible exact k1_off30_eq) | (with_reducible exact k1_off33_eq) | (with_reducible exact k1_off36_eq)
        | (with_reducible exact k1_off39_eq) | (with_reducible exact k1_off42_eq) | (with_reducible exact k1_off45_eq)
        | (with_reducible exact k1_off48_eq) | (with_reducible exact k1_off51_eq) | (with_reducible exact k1_off54_eq)
        | (with_reducible exact k1_off57_eq) | (with_reducible exact k1_off60_eq) | (with_reducible exact k1_off63_eq)
        | (with_reducible exact k1_off66_eq) | (with_reducible exact k1_off69_eq) | (with_reducible exact k1_off72_eq)
        | (with_reducible exact k1_off75_eq) | (with_reducible exact k1_off78_eq) | (with_reducible exact k1_off81_eq)
        | (with_reducible exact k1_off84_eq) | (with_reducible exact k1_off87_eq) | (with_reducible exact k1_off90_eq)
        | (with_reducible exact k1_off93_eq) | (with_reducible exact k1_off96_eq) | (with_reducible exact k1_off99_eq)
        | (with_reducible exact k1_off102_eq) | (with_reducible exact k1_off105_eq) | (with_reducible exact k1_off108_eq)
        | (with_reducible exact k1_off111_eq) | (with_reducible exact k1_off114_eq) | (with_reducible exact k1_off117_eq)
        | (with_reducible exact k1_off120_eq) | (with_reducible exact k1_off123_eq) | (with_reducible exact k1_off126_eq)
        | (with_reducible exact k1_off129_eq) | (with_reducible exact k1_off132_eq) | (with_reducible exact k1_off135_eq)
        | (with_reducible exact k1_off138_eq) | (with_reducible exact k1_off141_eq) | (with_reducible exact k1_off144_eq)
        | (with_reducible exact k1_off147_eq) | (with_reducible exact k1_off150_eq) | (with_reducible exact k1_off153_eq)
        | (with_reducible exact k1_off156_eq) | (with_reducible exact k1_off159_eq) | (with_reducible exact k1_off162_eq)
        | (with_reducible exact k1_off165_eq) | (with_reducible exact k1_off168_eq) | (with_reducible exact k1_off171_eq)
        | (with_reducible exact k1_off174_eq) | (with_reducible exact k1_off177_eq) | (with_reducible exact k1_off180_eq)
        | (with_reducible exact k1_off183_eq) | (with_reducible exact k1_off186_eq) | (with_reducible exact k1_off189_eq)
        | (with_reducible exact k1_off192_eq)
    on_goal 3 => decide +kernel
    on_goal 3 => decide +kernel
    on_goal 1 => decide
    on_goal 1 => decide
    -- what the buffers hold, then what the round starts from
    on_goal 1 => exact read_writes_top _ _ _ _
    on_goal 1 => exact read_writes_top _ _ _ _
    on_goal 1 => exact read_writes_top _ _ _ _
    on_goal 1 => exact Eq.trans (startM gbB 0 _ (by decide) (by decide) _ _ _ _) (resM_congr (read_writes_top _ _ _ _) (read_writes_top _ _ _ _))
    on_goal 1 => rfl
    on_goal 1 => exact Eq.trans (startV (F := F) _ (by decide) _ _ 0 _ _) (resV_congr (read_writes_top _ _ _ _))
    on_goal 1 => exact Eq.trans (startM gbB 1 _ (by decide) (by decide) _ _ _ _) (resM_congr (read_writes_top _ _ _ _) (read_writes_top _ _ _ _))
    on_goal 1 => rfl
    on_goal 1 => exact Eq.trans (startV (F := F) _ (by decide) _ _ 1 _ _) (resV_congr (read_writes_top _ _ _ _))
    iintro ⟨HB0, HB1, HB3⟩
    sl_exec
  iterate 16
    iapply (wp_scan d L gaB _ ?_ _ _ _ _ _ ?_ _ _ _ _ _ _ (hb := ?_)
      (eL := ?_) (eA := ?_) (eB := ?_) (hG := ?_) (hQ := ?_) (hV := ?_)
      (hi0 := ?_) (hi1 := ?_) (hi2 := ?_) (hi3 := ?_) (hi4 := ?_) (hi5 := ?_)) $$ [HB0 HB1 HB2]
    rotate_left 15
    · isplitl [HB0]; · iexact HB0
      isplitl [HB1]; · iexact HB1
      iexact HB2
    rotate_right 15
    -- the body of the loop, then where it reads
    on_goal 3 => intro k ⟨a0, a1, a2, a3, a4, a5⟩; rfl
    on_goal 3 => first
        | (with_reducible exact k1_off3_eq) | (with_reducible exact k1_off6_eq) | (with_reducible exact k1_off9_eq)
        | (with_reducible exact k1_off12_eq) | (with_reducible exact k1_off15_eq) | (with_reducible exact k1_off18_eq)
        | (with_reducible exact k1_off21_eq) | (with_reducible exact k1_off24_eq) | (with_reducible exact k1_off27_eq)
        | (with_reducible exact k1_off30_eq) | (with_reducible exact k1_off33_eq) | (with_reducible exact k1_off36_eq)
        | (with_reducible exact k1_off39_eq) | (with_reducible exact k1_off42_eq) | (with_reducible exact k1_off45_eq)
        | (with_reducible exact k1_off48_eq) | (with_reducible exact k1_off51_eq) | (with_reducible exact k1_off54_eq)
        | (with_reducible exact k1_off57_eq) | (with_reducible exact k1_off60_eq) | (with_reducible exact k1_off63_eq)
        | (with_reducible exact k1_off66_eq) | (with_reducible exact k1_off69_eq) | (with_reducible exact k1_off72_eq)
        | (with_reducible exact k1_off75_eq) | (with_reducible exact k1_off78_eq) | (with_reducible exact k1_off81_eq)
        | (with_reducible exact k1_off84_eq) | (with_reducible exact k1_off87_eq) | (with_reducible exact k1_off90_eq)
        | (with_reducible exact k1_off93_eq) | (with_reducible exact k1_off96_eq) | (with_reducible exact k1_off99_eq)
        | (with_reducible exact k1_off102_eq) | (with_reducible exact k1_off105_eq) | (with_reducible exact k1_off108_eq)
        | (with_reducible exact k1_off111_eq) | (with_reducible exact k1_off114_eq) | (with_reducible exact k1_off117_eq)
        | (with_reducible exact k1_off120_eq) | (with_reducible exact k1_off123_eq) | (with_reducible exact k1_off126_eq)
        | (with_reducible exact k1_off129_eq) | (with_reducible exact k1_off132_eq) | (with_reducible exact k1_off135_eq)
        | (with_reducible exact k1_off138_eq) | (with_reducible exact k1_off141_eq) | (with_reducible exact k1_off144_eq)
        | (with_reducible exact k1_off147_eq) | (with_reducible exact k1_off150_eq) | (with_reducible exact k1_off153_eq)
        | (with_reducible exact k1_off156_eq) | (with_reducible exact k1_off159_eq) | (with_reducible exact k1_off162_eq)
        | (with_reducible exact k1_off165_eq) | (with_reducible exact k1_off168_eq) | (with_reducible exact k1_off171_eq)
        | (with_reducible exact k1_off174_eq) | (with_reducible exact k1_off177_eq) | (with_reducible exact k1_off180_eq)
        | (with_reducible exact k1_off183_eq) | (with_reducible exact k1_off186_eq) | (with_reducible exact k1_off189_eq)
        | (with_reducible exact k1_off192_eq)
    on_goal 3 => decide +kernel
    on_goal 3 => decide +kernel
    on_goal 1 => decide
    on_goal 1 => decide
    -- what the buffers hold, then what the round starts from
    on_goal 1 => exact read_writes_top _ _ _ _
    on_goal 1 => exact read_writes_top _ _ _ _
    on_goal 1 => exact read_writes_top _ _ _ _
    on_goal 1 => exact Eq.trans (startM gaB 0 _ (by decide) (by decide) _ _ _ _) (resM_congr (read_writes_top _ _ _ _) (read_writes_top _ _ _ _))
    on_goal 1 => rfl
    on_goal 1 => exact Eq.trans (startV (F := F) _ (by decide) _ _ 0 _ _) (resV_congr (read_writes_top _ _ _ _))
    on_goal 1 => exact Eq.trans (startM gaB 1 _ (by decide) (by decide) _ _ _ _) (resM_congr (read_writes_top _ _ _ _) (read_writes_top _ _ _ _))
    on_goal 1 => rfl
    on_goal 1 => exact Eq.trans (startV (F := F) _ (by decide) _ _ 1 _ _) (resV_congr (read_writes_top _ _ _ _))
    iintro ⟨HB0, HB1, HB2⟩
    sl_exec
  iterate 16
    iapply (wp_scan d L gbB _ ?_ _ _ _ _ _ ?_ _ _ _ _ _ _ (hb := ?_)
      (eL := ?_) (eA := ?_) (eB := ?_) (hG := ?_) (hQ := ?_) (hV := ?_)
      (hi0 := ?_) (hi1 := ?_) (hi2 := ?_) (hi3 := ?_) (hi4 := ?_) (hi5 := ?_)) $$ [HB0 HB1 HB3]
    rotate_left 15
    · isplitl [HB0]; · iexact HB0
      isplitl [HB1]; · iexact HB1
      iexact HB3
    rotate_right 15
    -- the body of the loop, then where it reads
    on_goal 3 => intro k ⟨a0, a1, a2, a3, a4, a5⟩; rfl
    on_goal 3 => first
        | (with_reducible exact k1_off3_eq) | (with_reducible exact k1_off6_eq) | (with_reducible exact k1_off9_eq)
        | (with_reducible exact k1_off12_eq) | (with_reducible exact k1_off15_eq) | (with_reducible exact k1_off18_eq)
        | (with_reducible exact k1_off21_eq) | (with_reducible exact k1_off24_eq) | (with_reducible exact k1_off27_eq)
        | (with_reducible exact k1_off30_eq) | (with_reducible exact k1_off33_eq) | (with_reducible exact k1_off36_eq)
        | (with_reducible exact k1_off39_eq) | (with_reducible exact k1_off42_eq) | (with_reducible exact k1_off45_eq)
        | (with_reducible exact k1_off48_eq) | (with_reducible exact k1_off51_eq) | (with_reducible exact k1_off54_eq)
        | (with_reducible exact k1_off57_eq) | (with_reducible exact k1_off60_eq) | (with_reducible exact k1_off63_eq)
        | (with_reducible exact k1_off66_eq) | (with_reducible exact k1_off69_eq) | (with_reducible exact k1_off72_eq)
        | (with_reducible exact k1_off75_eq) | (with_reducible exact k1_off78_eq) | (with_reducible exact k1_off81_eq)
        | (with_reducible exact k1_off84_eq) | (with_reducible exact k1_off87_eq) | (with_reducible exact k1_off90_eq)
        | (with_reducible exact k1_off93_eq) | (with_reducible exact k1_off96_eq) | (with_reducible exact k1_off99_eq)
        | (with_reducible exact k1_off102_eq) | (with_reducible exact k1_off105_eq) | (with_reducible exact k1_off108_eq)
        | (with_reducible exact k1_off111_eq) | (with_reducible exact k1_off114_eq) | (with_reducible exact k1_off117_eq)
        | (with_reducible exact k1_off120_eq) | (with_reducible exact k1_off123_eq) | (with_reducible exact k1_off126_eq)
        | (with_reducible exact k1_off129_eq) | (with_reducible exact k1_off132_eq) | (with_reducible exact k1_off135_eq)
        | (with_reducible exact k1_off138_eq) | (with_reducible exact k1_off141_eq) | (with_reducible exact k1_off144_eq)
        | (with_reducible exact k1_off147_eq) | (with_reducible exact k1_off150_eq) | (with_reducible exact k1_off153_eq)
        | (with_reducible exact k1_off156_eq) | (with_reducible exact k1_off159_eq) | (with_reducible exact k1_off162_eq)
        | (with_reducible exact k1_off165_eq) | (with_reducible exact k1_off168_eq) | (with_reducible exact k1_off171_eq)
        | (with_reducible exact k1_off174_eq) | (with_reducible exact k1_off177_eq) | (with_reducible exact k1_off180_eq)
        | (with_reducible exact k1_off183_eq) | (with_reducible exact k1_off186_eq) | (with_reducible exact k1_off189_eq)
        | (with_reducible exact k1_off192_eq)
    on_goal 3 => decide +kernel
    on_goal 3 => decide +kernel
    on_goal 1 => decide
    on_goal 1 => decide
    -- what the buffers hold, then what the round starts from
    on_goal 1 => exact read_writes_top _ _ _ _
    on_goal 1 => exact read_writes_top _ _ _ _
    on_goal 1 => exact read_writes_top _ _ _ _
    on_goal 1 => exact Eq.trans (startM gbB 0 _ (by decide) (by decide) _ _ _ _) (resM_congr (read_writes_top _ _ _ _) (read_writes_top _ _ _ _))
    on_goal 1 => rfl
    on_goal 1 => exact Eq.trans (startV (F := F) _ (by decide) _ _ 0 _ _) (resV_congr (read_writes_top _ _ _ _))
    on_goal 1 => exact Eq.trans (startM gbB 1 _ (by decide) (by decide) _ _ _ _) (resM_congr (read_writes_top _ _ _ _) (read_writes_top _ _ _ _))
    on_goal 1 => rfl
    on_goal 1 => exact Eq.trans (startV (F := F) _ (by decide) _ _ 1 _ _) (resV_congr (read_writes_top _ _ _ _))
    iintro ⟨HB0, HB1, HB3⟩
    sl_exec
  sl_step
  have hV : ∀ p ∈ tile_run1.sl.HB5_128 d L fg flq flv, ∀ y, p.2 y = View.read (Elt F) (loS L).view (lvwOut fg flq flv) (p.1.emb y) := by
    unfold tile_run1.sl.HB5_128
    iterate 16
      refine List.forall_mem_cons.mpr ⟨pieceV d L fg flq flv 3 1 (by decide) _ _ _ _ rfl (by decide) rfl, ?_⟩
      refine List.forall_mem_cons.mpr ⟨pieceV d L fg flq flv 3 0 (by decide) _ _ _ _ rfl (by decide) rfl, ?_⟩
    iterate 16
      refine List.forall_mem_cons.mpr ⟨pieceV d L fg flq flv 2 1 (by decide) _ _ _ _ rfl (by decide) rfl, ?_⟩
      refine List.forall_mem_cons.mpr ⟨pieceV d L fg flq flv 2 0 (by decide) _ _ _ _ rfl (by decide) rfl, ?_⟩
    iterate 16
      refine List.forall_mem_cons.mpr ⟨pieceV d L fg flq flv 1 1 (by decide) _ _ _ _ rfl (by decide) rfl, ?_⟩
      refine List.forall_mem_cons.mpr ⟨pieceV d L fg flq flv 1 0 (by decide) _ _ _ _ rfl (by decide) rfl, ?_⟩
    iterate 16
      refine List.forall_mem_cons.mpr ⟨pieceV d L fg flq flv 0 1 (by decide) _ _ _ _ rfl (by decide) rfl, ?_⟩
      refine List.forall_mem_cons.mpr ⟨pieceV d L fg flq flv 0 0 (by decide) _ _ _ _ rfl (by decide) rfl, ?_⟩
    intro p hp; exact absurd hp List.not_mem_nil
  have hI : ∀ p ∈ tile_run1.sl.HB4_128 d L fg flq, ∀ y, p.2 y = View.read (Elt F) (ioS L).view (idxOut fg flq) (p.1.emb y) := by
    unfold tile_run1.sl.HB4_128
    iterate 16
      refine List.forall_mem_cons.mpr ⟨pieceI d L fg flq 3 1 (by decide) _ _ _ _ rfl (by decide) rfl, ?_⟩
      refine List.forall_mem_cons.mpr ⟨pieceI d L fg flq 3 0 (by decide) _ _ _ _ rfl (by decide) rfl, ?_⟩
    iterate 16
      refine List.forall_mem_cons.mpr ⟨pieceI d L fg flq 2 1 (by decide) _ _ _ _ rfl (by decide) rfl, ?_⟩
      refine List.forall_mem_cons.mpr ⟨pieceI d L fg flq 2 0 (by decide) _ _ _ _ rfl (by decide) rfl, ?_⟩
    iterate 16
      refine List.forall_mem_cons.mpr ⟨pieceI d L fg flq 1 1 (by decide) _ _ _ _ rfl (by decide) rfl, ?_⟩
      refine List.forall_mem_cons.mpr ⟨pieceI d L fg flq 1 0 (by decide) _ _ _ _ rfl (by decide) rfl, ?_⟩
    iterate 16
      refine List.forall_mem_cons.mpr ⟨pieceI d L fg flq 0 1 (by decide) _ _ _ _ rfl (by decide) rfl, ?_⟩
      refine List.forall_mem_cons.mpr ⟨pieceI d L fg flq 0 0 (by decide) _ _ _ _ rfl (by decide) rfl, ?_⟩
    intro p hp; exact absurd hp List.not_mem_nil
  have cV : ∀ y, ∃ p ∈ tile_run1.sl.HB5_128 d L fg flq flv, y ∈ p.1.set := View.cover_of_tiled _ ![1, 16] (by rfl)
  have cI : ∀ y, ∃ p ∈ tile_run1.sl.HB4_128 d L fg flq, y ∈ p.1.set := View.cover_of_tiled _ ![1, 16] (by rfl)
  have eV : lwB.view.read (Elt F) (lwB.view.writes (Elt F) b5 (tile_run1.sl.HB5_128 d L fg flq flv))
      = View.read (Elt F) (loS L).view (lvwOut fg flq flv) :=
    funext fun y => View.read_writes_apply_of_pieces _ _ _ _ hV y (cV y)
  have eI : ixB.view.read (Elt F) (ixB.view.writes (Elt F) b4 (tile_run1.sl.HB4_128 d L fg flq))
      = View.read (Elt F) (ioS L).view (idxOut fg flq) :=
    funext fun y => View.read_writes_apply_of_pieces _ _ _ _ hI y (cI y)
  isplitl [HG]; · iexact HG
  isplitl [HG']; · iexact HG'
  isplitl [HLQ]; · iexact HLQ
  isplitl [HLV]; · iexact HLV
  isplitl [HIO]; · iapply (Entails.of_eq (pts_of_read1 d L (ioS L).view _ _ _ ((read_writes_top _ fi (tile_run1.sl.dma8_2 d L fg flq b4) []).trans eI))) $$ HIO
  isplitl [HLO]; · iapply (Entails.of_eq (pts_of_read1 d L (loS L).view _ _ _ ((read_writes_top _ fo (tile_run1.sl.dma8_3 d L fg flq flv b5) []).trans eV))) $$ HLO
  isplitl [HB0]; · iexists _; iexact HB0
  isplitl [HB1]; · iexists _; iexact HB1
  isplitl [HB2]; · iexists _; iexact HB2
  isplitl [HB3]; · iexists _; iexact HB3
  isplitl [HB4]; · iexists _; iexact HB4
  isplitl [HB5]; · iexists _; iexact HB5
  isplitr [HO]
  · sl_close
  iexists _; isplitr; swap
  · iexact HO
  ipureintro
  iterate 8 refine waits_insert _ ?_
  exact fun p hp => .inl hp

end Cert.KernelIdeal.Whole

end
-- ==== Proof.Task1Ideal.lean ====
/- What each tile of the argmax call is asked by the launch, met by its run. -/
module

public import proofs.«01_k».proof.Proof.ArgmaxIdeal
public import proofs.«01_k».proof.Proof.TaskIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (A : Args F) (d : Dev nD) (L : grid1.Coords)

abbrev dcell1 (d : Dev nD) (c : Fin τ.nSC) (i : Fin τ.nSub) (k : Fin 6) : GSem nD τ sig := (V d c i, .dma (csem (3 + k.val) (by omega)))

omit [FloatOps F] in
theorem dcell1_mem (c : Fin τ.nSC) (i : Fin τ.nSub) (k : Fin 6) : dcell1 d c i k ∈ ownCells (V d c i) :=
  mem_ownCells.mpr ⟨rfl, (show ∀ s : DmaSem sig, (SemLoc.dma s : SemLoc sig).isScoped .scVector = true by decide) _⟩

omit [FloatOps F] in
/-- A family over six, written out. -/
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide]
  iterate 5 rw [SparseCore.bigSep_insert' (by decide)]
  rw [bigSep_singleton]

omit [FloatOps F] in
/-- A tile's cells at zero: the six its body names and the rest. -/
theorem ownSems0_V1 :
    (ownSems0 (VT1 d L) : sProp 𝕄)
      = iprop(cells1 d L ∗ bigSep ((ownCells (VT1 d L)) \ Finset.univ.image (dcell1 d (cV1 L) (jV1 L))) fun g => semVal g 0) := by
  rw [show (cells1 d L : sProp 𝕄) = bigSep Finset.univ fun k : Fin 6 => semVal (dcell1 d (cV1 L) (jV1 L) k) 0 from
    (bigSep_six (F := F) (fun k : Fin 6 => semVal (dcell1 d (cV1 L) (jV1 L) k) 0)).symm]
  unfold SparseCore.Cfg.ownSems0
  rw [SparseCore.bigSep_sdiff_split' (t := Finset.univ.image (dcell1 d (cV1 L) (jV1 L)))
      (Finset.image_subset_iff.mpr fun k _ => dcell1_mem d (cV1 L) (jV1 L) k),
    SparseCore.bigSep_image_of_injOn (fun a _ b _ h => by
      have := congrArg (fun g : GSem nD τ sig => g.2) h
      simp only [SemLoc.dma.injEq, Fin.mk.injEq] at this; exact Fin.ext (by omega))]

/-- A tile's six scratch buffers among its own. -/
abbrev bufs1 : Fin 6 → Ref sig .scVector := ![cc1_scratch0, cc1_scratch1, cc1_scratch2, cc1_scratch3, cc1_scratch4, cc1_scratch5]

abbrev u1 (k : Fin 6) : DevRef τ sig := (Proc.scVector (cV1 L) (jV1 L)).devRef (bufs1 k)

omit [FloatOps F] in
theorem u1_injective : Function.Injective (u1 L) := fun a b h =>
  (show Function.Injective bufs1 by decide) (Proc.devRef_injective _ h)

omit [FloatOps F] in
theorem ownBufs_V1 :
    (ownBufs (VT1 d L) : sProp 𝕄)
      = iprop(((∃ f, lqB.view.loc (VT1 d L) ↦[lqB.view.set]{fullShare} f) ∗ (∃ f, lvB.view.loc (VT1 d L) ↦[lvB.view.set]{fullShare} f)
          ∗ (∃ f, gaB.view.loc (VT1 d L) ↦[gaB.view.set]{fullShare} f) ∗ (∃ f, gbB.view.loc (VT1 d L) ↦[gbB.view.set]{fullShare} f)
          ∗ (∃ f, ixB.view.loc (VT1 d L) ↦[ixB.view.set]{fullShare} f) ∗ (∃ f, lwB.view.loc (VT1 d L) ↦[lwB.view.set]{fullShare} f))
          ∗ bigSep ((ownRefs (τ := τ) (.scVector (cV1 L) (jV1 L))) \ Finset.univ.image (u1 L))
              fun b => iprop(∃ f, ((d, b) : Loc nD τ sig) ↦{fullShare} f)) := by
  have e0 : lqB.view.set = Finset.univ := View.set_whole _
  have e1 : lvB.view.set = Finset.univ := View.set_whole _
  have e2 : gaB.view.set = Finset.univ := View.set_whole _
  have e3 : gbB.view.set = Finset.univ := View.set_whole _
  have e4 : ixB.view.set = Finset.univ := View.set_whole _
  have e5 : lwB.view.set = Finset.univ := View.set_whole _
  rw [e0, e1, e2, e3, e4, e5]
  unfold SparseCore.Cfg.ownBufs
  have hm : Finset.univ.image (u1 L) ⊆ ownRefs (τ := τ) (.scVector (cV1 L) (jV1 L)) :=
    Finset.image_subset_iff.mpr fun k _ => SparseCore.Cfg.mem_ownRefs_of_owner ((show ∀ k, (u1 L k).owner = Owner.proc (Proc.scVector (cV1 L) (jV1 L)) from fun k => by fin_cases k <;> rfl) k)
  refine (SparseCore.bigSep_sdiff_split' hm).trans ?_
  rw [SparseCore.bigSep_image_of_injOn (fun a _ b _ h => u1_injective L h), bigSep_six]
  rfl

/-- The task on a tile, from what the launch hands it to what it hands back. -/
theorem tile_body1 (hF : (K (F := F)).Facts) (O : CellTallies nD τ sig (HIx 2)) (W : Waits sig (HIx 2)) (hO : ∀ g, O g none = 0) :
    iprop(levAts (K (F := F)).L (K (F := F)).lev ∗ emp ∗ pieces1 A d L (A.io d) (A.lo d)
        ∗ scopedBufs (VT1 d L) ∗ scopedSems0 (VT1 d L) ∗ owes (VT1 d L) O W)
      ⊢ wp frame (wpE (defs₀ (F := F)) 𝒱₀ (VT1 d L) none) Set.univ
          (cc1__argmax_body L gV (Memref.isWhole_whole _) lqV (Memref.isWhole_whole _) lvV (Memref.isWhole_whole _)
            ioV (Memref.isWhole_whole _) loV (Memref.isWhole_whole _)
            lqB (Memref.isWhole_whole _) lvB (Memref.isWhole_whole _) gaB (Memref.isWhole_whole _) gbB (Memref.isWhole_whole _)
            ixB (Memref.isWhole_whole _) lwB (Memref.isWhole_whole _)
            cc1_scratch6 cc1_scratch7 cc1_scoped0 cc1_scoped1 cc1_scoped2 cc1_scoped3)
          fun _ => iprop(pieces1 A d L (A.places d) (A.weights d) ∗ scopedBufs (VT1 d L) ∗ scopedSems0 (VT1 d L)
            ∗ ∃ W', ⌜∀ p ∈ W', p ∈ W ∨ p.2 = none⌝ ∗ owes (VT1 d L) O W') := by
  rw [(K (F := F)).scopedBufs_V hF d (cV1 L) (jV1 L), SparseCore.Cfg.scopedSems0_V (Val := Elt F) d (cV1 L) (jV1 L), ownSems0_V1, ownBufs_V1]
  unfold pieces1
  iintro ⟨#Hlv, -, ⟨HG, HG', HQ, HV, HI, HL⟩, ⟨⟨⟨%b0, B0⟩, ⟨%b1, B1⟩, ⟨%b2, B2⟩, ⟨%b3, B3⟩, ⟨%b4, B4⟩, ⟨%b5, B5⟩⟩, Hbufs⟩, ⟨HC, Hsems⟩, HO⟩
  ihave Hmw := (show levAts (K (F := F)).L (K (F := F)).lev ⊢ Transfers.MayWaits (VT1 d L) (default : HIx 2) O from
    (K (F := F)).mayWaits_none (thr := VT1 d L) hO) $$ Hlv
  iapply (wp_wand_r Idealize.ShloMosaic.frame (wpE (defs₀ (F := F)) 𝒱₀ (VT1 d L) none) Set.univ)
  isplitl [HG HG' HQ HV HI HL B0 B1 B2 B3 B4 B5 HC HO]
  · iapply (tile_run1 d L O W (gq L 0) (tq L) (tq L) (gq L 1) (A.g d) (A.lq d) (A.lv d) (A.io d) (A.lo d) b0 b1 b2 b3 b4 b5)
    isplitr; · iexact Hmw
    isplitl [HG]; · iexact HG
    isplitl [HG']; · iexact HG'
    isplitl [HQ]; · iexact HQ
    isplitl [HV]; · iexact HV
    isplitl [HI]; · iexact HI
    isplitl [HL]; · iexact HL
    isplitl [B0]; · iexact B0
    isplitl [B1]; · iexact B1
    isplitl [B2]; · iexact B2
    isplitl [B3]; · iexact B3
    isplitl [B4]; · iexact B4
    isplitl [B5]; · iexact B5
    isplitl [HC]; · iexact HC
    iexact HO
  iintro %_ ⟨HG, HG', HQ, HV, HI, HL, B0, B1, B2, B3, B4, B5, HC, HO⟩
  isplitl [HG HG' HQ HV HI HL]
  · isplitl [HG]; · iexact HG
    isplitl [HG']; · iexact HG'
    isplitl [HQ]; · iexact HQ
    isplitl [HV]; · iexact HV
    isplitl [HI]; · iexact HI
    iexact HL
  isplitl [B0 B1 B2 B3 B4 B5 Hbufs]
  · isplitl [B0 B1 B2 B3 B4 B5]
    · isplitl [B0]; · iexact B0
      isplitl [B1]; · iexact B1
      isplitl [B2]; · iexact B2
      isplitl [B3]; · iexact B3
      isplitl [B4]; · iexact B4
      iexact B5
    iexact Hbufs
  isplitl [HC Hsems]
  · isplitl [HC]; · iexact HC
    iexact Hsems
  iexact HO

/-! ## The obligation -/

theorem defs₀_vector1 (c : Fin τ.nSC) (s : Fin τ.nSub) :
    defs₀ (F := F) (.scVector c s) 1 ()
      = SparseCore.onTile hcore1 hsub1 (fun c s => cc1__argmax_body (tile1 c s)
          gV (Memref.isWhole_whole _) lqV (Memref.isWhole_whole _) lvV (Memref.isWhole_whole _)
          ioV (Memref.isWhole_whole _) loV (Memref.isWhole_whole _)
          lqB (Memref.isWhole_whole _) lvB (Memref.isWhole_whole _) gaB (Memref.isWhole_whole _) gbB (Memref.isWhole_whole _)
          ixB (Memref.isWhole_whole _) lwB (Memref.isWhole_whole _)
          cc1_scratch6 cc1_scratch7 cc1_scoped0 cc1_scoped1 cc1_scoped2 cc1_scoped3) ⟨⟩ c s := rfl

theorem tileObl1 : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  refine (tile_body1 A d (tile1 ⟨_, hci.1⟩ ⟨_, hci.2⟩) scFacts O W hO).trans (wp_mono _ _ _ fun _ => waits_weaken (F := F) _ _ _ _)

/-- A SparseCore's pieces are its tiles', before and after. -/
theorem vecSplit1 : (K (F := F)).VecSplit' (P A) 0 := by
  intro d c
  show corePieces1 A d (Fin.cast nCore_0 c) (A.io d) (A.lo d) ⊢ |={Set.univ}=> iprop(corePieces1 A d (Fin.cast nCore_0 c) (A.io d) (A.lo d)
      ∗ (corePieces1 A d (Fin.cast nCore_0 c) (A.places d) (A.weights d) -∗ corePieces1 A d (Fin.cast nCore_0 c) (A.places d) (A.weights d)))
  iintro H; imodintro
  isplitl [H]; · iexact H
  iintro H; iexact H

end Cert.KernelIdeal.Whole

end
-- ==== Proof.DealIdeal.lean ====
/- The arrays of each call, whole, are the tiles' pieces. -/
module

public import proofs.«01_k».proof.Proof.CallsIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (A : Args F) (d : Dev nD)

/-! ## The index rows -/

omit [FloatOps F] in
theorem mem_iSet (L : grid3.Coords) (x : S512x128.Idx) :
    x ∈ iSet L ↔ 32 * (L 1).val + 16 * (L 0).val ≤ (x 0).val ∧ (x 0).val < 32 * (L 1).val + 16 * (L 0).val + 16 := by
  have h : iSet L = (Rect.unit (s := S512x128) (k3_off1 L) S16x128.size (k3_off1_inb L)).set := by
    show ((View.whole (main_v16_scv : Ref sig .scVector)).slice _).set = _
    rw [View.set_slice]; exact Finset.map_refl
  rw [h, Rect.mem_set_unit, k3_off1_eq]
  have h1 : (x 1).val < 128 := (x 1).isLt
  constructor
  · intro h; exact h 0
  · intro h a
    match a with
    | 0 => exact h
    | 1 => exact ⟨Nat.zero_le _, show (x 1).val < 0 + 128 by omega⟩

omit [FloatOps F] in
theorem mem_oSet (L : grid3.Coords) (r : Fin 16) (x : S65536x2x128.Idx) :
    x ∈ oSet L r ↔ 4096 * (L 1).val + 2048 * (L 0).val + 128 * r.val ≤ (x 0).val
      ∧ (x 0).val < 4096 * (L 1).val + 2048 * (L 0).val + 128 * r.val + 128 := by
  have h : oSet L r = (Rect.unit (s := S65536x2x128) (k3_off2 L (BitVec.ofNat 32 (128 * r.val))) S128x2x128.size (k3_off2_inb L r)).set := by
    show ((View.whole (main_v17_scv : Ref sig .scVector)).slice _).set = _
    rw [View.set_slice]; exact Finset.map_refl
  rw [h, Rect.mem_set_unit, k3_off2_eq]
  have h1 : (x 1).val < 2 := (x 1).isLt
  have h2 : (x 2).val < 128 := (x 2).isLt
  constructor
  · intro h; exact h 0
  · intro h a
    match a with
    | 0 => exact h
    | 1 => exact ⟨Nat.zero_le _, show (x 1).val < 0 + 2 by omega⟩
    | 2 => exact ⟨Nat.zero_le _, show (x 2).val < 0 + 128 by omega⟩

omit [FloatOps F] in
theorem iSets_disjoint : ∀ p ∈ (Finset.univ : Finset (Fin 2 × Fin 16)), ∀ p' ∈ (Finset.univ : Finset (Fin 2 × Fin 16)), p ≠ p' →
    Disjoint (iSet (tile p.1 p.2)) (iSet (tile p'.1 p'.2)) := by
  intro p _ p' _ hne
  refine Finset.disjoint_left.mpr fun x hx hx' => hne ?_
  have h := (mem_iSet _ x).mp hx
  have h' := (mem_iSet _ x).mp hx'
  have e : ∀ q : Fin 2 × Fin 16, ((tile q.1 q.2) 0).val = q.1.val ∧ ((tile q.1 q.2) 1).val = q.2.val := fun _ => ⟨rfl, rfl⟩
  rw [(e p).1, (e p).2] at h
  rw [(e p').1, (e p').2] at h'
  have := p.1.isLt; have := p'.1.isLt
  exact Prod.ext (Fin.ext (by omega)) (Fin.ext (by omega))

omit [FloatOps F] in
theorem iSets_cover : (Finset.univ : Finset (Fin 2 × Fin 16)).biUnion (fun p => iSet (tile p.1 p.2)) = Finset.univ := by
  refine Finset.eq_univ_of_forall fun x => Finset.mem_biUnion.mpr ?_
  have h0 : (x 0).val < 512 := (x 0).isLt
  refine ⟨(⟨(x 0).val / 16 % 2, by omega⟩, ⟨(x 0).val / 32, by omega⟩), Finset.mem_univ _, (mem_iSet _ x).mpr ?_⟩
  show 32 * ((x 0).val / 32) + 16 * ((x 0).val / 16 % 2) ≤ (x 0).val ∧ (x 0).val < 32 * ((x 0).val / 32) + 16 * ((x 0).val / 16 % 2) + 16
  omega

omit [FloatOps F] in
theorem oSets_disjoint : ∀ p ∈ (Finset.univ : Finset ((Fin 2 × Fin 16) × Fin 16)), ∀ p' ∈ (Finset.univ : Finset ((Fin 2 × Fin 16) × Fin 16)), p ≠ p' →
    Disjoint (oSet (tile p.1.1 p.1.2) p.2) (oSet (tile p'.1.1 p'.1.2) p'.2) := by
  intro p _ p' _ hne
  refine Finset.disjoint_left.mpr fun x hx hx' => hne ?_
  have h := (mem_oSet _ _ x).mp hx
  have h' := (mem_oSet _ _ x).mp hx'
  have e : ∀ q : Fin 2 × Fin 16, ((tile q.1 q.2) 0).val = q.1.val ∧ ((tile q.1 q.2) 1).val = q.2.val := fun _ => ⟨rfl, rfl⟩
  rw [(e p.1).1, (e p.1).2] at h
  rw [(e p'.1).1, (e p'.1).2] at h'
  have := p.1.1.isLt; have := p'.1.1.isLt; have := p.2.isLt; have := p'.2.isLt
  exact Prod.ext (Prod.ext (Fin.ext (by omega)) (Fin.ext (by omega))) (Fin.ext (by omega))

omit [FloatOps F] in
theorem oSets_cover : (Finset.univ : Finset ((Fin 2 × Fin 16) × Fin 16)).biUnion (fun p => oSet (tile p.1.1 p.1.2) p.2) = Finset.univ := by
  refine Finset.eq_univ_of_forall fun x => Finset.mem_biUnion.mpr ?_
  have h0 : (x 0).val < 65536 := (x 0).isLt
  refine ⟨((⟨(x 0).val / 2048 % 2, by omega⟩, ⟨(x 0).val / 4096, by omega⟩), ⟨(x 0).val / 128 % 16, by omega⟩), Finset.mem_univ _, (mem_oSet _ _ x).mpr ?_⟩
  show 4096 * ((x 0).val / 4096) + 2048 * ((x 0).val / 2048 % 2) + 128 * ((x 0).val / 128 % 16) ≤ (x 0).val
    ∧ (x 0).val < 4096 * ((x 0).val / 4096) + 2048 * ((x 0).val / 2048 % 2) + 128 * ((x 0).val / 128 % 16) + 128
  omega

/-! ## The arrays -/

omit [FloatOps F] in
theorem iPts_tiles (f : Buf (Elt F) (iLoc d)) :
    (iLoc d ↦{fullShare} f : sProp 𝕄) = bigSep Finset.univ fun p : Fin 2 × Fin 16 => iLoc d ↦[iSet (tile p.1 p.2)]{fullShare} f := by
  rw [← pointsTo_biUnion Finset.univ (ℓ := iLoc d) (fun p : Fin 2 × Fin 16 => iSet (tile p.1 p.2)) iSets_disjoint, iSets_cover]

omit [FloatOps F] in
theorem oPts_tiles (f : Buf (Elt F) (oLoc d)) :
    (oLoc d ↦{fullShare} f : sProp 𝕄)
      = bigSep Finset.univ fun p : Fin 2 × Fin 16 => bigSep Finset.univ fun r : Fin 16 => oLoc d ↦[oSet (tile p.1 p.2) r]{fullShare} f := by
  rw [← BI.bigSep_univ_prod (fun p : (Fin 2 × Fin 16) × Fin 16 => (oLoc d ↦[oSet (tile p.1.1 p.1.2) p.2]{fullShare} f : sProp 𝕄)),
    ← pointsTo_biUnion Finset.univ (ℓ := oLoc d) (fun p : (Fin 2 × Fin 16) × Fin 16 => oSet (tile p.1.1 p.1.2) p.2) oSets_disjoint, oSets_cover]

/-- A share's number from its tile and which of the tile's two it is. -/
def shareEquiv : (Fin 2 × Fin 16) × Fin 2 ≃ Fin 64 where
  toFun p := shareIx (tile p.1.1 p.1.2) p.2
  invFun n := ((⟨n.val / 2 % 2, by omega⟩, ⟨n.val / 4, by have := n.isLt; omega⟩), ⟨n.val % 2, by omega⟩)
  left_inv p := by
    have := p.1.1.isLt; have := p.2.isLt
    have e : (shareIx (tile p.1.1 p.1.2) p.2).val = 4 * p.1.2.val + 2 * p.1.1.val + p.2.val := rfl
    exact Prod.ext (Prod.ext (Fin.ext (by show (shareIx _ _).val / 2 % 2 = _; omega)) (Fin.ext (by show (shareIx _ _).val / 4 = _; omega)))
      (Fin.ext (by show (shareIx _ _).val % 2 = _; omega))
  right_inv n := Fin.ext (by
    have := n.isLt
    show 4 * (n.val / 4) + 2 * (n.val / 2 % 2) + n.val % 2 = n.val
    omega)

omit [FloatOps F] in
theorem xPts_tiles (f : Buf (Elt F) (xLoc d)) :
    (xLoc d ↦{fullShare} f : sProp 𝕄)
      = bigSep Finset.univ fun p : Fin 2 × Fin 16 => iprop((xLoc d ↦{xq (tile p.1 p.2) 0} f) ∗ xLoc d ↦{xq (tile p.1 p.2) 1} f) := by
  rw [pointsTo_piecesOf Finset.univ f (o := 64) (by decide) fullShare, BI.bigSep_univ_equiv shareEquiv, BI.bigSep_univ_prod]
  exact bigSep_congr fun p _ => BI.bigSep_fin_two _

/-- The middle two of four conjuncts, taken together. -/
theorem assoc_mid (P Q R S : sProp 𝕄) : (iprop(P ∗ Q ∗ R ∗ S) : sProp 𝕄) = iprop(P ∗ (Q ∗ R) ∗ S) := by
  have h1 : (iprop(P ∗ Q ∗ R ∗ S) : sProp 𝕄) ⊢ iprop(P ∗ (Q ∗ R) ∗ S) := by
    iintro ⟨HP, HQ, HR, HS⟩
    isplitl [HP]; · iexact HP
    isplitl [HQ HR]
    · isplitl [HQ]; · iexact HQ
      iexact HR
    iexact HS
  have h2 : (iprop(P ∗ (Q ∗ R) ∗ S) : sProp 𝕄) ⊢ iprop(P ∗ Q ∗ R ∗ S) := by
    iintro ⟨HP, ⟨HQ, HR⟩, HS⟩
    isplitl [HP]; · iexact HP
    isplitl [HQ]; · iexact HQ
    isplitl [HR]; · iexact HR
    iexact HS
  exact BI.Entails.antisymm h1 h2

/-- The tiles' pieces are the three arrays whole. -/
theorem pieces_eq (o : Buf (Elt F) (oLoc d)) :
    (bigSep Finset.univ fun c : Fin 2 => corePieces A d c o)
      = (iprop((iLoc d ↦{fullShare} A.i d) ∗ (xLoc d ↦{fullShare} A.x d) ∗ oLoc d ↦{fullShare} o) : sProp 𝕄) := by
  unfold corePieces
  rw [← BI.bigSep_univ_prod (fun p : Fin 2 × Fin 16 => (pieces A d (tile p.1 p.2) o : sProp 𝕄))]
  unfold pieces
  rw [bigSep_sep', bigSep_sep', bigSep_sep', iPts_tiles, xPts_tiles, oPts_tiles, bigSep_sep']
  exact assoc_mid _ _ _ _

/-! ## The argmax call -/

omit [FloatOps F] in
theorem mem_ioSet (L : grid1.Coords) (x : S64x1024.Idx) :
    x ∈ ioSet L ↔ (8 * (wid L / 4) ≤ (x 0).val ∧ (x 0).val < 8 * (wid L / 4) + 8)
      ∧ (256 * (wid L % 4) ≤ (x 1).val ∧ (x 1).val < 256 * (wid L % 4) + 256) := by
  have h : ioSet L = (Rect.unit (s := S64x1024) (k1_off195 L) S8x256.size (k1_off195_inb L)).set := by
    show ((View.whole (main_v13_0_scv : Ref sig .scVector)).slice _).set = _
    rw [View.set_slice]; exact Finset.map_refl
  rw [h, Rect.mem_set_unit, off195_eq]
  constructor
  · intro h; exact ⟨h 0, h 1⟩
  · intro h a
    match a with
    | 0 => exact h.1
    | 1 => exact h.2

omit [FloatOps F] in
theorem loSet_eq (L : grid1.Coords) : loSet L = ioSet L := by
  have h : loSet L = (Rect.unit (s := S64x1024) (k1_off195 L) S8x256.size (k1_off195_inb L)).set := by
    show ((View.whole (main_v13_1_scv : Ref sig .scVector)).slice _).set = _
    rw [View.set_slice]; exact Finset.map_refl
  have h' : ioSet L = (Rect.unit (s := S64x1024) (k1_off195 L) S8x256.size (k1_off195_inb L)).set := by
    show ((View.whole (main_v13_0_scv : Ref sig .scVector)).slice _).set = _
    rw [View.set_slice]; exact Finset.map_refl
  rw [h, h']

omit [FloatOps F] in
theorem wid_tile1 (p : Fin 2 × Fin 16) : wid (tile1 p.1 p.2) = 2 * p.2.val + p.1.val := rfl

omit [FloatOps F] in
theorem ioSets_disjoint : ∀ p ∈ (Finset.univ : Finset (Fin 2 × Fin 16)), ∀ p' ∈ (Finset.univ : Finset (Fin 2 × Fin 16)), p ≠ p' →
    Disjoint (ioSet (tile1 p.1 p.2)) (ioSet (tile1 p'.1 p'.2)) := by
  intro p _ p' _ hne
  refine Finset.disjoint_left.mpr fun x hx hx' => hne ?_
  have h := (mem_ioSet _ x).mp hx
  have h' := (mem_ioSet _ x).mp hx'
  rw [wid_tile1] at h h'
  have := p.1.isLt; have := p'.1.isLt; have := p.2.isLt; have := p'.2.isLt
  exact Prod.ext (Fin.ext (by omega)) (Fin.ext (by omega))

omit [FloatOps F] in
theorem ioSets_cover : (Finset.univ : Finset (Fin 2 × Fin 16)).biUnion (fun p => ioSet (tile1 p.1 p.2)) = Finset.univ := by
  refine Finset.eq_univ_of_forall fun x => Finset.mem_biUnion.mpr ?_
  have h0 : (x 0).val < 64 := (x 0).isLt
  have h1 : (x 1).val < 1024 := (x 1).isLt
  refine ⟨(⟨(x 1).val / 256 % 2, by omega⟩, ⟨2 * ((x 0).val / 8) + (x 1).val / 512, by omega⟩), Finset.mem_univ _, (mem_ioSet _ x).mpr ?_⟩
  rw [wid_tile1]
  show (8 * ((2 * (2 * ((x 0).val / 8) + (x 1).val / 512) + (x 1).val / 256 % 2) / 4) ≤ (x 0).val
      ∧ (x 0).val < 8 * ((2 * (2 * ((x 0).val / 8) + (x 1).val / 512) + (x 1).val / 256 % 2) / 4) + 8)
    ∧ (256 * ((2 * (2 * ((x 0).val / 8) + (x 1).val / 512) + (x 1).val / 256 % 2) % 4) ≤ (x 1).val
      ∧ (x 1).val < 256 * ((2 * (2 * ((x 0).val / 8) + (x 1).val / 512) + (x 1).val / 256 % 2) % 4) + 256)
  omega

omit [FloatOps F] in
theorem ioPts_tiles (f : Buf (Elt F) (idxLoc d)) :
    (idxLoc d ↦{fullShare} f : sProp 𝕄) = bigSep Finset.univ fun p : Fin 2 × Fin 16 => idxLoc d ↦[ioSet (tile1 p.1 p.2)]{fullShare} f := by
  rw [← pointsTo_biUnion Finset.univ (ℓ := idxLoc d) (fun p : Fin 2 × Fin 16 => ioSet (tile1 p.1 p.2)) ioSets_disjoint, ioSets_cover]

omit [FloatOps F] in
theorem loPts_tiles (f : Buf (Elt F) (lvwLoc d)) :
    (lvwLoc d ↦{fullShare} f : sProp 𝕄) = bigSep Finset.univ fun p : Fin 2 × Fin 16 => lvwLoc d ↦[loSet (tile1 p.1 p.2)]{fullShare} f := by
  simp only [loSet_eq]
  rw [← pointsTo_biUnion Finset.univ (ℓ := lvwLoc d) (fun p : Fin 2 × Fin 16 => ioSet (tile1 p.1 p.2)) ioSets_disjoint, ioSets_cover]

/-- A share's number from its tile and which of the tile's two it is. -/
def shareEquiv1 : (Fin 2 × Fin 16) × Fin 2 ≃ Fin 64 where
  toFun p := shareIx1 (tile1 p.1.1 p.1.2) p.2
  invFun n := ((⟨n.val / 2 % 2, by omega⟩, ⟨n.val / 4, by have := n.isLt; omega⟩), ⟨n.val % 2, by omega⟩)
  left_inv p := by
    have := p.1.1.isLt; have := p.2.isLt
    have e : (shareIx1 (tile1 p.1.1 p.1.2) p.2).val = 4 * p.1.2.val + 2 * p.1.1.val + p.2.val := rfl
    exact Prod.ext (Prod.ext (Fin.ext (by show (shareIx1 _ _).val / 2 % 2 = _; omega)) (Fin.ext (by show (shareIx1 _ _).val / 4 = _; omega)))
      (Fin.ext (by show (shareIx1 _ _).val % 2 = _; omega))
  right_inv n := Fin.ext (by
    have := n.isLt
    show 4 * (n.val / 4) + 2 * (n.val / 2 % 2) + n.val % 2 = n.val
    omega)

/-- A tile's number from its place. -/
def widEquiv : (Fin 2 × Fin 16) ≃ Fin 32 where
  toFun p := ⟨wid (tile1 p.1 p.2), wid_lt _⟩
  invFun n := (⟨n.val % 2, by omega⟩, ⟨n.val / 2, by have := n.isLt; omega⟩)
  left_inv p := by
    have := p.1.isLt
    have e := wid_tile1 p
    exact Prod.ext (Fin.ext (by show wid (tile1 p.1 p.2) % 2 = _; omega)) (Fin.ext (by show wid (tile1 p.1 p.2) / 2 = _; omega))
  right_inv n := Fin.ext (by
    have := n.isLt
    show 2 * (n.val / 2) + n.val % 2 = n.val
    omega)

omit [FloatOps F] in
theorem gPts_tiles (f : Buf (Elt F) (gLoc d)) :
    (gLoc d ↦{fullShare} f : sProp 𝕄)
      = bigSep Finset.univ fun p : Fin 2 × Fin 16 => iprop((gLoc d ↦{gq (tile1 p.1 p.2) 0} f) ∗ gLoc d ↦{gq (tile1 p.1 p.2) 1} f) := by
  rw [pointsTo_piecesOf Finset.univ f (o := 64) (by decide) fullShare, BI.bigSep_univ_equiv shareEquiv1, BI.bigSep_univ_prod]
  exact bigSep_congr fun p _ => BI.bigSep_fin_two _

omit [FloatOps F] in
theorem tPts_tiles (ℓ : Loc nD τ sig) (f : Buf (Elt F) ℓ) :
    (ℓ ↦{fullShare} f : sProp 𝕄) = bigSep Finset.univ fun p : Fin 2 × Fin 16 => ℓ ↦{tq (tile1 p.1 p.2)} f := by
  rw [pointsTo_piecesOf Finset.univ f (o := 32) (by decide) fullShare, BI.bigSep_univ_equiv widEquiv]
  rfl

omit [FloatOps F] in
/-- The first two of six conjuncts, taken together. -/
theorem assoc_two (P Q R : sProp 𝕄) : (iprop(P ∗ Q ∗ R) : sProp 𝕄) = iprop((P ∗ Q) ∗ R) := by
  have h1 : (iprop(P ∗ Q ∗ R) : sProp 𝕄) ⊢ iprop((P ∗ Q) ∗ R) := by
    iintro ⟨HP, HQ, HR⟩
    isplitl [HP HQ]
    · isplitl [HP]; · iexact HP
      iexact HQ
    iexact HR
  have h2 : (iprop((P ∗ Q) ∗ R) : sProp 𝕄) ⊢ iprop(P ∗ Q ∗ R) := by
    iintro ⟨⟨HP, HQ⟩, HR⟩
    isplitl [HP]; · iexact HP
    isplitl [HQ]; · iexact HQ
    iexact HR
  exact BI.Entails.antisymm h1 h2

/-- The tiles' pieces are the five arrays whole. -/
theorem pieces1_eq (o : Buf (Elt F) (idxLoc d)) (w : Buf (Elt F) (lvwLoc d)) :
    (bigSep Finset.univ fun c : Fin 2 => corePieces1 A d c o w)
      = (iprop((gLoc d ↦{fullShare} A.g d) ∗ (lqLoc d ↦{fullShare} A.lq d) ∗ (lvLoc d ↦{fullShare} A.lv d) ∗ (idxLoc d ↦{fullShare} o)
          ∗ lvwLoc d ↦{fullShare} w) : sProp 𝕄) := by
  unfold corePieces1
  rw [← BI.bigSep_univ_prod (fun p : Fin 2 × Fin 16 => (pieces1 A d (tile1 p.1 p.2) o w : sProp 𝕄))]
  unfold pieces1
  rw [bigSep_sep', bigSep_sep', bigSep_sep', bigSep_sep', bigSep_sep', gPts_tiles, tPts_tiles (lqLoc d), tPts_tiles (lvLoc d), ioPts_tiles, loPts_tiles,
    bigSep_sep']
  exact assoc_two _ _ _

end Cert.KernelIdeal.Whole

end
-- ==== Proof.RegionsIdeal.lean ====
/- The two TensorCore calls: what each computes of its operands, and the rule by which @main runs it between the
   SparseCore calls. Each is one grid point whose windows are whole arrays; the TensorCore meanwhile owes the starts of
   the SparseCore calls to come, which sit above the level of the pipelines' own waits. -/
module

public import proofs.«01_k».proof.Proof.SetupIdeal
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 2) (Elt F) ℕ UU ℕ

/-! ## The pipelines' ghost state -/

/-- The rounds of the pipelines' cells: the first half of the second half of the ghost state. -/
def EP : Emb UP (MT nD τ sig (HIx 2) (Elt F) ℕ UU ℕ) := (Emb.inl : Emb UP (UP × Counters)).trans embR
instance EP_landsIn : (EP : Emb UP 𝕄).LandsIn (upEmb : UEmb _ 𝕄) := by unfold EP; infer_instance

/-- No pipeline has a prefetched table. -/
abbrev adm : (p : Fin 2) → (pcfgs (F := F) p).Adm := fun p => (cfgs p).toPCfg_adm
abbrev pins : Fin 2 → Pipeline.Cfg sig Λ₀ := Pipeline.pin (pcfgs (F := F)) adm

/-- The ghost state a pipeline's run on a device takes. -/
def ghost (p : Fin 2) (d : Dev nD) : sProp 𝕄 :=
  iprop(Pipeline.cellsGhost (pins (F := F)) EP p d ∗ Pipeline.toksInit (pins (F := F)) EP p d)

/-! ## The arrays -/

abbrev p0' : DevRef τ sig := Proc.devRef .tc (main_v0 : Ref sig .tc)
abbrev lq' : DevRef τ sig := Proc.devRef .tc (main_v1_0 : Ref sig .tc)
abbrev lv' : DevRef τ sig := Proc.devRef .tc (main_v1_1 : Ref sig .tc)
abbrev lvw' : DevRef τ sig := Proc.devRef .tc (main_v13_1 : Ref sig .tc)
abbrev nrm' : DevRef τ sig := Proc.devRef .tc (main_v14 : Ref sig .tc)

abbrev prepBufs : Finset (DevRef τ sig) := {p0', lq', lv'}
abbrev normBufs : Finset (DevRef τ sig) := {lvw', nrm'}

/-- The arrays after each call. -/
def prepV (V : Valuation τ sig (Elt F)) : Valuation τ sig (Elt F) :=
  Function.update (Function.update V lq' (k0_pay2 (F := F) (V p0'))) lv' (k0_pay3 (F := F) (V p0'))
def normV (V : Valuation τ sig (Elt F)) : Valuation τ sig (Elt F) :=
  Function.update V nrm' (k2_pay1 (F := F) (V lvw'))

omit [FloatOps F] in
theorem held_prep (d : Dev nD) (W : Valuation τ sig (Elt F)) :
    (held (T d) prepBufs W : sProp 𝕄) = iprop((p64Loc d ↦{fullShare} W p0') ∗ (lqLoc d ↦{fullShare} W lq') ∗ lvLoc d ↦{fullShare} W lv') := by
  unfold held prepBufs
  rw [SparseCore.bigSep_insert' (by decide), SparseCore.bigSep_insert' (by decide), bigSep_singleton]
omit [FloatOps F] in
theorem held_norm (d : Dev nD) (W : Valuation τ sig (Elt F)) :
    (held (T d) normBufs W : sProp 𝕄) = iprop((lvwLoc d ↦{fullShare} W lvw') ∗ nrmLoc d ↦{fullShare} W nrm') := by
  unfold held normBufs
  rw [SparseCore.bigSep_insert' (by decide), bigSep_singleton]

theorem prepV_p (V : Valuation τ sig (Elt F)) : prepV V p0' = V p0' := by
  unfold prepV; rw [Function.update_of_ne (by decide), Function.update_of_ne (by decide)]
theorem prepV_q (V : Valuation τ sig (Elt F)) : prepV V lq' = k0_pay2 (F := F) (V p0') := by
  unfold prepV; rw [Function.update_of_ne (by decide), Function.update_self]
theorem prepV_v (V : Valuation τ sig (Elt F)) : prepV V lv' = k0_pay3 (F := F) (V p0') := Function.update_self _ _ _
theorem prepV_of (V : Valuation τ sig (Elt F)) {b : DevRef τ sig} (h : b ≠ lq') (h' : b ≠ lv') : prepV V b = V b := by
  unfold prepV; rw [Function.update_of_ne h', Function.update_of_ne h]
theorem normV_n (V : Valuation τ sig (Elt F)) : normV V nrm' = k2_pay1 (F := F) (V lvw') := Function.update_self _ _ _
theorem normV_of (V : Valuation τ sig (Elt F)) {b : DevRef τ sig} (h : b ≠ nrm') : normV V b = V b := Function.update_of_ne h _ _

/-! ## The proof data -/

section Data

variable (V : Valuation τ sig (Elt F)) (n b : ℕ)

/-- The pairs the TensorCore's waits may have recorded: those at level at most `b`. -/
def below (c : Dev nD) : Set (SemLoc sig × HIx 2) := {p | (K (F := F)).lev ((T c), p.1) p.2 ≤ b}

def dat0 (c : Dev nD) : Dat τ (Elt F) (HIx 2) ℕ UU ℕ cfg0 c where
  A w := V ((cfg0.win w).arr.view.loc (c.tc : Thread nD τ)).2
  after w _ := match w with
    | ⟨0, _⟩ => (show Vec F S64x1024 .f32 from V p0')
    | ⟨1, _⟩ => k0_pay2 (F := F) (V p0')
    | ⟨2, _⟩ => k0_pay3 (F := F) (V p0')
  Φ _ := Pipeline.scopedRest spec0 c
  q _ := fullShare
  owed _ := (K (F := F)).Otc c n
  recorded _ := below (F := F) b c

def dat2 (c : Dev nD) : Dat τ (Elt F) (HIx 2) ℕ UU ℕ cfg2 c where
  A w := V ((cfg2.win w).arr.view.loc (c.tc : Thread nD τ)).2
  after w _ := match w with
    | ⟨0, _⟩ => (show Vec F S64x1024 .f32 from V lvw')
    | ⟨1, _⟩ => k2_pay1 (F := F) (V lvw')
  Φ _ := Pipeline.scopedRest spec2 c
  q _ := fullShare
  owed _ := (K (F := F)).Otc c n
  recorded _ := below (F := F) b c

def pdats : (p : Fin 2) → (c : Dev nD) → Dat τ (Elt F) (HIx 2) ℕ UU ℕ (pins (F := F) p) c
  | 0 => dat0 V n b
  | 1 => dat2 V n b

theorem share0 (c : Dev nD) (w : Fin cfg0.W) : (dat0 V n b c).share w = fullShare := by unfold Dat.share; split <;> rfl
theorem share2 (c : Dev nD) (w : Fin cfg2.W) : (dat2 V n b c).share w = fullShare := by unfold Dat.share; split <;> rfl

theorem zero2 : (![0, 0] : Fin 2 → Nat) = fun _ => 0 := funext fun a => by fin_cases a <;> rfl

theorem block0 (f : (main_v0 : Ref sig .tc).ty.Contents (Elt F)) : (win0_0.blk t0_0).view.read (Elt F) f = f :=
  Memref.read_access_unit_zero (Elt F) main_v0 (funext fun a => by fin_cases a <;> decide) (fun a => by fin_cases a <;> decide) f
theorem block2 (f : (main_v13_1 : Ref sig .tc).ty.Contents (Elt F)) : (win2_0.blk t2_0).view.read (Elt F) f = f :=
  Memref.read_access_unit_zero (Elt F) main_v13_1 (funext fun a => by fin_cases a <;> decide) (fun a => by fin_cases a <;> decide) f

theorem before0 (c : Dev nD) (e) : (dat0 V n b c).before (0 : Fin 3) t0_0 e = V p0' := by
  unfold Dat.before; rw [if_pos (fetch0_0 t0_0)]; exact block0 (F := F) _
theorem before2 (c : Dev nD) (e) : (dat2 V n b c).before (0 : Fin 2) t2_0 e = V lvw' := by
  unfold Dat.before; rw [if_pos (fetch2_0 t2_0)]; exact block2 (F := F) _

/-! ## The bodies -/

theorem body0 (c : Dev nD) : BodyObligation (dat0 V n b c) (defs₀ (F := F)) 𝒱₀ none Set.univ := fun t => by
  obtain rfl := fin_N0 t
  rw [bigSep_W0, bigSep_W0]
  rw [show (dat0 V n b c).Φ t0_0.succ = (dat0 V n b c).Φ t0_0.castSucc from rfl,
    show (dat0 V n b c).owesAt none t0_0.succ = (dat0 V n b c).owesAt none t0_0.castSucc from rfl]
  simp only [owns_whole_eq]
  show _ ⊢ wp frame (wpE (defs₀ (F := F)) 𝒱₀ (c.tc : Thread nD τ) none) Set.univ
    (cc0__prep_body (Memref.whole cc0_stg0_0) (Memref.isWhole_whole _) (Memref.whole cc0_stg1_0) (Memref.isWhole_whole _)
      (Memref.whole cc0_stg2_0) (Memref.isWhole_whole _)) _
  simp only [cc0__prep_body_eq_skeleton]; unfold cc0__prep_body_skel
  simp only [Prog.lift, Prog.bind_op, Prog.bind_ret]
  iintro ⟨HΦ, HO, ⟨%d0, %f0, %hf0, H0⟩, ⟨%d1, %f1, %hf1, H1⟩, ⟨%d2, %f2, %hf2, H2⟩⟩
  sl_steps
  isplitl [HΦ]; · iexact HΦ
  isplitl [HO]; · iexact HO
  have hr0 : (Memref.whole cc0_stg0_0 : Memref sig .tc _ _ _).view.readAt (Elt F) (Rect.unit (s := S64x1024) ![0, 0]
      S64x1024.size inb_S64x1024_S64x1024_0_0).toLoadRect f0 = f0 := Memref.readAt_unit_zero (Elt F) cc0_stg0_0 zero2 _ f0
  have hw1 : ∀ w, ((Memref.whole cc0_stg1_0).access (Rect.unit (s := S64x1024) ![0, 0] S64x1024.size
      inb_S64x1024_S64x1024_0_0) : View sig .tc _ _ _).write (Elt F) f1 w Finset.univ = w :=
    Memref.write_access_unit_zero_univ (Elt F) cc0_stg1_0 zero2 _ f1
  have hw2 : ∀ w, ((Memref.whole cc0_stg2_0).access (Rect.unit (s := S64x1024) ![0, 0] S64x1024.size
      inb_S64x1024_S64x1024_0_0) : View sig .tc _ _ _).write (Elt F) f2 w Finset.univ = w :=
    Memref.write_access_unit_zero_univ (Elt F) cc0_stg2_0 zero2 _ f2
  have e0 : f0 = V p0' := hf0.trans (before0 V n b c d0)
  rw [hr0, hw1, hw2]
  isplitl [H0]
  · iexists f0; isplitr; · ipureintro; exact e0
    iexact H0
  isplitl [H1]
  · iexists k0_pay2 f0; isplitr; · ipureintro; rw [e0]; rfl
    iexact H1
  · iexists k0_pay3 f0; isplitr; · ipureintro; rw [e0]; rfl
    iexact H2

theorem body2 (c : Dev nD) : BodyObligation (dat2 V n b c) (defs₀ (F := F)) 𝒱₀ none Set.univ := fun t => by
  obtain rfl := fin_N2 t
  rw [bigSep_W2, bigSep_W2]
  rw [show (dat2 V n b c).Φ t2_0.succ = (dat2 V n b c).Φ t2_0.castSucc from rfl,
    show (dat2 V n b c).owesAt none t2_0.succ = (dat2 V n b c).owesAt none t2_0.castSucc from rfl]
  simp only [owns_whole_eq]
  show _ ⊢ wp frame (wpE (defs₀ (F := F)) 𝒱₀ (c.tc : Thread nD τ) none) Set.univ
    (cc2__norm_body (Memref.whole cc2_stg0_0) (Memref.isWhole_whole _) (Memref.whole cc2_stg1_0) (Memref.isWhole_whole _)) _
  simp only [cc2__norm_body_eq_skeleton]; unfold cc2__norm_body_skel
  simp only [Prog.lift, Prog.bind_op, Prog.bind_ret]
  iintro ⟨HΦ, HO, ⟨%d0, %f0, %hf0, H0⟩, ⟨%d1, %f1, %hf1, H1⟩⟩
  sl_steps
  isplitl [HΦ]; · iexact HΦ
  isplitl [HO]; · iexact HO
  have hr0 : (Memref.whole cc2_stg0_0 : Memref sig .tc _ _ _).view.readAt (Elt F) (Rect.unit (s := S64x1024) ![0, 0]
      S64x1024.size inb_S64x1024_S64x1024_0_0).toLoadRect f0 = f0 := Memref.readAt_unit_zero (Elt F) cc2_stg0_0 zero2 _ f0
  have hw1 : ∀ w, ((Memref.whole cc2_stg1_0).access (Rect.unit (s := S64x1024) ![0, 0] S64x1024.size
      inb_S64x1024_S64x1024_0_0) : View sig .tc _ _ _).write (Elt F) f1 w Finset.univ = w :=
    Memref.write_access_unit_zero_univ (Elt F) cc2_stg1_0 zero2 _ f1
  have e0 : f0 = V lvw' := hf0.trans (before2 V n b c d0)
  rw [hr0, hw1]
  isplitl [H0]
  · iexists f0; isplitr; · ipureintro; exact e0
    iexact H0
  · iexists k2_pay1 f0; isplitr; · ipureintro; rw [e0]; rfl
    iexact H1

/-! ## The arrays at the ends of each call -/

theorem arrays0 (c : Dev nD) (f : (w : Fin cfg0.W) → Buf (Elt F) ((cfg0.win w).arr.view.loc (c.tc : Thread nD τ))) :
    ((dat0 V n b c).arrays f : sProp 𝕄)
      = iprop((p64Loc c ↦{fullShare} f (0 : Fin 3)) ∗ (lqLoc c ↦{fullShare} f (1 : Fin 3)) ∗ lvLoc c ↦{fullShare} f (2 : Fin 3)) := by
  refine (Pipeline.arrays_eq (pins (F := F)) (pdats V n b) 0 c arr_whole0 (share0 V n b c) f).trans ?_
  exact bigSep_W0 _
theorem arrays2 (c : Dev nD) (f : (w : Fin cfg2.W) → Buf (Elt F) ((cfg2.win w).arr.view.loc (c.tc : Thread nD τ))) :
    ((dat2 V n b c).arrays f : sProp 𝕄)
      = iprop((lvwLoc c ↦{fullShare} f (0 : Fin 2)) ∗ nrmLoc c ↦{fullShare} f (1 : Fin 2)) := by
  refine (Pipeline.arrays_eq (pins (F := F)) (pdats V n b) 1 c arr_whole2 (share2 V n b c) f).trans ?_
  exact bigSep_W2 _

theorem end0_0 (c : Dev nD) : (dat0 V n b c).arrAt (0 : Fin 3) cfg0.N = V p0' := (dat0 V n b c).arrAt_in (0 : Fin 3) rfl _
theorem end0_1 (c : Dev nD) : (dat0 V n b c).arrAt (1 : Fin 3) cfg0.N = k0_pay2 (F := F) (V p0') := by
  rw [show cfg0.N = (t0_0 : Fin cfg0.N).val + 1 from N_0, (dat0 V n b c).arrAt_succ (1 : Fin 3) t0_0, if_pos (flush0_1 t0_0)]
  exact Memref.write_access_unit_zero_univ (Elt F) main_v1_0 (off := fun a => win0_1.index t0_0 a * main_v1_0.ty.shape.size a)
    (funext fun a => by fin_cases a <;> decide) (fun a => by fin_cases a <;> decide) _ _
theorem end0_2 (c : Dev nD) : (dat0 V n b c).arrAt (2 : Fin 3) cfg0.N = k0_pay3 (F := F) (V p0') := by
  rw [show cfg0.N = (t0_0 : Fin cfg0.N).val + 1 from N_0, (dat0 V n b c).arrAt_succ (2 : Fin 3) t0_0, if_pos (flush0_2 t0_0)]
  exact Memref.write_access_unit_zero_univ (Elt F) main_v1_1 (off := fun a => win0_2.index t0_0 a * main_v1_1.ty.shape.size a)
    (funext fun a => by fin_cases a <;> decide) (fun a => by fin_cases a <;> decide) _ _
theorem end2_0 (c : Dev nD) : (dat2 V n b c).arrAt (0 : Fin 2) cfg2.N = V lvw' := (dat2 V n b c).arrAt_in (0 : Fin 2) rfl _
theorem end2_1 (c : Dev nD) : (dat2 V n b c).arrAt (1 : Fin 2) cfg2.N = k2_pay1 (F := F) (V lvw') := by
  rw [show cfg2.N = (t2_0 : Fin cfg2.N).val + 1 from N_2, (dat2 V n b c).arrAt_succ (1 : Fin 2) t2_0, if_pos (flush2_1 t2_0)]
  exact Memref.write_access_unit_zero_univ (Elt F) main_v14 (off := fun a => win2_1.index t2_0 a * main_v14.ty.shape.size a)
    (funext fun a => by fin_cases a <;> decide) (fun a => by fin_cases a <;> decide) _ _

/-! ## What the TensorCore owes -/

/-- What the TensorCore owes before call `n`, its recorded pairs at level at most `b`. -/
abbrev owing (c : Dev nD) : sProp 𝕄 := iprop(∃ W, ⌜(K (F := F)).WBelow (T c) W b⌝ ∗ owes (T c) ((K (F := F)).Otc c n) W)

theorem owing_in {cfg : Pipeline.Cfg sig Λ₀} {c : Dev nD} (dat : Dat τ (Elt F) (HIx 2) ℕ UU ℕ cfg c) (t : Fin (cfg.N + 1))
    (h0 : dat.owed t = (K (F := F)).Otc c n) (hr : dat.recorded t = below (F := F) b c) :
    owing (F := F) n b c ⊢ (dat.owesAt none t : sProp 𝕄) := by
  unfold Dat.owesAt Pipeline.owesWithin Dat.bound; rw [h0, hr]
  iintro ⟨%W, %hW, HO⟩; iexists W; isplitr; · ipureintro; exact fun p hp => Or.inl (hW p hp)
  iexact HO
theorem owing_out {cfg : Pipeline.Cfg sig Λ₀} {c : Dev nD} (dat : Dat τ (Elt F) (HIx 2) ℕ UU ℕ cfg c) (t : Fin (cfg.N + 1))
    (h0 : dat.owed t = (K (F := F)).Otc c n) (hr : dat.recorded t = below (F := F) b c) :
    (dat.owesAt none t : sProp 𝕄) ⊢ owing (F := F) n b c := by
  unfold Dat.owesAt Pipeline.owesWithin Dat.bound; rw [h0, hr]
  iintro ⟨%W, %hW, HO⟩; iexists W; isplitr
  · ipureintro
    intro p hp
    rcases hW hp with h | ⟨w, s, rfl⟩
    · exact h
    · exact Nat.zero_le _
  iexact HO

theorem Otc_none (c : Dev nD) (g : GSem nD τ sig) : (K (F := F)).Otc c n g none = 0 := by
  by_contra h
  have := SparseCore.Cfg.lev_of_Otc_pos (K := K (F := F)) (Nat.pos_of_ne_zero h)
  have h0 : (K (F := F)).lev g none = 0 := rfl
  omega

theorem waits (p : Fin 2) (c : Dev nD) :
    (levAts (K (F := F)).L (K (F := F)).lev : sProp 𝕄) ⊢ Pipeline.cellsWaits (pins (F := F)) (pdats V n b) none p c := by
  refine Pipeline.cellsWaits_intro (pins (F := F)) (pdats V n b) none p c fun w s t => ?_
  have ho : (pdats V n b p c).owed t = (K (F := F)).Otc c n := by fin_cases p <;> rfl
  rw [ho]
  exact ((K (F := F)).mayWaits_none (Otc_none n c)).trans (Transfers.MayWaits.elim _)

theorem bigSep_none {M : Type} [URA M] (Φ : Fin 0 → sProp M) : bigSep Finset.univ Φ = (BI.emp : sProp M) :=
  bigSep_univ_eq_bigSepL [] (by decide) (by decide) Φ
theorem prefHeld0 (c : Dev nD) (q) (pf) : (Pipeline.prefHeld (Ix := HIx 2) (Name := ℕ) (U := UU) (Lvl := ℕ) (Val := Elt F) (pcfgs (F := F) 0).pre c q pf : sProp 𝕄) = BI.emp :=
  bigSep_none _
theorem prefHeld2 (c : Dev nD) (q) (pf) : (Pipeline.prefHeld (Ix := HIx 2) (Name := ℕ) (U := UU) (Lvl := ℕ) (Val := Elt F) (pcfgs (F := F) 1).pre c q pf : sProp 𝕄) = BI.emp :=
  bigSep_none _

/-! ## The regions -/

abbrev Region (p : Fin 2) : Type _ := Pipeline.RegionSeg (pcfgs (F := F)) adm (pdats V n b) none (defs₀ (F := F)) 𝒱₀ (K (F := F)).L (K (F := F)).lev p

def reg0 : Region (F := F) V n b 0 where
  win := winFacts0.to₀
  block_pos := block_pos0
  stage_whole := stage_whole0
  K := PEmpty
  osem k := k.elim
  ho := Pipeline.OwnSemFacts.none _
  hbody c := (body0 V n b c).loose
  hwaits c := waits V n b 0 c
  pre c := iprop(held (T c) prepBufs V ∗ owing (F := F) n b c)
  post c := iprop(held (T c) prepBufs (prepV V) ∗ owing (F := F) n b c)
  X _ := iprop(emp)
  Y _ := iprop(emp)
  Z _ := iprop(emp)
  hentry c := by
    rw [held_prep, Pipeline.ownSems0_none, prefHeld0]
    rw [show (pdats V n b 0 c).arrays ((pdats V n b 0 c).arrAt · 0) = _ from arrays0 V n b c _]
    iintro ⟨⟨⟨H0, H1, H2⟩, HO⟩, -, -⟩
    imodintro
    isplitl [H0 H1 H2]
    · isplitl [H0]; · iexact H0
      isplitl [H1]; · iexact H1
      iexact H2
    isplitr; · iempintro
    isplitl [HO]; · iapply (owing_in n b (pdats V n b 0 c) 0 rfl rfl); iexact HO
    isplitr <;> iempintro
  hin c := by
    rw [show (pdats V n b 0 c).Φ 0 = Pipeline.scopedRest spec0 c from rfl]
    iintro ⟨-, -, H⟩; iexact H
  hout c := by
    rw [Pipeline.ownSems0_none, show (pdats V n b 0 c).Φ (Fin.last _) = Pipeline.scopedRest spec0 c from rfl]
    iintro H
    isplitr; · iempintro
    isplitr; · iempintro
    iexact H
  hexit c := by
    rw [held_prep, prepV_p, prepV_q, prepV_v]
    rw [show (pdats V n b 0 c).arrays ((pdats V n b 0 c).arrAt · (pins (F := F) 0).N) = _ from arrays0 V n b c _]
    rw [show (pdats V n b 0 c).arrAt (0 : Fin 3) (pins (F := F) 0).N = _ from end0_0 V n b c,
      show (pdats V n b 0 c).arrAt (1 : Fin 3) (pins (F := F) 0).N = _ from end0_1 V n b c,
      show (pdats V n b 0 c).arrAt (2 : Fin 3) (pins (F := F) 0).N = _ from end0_2 V n b c]
    iintro ⟨⟨H0, H1, H2⟩, HO, -, -⟩
    imodintro
    isplitl [H0 H1 H2]
    · isplitl [H0]; · iexact H0
      isplitl [H1]; · iexact H1
      iexact H2
    iapply (owing_out n b (pdats V n b 0 c) _ rfl rfl); iexact HO

def reg2 : Region (F := F) V n b 1 where
  win := winFacts2.to₀
  block_pos := block_pos2
  stage_whole := stage_whole2
  K := PEmpty
  osem k := k.elim
  ho := Pipeline.OwnSemFacts.none _
  hbody c := (body2 V n b c).loose
  hwaits c := waits V n b 1 c
  pre c := iprop(held (T c) normBufs V ∗ owing (F := F) n b c)
  post c := iprop(held (T c) normBufs (normV V) ∗ owing (F := F) n b c)
  X _ := iprop(emp)
  Y _ := iprop(emp)
  Z _ := iprop(emp)
  hentry c := by
    rw [held_norm, Pipeline.ownSems0_none, prefHeld2]
    rw [show (pdats V n b 1 c).arrays ((pdats V n b 1 c).arrAt · 0) = _ from arrays2 V n b c _]
    iintro ⟨⟨⟨H0, H1⟩, HO⟩, -, -⟩
    imodintro
    isplitl [H0 H1]
    · isplitl [H0]; · iexact H0
      iexact H1
    isplitr; · iempintro
    isplitl [HO]; · iapply (owing_in n b (pdats V n b 1 c) 0 rfl rfl); iexact HO
    isplitr <;> iempintro
  hin c := by
    rw [show (pdats V n b 1 c).Φ 0 = Pipeline.scopedRest spec2 c from rfl]
    iintro ⟨-, -, H⟩; iexact H
  hout c := by
    rw [Pipeline.ownSems0_none, show (pdats V n b 1 c).Φ (Fin.last _) = Pipeline.scopedRest spec2 c from rfl]
    iintro H
    isplitr; · iempintro
    isplitr; · iempintro
    iexact H
  hexit c := by
    rw [held_norm, normV_n, normV_of V (b := lvw') (by decide)]
    rw [show (pdats V n b 1 c).arrays ((pdats V n b 1 c).arrAt · (pins (F := F) 1).N) = _ from arrays2 V n b c _]
    rw [show (pdats V n b 1 c).arrAt (0 : Fin 2) (pins (F := F) 1).N = _ from end2_0 V n b c,
      show (pdats V n b 1 c).arrAt (1 : Fin 2) (pins (F := F) 1).N = _ from end2_1 V n b c]
    iintro ⟨⟨H0, H1⟩, HO, -, -⟩
    imodintro
    isplitl [H0 H1]
    · isplitl [H0]; · iexact H0
      iexact H1
    iapply (owing_out n b (pdats V n b 1 c) _ rfl rfl); iexact HO

end Data

/-! ## The calls as @main runs them -/

theorem pins_inj : Function.Injective (Pipeline.cellOf (nD := nD) (τ := τ) (pins (F := F))) := cellOf_inj

variable [∀ e, Nonempty (Elt F e)]

/-- A TensorCore call under the whole program's table, from its pipeline's ghost state. -/
theorem call_region (V : Valuation τ sig (Elt F)) (n b : ℕ) {p : Fin 2}
    (R : Pipeline.RegionSeg (pcfgs (F := F)) adm (pdats V n b) none (defs₀ (F := F)) 𝒱₀ (K (F := F)).L (K (F := F)).lev p)
    (d : Dev nD) (Q : PUnit → sProp 𝕄) :
    iprop((iprop(boundary (T d) ∗ R.post d) -∗ Q ⟨⟩) ∗ boundary (T d) ∗ R.pre d ∗ levAts (K (F := F)).L (K (F := F)).lev ∗ ghost (F := F) p d)
      ⊢ wp frame (wpE ((K (F := F)).defs (D (F := F))) 𝒱 (T d) none) Set.univ
          (Prog.lift (.customCall (SparseCore.inner (Pipeline.entry p)) ())) Q := by
  refine BIBase.Entails.trans ?_ ((K (F := F)).wp_liftProg (D (F := F)) 𝒱 (T d) Set.univ none (Prog.lift (.customCall (Pipeline.entry p) ())) Q)
  refine BIBase.Entails.trans ?_ (R.wp (pcfgs (F := F)) adm (pdats V n b) none pins_inj EP (defs₀ (F := F)) 𝒱₀ _ _ d none (fun _ h => nomatch h) Prog.ret Q)
  unfold ghost
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg] <;> iassumption

end Cert.KernelIdeal.Whole

end
-- ==== Proof.DrawIdeal.lean ====
/- The kernel's draw of the noise: its operations in seven stretches, each read back as the function it computes, and what each leaves alone. -/
module

public import proofs.«01_k».proof.Proof.Gen.KernelIdeal
public import proofs.«01_k».proof.Proof.Noise
public import Idealize.ShloMosaic.Lib.StableHlo.Run

@[expose] public section

noncomputable section

namespace Cert.KernelIdeal.Draw

open Cert.KernelIdeal Cert.KernelIdeal.Gen Idealize.ShloMosaic Idealize.ShloMosaic.TcCoe Idealize.SL.Sem Idealize.ShloMosaic.StableHlo
open Cert.Noise (Word wide)

variable {F : FTy → Type} [FloatOps F]

/-! ## The operations -/

/-- The arrays of the draw, of the uniform numbers it is made of, of their words, and the key's. -/
abbrev g : fn_gumbel.Bufs := main_call0
abbrev u : fn_uniform.Bufs := main_call0_call0
abbrev t : fn_threefry2x32.Bufs := main_call0_call0_call0
abbrev k : TRef sig ⟨S2, .i32⟩ := .of main_v8

/-- The key, the counters and the keys added to them. -/
abbrev startOps : List (HloOp τ sig (Elt F)) :=
  [ nullary main_c (constantI S_ 32 42#32),
    nullary main_c_0 (constantI S_ 32 32#32),
    binary main_c main_c_0 main_v2 (Host.shrui : (⟨S_, .i32⟩ : BufTy).Contents (Elt F) → (⟨S_, .i32⟩ : BufTy).Contents (Elt F) → (⟨S_, .i32⟩ : BufTy).Contents (Elt F)),
    unary main_v2 main_v3 (id : (⟨S_, .i32⟩ : BufTy).Contents (Elt F) → (⟨S_, .i32⟩ : BufTy).Contents (Elt F)),
    unary main_v3 main_v4 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v5 (andi : (⟨S_, .i32⟩ : BufTy).Contents (Elt F) → (⟨S_, .i32⟩ : BufTy).Contents (Elt F) → (⟨S_, .i32⟩ : BufTy).Contents (Elt F)),
    unary main_v5 main_v6 (id : (⟨S_, .i32⟩ : BufTy).Contents (Elt F) → (⟨S_, .i32⟩ : BufTy).Contents (Elt F)),
    unary main_v6 main_v7 (broadcastInDim S1 ![] bcast_S_S1 : (⟨S_, .i32⟩ : BufTy).Contents (Elt F) → (⟨S1, .i32⟩ : BufTy).Contents (Elt F)),
    binary main_v4 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    TRef.nullary g.cst (constant S_ .f32 0x3F800000#32),
    TRef.nullary g.cst_0 (constant S_ .f32 0x00800000#32),
    TRef.unary g.cst u.v0 id,
    TRef.unary g.cst_0 u.v1 (broadcastInDim S1x1x1 ![] bcast_S_S1x1x1),
    TRef.unary u.v0 u.v2 (broadcastInDim S1x1x1 ![] bcast_S_S1x1x1),
    TRef.unary k u.v3 (extractStridedSlice S1 ![0] · slices_S2_S1_0),
    TRef.reshape u.v3 u.v4 (rfl : (.i32 : EltTy) = .i32) shapeCasts_S1_S_,
    TRef.unary k u.v5 (extractStridedSlice S1 ![1] · slices_S2_S1_1),
    TRef.reshape u.v5 u.v6 (rfl : (.i32 : EltTy) = .i32) shapeCasts_S1_S_,
    TRef.nullary u.v7 (iotaInDim S1024x64x64 64 0),
    TRef.nullary u.v8 (iotaInDim S1024x64x64 64 1),
    TRef.nullary u.v9 (iotaInDim S1024x64x64 64 2),
    TRef.nullary u.c (constantI S_ 64 4096#64),
    TRef.unary u.c u.v10 (broadcastInDim S1024x64x64 ![] bcast_S_S1024x64x64),
    TRef.binary u.v10 u.v7 u.v11 muli,
    TRef.nullary u.c_0 (constantI S_ 64 64#64),
    TRef.unary u.c_0 u.v12 (broadcastInDim S1024x64x64 ![] bcast_S_S1024x64x64),
    TRef.binary u.v12 u.v8 u.v13 muli,
    TRef.nullary u.c_1 (constantI S_ 64 1#64),
    TRef.unary u.c_1 u.v14 (broadcastInDim S1024x64x64 ![] bcast_S_S1024x64x64),
    TRef.binary u.v14 u.v9 u.v15 muli,
    TRef.binary u.v11 u.v13 u.v16 addi,
    TRef.binary u.v16 u.v15 u.v17 addi,
    TRef.nullary u.c_2 (constantI S_ 64 32#64),
    TRef.unary u.c_2 u.v18 (broadcastInDim S1024x64x64 ![] bcast_S_S1024x64x64),
    TRef.binary u.v17 u.v18 u.v19 Host.shrui,
    TRef.unary u.v17 u.v20 (trunci 32 · natLt_32_64),
    TRef.unary u.v19 u.v21 (trunci 32 · natLt_32_64),
    TRef.binary u.v4 u.v6 t.v0 xori,
    TRef.nullary t.c (constantI S_ 32 466688986#32),
    TRef.binary t.v0 t.c t.v1 xori,
    TRef.unary u.v4 t.v2 (broadcastInDim S1024x64x64 ![] bcast_S_S1024x64x64),
    TRef.binary u.v21 t.v2 t.v3 addi,
    TRef.unary u.v6 t.v4 (broadcastInDim S1024x64x64 ![] bcast_S_S1024x64x64),
    TRef.binary u.v20 t.v4 t.v5 addi ]

theorem startOps_sub : (startOps : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub ..⟩

/-- What they write. -/
abbrev startW : List (Ref sig .tc) := [main_c, main_c_0, main_v2, main_v3, main_v4, main_c_1, main_v5, main_v6, main_v7, main_v8, g.cst.ref, g.cst_0.ref, u.v0.ref, u.v1.ref, u.v2.ref, u.v3.ref, u.v4.ref, u.v5.ref, u.v6.ref, u.v7.ref, u.v8.ref, u.v9.ref, u.c.ref, u.v10.ref, u.v11.ref, u.c_0.ref, u.v12.ref, u.v13.ref, u.c_1.ref, u.v14.ref, u.v15.ref, u.v16.ref, u.v17.ref, u.c_2.ref, u.v18.ref, u.v19.ref, u.v20.ref, u.v21.ref, t.v0.ref, t.c.ref, t.v1.ref, t.v2.ref, t.v3.ref, t.v4.ref, t.v5.ref]
theorem start_keep (V : Valuation τ sig (Elt F)) {b : Ref sig .tc} (h : b ∉ startW) : after startOps V (Proc.devRef .tc b) = V (Proc.devRef .tc b) :=
  after_of_writes_sub startOps V (forall_writes_sub_of_map rfl) h

/-- Round 1 of the five: four turns, then the keys of the round. -/
abbrev round1Ops : List (HloOp τ sig (Elt F)) :=
  [ TRef.binary t.v3 t.v5 t.v6 addi,
    TRef.nullary t.c_0 (constantI S_ 32 13#32),
    TRef.unary t.c_0 t.v7 (broadcastInDim S1024x64x64 ![] bcast_S_S1024x64x64),
    TRef.binary t.v5 t.v7 t.v8 Host.shli,
    TRef.nullary t.c_1 (constantI S_ 32 19#32),
    TRef.unary t.c_1 t.v9 (broadcastInDim S1024x64x64 ![] bcast_S_S1024x64x64),
    TRef.binary t.v5 t.v9 t.v10 Host.shrui,
    TRef.binary t.v8 t.v10 t.v11 ori,
    TRef.binary t.v6 t.v11 t.v12 xori,
    TRef.binary t.v6 t.v12 t.v13 addi,
    TRef.nullary t.c_2 (constantI S_ 32 15#32),
    TRef.unary t.c_2 t.v14 (broadcastInDim S1024x64x64 ![] bcast_S_S1024x64x64),
    TRef.binary t.v12 t.v14 t.v15 Host.shli,
    TRef.nullary t.c_3 (constantI S_ 32 17#32),
    TRef.unary t.c_3 t.v16 (broadcastInDim S1024x64x64 ![] bcast_S_S1024x64x64),
    TRef.binary t.v12 t.v16 t.v17 Host.shrui,
    TRef.binary t.v15 t.v17 t.v18 ori,
    TRef.binary t.v13 t.v18 t.v19 xori,
    TRef.binary t.v13 t.v19 t.v20 addi,
    TRef.nullary t.c_4 (constantI S_ 32 26#32),
    TRef.unary t.c_4 t.v21 (broadcastInDim S1024x64x64 ![] bcast_S_S1024x64x64),
    TRef.binary t.v19 t.v21 t.v22 Host.shli,
    TRef.nullary t.c_5 (constantI S_ 32 6#32),
    TRef.unary t.c_5 t.v23 (broadcastInDim S1024x64x64 ![] bcast_S_S1024x64x64),
    TRef.binary t.v19 t.v23 t.v24 Host.shrui,
    TRef.binary t.v22 t.v24 t.v25 ori,
    TRef.binary t.v20 t.v25 t.v26 xori,
    TRef.binary t.v20 t.v26 t.v27 addi,
    TRef.nullary t.c_6 (constantI S_ 32 6#32),
    TRef.unary t.c_6 t.v28 (broadcastInDim S1024x64x64 ![] bcast_S_S1024x64x64),
    TRef.binary t.v26 t.v28 t.v29 Host.shli,
    TRef.nullary t.c_7 (constantI S_ 32 26#32),
    TRef.unary t.c_7 t.v30 (broadcastInDim S1024x64x64 ![] bcast_S_S1024x64x64),
    TRef.binary t.v26 t.v30 t.v31 Host.shrui,
    TRef.binary t.v29 t.v31 t.v32 ori,
    TRef.binary t.v27 t.v32 t.v33 xori,
    TRef.unary u.v6 t.v34 (broadcastInDim S1024x64x64 ![] bcast_S_S1024x64x64),
    TRef.binary t.v27 t.v34 t.v35 addi,
    TRef.unary t.v1 t.v36 (broadcastInDim S1024x64x64 ![] bcast_S_S1024x64x64),
    TRef.binary t.v33 t.v36 t.v37 addi,
    TRef.nullary t.c_8 (constantI S_ 32 1#32),
    TRef.unary t.c_8 t.v38 (broadcastInDim S1024x64x64 ![] bcast_S_S1024x64x64),
    TRef.binary t.v37 t.v38 t.v39 addi ]

theorem round1Ops_sub : (round1Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round1W : List (Ref sig .tc) := [t.v6.ref, t.c_0.ref, t.v7.ref, t.v8.ref, t.c_1.ref, t.v9.ref, t.v10.ref, t.v11.ref, t.v12.ref, t.v13.ref, t.c_2.ref, t.v14.ref, t.v15.ref, t.c_3.ref, t.v16.ref, t.v17.ref, t.v18.ref, t.v19.ref, t.v20.ref, t.c_4.ref, t.v21.ref, t.v22.ref, t.c_5.ref, t.v23.ref, t.v24.ref, t.v25.ref, t.v26.ref, t.v27.ref, t.c_6.ref, t.v28.ref, t.v29.ref, t.c_7.ref, t.v30.ref, t.v31.ref, t.v32.ref, t.v33.ref, t.v34.ref, t.v35.ref, t.v36.ref, t.v37.ref, t.c_8.ref, t.v38.ref, t.v39.ref]
theorem round1_keep (V : Valuation τ sig (Elt F)) {b : Ref sig .tc} (h : b ∉ round1W) : after round1Ops V (Proc.devRef .tc b) = V (Proc.devRef .tc b) :=
  after_of_writes_sub round1Ops V (forall_writes_sub_of_map rfl) h

/-- Round 2 of the five: four turns, then the keys of the round. -/
abbrev round2Ops : List (HloOp τ sig (Elt F)) :=
  [ TRef.binary t.v35 t.v39 t.v40 addi,
    TRef.nullary t.c_9 (constantI S_ 32 17#32),
    TRef.unary t.c_9 t.v41 (broadcastInDim S1024x64x64 ![] bcast_S_S1024x64x64),
    TRef.binary t.v39 t.v41 t.v42 Host.shli,
    TRef.nullary t.c_10 (constantI S_ 32 15#32),
    TRef.unary t.c_10 t.v43 (broadcastInDim S1024x64x64 ![] bcast_S_S1024x64x64),
    TRef.binary t.v39 t.v43 t.v44 Host.shrui,
    TRef.binary t.v42 t.v44 t.v45 ori,
    TRef.binary t.v40 t.v45 t.v46 xori,
    TRef.binary t.v40 t.v46 t.v47 addi,
    TRef.nullary t.c_11 (constantI S_ 32 29#32),
    TRef.unary t.c_11 t.v48 (broadcastInDim S1024x64x64 ![] bcast_S_S1024x64x64),
    TRef.binary t.v46 t.v48 t.v49 Host.shli,
    TRef.nullary t.c_12 (constantI S_ 32 3#32),
    TRef.unary t.c_12 t.v50 (broadcastInDim S1024x64x64 ![] bcast_S_S1024x64x64),
    TRef.binary t.v46 t.v50 t.v51 Host.shrui,
    TRef.binary t.v49 t.v51 t.v52 ori,
    TRef.binary t.v47 t.v52 t.v53 xori,
    TRef.binary t.v47 t.v53 t.v54 addi,
    TRef.nullary t.c_13 (constantI S_ 32 16#32),
    TRef.unary t.c_13 t.v55 (broadcastInDim S1024x64x64 ![] bcast_S_S1024x64x64),
    TRef.binary t.v53 t.v55 t.v56 Host.shli,
    TRef.nullary t.c_14 (constantI S_ 32 16#32),
    TRef.unary t.c_14 t.v57 (broadcastInDim S1024x64x64 ![] bcast_S_S1024x64x64),
    TRef.binary t.v53 t.v57 t.v58 Host.shrui,
    TRef.binary t.v56 t.v58 t.v59 ori,
    TRef.binary t.v54 t.v59 t.v60 xori,
    TRef.binary t.v54 t.v60 t.v61 addi,
    TRef.nullary t.c_15 (constantI S_ 32 24#32),
    TRef.unary t.c_15 t.v62 (broadcastInDim S1024x64x64 ![] bcast_S_S1024x64x64),
    TRef.binary t.v60 t.v62 t.v63 Host.shli,
    TRef.nullary t.c_16 (constantI S_ 32 8#32),
    TRef.unary t.c_16 t.v64 (broadcastInDim S1024x64x64 ![] bcast_S_S1024x64x64),
    TRef.binary t.v60 t.v64 t.v65 Host.shrui,
    TRef.binary t.v63 t.v65 t.v66 ori,
    TRef.binary t.v61 t.v66 t.v67 xori,
    TRef.unary t.v1 t.v68 (broadcastInDim S1024x64x64 ![] bcast_S_S1024x64x64),
    TRef.binary t.v61 t.v68 t.v69 addi,
    TRef.unary u.v4 t.v70 (broadcastInDim S1024x64x64 ![] bcast_S_S1024x64x64),
    TRef.binary t.v67 t.v70 t.v71 addi,
    TRef.nullary t.c_17 (constantI S_ 32 2#32),
    TRef.unary t.c_17 t.v72 (broadcastInDim S1024x64x64 ![] bcast_S_S1024x64x64),
    TRef.binary t.v71 t.v72 t.v73 addi ]

theorem round2Ops_sub : (round2Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round2W : List (Ref sig .tc) := [t.v40.ref, t.c_9.ref, t.v41.ref, t.v42.ref, t.c_10.ref, t.v43.ref, t.v44.ref, t.v45.ref, t.v46.ref, t.v47.ref, t.c_11.ref, t.v48.ref, t.v49.ref, t.c_12.ref, t.v50.ref, t.v51.ref, t.v52.ref, t.v53.ref, t.v54.ref, t.c_13.ref, t.v55.ref, t.v56.ref, t.c_14.ref, t.v57.ref, t.v58.ref, t.v59.ref, t.v60.ref, t.v61.ref, t.c_15.ref, t.v62.ref, t.v63.ref, t.c_16.ref, t.v64.ref, t.v65.ref, t.v66.ref, t.v67.ref, t.v68.ref, t.v69.ref, t.v70.ref, t.v71.ref, t.c_17.ref, t.v72.ref, t.v73.ref]
theorem round2_keep (V : Valuation τ sig (Elt F)) {b : Ref sig .tc} (h : b ∉ round2W) : after round2Ops V (Proc.devRef .tc b) = V (Proc.devRef .tc b) :=
  after_of_writes_sub round2Ops V (forall_writes_sub_of_map rfl) h

/-- Round 3 of the five: four turns, then the keys of the round. -/
abbrev round3Ops : List (HloOp τ sig (Elt F)) :=
  [ TRef.binary t.v69 t.v73 t.v74 addi,
    TRef.nullary t.c_18 (constantI S_ 32 13#32),
    TRef.unary t.c_18 t.v75 (broadcastInDim S1024x64x64 ![] bcast_S_S1024x64x64),
    TRef.binary t.v73 t.v75 t.v76 Host.shli,
    TRef.nullary t.c_19 (constantI S_ 32 19#32),
    TRef.unary t.c_19 t.v77 (broadcastInDim S1024x64x64 ![] bcast_S_S1024x64x64),
    TRef.binary t.v73 t.v77 t.v78 Host.shrui,
    TRef.binary t.v76 t.v78 t.v79 ori,
    TRef.binary t.v74 t.v79 t.v80 xori,
    TRef.binary t.v74 t.v80 t.v81 addi,
    TRef.nullary t.c_20 (constantI S_ 32 15#32),
    TRef.unary t.c_20 t.v82 (broadcastInDim S1024x64x64 ![] bcast_S_S1024x64x64),
    TRef.binary t.v80 t.v82 t.v83 Host.shli,
    TRef.nullary t.c_21 (constantI S_ 32 17#32),
    TRef.unary t.c_21 t.v84 (broadcastInDim S1024x64x64 ![] bcast_S_S1024x64x64),
    TRef.binary t.v80 t.v84 t.v85 Host.shrui,
    TRef.binary t.v83 t.v85 t.v86 ori,
    TRef.binary t.v81 t.v86 t.v87 xori,
    TRef.binary t.v81 t.v87 t.v88 addi,
    TRef.nullary t.c_22 (constantI S_ 32 26#32),
    TRef.unary t.c_22 t.v89 (broadcastInDim S1024x64x64 ![] bcast_S_S1024x64x64),
    TRef.binary t.v87 t.v89 t.v90 Host.shli,
    TRef.nullary t.c_23 (constantI S_ 32 6#32),
    TRef.unary t.c_23 t.v91 (broadcastInDim S1024x64x64 ![] bcast_S_S1024x64x64),
    TRef.binary t.v87 t.v91 t.v92 Host.shrui,
    TRef.binary t.v90 t.v92 t.v93 ori,
    TRef.binary t.v88 t.v93 t.v94 xori,
    TRef.binary t.v88 t.v94 t.v95 addi,
    TRef.nullary t.c_24 (constantI S_ 32 6#32),
    TRef.unary t.c_24 t.v96 (broadcastInDim S1024x64x64 ![] bcast_S_S1024x64x64),
    TRef.binary t.v94 t.v96 t.v97 Host.shli,
    TRef.nullary t.c_25 (constantI S_ 32 26#32),
    TRef.unary t.c_25 t.v98 (broadcastInDim S1024x64x64 ![] bcast_S_S1024x64x64),
    TRef.binary t.v94 t.v98 t.v99 Host.shrui,
    TRef.binary t.v97 t.v99 t.v100 ori,
    TRef.binary t.v95 t.v100 t.v101 xori,
    TRef.unary u.v4 t.v102 (broadcastInDim S1024x64x64 ![] bcast_S_S1024x64x64),
    TRef.binary t.v95 t.v102 t.v103 addi,
    TRef.unary u.v6 t.v104 (broadcastInDim S1024x64x64 ![] bcast_S_S1024x64x64),
    TRef.binary t.v101 t.v104 t.v105 addi,
    TRef.nullary t.c_26 (constantI S_ 32 3#32),
    TRef.unary t.c_26 t.v106 (broadcastInDim S1024x64x64 ![] bcast_S_S1024x64x64),
    TRef.binary t.v105 t.v106 t.v107 addi ]

theorem round3Ops_sub : (round3Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round3W : List (Ref sig .tc) := [t.v74.ref, t.c_18.ref, t.v75.ref, t.v76.ref, t.c_19.ref, t.v77.ref, t.v78.ref, t.v79.ref, t.v80.ref, t.v81.ref, t.c_20.ref, t.v82.ref, t.v83.ref, t.c_21.ref, t.v84.ref, t.v85.ref, t.v86.ref, t.v87.ref, t.v88.ref, t.c_22.ref, t.v89.ref, t.v90.ref, t.c_23.ref, t.v91.ref, t.v92.ref, t.v93.ref, t.v94.ref, t.v95.ref, t.c_24.ref, t.v96.ref, t.v97.ref, t.c_25.ref, t.v98.ref, t.v99.ref, t.v100.ref, t.v101.ref, t.v102.ref, t.v103.ref, t.v104.ref, t.v105.ref, t.c_26.ref, t.v106.ref, t.v107.ref]
theorem round3_keep (V : Valuation τ sig (Elt F)) {b : Ref sig .tc} (h : b ∉ round3W) : after round3Ops V (Proc.devRef .tc b) = V (Proc.devRef .tc b) :=
  after_of_writes_sub round3Ops V (forall_writes_sub_of_map rfl) h

/-- Round 4 of the five: four turns, then the keys of the round. -/
abbrev round4Ops : List (HloOp τ sig (Elt F)) :=
  [ TRef.binary t.v103 t.v107 t.v108 addi,
    TRef.nullary t.c_27 (constantI S_ 32 17#32),
    TRef.unary t.c_27 t.v109 (broadcastInDim S1024x64x64 ![] bcast_S_S1024x64x64),
    TRef.binary t.v107 t.v109 t.v110 Host.shli,
    TRef.nullary t.c_28 (constantI S_ 32 15#32),
    TRef.unary t.c_28 t.v111 (broadcastInDim S1024x64x64 ![] bcast_S_S1024x64x64),
    TRef.binary t.v107 t.v111 t.v112 Host.shrui,
    TRef.binary t.v110 t.v112 t.v113 ori,
    TRef.binary t.v108 t.v113 t.v114 xori,
    TRef.binary t.v108 t.v114 t.v115 addi,
    TRef.nullary t.c_29 (constantI S_ 32 29#32),
    TRef.unary t.c_29 t.v116 (broadcastInDim S1024x64x64 ![] bcast_S_S1024x64x64),
    TRef.binary t.v114 t.v116 t.v117 Host.shli,
    TRef.nullary t.c_30 (constantI S_ 32 3#32),
    TRef.unary t.c_30 t.v118 (broadcastInDim S1024x64x64 ![] bcast_S_S1024x64x64),
    TRef.binary t.v114 t.v118 t.v119 Host.shrui,
    TRef.binary t.v117 t.v119 t.v120 ori,
    TRef.binary t.v115 t.v120 t.v121 xori,
    TRef.binary t.v115 t.v121 t.v122 addi,
    TRef.nullary t.c_31 (constantI S_ 32 16#32),
    TRef.unary t.c_31 t.v123 (broadcastInDim S1024x64x64 ![] bcast_S_S1024x64x64),
    TRef.binary t.v121 t.v123 t.v124 Host.shli,
    TRef.nullary t.c_32 (constantI S_ 32 16#32),
    TRef.unary t.c_32 t.v125 (broadcastInDim S1024x64x64 ![] bcast_S_S1024x64x64),
    TRef.binary t.v121 t.v125 t.v126 Host.shrui,
    TRef.binary t.v124 t.v126 t.v127 ori,
    TRef.binary t.v122 t.v127 t.v128 xori,
    TRef.binary t.v122 t.v128 t.v129 addi,
    TRef.nullary t.c_33 (constantI S_ 32 24#32),
    TRef.unary t.c_33 t.v130 (broadcastInDim S1024x64x64 ![] bcast_S_S1024x64x64),
    TRef.binary t.v128 t.v130 t.v131 Host.shli,
    TRef.nullary t.c_34 (constantI S_ 32 8#32),
    TRef.unary t.c_34 t.v132 (broadcastInDim S1024x64x64 ![] bcast_S_S1024x64x64),
    TRef.binary t.v128 t.v132 t.v133 Host.shrui,
    TRef.binary t.v131 t.v133 t.v134 ori,
    TRef.binary t.v129 t.v134 t.v135 xori,
    TRef.unary u.v6 t.v136 (broadcastInDim S1024x64x64 ![] bcast_S_S1024x64x64),
    TRef.binary t.v129 t.v136 t.v137 addi,
    TRef.unary t.v1 t.v138 (broadcastInDim S1024x64x64 ![] bcast_S_S1024x64x64),
    TRef.binary t.v135 t.v138 t.v139 addi,
    TRef.nullary t.c_35 (constantI S_ 32 4#32),
    TRef.unary t.c_35 t.v140 (broadcastInDim S1024x64x64 ![] bcast_S_S1024x64x64),
    TRef.binary t.v139 t.v140 t.v141 addi ]

theorem round4Ops_sub : (round4Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round4W : List (Ref sig .tc) := [t.v108.ref, t.c_27.ref, t.v109.ref, t.v110.ref, t.c_28.ref, t.v111.ref, t.v112.ref, t.v113.ref, t.v114.ref, t.v115.ref, t.c_29.ref, t.v116.ref, t.v117.ref, t.c_30.ref, t.v118.ref, t.v119.ref, t.v120.ref, t.v121.ref, t.v122.ref, t.c_31.ref, t.v123.ref, t.v124.ref, t.c_32.ref, t.v125.ref, t.v126.ref, t.v127.ref, t.v128.ref, t.v129.ref, t.c_33.ref, t.v130.ref, t.v131.ref, t.c_34.ref, t.v132.ref, t.v133.ref, t.v134.ref, t.v135.ref, t.v136.ref, t.v137.ref, t.v138.ref, t.v139.ref, t.c_35.ref, t.v140.ref, t.v141.ref]
theorem round4_keep (V : Valuation τ sig (Elt F)) {b : Ref sig .tc} (h : b ∉ round4W) : after round4Ops V (Proc.devRef .tc b) = V (Proc.devRef .tc b) :=
  after_of_writes_sub round4Ops V (forall_writes_sub_of_map rfl) h

/-- Round 5 of the five: four turns, then the keys of the round. -/
abbrev round5Ops : List (HloOp τ sig (Elt F)) :=
  [ TRef.binary t.v137 t.v141 t.v142 addi,
    TRef.nullary t.c_36 (constantI S_ 32 13#32),
    TRef.unary t.c_36 t.v143 (broadcastInDim S1024x64x64 ![] bcast_S_S1024x64x64),
    TRef.binary t.v141 t.v143 t.v144 Host.shli,
    TRef.nullary t.c_37 (constantI S_ 32 19#32),
    TRef.unary t.c_37 t.v145 (broadcastInDim S1024x64x64 ![] bcast_S_S1024x64x64),
    TRef.binary t.v141 t.v145 t.v146 Host.shrui,
    TRef.binary t.v144 t.v146 t.v147 ori,
    TRef.binary t.v142 t.v147 t.v148 xori,
    TRef.binary t.v142 t.v148 t.v149 addi,
    TRef.nullary t.c_38 (constantI S_ 32 15#32),
    TRef.unary t.c_38 t.v150 (broadcastInDim S1024x64x64 ![] bcast_S_S1024x64x64),
    TRef.binary t.v148 t.v150 t.v151 Host.shli,
    TRef.nullary t.c_39 (constantI S_ 32 17#32),
    TRef.unary t.c_39 t.v152 (broadcastInDim S1024x64x64 ![] bcast_S_S1024x64x64),
    TRef.binary t.v148 t.v152 t.v153 Host.shrui,
    TRef.binary t.v151 t.v153 t.v154 ori,
    TRef.binary t.v149 t.v154 t.v155 xori,
    TRef.binary t.v149 t.v155 t.v156 addi,
    TRef.nullary t.c_40 (constantI S_ 32 26#32),
    TRef.unary t.c_40 t.v157 (broadcastInDim S1024x64x64 ![] bcast_S_S1024x64x64),
    TRef.binary t.v155 t.v157 t.v158 Host.shli,
    TRef.nullary t.c_41 (constantI S_ 32 6#32),
    TRef.unary t.c_41 t.v159 (broadcastInDim S1024x64x64 ![] bcast_S_S1024x64x64),
    TRef.binary t.v155 t.v159 t.v160 Host.shrui,
    TRef.binary t.v158 t.v160 t.v161 ori,
    TRef.binary t.v156 t.v161 t.v162 xori,
    TRef.binary t.v156 t.v162 t.v163 addi,
    TRef.nullary t.c_42 (constantI S_ 32 6#32),
    TRef.unary t.c_42 t.v164 (broadcastInDim S1024x64x64 ![] bcast_S_S1024x64x64),
    TRef.binary t.v162 t.v164 t.v165 Host.shli,
    TRef.nullary t.c_43 (constantI S_ 32 26#32),
    TRef.unary t.c_43 t.v166 (broadcastInDim S1024x64x64 ![] bcast_S_S1024x64x64),
    TRef.binary t.v162 t.v166 t.v167 Host.shrui,
    TRef.binary t.v165 t.v167 t.v168 ori,
    TRef.binary t.v163 t.v168 t.v169 xori,
    TRef.unary t.v1 t.v170 (broadcastInDim S1024x64x64 ![] bcast_S_S1024x64x64),
    TRef.binary t.v163 t.v170 t.v171 addi,
    TRef.unary u.v4 t.v172 (broadcastInDim S1024x64x64 ![] bcast_S_S1024x64x64),
    TRef.binary t.v169 t.v172 t.v173 addi,
    TRef.nullary t.c_44 (constantI S_ 32 5#32),
    TRef.unary t.c_44 t.v174 (broadcastInDim S1024x64x64 ![] bcast_S_S1024x64x64),
    TRef.binary t.v173 t.v174 t.v175 addi ]

theorem round5Ops_sub : (round5Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round5W : List (Ref sig .tc) := [t.v142.ref, t.c_36.ref, t.v143.ref, t.v144.ref, t.c_37.ref, t.v145.ref, t.v146.ref, t.v147.ref, t.v148.ref, t.v149.ref, t.c_38.ref, t.v150.ref, t.v151.ref, t.c_39.ref, t.v152.ref, t.v153.ref, t.v154.ref, t.v155.ref, t.v156.ref, t.c_40.ref, t.v157.ref, t.v158.ref, t.c_41.ref, t.v159.ref, t.v160.ref, t.v161.ref, t.v162.ref, t.v163.ref, t.c_42.ref, t.v164.ref, t.v165.ref, t.c_43.ref, t.v166.ref, t.v167.ref, t.v168.ref, t.v169.ref, t.v170.ref, t.v171.ref, t.v172.ref, t.v173.ref, t.c_44.ref, t.v174.ref, t.v175.ref]
theorem round5_keep (V : Valuation τ sig (Elt F)) {b : Ref sig .tc} (h : b ∉ round5W) : after round5Ops V (Proc.devRef .tc b) = V (Proc.devRef .tc b) :=
  after_of_writes_sub round5Ops V (forall_writes_sub_of_map rfl) h

/-- The words made numbers between zero and one, and these the noise. -/
abbrev finishOps : List (HloOp τ sig (Elt F)) :=
  [ TRef.binary t.v171 t.v175 u.v23 xori,
    TRef.nullary u.c_3 (constantI S_ 32 9#32),
    TRef.unary u.c_3 u.v24 (broadcastInDim S1024x64x64 ![] bcast_S_S1024x64x64),
    TRef.binary u.v23 u.v24 u.v25 Host.shrui,
    TRef.nullary u.c_4 (constantI S_ 32 1065353216#32),
    TRef.unary u.c_4 u.v26 (broadcastInDim S1024x64x64 ![] bcast_S_S1024x64x64),
    TRef.binary u.v25 u.v26 u.v27 ori,
    TRef.unary u.v27 u.v28 (bitcastToFloat .f32),
    TRef.nullary u.cst (constant S_ .f32 0x3F800000#32),
    TRef.unary u.cst u.v29 (broadcastInDim S1024x64x64 ![] bcast_S_S1024x64x64),
    TRef.binary u.v28 u.v29 u.v30 subf,
    TRef.binary u.v2 u.v1 u.v31 subf,
    TRef.unary u.v31 u.v32 (broadcastInDim S1024x64x64 ![0, 1, 2] bcast_S1x1x1_S1024x64x64_0_1_2),
    TRef.binary u.v30 u.v32 u.v33 mulf,
    TRef.unary u.v1 u.v34 (broadcastInDim S1024x64x64 ![0, 1, 2] bcast_S1x1x1_S1024x64x64_0_1_2),
    TRef.binary u.v33 u.v34 u.v35 addf,
    TRef.unary u.v1 u.v36 (broadcastInDim S1024x64x64 ![0, 1, 2] bcast_S1x1x1_S1024x64x64_0_1_2),
    TRef.binary u.v36 u.v35 u.v37 maximumf,
    TRef.unary u.v37 g.v1 Host.log,
    TRef.unary g.v1 g.v2 Host.negf,
    TRef.unary g.v2 g.v3 Host.log,
    TRef.unary g.v3 g.v4 Host.negf ]

theorem finishOps_sub : (finishOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩

/-- What they write. -/
abbrev finishW : List (Ref sig .tc) := [u.v23.ref, u.c_3.ref, u.v24.ref, u.v25.ref, u.c_4.ref, u.v26.ref, u.v27.ref, u.v28.ref, u.cst.ref, u.v29.ref, u.v30.ref, u.v31.ref, u.v32.ref, u.v33.ref, u.v34.ref, u.v35.ref, u.v36.ref, u.v37.ref, g.v1.ref, g.v2.ref, g.v3.ref, g.v4.ref]
theorem finish_keep (V : Valuation τ sig (Elt F)) {b : Ref sig .tc} (h : b ∉ finishW) : after finishOps V (Proc.devRef .tc b) = V (Proc.devRef .tc b) :=
  after_of_writes_sub finishOps V (forall_writes_sub_of_map rfl) h

/-! ## What each stretch computes -/

variable (V : Valuation τ sig (Elt F))

set_option maxHeartbeats 8000000 in
set_option maxRecDepth 16384 in
theorem start_ka : after startOps V (Proc.devRef .tc u.v4.ref) = Cert.Noise.ka := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_kb : after startOps V (Proc.devRef .tc u.v6.ref) = Cert.Noise.kb := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_kc : after startOps V (Proc.devRef .tc t.v1.ref) = Cert.Noise.kc := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_x : after startOps V (Proc.devRef .tc t.v3.ref) = Cert.Noise.first.1 := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_y : after startOps V (Proc.devRef .tc t.v5.ref) = Cert.Noise.first.2 := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_lo : after startOps V (Proc.devRef .tc u.v1.ref) = (Cert.Noise.lo : FVec F Cert.ReferenceIdeal.S1x1x1 .f32) := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_hi : after startOps V (Proc.devRef .tc u.v2.ref) = (Cert.Noise.hi : FVec F Cert.ReferenceIdeal.S1x1x1 .f32) := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round1_x : after round1Ops V (Proc.devRef .tc t.v35.ref) = (Cert.Noise.keyed (V (Proc.devRef .tc u.v6.ref)) (V (Proc.devRef .tc t.v1.ref)) 1#32 (Cert.Noise.turnsA ((V (Proc.devRef .tc t.v3.ref)), (V (Proc.devRef .tc t.v5.ref))))).1 := by
  simp only [round1Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round1_y : after round1Ops V (Proc.devRef .tc t.v39.ref) = (Cert.Noise.keyed (V (Proc.devRef .tc u.v6.ref)) (V (Proc.devRef .tc t.v1.ref)) 1#32 (Cert.Noise.turnsA ((V (Proc.devRef .tc t.v3.ref)), (V (Proc.devRef .tc t.v5.ref))))).2 := by
  simp only [round1Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round2_x : after round2Ops V (Proc.devRef .tc t.v69.ref) = (Cert.Noise.keyed (V (Proc.devRef .tc t.v1.ref)) (V (Proc.devRef .tc u.v4.ref)) 2#32 (Cert.Noise.turnsB ((V (Proc.devRef .tc t.v35.ref)), (V (Proc.devRef .tc t.v39.ref))))).1 := by
  simp only [round2Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round2_y : after round2Ops V (Proc.devRef .tc t.v73.ref) = (Cert.Noise.keyed (V (Proc.devRef .tc t.v1.ref)) (V (Proc.devRef .tc u.v4.ref)) 2#32 (Cert.Noise.turnsB ((V (Proc.devRef .tc t.v35.ref)), (V (Proc.devRef .tc t.v39.ref))))).2 := by
  simp only [round2Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round3_x : after round3Ops V (Proc.devRef .tc t.v103.ref) = (Cert.Noise.keyed (V (Proc.devRef .tc u.v4.ref)) (V (Proc.devRef .tc u.v6.ref)) 3#32 (Cert.Noise.turnsA ((V (Proc.devRef .tc t.v69.ref)), (V (Proc.devRef .tc t.v73.ref))))).1 := by
  simp only [round3Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round3_y : after round3Ops V (Proc.devRef .tc t.v107.ref) = (Cert.Noise.keyed (V (Proc.devRef .tc u.v4.ref)) (V (Proc.devRef .tc u.v6.ref)) 3#32 (Cert.Noise.turnsA ((V (Proc.devRef .tc t.v69.ref)), (V (Proc.devRef .tc t.v73.ref))))).2 := by
  simp only [round3Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round4_x : after round4Ops V (Proc.devRef .tc t.v137.ref) = (Cert.Noise.keyed (V (Proc.devRef .tc u.v6.ref)) (V (Proc.devRef .tc t.v1.ref)) 4#32 (Cert.Noise.turnsB ((V (Proc.devRef .tc t.v103.ref)), (V (Proc.devRef .tc t.v107.ref))))).1 := by
  simp only [round4Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round4_y : after round4Ops V (Proc.devRef .tc t.v141.ref) = (Cert.Noise.keyed (V (Proc.devRef .tc u.v6.ref)) (V (Proc.devRef .tc t.v1.ref)) 4#32 (Cert.Noise.turnsB ((V (Proc.devRef .tc t.v103.ref)), (V (Proc.devRef .tc t.v107.ref))))).2 := by
  simp only [round4Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round5_x : after round5Ops V (Proc.devRef .tc t.v171.ref) = (Cert.Noise.keyed (V (Proc.devRef .tc t.v1.ref)) (V (Proc.devRef .tc u.v4.ref)) 5#32 (Cert.Noise.turnsA ((V (Proc.devRef .tc t.v137.ref)), (V (Proc.devRef .tc t.v141.ref))))).1 := by
  simp only [round5Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round5_y : after round5Ops V (Proc.devRef .tc t.v175.ref) = (Cert.Noise.keyed (V (Proc.devRef .tc t.v1.ref)) (V (Proc.devRef .tc u.v4.ref)) 5#32 (Cert.Noise.turnsA ((V (Proc.devRef .tc t.v137.ref)), (V (Proc.devRef .tc t.v141.ref))))).2 := by
  simp only [round5Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem finish_read : after finishOps V (Proc.devRef .tc main_v9) = Cert.Noise.made (V (Proc.devRef .tc t.v171.ref)) (V (Proc.devRef .tc t.v175.ref)) (V (Proc.devRef .tc u.v1.ref)) (V (Proc.devRef .tc u.v2.ref)) := by
  simp only [finishOps, g, u, t, k, main_call0, main_call0_call0, main_call0_call0_call0, TRef.nullary, TRef.unary, TRef.binary, TRef.reshape, TRef.toBuf, TRef.ofBuf, cast_eq]; after_results <;> rfl

/-! ## The whole draw -/

/-- The operations of the draw. -/
abbrev ops : List (HloOp τ sig (Elt F)) := startOps ++ (round1Ops ++ (round2Ops ++ (round3Ops ++ (round4Ops ++ (round5Ops ++ finishOps)))))

theorem ops_sub : (ops : List (HloOp τ sig (Elt F))).Forall fun op => op.bufs ⊆ tcRefs τ sig :=
  List.forall_append.2 ⟨startOps_sub, List.forall_append.2 ⟨round1Ops_sub, List.forall_append.2 ⟨round2Ops_sub, List.forall_append.2 ⟨round3Ops_sub,
    List.forall_append.2 ⟨round4Ops_sub, List.forall_append.2 ⟨round5Ops_sub, finishOps_sub⟩⟩⟩⟩⟩⟩

/-- Two lists of operations one after the other. -/
theorem after_two (a b : List (HloOp τ sig (Elt F))) (V : Valuation τ sig (Elt F)) : after (a ++ b) V = after b (after a V) := by
  induction a generalizing V with
  | nil => rfl
  | cons x a ih => exact ih _

theorem after_ops : after ops V = after finishOps (after round5Ops (after round4Ops (after round3Ops (after round2Ops (after round1Ops (after startOps V)))))) := by
  rw [after_two, after_two, after_two, after_two, after_two, after_two]

/-- An array none of them writes is left as it was. -/
theorem keep {b : Ref sig .tc} (h0 : b ∉ startW) (h1 : b ∉ round1W) (h2 : b ∉ round2W) (h3 : b ∉ round3W) (h4 : b ∉ round4W) (h5 : b ∉ round5W)
    (h6 : b ∉ finishW) : after ops V (Proc.devRef .tc b) = V (Proc.devRef .tc b) := by
  rw [after_ops, finish_keep _ h6, round5_keep _ h5, round4_keep _ h4, round3_keep _ h3, round2_keep _ h2, round1_keep _ h1, start_keep _ h0]

theorem fresh : ∀ op ∈ (ops : List (HloOp τ sig (Elt F))), op.fresh = ∅ := by
  intro op hop
  have hf : (ops : List (HloOp τ sig (Elt F))).map HloOp.fresh = List.replicate 282 ∅ := rfl
  have := List.mem_map_of_mem (f := HloOp.fresh) hop
  rw [hf] at this
  exact List.eq_of_mem_replicate this

/-- What the draw leaves in its result. -/
theorem read : after ops V (Proc.devRef .tc main_v9) = (Cert.Noise.noise : FVec F Cert.ReferenceIdeal.S1024x64x64 .f32) := by
  rw [after_ops, finish_read]
  have hlo : after round5Ops (after round4Ops (after round3Ops (after round2Ops (after round1Ops (after startOps V))))) (Proc.devRef .tc u.v1.ref) = (Cert.Noise.lo : FVec F Cert.ReferenceIdeal.S1x1x1 .f32) := by
    rw [round5_keep _ (b := u.v1.ref) (by decide), round4_keep _ (b := u.v1.ref) (by decide), round3_keep _ (b := u.v1.ref) (by decide), round2_keep _ (b := u.v1.ref) (by decide), round1_keep _ (b := u.v1.ref) (by decide), start_lo]
  have hhi : after round5Ops (after round4Ops (after round3Ops (after round2Ops (after round1Ops (after startOps V))))) (Proc.devRef .tc u.v2.ref) = (Cert.Noise.hi : FVec F Cert.ReferenceIdeal.S1x1x1 .f32) := by
    rw [round5_keep _ (b := u.v2.ref) (by decide), round4_keep _ (b := u.v2.ref) (by decide), round3_keep _ (b := u.v2.ref) (by decide), round2_keep _ (b := u.v2.ref) (by decide), round1_keep _ (b := u.v2.ref) (by decide), start_hi]
  have h0x : after startOps V (Proc.devRef .tc t.v3.ref) = Cert.Noise.state0.1 := start_x V
  have h0y : after startOps V (Proc.devRef .tc t.v5.ref) = Cert.Noise.state0.2 := start_y V
  have h1x : after round1Ops (after startOps V) (Proc.devRef .tc t.v35.ref) = Cert.Noise.state1.1 := by
    rw [round1_x, h0x, h0y, start_kb, start_kc]
    rfl
  have h1y : after round1Ops (after startOps V) (Proc.devRef .tc t.v39.ref) = Cert.Noise.state1.2 := by
    rw [round1_y, h0x, h0y, start_kb, start_kc]
    rfl
  have h2x : after round2Ops (after round1Ops (after startOps V)) (Proc.devRef .tc t.v69.ref) = Cert.Noise.state2.1 := by
    rw [round2_x, h1x, h1y, round1_keep _ (b := t.v1.ref) (by decide), start_kc, round1_keep _ (b := u.v4.ref) (by decide), start_ka]
    rfl
  have h2y : after round2Ops (after round1Ops (after startOps V)) (Proc.devRef .tc t.v73.ref) = Cert.Noise.state2.2 := by
    rw [round2_y, h1x, h1y, round1_keep _ (b := t.v1.ref) (by decide), start_kc, round1_keep _ (b := u.v4.ref) (by decide), start_ka]
    rfl
  have h3x : after round3Ops (after round2Ops (after round1Ops (after startOps V))) (Proc.devRef .tc t.v103.ref) = Cert.Noise.state3.1 := by
    rw [round3_x, h2x, h2y, round2_keep _ (b := u.v4.ref) (by decide), round1_keep _ (b := u.v4.ref) (by decide), start_ka, round2_keep _ (b := u.v6.ref) (by decide), round1_keep _ (b := u.v6.ref) (by decide), start_kb]
    rfl
  have h3y : after round3Ops (after round2Ops (after round1Ops (after startOps V))) (Proc.devRef .tc t.v107.ref) = Cert.Noise.state3.2 := by
    rw [round3_y, h2x, h2y, round2_keep _ (b := u.v4.ref) (by decide), round1_keep _ (b := u.v4.ref) (by decide), start_ka, round2_keep _ (b := u.v6.ref) (by decide), round1_keep _ (b := u.v6.ref) (by decide), start_kb]
    rfl
  have h4x : after round4Ops (after round3Ops (after round2Ops (after round1Ops (after startOps V)))) (Proc.devRef .tc t.v137.ref) = Cert.Noise.state4.1 := by
    rw [round4_x, h3x, h3y, round3_keep _ (b := u.v6.ref) (by decide), round2_keep _ (b := u.v6.ref) (by decide), round1_keep _ (b := u.v6.ref) (by decide), start_kb, round3_keep _ (b := t.v1.ref) (by decide), round2_keep _ (b := t.v1.ref) (by decide), round1_keep _ (b := t.v1.ref) (by decide), start_kc]
    rfl
  have h4y : after round4Ops (after round3Ops (after round2Ops (after round1Ops (after startOps V)))) (Proc.devRef .tc t.v141.ref) = Cert.Noise.state4.2 := by
    rw [round4_y, h3x, h3y, round3_keep _ (b := u.v6.ref) (by decide), round2_keep _ (b := u.v6.ref) (by decide), round1_keep _ (b := u.v6.ref) (by decide), start_kb, round3_keep _ (b := t.v1.ref) (by decide), round2_keep _ (b := t.v1.ref) (by decide), round1_keep _ (b := t.v1.ref) (by decide), start_kc]
    rfl
  have h5x : after round5Ops (after round4Ops (after round3Ops (after round2Ops (after round1Ops (after startOps V))))) (Proc.devRef .tc t.v171.ref) = Cert.Noise.state5.1 := by
    rw [round5_x, h4x, h4y, round4_keep _ (b := t.v1.ref) (by decide), round3_keep _ (b := t.v1.ref) (by decide), round2_keep _ (b := t.v1.ref) (by decide), round1_keep _ (b := t.v1.ref) (by decide), start_kc, round4_keep _ (b := u.v4.ref) (by decide), round3_keep _ (b := u.v4.ref) (by decide), round2_keep _ (b := u.v4.ref) (by decide), round1_keep _ (b := u.v4.ref) (by decide), start_ka]
    rfl
  have h5y : after round5Ops (after round4Ops (after round3Ops (after round2Ops (after round1Ops (after startOps V))))) (Proc.devRef .tc t.v175.ref) = Cert.Noise.state5.2 := by
    rw [round5_y, h4x, h4y, round4_keep _ (b := t.v1.ref) (by decide), round3_keep _ (b := t.v1.ref) (by decide), round2_keep _ (b := t.v1.ref) (by decide), round1_keep _ (b := t.v1.ref) (by decide), start_kc, round4_keep _ (b := u.v4.ref) (by decide), round3_keep _ (b := u.v4.ref) (by decide), round2_keep _ (b := u.v4.ref) (by decide), round1_keep _ (b := u.v4.ref) (by decide), start_ka]
    rfl
  rw [h5x, h5y, hlo, hhi]
  rfl

end Cert.KernelIdeal.Draw

end
-- ==== Proof.LaunchIdeal.lean ====
/- The whole program's run: the host operations, the two TensorCore calls and the two SparseCore calls, one after the
   other, over the contents of every array of @main. -/
module

public import proofs.«01_k».proof.Proof.TaskIdeal
public import proofs.«01_k».proof.Proof.Task1Ideal
public import proofs.«01_k».proof.Proof.DealIdeal
public import proofs.«01_k».proof.Proof.RegionsIdeal
public import proofs.«01_k».proof.Proof.DrawIdeal

@[expose] public section

noncomputable section

namespace Cert.KernelIdeal.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 2) (Elt F) ℕ UU ℕ

/-! ## The launch element of the ghost state -/

def u₀ : UU :=
  (initOf (K (F := F)).hsCells (K (F := F)).hsToks,
    (initOf (Pipeline.cells (pins (F := F)) pins_inj) (Pipeline.launchToks (pins (F := F)) pins_inj), 1))

/-- What each device's TensorCore takes of it: the ghost state of its two pipelines. -/
abbrev ghosts (d : Dev nD) : sProp 𝕄 := bigSep Finset.univ fun p : Fin 2 => ghost (F := F) p d

theorem ghosts_eq (d : Dev nD) : ghosts (F := F) d = iprop(ghost (F := F) 0 d ∗ ghost (F := F) 1 d) := by
  unfold ghosts
  rw [show (Finset.univ : Finset (Fin 2)) = insert 0 {1} by decide, SparseCore.bigSep_insert' (by decide), bigSep_singleton]

theorem ghosts_all :
    iprop((bigSep Finset.univ fun d : Dev nD => bigSep Finset.univ fun p : Fin 2 => Pipeline.cellsGhost (pins (F := F)) EP p d)
        ∗ bigSep Finset.univ fun d : Dev nD => bigSep Finset.univ fun p : Fin 2 => Pipeline.toksInit (pins (F := F)) EP p d)
      ⊢ (bigSep Finset.univ fun d : Dev nD => ghosts (F := F) d : sProp 𝕄) :=
  (Entails.of_eq (bigSep_sep _ _ _).symm).trans (bigSep_mono fun _ _ => Entails.of_eq (bigSep_sep _ _ _).symm)

theorem bigSep_emp' {I : Type} (s : Finset I) : (bigSep s fun _ => iprop(emp)) = (iprop(emp) : sProp 𝕄) := bigSep_emp_const s

theorem hu₀ (A : Args F) : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 2 => (P A).x q thr) := by
  unfold u₀
  iintro Hu
  ihave H := (ownU_pair (initOf (K (F := F)).hsCells (K (F := F)).hsToks) _) $$ Hu
  icases H with ⟨HH, HR⟩
  ihave HR := (show _ ⊢ iprop(BI.own ((EP : Emb UP 𝕄) (initOf (Pipeline.cells (pins (F := F)) pins_inj) (Pipeline.launchToks (pins (F := F)) pins_inj))) ∗ _) from
    own_pair_emb (embR : Emb (UP × Counters) 𝕄) _ _) $$ HR
  icases HR with ⟨HP, -⟩
  imod (Pipeline.fund_ghost (pins (F := F)) (EP : Emb UP 𝕄) pins_inj) $$ HP with ⟨HG, HT⟩
  imodintro
  isplitl [HH]; · iexact HH
  isplitl [HG HT]
  · iapply (ghosts_all (F := F))
    isplitl [HG] <;> iassumption
  rw [show (bigSep Finset.univ fun thr : Thread nD τ => bigSep Finset.univ fun q : Fin 2 => (P A).x q thr) = bigSep Finset.univ fun _ => iprop(emp) from
    bigSep_congr fun _ _ => bigSep_emp' _, bigSep_emp']
  iempintro

/-! ## The arrays along @main -/

abbrev tab' : DevRef τ sig := Proc.devRef .tc (main_arg0 : Ref sig .tc)
abbrev prob' : DevRef τ sig := Proc.devRef .tc (main_arg1 : Ref sig .tc)
abbrev gum' : DevRef τ sig := Proc.devRef .tc (main_v9 : Ref sig .tc)
abbrev t2' : DevRef τ sig := Proc.devRef .tc (main_v10 : Ref sig .tc)
abbrev t3' : DevRef τ sig := Proc.devRef .tc (main_v11 : Ref sig .tc)
abbrev g' : DevRef τ sig := Proc.devRef .tc (main_v12 : Ref sig .tc)
abbrev idx' : DevRef τ sig := Proc.devRef .tc (main_v13_0 : Ref sig .tc)
abbrev x' : DevRef τ sig := Proc.devRef .tc (main_v15 : Ref sig .tc)
abbrev i' : DevRef τ sig := Proc.devRef .tc (main_v16 : Ref sig .tc)
abbrev o' : DevRef τ sig := Proc.devRef .tc (main_v17 : Ref sig .tc)
abbrev r' : DevRef τ sig := Proc.devRef .tc (main_v18 : Ref sig .tc)
abbrev w' : DevRef τ sig := Proc.devRef .tc (main_v19 : Ref sig .tc)

abbrev opP : HloOp τ sig (Elt F) := StableHlo.reshape main_arg1 main_v0 (rfl : (.f32 : EltTy) = .f32) shapeCasts_S65536x1_S64x1024
abbrev opT : HloOp τ sig (Elt F) := StableHlo.unary main_v9 main_v10 ((transpose S64x64x1024 [1, 2, 0] · transposes_S1024x64x64_S64x64x1024_1_2_0) : (⟨S1024x64x64, .f32⟩ : BufTy).Contents (Elt F) → (⟨S64x64x1024, .f32⟩ : BufTy).Contents (Elt F))
abbrev opS : HloOp τ sig (Elt F) := StableHlo.reshape main_v10 main_v11 (rfl : (.f32 : EltTy) = .f32) shapeCasts_S64x64x1024_S64x64x4x256
abbrev opG : HloOp τ sig (Elt F) := StableHlo.unary main_v11 main_v12 ((transpose S4x64x64x256 [2, 0, 1, 3] · transposes_S64x64x4x256_S4x64x64x256_2_0_1_3) : (⟨S64x64x4x256, .f32⟩ : BufTy).Contents (Elt F) → (⟨S4x64x64x256, .f32⟩ : BufTy).Contents (Elt F))
abbrev opX : HloOp τ sig (Elt F) := StableHlo.reshape main_arg0 main_v15 (rfl : (.f32 : EltTy) = .f32) shapeCasts_S65536x256_S65536x2x128
abbrev opI : HloOp τ sig (Elt F) := StableHlo.reshape main_v13_0 main_v16 (rfl : (.i32 : EltTy) = .i32) shapeCasts_S64x1024_S512x128
abbrev opR : HloOp τ sig (Elt F) := StableHlo.reshape main_v17 main_v18 (rfl : (.f32 : EltTy) = .f32) shapeCasts_S65536x2x128_S65536x256
abbrev opW : HloOp τ sig (Elt F) := StableHlo.reshape main_v14 main_v19 (rfl : (.f32 : EltTy) = .f32) shapeCasts_S64x1024_S65536x1

/-- Every array of @main; those of the first SparseCore call, of the second; those the claims read. -/
abbrev SS : Finset (DevRef τ sig) := Pipeline.ucRefs τ sig
abbrev A1 : Finset (DevRef τ sig) := {g', lq', lv', idx', lvw'}
abbrev A2 : Finset (DevRef τ sig) := {i', x', o'}
abbrev A3 : Finset (DevRef τ sig) := {tab', prob', r', w'}

/-- An array of @main is among them. -/
theorem mem_SS {b : Ref sig .tc} (h : b.isScoped = false) : (Proc.devRef .tc b : DevRef τ sig) ∈ SS :=
  Finset.mem_filter.mpr ⟨StableHlo.devRef_mem_tcRefs b, by rw [Proc.isScoped_devRef, h]; exact Bool.false_ne_true⟩
theorem A1_sub : A1 ⊆ SS := by
  intro b hb
  simp only [A1, Finset.mem_insert, Finset.mem_singleton] at hb
  rcases hb with rfl | rfl | rfl | rfl | rfl <;> exact mem_SS rfl
theorem A2_sub : A2 ⊆ SS := by
  intro b hb
  simp only [A2, Finset.mem_insert, Finset.mem_singleton] at hb
  rcases hb with rfl | rfl | rfl <;> exact mem_SS rfl
theorem A3_sub : A3 ⊆ SS := by
  intro b hb
  simp only [A3, Finset.mem_insert, Finset.mem_singleton] at hb
  rcases hb with rfl | rfl | rfl | rfl <;> exact mem_SS rfl
theorem prep_sub : prepBufs ⊆ SS := by
  intro b hb
  simp only [prepBufs, Finset.mem_insert, Finset.mem_singleton] at hb
  rcases hb with rfl | rfl | rfl <;> exact mem_SS rfl
theorem norm_sub : normBufs ⊆ SS := by
  intro b hb
  simp only [normBufs, Finset.mem_insert, Finset.mem_singleton] at hb
  rcases hb with rfl | rfl <;> exact mem_SS rfl

abbrev rLoc (d : Dev nD) : Loc nD τ sig := (SparseCore.T d).loc main_v18
abbrev wLoc (d : Dev nD) : Loc nD τ sig := (SparseCore.T d).loc main_v19

theorem held_A1 (d : Dev nD) (W : Valuation τ sig (Elt F)) :
    (held (T d) A1 W : sProp 𝕄) = iprop((gLoc d ↦{fullShare} W g') ∗ (lqLoc d ↦{fullShare} W lq') ∗ (lvLoc d ↦{fullShare} W lv')
      ∗ (idxLoc d ↦{fullShare} W idx') ∗ lvwLoc d ↦{fullShare} W lvw') := by
  unfold held A1
  rw [SparseCore.bigSep_insert' (by decide), SparseCore.bigSep_insert' (by decide), SparseCore.bigSep_insert' (by decide),
    SparseCore.bigSep_insert' (by decide), bigSep_singleton]
theorem held_A2 (d : Dev nD) (W : Valuation τ sig (Elt F)) :
    (held (T d) A2 W : sProp 𝕄) = iprop((iLoc d ↦{fullShare} W i') ∗ (xLoc d ↦{fullShare} W x') ∗ oLoc d ↦{fullShare} W o') := by
  unfold held A2
  rw [SparseCore.bigSep_insert' (by decide), SparseCore.bigSep_insert' (by decide), bigSep_singleton]
theorem held_A3 (d : Dev nD) (W : Valuation τ sig (Elt F)) :
    (held (T d) A3 W : sProp 𝕄) = iprop((tabLoc d ↦{fullShare} W tab') ∗ (probLoc d ↦{fullShare} W prob')
      ∗ (rLoc d ↦{fullShare} W r') ∗ wLoc d ↦{fullShare} W w') := by
  unfold held A3
  rw [SparseCore.bigSep_insert' (by decide), SparseCore.bigSep_insert' (by decide), SparseCore.bigSep_insert' (by decide), bigSep_singleton]

/-- Arrays taken out of a set and given back at other contents. -/
theorem held_back (d : Dev nD) {A B : Finset (DevRef τ sig)} (h : A ⊆ B) (V V' : Valuation τ sig (Elt F)) (e : ∀ b, b ∉ A → V' b = V b) :
    iprop(held (T d) A V' ∗ held (T d) (B \ A) V) = (held (T d) B V' : sProp 𝕄) := by
  rw [StableHlo.held_sub_split (T d) h V']
  rw [StableHlo.held_congr (T d) (S := B \ A) (V := V) (V' := V') fun b hb => (e b (Finset.mem_sdiff.mp hb).2).symm]

variable (m : (ℓ : Loc nD τ sig) → Buf (Elt F) ℓ) (ρ : Dev nD → PrngReg)

def V0 (d : Dev nD) : Valuation τ sig (Elt F) := fun b => m (d, b)
abbrev V1 (d : Dev nD) : Valuation τ sig (Elt F) := (opP (F := F)).result (V0 m d)
abbrev V2 (d : Dev nD) : Valuation τ sig (Elt F) := prepV (V1 m d)
abbrev VD (d : Dev nD) : Valuation τ sig (Elt F) := StableHlo.after Draw.ops (V2 m d)
abbrev V3 (d : Dev nD) : Valuation τ sig (Elt F) := (opT (F := F)).result (VD m d)
abbrev V4 (d : Dev nD) : Valuation τ sig (Elt F) := (opS (F := F)).result (V3 m d)
abbrev V5 (d : Dev nD) : Valuation τ sig (Elt F) := (opG (F := F)).result (V4 m d)
def V6 (d : Dev nD) : Valuation τ sig (Elt F) :=
  Function.update (Function.update (V5 m d) idx' (idxOut (F := F) (V5 m d g') (V5 m d lq'))) lvw' (lvwOut (F := F) (V5 m d g') (V5 m d lq') (V5 m d lv'))
abbrev V7 (d : Dev nD) : Valuation τ sig (Elt F) := normV (V6 m d)
abbrev V8 (d : Dev nD) : Valuation τ sig (Elt F) := (opX (F := F)).result (V7 m d)
abbrev V9 (d : Dev nD) : Valuation τ sig (Elt F) := (opI (F := F)).result (V8 m d)

/-- What the two SparseCore calls are run on. -/
def args : Args F where
  g d := V5 m d g'
  lq d := V5 m d lq'
  lv d := V5 m d lv'
  io d := V5 m d idx'
  lo d := V5 m d lvw'
  x d := V9 m d x'
  i d := V9 m d i'
  o d := V9 m d o'

def V10 (d : Dev nD) : Valuation τ sig (Elt F) := Function.update (V9 m d) o' ((args m).out d)
abbrev V11 (d : Dev nD) : Valuation τ sig (Elt F) := (opR (F := F)).result (V10 m d)
abbrev V12 (d : Dev nD) : Valuation τ sig (Elt F) := (opW (F := F)).result (V11 m d)

theorem unscoped_held (d : Dev nD) : (unscopedBufs d (fun b => m ((SparseCore.T d).loc b)) : sProp 𝕄) = held (T d) SS (V0 m d) :=
  Pipeline.unscopedBufs_held d (V0 m d)

/-- An operation leaves every array but its result. -/
theorem off {op : HloOp τ sig (Elt F)} {y : DevRef τ sig} (hw : op.writes = {y}) (V : Valuation τ sig (Elt F)) {b : DevRef τ sig} (h : b ≠ y) :
    op.result V b = V b :=
  op.result_of_not_mem V (by rw [hw]; exact fun e => h (Finset.mem_singleton.mp e))

theorem V6_idx (d : Dev nD) : V6 m d idx' = (args m).places d := by
  unfold V6; rw [Function.update_of_ne (by decide), Function.update_self]; rfl
theorem V6_lvw (d : Dev nD) : V6 m d lvw' = (args m).weights d := Function.update_self _ _ _
theorem V6_of (d : Dev nD) {b : DevRef τ sig} (h : b ≠ idx') (h' : b ≠ lvw') : V6 m d b = V5 m d b := by
  unfold V6; rw [Function.update_of_ne h', Function.update_of_ne h]
theorem V10_o (d : Dev nD) : V10 m d o' = (args m).out d := Function.update_self _ _ _
theorem V10_of (d : Dev nD) {b : DevRef τ sig} (h : b ≠ o') : V10 m d b = V9 m d b := Function.update_of_ne h _ _

theorem st0_eq (A : Args F) (d : Dev nD) : (bigSep Finset.univ fun c : Fin ((K (F := F)).nCore 0) => (P A).st 0 d c)
    = iprop((gLoc d ↦{fullShare} A.g d) ∗ (lqLoc d ↦{fullShare} A.lq d) ∗ (lvLoc d ↦{fullShare} A.lv d)
      ∗ (idxLoc d ↦{fullShare} A.io d) ∗ lvwLoc d ↦{fullShare} A.lo d) := pieces1_eq A d (A.io d) (A.lo d)
theorem dn0_eq (A : Args F) (d : Dev nD) : (bigSep Finset.univ fun c : Fin ((K (F := F)).nCore 0) => (P A).dn 0 d c)
    = iprop((gLoc d ↦{fullShare} A.g d) ∗ (lqLoc d ↦{fullShare} A.lq d) ∗ (lvLoc d ↦{fullShare} A.lv d)
      ∗ (idxLoc d ↦{fullShare} A.places d) ∗ lvwLoc d ↦{fullShare} A.weights d) := pieces1_eq A d (A.places d) (A.weights d)
theorem st1_eq (A : Args F) (d : Dev nD) : (bigSep Finset.univ fun c : Fin ((K (F := F)).nCore 1) => (P A).st 1 d c)
    = iprop((iLoc d ↦{fullShare} A.i d) ∗ (xLoc d ↦{fullShare} A.x d) ∗ oLoc d ↦{fullShare} A.o d) := pieces_eq A d (A.o d)
theorem dn1_eq (A : Args F) (d : Dev nD) : (bigSep Finset.univ fun c : Fin ((K (F := F)).nCore 1) => (P A).dn 1 d c)
    = iprop((iLoc d ↦{fullShare} A.i d) ∗ (xLoc d ↦{fullShare} A.x d) ∗ oLoc d ↦{fullShare} A.out d) := pieces_eq A d (A.out d)

/-- The arrays of each SparseCore call before and after it. -/
theorem before_1 (d : Dev nD) : (held (T d) A1 (V5 m d) : sProp 𝕄) = bigSep Finset.univ fun c : Fin ((K (F := F)).nCore 0) => (P (args m)).st 0 d c := by
  rw [st0_eq, held_A1]; rfl
theorem after_1 (d : Dev nD) : (bigSep Finset.univ fun c : Fin ((K (F := F)).nCore 0) => (P (args m)).dn 0 d c) = (held (T d) A1 (V6 m d) : sProp 𝕄) := by
  rw [dn0_eq, held_A1, V6_idx, V6_lvw, V6_of m d (b := g') (by decide) (by decide), V6_of m d (b := lq') (by decide) (by decide),
    V6_of m d (b := lv') (by decide) (by decide)]
  rfl
theorem before_2 (d : Dev nD) : (held (T d) A2 (V9 m d) : sProp 𝕄) = bigSep Finset.univ fun c : Fin ((K (F := F)).nCore 1) => (P (args m)).st 1 d c := by
  rw [st1_eq, held_A2]; rfl
theorem after_2 (d : Dev nD) : (bigSep Finset.univ fun c : Fin ((K (F := F)).nCore 1) => (P (args m)).dn 1 d c) = (held (T d) A2 (V10 m d) : sProp 𝕄) := by
  rw [dn1_eq, held_A2, V10_o, V10_of m d (b := i') (by decide), V10_of m d (b := x') (by decide)]
  rfl

/-- The TensorCore's state before a call, what it owes taken apart. -/
theorem tcSt_owing (d : Dev nD) (n : ℕ) : ∃ (b : ℕ) (R : sProp 𝕄), (K (F := F)).tcSt EH d n = iprop(owing (F := F) n b d ∗ R) := ⟨_, _, rfl⟩

theorem hP : (opP (F := F)).bufs ⊆ SS := Pipeline.sub_ucRefs _ (StableHlo.reshape_bufs_sub ..)
theorem hT : (opT (F := F)).bufs ⊆ SS := Pipeline.sub_ucRefs _ (StableHlo.unary_bufs_sub ..)
theorem hS : (opS (F := F)).bufs ⊆ SS := Pipeline.sub_ucRefs _ (StableHlo.reshape_bufs_sub ..)
theorem hG : (opG (F := F)).bufs ⊆ SS := Pipeline.sub_ucRefs _ (StableHlo.unary_bufs_sub ..)
theorem hX : (opX (F := F)).bufs ⊆ SS := Pipeline.sub_ucRefs _ (StableHlo.reshape_bufs_sub ..)
theorem hI : (opI (F := F)).bufs ⊆ SS := Pipeline.sub_ucRefs _ (StableHlo.reshape_bufs_sub ..)
theorem hR : (opR (F := F)).bufs ⊆ SS := Pipeline.sub_ucRefs _ (StableHlo.reshape_bufs_sub ..)
theorem hW : (opW (F := F)).bufs ⊆ SS := Pipeline.sub_ucRefs _ (StableHlo.reshape_bufs_sub ..)

/-- What @main leaves the claims: the arguments kept, the two results. -/
abbrev FIN (d : Dev nD) : sProp 𝕄 :=
  iprop((tabLoc d ↦{fullShare} m (tabLoc d)) ∗ (probLoc d ↦{fullShare} m (probLoc d))
    ∗ (rLoc d ↦{fullShare} V12 m d r') ∗ wLoc d ↦{fullShare} V12 m d w')

/-- The draw writes none of these. -/
theorem VD_of (d : Dev nD) {b : DevRef τ sig} (h : b ∈ ({tab', prob', lq', lv'} : Finset (DevRef τ sig))) : VD m d b = V2 m d b := by
  simp only [Finset.mem_insert, Finset.mem_singleton] at h
  rcases h with rfl | rfl | rfl | rfl <;>
    exact Draw.keep _ (by decide) (by decide) (by decide) (by decide) (by decide) (by decide) (by decide)

/-- An array no operation and no call writes ends as it was. -/
theorem kept (d : Dev nD) {b : DevRef τ sig} (h : b ∈ ({tab', prob'} : Finset (DevRef τ sig))) : V12 m d b = m (d, b) := by
  have hh : ∀ y ∈ ({p0', lq', lv', t2', t3', g', idx', lvw', nrm', x', i', o', r', w'} : Finset (DevRef τ sig)), b ≠ y := by
    revert b; decide
  refine (off (y := w') rfl (V11 m d) (hh _ (by decide))).trans ?_
  refine (off (y := r') rfl (V10 m d) (hh _ (by decide))).trans ?_
  refine (V10_of m d (hh _ (by decide))).trans ?_
  refine (off (y := i') rfl (V8 m d) (hh _ (by decide))).trans ?_
  refine (off (y := x') rfl (V7 m d) (hh _ (by decide))).trans ?_
  refine (normV_of (V6 m d) (hh _ (by decide))).trans ?_
  refine (V6_of m d (hh _ (by decide)) (hh _ (by decide))).trans ?_
  refine (off (y := g') rfl (V4 m d) (hh _ (by decide))).trans ?_
  refine (off (y := t3') rfl (V3 m d) (hh _ (by decide))).trans ?_
  refine (off (y := t2') rfl (VD m d) (hh _ (by decide))).trans ((VD_of m d (Finset.mem_of_subset (by decide) h)).trans ?_)
  refine (prepV_of (V1 m d) (hh _ (by decide)) (hh _ (by decide))).trans ?_
  exact off (y := p0') rfl (V0 m d) (hh _ (by decide))

theorem held_V12 (d : Dev nD) : (held (T d) A3 (V12 m d) : sProp 𝕄) = FIN m d := by
  rw [held_A3, kept m d (b := tab') (by decide), kept m d (b := prob') (by decide)]

variable [∀ e, Nonempty (Elt F e)]

/-- A TensorCore call within @main: the arrays it works on taken out of all of them, what the TensorCore owes out of its
    state. -/
theorem region_run (κ : GSem nD τ sig → ℕ) (d : Dev nD) (n : ℕ) {p : Fin 2} (A : Finset (DevRef τ sig)) (hA : A ⊆ SS)
    (V V' : Valuation τ sig (Elt F)) (e : ∀ b, b ∉ A → V' b = V b)
    (R : (b : ℕ) → Region (F := F) V n b p)
    (hpre : ∀ b, (R b).pre d = iprop(held (T d) A V ∗ owing (F := F) n b d))
    (hpost : ∀ b, (R b).post d = iprop(held (T d) A V' ∗ owing (F := F) n b d)) (Q : PUnit → sProp 𝕄) :
    iprop((K (F := F)).ctx EH (P (args m)) κ ∗ (K (F := F)).tcSt EH d n ∗ boundary (T d) ∗ held (T d) SS V ∗ ghost (F := F) p d
        ∗ (iprop((K (F := F)).tcSt EH d n ∗ boundary (T d) ∗ held (T d) SS V') -∗ Q ⟨⟩))
      ⊢ wp frame (wpE ((K (F := F)).defs (D (F := F))) 𝒱 (T d) none) Set.univ
          (Prog.lift (.customCall (SparseCore.inner (Pipeline.entry p)) ())) Q := by
  obtain ⟨b, R', hst⟩ := tcSt_owing (F := F) d n
  rw [hst, StableHlo.held_sub_split (T d) hA V, ← held_back d hA V V' e]
  iintro ⟨#Hctx, ⟨HO, HR⟩, Hb, ⟨HA, HB⟩, Hg, Hk⟩
  ihave Hl := (SparseCore.Cfg.ctx_levAts κ) $$ Hctx
  iapply (call_region V n b (R b) d Q)
  rw [hpre, hpost]
  isplitl [HR HB Hk]
  · iintro ⟨Hb, HA, HO⟩
    iapply Hk
    isplitl [HO HR]
    · isplitl [HO] <;> iassumption
    isplitl [Hb]; · iexact Hb
    isplitl [HA] <;> iassumption
  isplitl [Hb]; · iexact Hb
  isplitl [HA HO]
  · isplitl [HA] <;> iassumption
  isplitl [Hl]; · iexact Hl
  iexact Hg

/-- The draw within @main. -/
theorem draw_run (d : Dev nD) (V : Valuation τ sig (Elt F)) (Q : PUnit → sProp 𝕄) :
    iprop(boundary (T d) ∗ (held (T d) SS V : sProp 𝕄))
      ⊢ iprop(((boundary (T d) ∗ (held (T d) SS (StableHlo.after Draw.ops V) : sProp 𝕄)) -∗ Q ⟨⟩)
        -∗ wp frame (wpE ((K (F := F)).defs (D (F := F))) 𝒱 (SparseCore.T d) none) Set.univ (StableHlo.seq Draw.ops) Q) := by
  rw [show (StableHlo.seq (Draw.ops (F := F)) : Prog (TpuEff nD τ sig (Elt F) (SparseCore.Sig (Pipeline.Sig Λ₀ (Fin 2) fun p => (pcfgs (F := F) p).Adm) 2) .tc) PUnit)
      = StableHlo.seq (Draw.ops (F := F)) >>= pure from (bind_pure _).symm]
  iintro H Hk
  iapply (StableHlo.wp_seq 𝒱 none Set.univ d SS pure Draw.ops
    (fun op hop => Pipeline.sub_ucRefs op (List.forall_iff_forall_mem.mp Draw.ops_sub op hop)) Draw.fresh V) $$ H
  iintro H
  rw [wp_pure]
  imodintro
  iapply Hk
  iexact H

set_option maxHeartbeats 4000000 in
set_option maxRecDepth 65536 in
/-- @main, the draw one stretch. -/
theorem main_eq (d : Dev nD) : main (F := F) d = (do
    hlo rfl opP (fun _ => .ret ⟨⟩)
    Prog.lift (.customCall (SparseCore.inner (Pipeline.entry 0)) ())
    StableHlo.seq Draw.ops
    hlo rfl opT (fun _ => .ret ⟨⟩)
    hlo rfl opS (fun _ => .ret ⟨⟩)
    hlo rfl opG (fun _ => .ret ⟨⟩)
    sc.run d 0
    Prog.lift (.customCall (SparseCore.inner (Pipeline.entry 1)) ())
    hlo rfl opX (fun _ => .ret ⟨⟩)
    hlo rfl opI (fun _ => .ret ⟨⟩)
    sc.run d 1
    hlo rfl opR (fun _ => .ret ⟨⟩)
    hlo rfl opW (fun _ => .ret ⟨⟩)
    pure ⟨⟩) := rfl

theorem hmain (κ : GSem nD τ sig → ℕ) (d : Dev nD) :
    iprop((K (F := F)).ctx EH (P (args m)) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held, ghosts_eq]
  rw [main_eq]
  simp only [wp_bind, wp_pure]
  iintro ⟨#Hctx, Hst, ⟨Hb, Hheld, Hts, -⟩, ⟨Hg0, Hg1⟩⟩
  iapply (wp_hlo_within 𝒱 (SparseCore.T d) none Set.univ (op := opP) (S := SS) hP (V := V0 m d)) $$ [Hb Hheld]
  · isplitl [Hb] <;> iassumption
  iintro ⟨Hb, Hheld⟩
  rw [wp_ret]; imodintro
  iapply (region_run m κ d 0 prepBufs prep_sub (V1 m d) (V2 m d) (fun b hb => prepV_of _ (fun e => hb (by rw [e]; decide)) (fun e => hb (by rw [e]; decide)))
    (fun b => reg0 (V1 m d) 0 b) (fun _ => rfl) (fun _ => rfl))
  isplitr; · iexact Hctx
  isplitl [Hst]; · iexact Hst
  isplitl [Hb]; · iexact Hb
  isplitl [Hheld]; · iexact Hheld
  isplitl [Hg0]; · iexact Hg0
  iintro ⟨Hst, Hb, Hheld⟩
  iapply (draw_run d (V2 m d)) $$ [Hb Hheld]
  · isplitl [Hb] <;> iassumption
  iintro ⟨Hb, Hheld⟩
  iapply (wp_hlo_within 𝒱 (SparseCore.T d) none Set.univ (op := opT) (S := SS) hT (V := VD m d)) $$ [Hb Hheld]
  · isplitl [Hb] <;> iassumption
  iintro ⟨Hb, Hheld⟩
  rw [wp_ret]; imodintro
  iapply (wp_hlo_within 𝒱 (SparseCore.T d) none Set.univ (op := opS) (S := SS) hS (V := V3 m d)) $$ [Hb Hheld]
  · isplitl [Hb] <;> iassumption
  iintro ⟨Hb, Hheld⟩
  rw [wp_ret]; imodintro
  iapply (wp_hlo_within 𝒱 (SparseCore.T d) none Set.univ (op := opG) (S := SS) hG (V := V4 m d)) $$ [Hb Hheld]
  · isplitl [Hb] <;> iassumption
  iintro ⟨Hb, Hheld⟩
  rw [wp_ret]; imodintro
  ihave Hh := (Entails.of_eq (StableHlo.held_sub_split (T d) A1_sub (V5 m d))) $$ Hheld
  icases Hh with ⟨HA, HB⟩
  ihave HA' := (Entails.of_eq (before_1 m d)) $$ HA
  iapply ((K (F := F)).wp_run (D (F := F)) 𝒱 (EH := EH) (P := P (args m)) κ d 0) $$ [Hst HA' HB Hb Hg1 Hts]
  isplitr; · iexact Hctx
  isplitl [Hst]; · iexact Hst
  isplitl [HA']; · iexact HA'
  iintro ⟨Hst, Hdn⟩
  ihave HA := (Entails.of_eq (after_1 m d)) $$ Hdn
  iapply (region_run m κ d 1 normBufs norm_sub (V6 m d) (V7 m d) (fun b hb => normV_of _ (fun e => hb (by rw [e]; decide)))
    (fun b => reg2 (V6 m d) 1 b) (fun _ => rfl) (fun _ => rfl))
  isplitr; · iexact Hctx
  isplitl [Hst]; · iexact Hst
  isplitl [Hb]; · iexact Hb
  isplitl [HA HB]
  · rw [← held_back d A1_sub (V5 m d) (V6 m d) fun b hb => V6_of m d (fun e => hb (by rw [e]; decide)) (fun e => hb (by rw [e]; decide))]
    isplitl [HA] <;> iassumption
  isplitl [Hg1]; · iexact Hg1
  iintro ⟨Hst, Hb, Hheld⟩
  iapply (wp_hlo_within 𝒱 (SparseCore.T d) none Set.univ (op := opX) (S := SS) hX (V := V7 m d)) $$ [Hb Hheld]
  · isplitl [Hb] <;> iassumption
  iintro ⟨Hb, Hheld⟩
  rw [wp_ret]; imodintro
  iapply (wp_hlo_within 𝒱 (SparseCore.T d) none Set.univ (op := opI) (S := SS) hI (V := V8 m d)) $$ [Hb Hheld]
  · isplitl [Hb] <;> iassumption
  iintro ⟨Hb, Hheld⟩
  rw [wp_ret]; imodintro
  ihave Hh := (Entails.of_eq (StableHlo.held_sub_split (T d) A2_sub (V9 m d))) $$ Hheld
  icases Hh with ⟨HA, HB⟩
  ihave HA' := (Entails.of_eq (before_2 m d)) $$ HA
  iapply ((K (F := F)).wp_run (D (F := F)) 𝒱 (EH := EH) (P := P (args m)) κ d 1) $$ [Hst HA' HB Hb Hts]
  isplitr; · iexact Hctx
  isplitl [Hst]; · iexact Hst
  isplitl [HA']; · iexact HA'
  iintro ⟨Hst, Hdn⟩
  ihave HA := (Entails.of_eq (after_2 m d)) $$ Hdn
  iapply (wp_hlo_within 𝒱 (SparseCore.T d) none Set.univ (op := opR) (S := SS) hR (V := V10 m d)) $$ [Hb HA HB]
  · isplitl [Hb]; · iexact Hb
    rw [← held_back d A2_sub (V9 m d) (V10 m d) fun b hb => V10_of m d (fun e => hb (by rw [e]; decide))]
    isplitl [HA] <;> iassumption
  iintro ⟨Hb, Hheld⟩
  rw [wp_ret]; imodintro
  iapply (wp_hlo_within 𝒱 (SparseCore.T d) none Set.univ (op := opW) (S := SS) hW (V := V11 m d)) $$ [Hb Hheld]
  · isplitl [Hb] <;> iassumption
  iintro ⟨Hb, Hheld⟩
  ihave Hh := (Entails.of_eq (StableHlo.held_sub_split (T d) A3_sub (V12 m d))) $$ Hheld
  icases Hh with ⟨HA, -⟩
  ihave HF := (Entails.of_eq (held_V12 m d)) $$ HA
  rw [wp_ret]; imodintro; imodintro
  isplitl [Hst]; · iexact Hst
  isplitl [HF]; · iexact HF
  isplitl [Hb] <;> iassumption

/-! ## The run -/

def fq (d : Dev nD) (s' : Phys nD τ sig (Elt F)) : Prop :=
  s'.mem.mem (rLoc d) = V12 m d r' ∧ s'.mem.mem (wLoc d) = V12 m d w' ∧ s'.mem.mem (tabLoc d) = m (tabLoc d)
    ∧ s'.mem.mem (probLoc d) = m (probLoc d)

theorem read_whole (s' : Phys nD τ sig (Elt F)) (ℓ : Loc nD τ sig) (f : Buf (Elt F) ℓ) :
    iprop(SI s' ∗ ℓ ↦{fullShare} f) ⊢ iprop(⌜s'.mem.mem ℓ = f⌝ ∗ (SI s' : sProp 𝕄)) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Ht, Hp, Hr, Hw⟩, HSI⟩
  ihave H := (read_whole s' (tabLoc d) _) $$ [HSI Ht]
  · isplitl [HSI] <;> iassumption
  icases H with ⟨%ht, HSI⟩
  ihave H := (read_whole s' (probLoc d) _) $$ [HSI Hp]
  · isplitl [HSI] <;> iassumption
  icases H with ⟨%hp, HSI⟩
  ihave H := (read_whole s' (rLoc d) _) $$ [HSI Hr]
  · isplitl [HSI] <;> iassumption
  icases H with ⟨%hr, HSI⟩
  ihave H := (read_whole s' (wLoc d) _) $$ [HSI Hw]
  · isplitl [HSI] <;> iassumption
  icases H with ⟨%hw, -⟩
  ipureintro
  exact ⟨hr, hw, ht, hp⟩

def QC : PUnit × MemSt nD τ sig (Elt F) → Prop := fun r =>
  (∀ c : Dev nD, r.2.mem (rLoc c) = V12 m c r' ∧ r.2.mem (wLoc c) = V12 m c w' ∧ r.2.mem (tabLoc c) = m (tabLoc c)
    ∧ r.2.mem (probLoc c) = m (probLoc c)) ∧ r.2.sem = fun _ => 0

theorem run_main (hok : (args m).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (args m)) (A := ∅) scFacts v₀
    (fun q hq => match q with | 0 => nomatch hq | 1 => nomatch hq)
    (fun q _ => match q with | 0 => tileObl1 (args m) | 1 => tileObl (args m) hok)
    (fun q _ => match q with | 0 => SparseCore.Cfg.VecSplit.of_plain (vecSplit1 (args m)) | 1 => SparseCore.Cfg.VecSplit.of_plain (vecSplit (args m)))
    m ρ main (fun d => ghosts (F := F) d) (FIN m) (u₀ (F := F)) (sep_elim_left.trans (hu₀ (args m))) (hmain m ρ) (fq m) (hfin m) (QC m) (fun _ h hz => ⟨h, hz⟩)

end Cert.KernelIdeal.Whole

end
-- ==== Proof.RowsIdeal.lean ====
/- What the whole kernel leaves, read at one element as a function of its two arguments and the noise it draws. -/
module

public import proofs.«01_k».proof.Proof.LaunchIdeal
public import Idealize.ShloMosaic.Lib.Pipeline.Value
public import Idealize.ShloMosaic.Lib.ValueIdxCore

@[expose] public section

noncomputable section

namespace Cert.KernelIdeal.Whole

open Cert.KernelIdeal Cert.KernelIdeal.Gen Idealize.ShloMosaic Idealize.ShloMosaic.ValueIdx

variable {F : FTy → Type} [FloatOps F]

variable (m : (ℓ : Loc nD τ sig) → Buf (Elt F) ℓ) (d : Dev nD)

/-! ## The arguments -/

abbrev tabIn : FVec F S65536x256 .f32 := m (tabLoc d)
abbrev probIn : FVec F S65536x1 .f32 := m (probLoc d)
/-- The noise drawn: no argument changes it. -/
abbrev gumIn : FVec F S1024x64x64 .f32 := Cert.Noise.noise (F := F)

/-- Log-weight `n`. -/
def pAt (n : ℕ) : F .f32 := probIn m d (ix2 (⟨n % 65536, Nat.mod_lt _ (by decide)⟩ : Fin 65536) (0 : Fin 1))
/-- The noise of candidate `k` for row `j`, column `b`. -/
def nAt (b j k : ℕ) : F .f32 :=
  gumIn (F := F) (ix3 (⟨b % 1024, Nat.mod_lt _ (by decide)⟩ : Fin 1024) (⟨j % 64, Nat.mod_lt _ (by decide)⟩ : Fin 64) (⟨k % 64, Nat.mod_lt _ (by decide)⟩ : Fin 64))

/-- The log of the mixture of a log-weight. -/
def logMix (p : F .f32) : F .f32 :=
  FloatOps.log (FloatOps.addf (FloatOps.mulf (FloatOps.ofBits .f32 0x3F000000#32) (FloatOps.exp p)) (FloatOps.ofBits .f32 0x3C000000#32))

/-- Candidate `k`'s score for row `j`, column `b`. -/
def scoreOf (j b k : ℕ) : F .f32 := FloatOps.addf (nAt (F := F) b j k) (logMix (pAt m d (1024 * k + b)))
/-- The candidate taken. -/
def taken (j b : ℕ) : ℕ := bestAt (scoreOf m d j b) 63

theorem taken_lt (j b : ℕ) : taken m d j b < 64 := Nat.lt_of_le_of_lt (bestAt_le _ _) (by decide)

/-- The row that output row `n` is taken from. -/
def source (n : ℕ) : ℕ := 1024 * taken m d (n / 1024) (n % 1024) + n % 1024

theorem source_lt (n : ℕ) : source m d n < 65536 := by
  have := taken_lt m d (n / 1024) (n % 1024)
  have := Nat.mod_lt n (show 0 < 1024 by decide)
  unfold source; omega

/-! ## The arrays the calls work on -/

theorem V1_p : V1 m d p0' = shapeCast S64x1024 (probIn m d) shapeCasts_S65536x1_S64x1024 :=
  StableHlo.reshape_result _ _ _ _ _ _ _

theorem V5_of {b : DevRef τ sig} (h2 : b ≠ t2') (h3 : b ≠ t3') (h4 : b ≠ g') : V5 m d b = VD m d b :=
  (off (y := g') rfl (V4 m d) h4).trans ((off (y := t3') rfl (V3 m d) h3).trans (off (y := t2') rfl (VD m d) h2))

theorem V5_lq : V5 m d lq' = k0_pay2 (F := F) (V1 m d p0') :=
  (V5_of m d (by decide) (by decide) (by decide)).trans ((VD_of m d (by decide)).trans (prepV_q _))
theorem V5_lv : V5 m d lv' = k0_pay3 (F := F) (V1 m d p0') :=
  (V5_of m d (by decide) (by decide) (by decide)).trans ((VD_of m d (by decide)).trans (prepV_v _))

theorem VD_gum : VD m d gum' = gumIn (F := F) := Draw.read (V2 m d)

theorem V5_g : V5 m d g' = transpose S4x64x64x256 [2, 0, 1, 3] (shapeCast S64x64x4x256 (transpose S64x64x1024 [1, 2, 0] (gumIn (F := F))
    transposes_S1024x64x64_S64x64x1024_1_2_0) shapeCasts_S64x64x1024_S64x64x4x256) transposes_S64x64x4x256_S4x64x64x256_2_0_1_3 := by
  have h3 : V3 m d t2' = transpose S64x64x1024 [1, 2, 0] (gumIn (F := F)) transposes_S1024x64x64_S64x64x1024_1_2_0 := by
    refine (StableHlo.unary_result _ _ _ _ _ _).trans ?_
    exact congrArg (transpose S64x64x1024 [1, 2, 0] · transposes_S1024x64x64_S64x64x1024_1_2_0) (VD_gum m d)
  have h4 : V4 m d t3' = shapeCast S64x64x4x256 (transpose S64x64x1024 [1, 2, 0] (gumIn (F := F)) transposes_S1024x64x64_S64x64x1024_1_2_0)
      shapeCasts_S64x64x1024_S64x64x4x256 := by
    refine (StableHlo.reshape_result _ _ _ _ _ _ _).trans ?_
    exact congrArg (shapeCast S64x64x4x256 · shapeCasts_S64x64x1024_S64x64x4x256) h3
  refine (StableHlo.unary_result _ _ _ _ _ _).trans ?_
  exact congrArg (transpose S4x64x64x256 [2, 0, 1, 3] · transposes_S64x64x4x256_S4x64x64x256_2_0_1_3) h4

theorem V1_at (k b : ℕ) (hk : k < 64) (hb : b < 1024) : qAt (show FVec F S64x1024 .f32 from V1 m d p0') k b = pAt m d (1024 * k + b) := by
  rw [V1_p]
  refine shapeCast_apply (s := S65536x1) _ _ _ _ ?_
  rw [Shape.rowMajor_val_two, Shape.rowMajor_val_two]
  show (1024 * k + b) % 65536 * 1 + 0 = k % 64 * 1024 + b % 1024
  omega

theorem lq_at (k b : ℕ) (hk : k < 64) (hb : b < 1024) : qAt (show FVec F S64x1024 .f32 from V5 m d lq') k b = logMix (pAt m d (1024 * k + b)) := by
  rw [V5_lq, ← V1_at m d k b hk hb]
  unfold k0_pay2 k0_pay1 logMix
  rw [shapeCast_self]
  rfl
theorem lv_at (k b : ℕ) (hk : k < 64) (hb : b < 1024) : qAt (show FVec F S64x1024 .f32 from V5 m d lv') k b
    = FloatOps.subf (pAt m d (1024 * k + b)) (logMix (pAt m d (1024 * k + b))) := by
  rw [V5_lv, ← V1_at m d k b hk hb]
  unfold k0_pay3 k0_pay2 k0_pay1 logMix
  rw [shapeCast_self]
  rfl

theorem g_at (j b k : ℕ) (hj : j < 64) (hb : b < 1024) (hk : k < 64) :
    gAt (show FVec F S4x64x64x256 .f32 from V5 m d g') (b / 256) j k (b % 256) = nAt (F := F) b j k := by
  rw [V5_g]
  let q : S64x64x4x256.Idx := fun
    | 0 => (⟨j % 64, Nat.mod_lt _ (by decide)⟩ : Fin 64)
    | 1 => (⟨k % 64, Nat.mod_lt _ (by decide)⟩ : Fin 64)
    | 2 => (⟨b / 256 % 4, Nat.mod_lt _ (by decide)⟩ : Fin 4)
    | 3 => (⟨b % 256 % 256, Nat.mod_lt _ (by decide)⟩ : Fin 256)
    | ⟨_ + 4, h⟩ => absurd h (Nat.not_lt.2 (Nat.le_add_left _ _))
  unfold gAt nAt
  refine (transpose_apply _ _ _ _ q (fun a => by fin_cases a <;> rfl)).trans ?_
  refine (shapeCast_apply (s := S64x64x1024) _ _ q (ix3 (⟨j % 64, Nat.mod_lt _ (by decide)⟩ : Fin 64) (⟨k % 64, Nat.mod_lt _ (by decide)⟩ : Fin 64)
    (⟨b % 1024, Nat.mod_lt _ (by decide)⟩ : Fin 1024)) ?_).trans ?_
  · rw [Shape.rowMajor_val_three, Shape.rowMajor_val_four]
    show (j % 64 * 64 + k % 64) * 1024 + b % 1024 = ((j % 64 * 64 + k % 64) * 4 + b / 256 % 4) * 256 + b % 256 % 256
    omega
  · exact transpose_apply _ _ _ _ _ (fun a => by fin_cases a <;> rfl)

theorem pick_eq (j b : ℕ) (hj : j < 64) (hb : b < 1024) :
    pick (show FVec F S4x64x64x256 .f32 from V5 m d g') (show FVec F S64x1024 .f32 from V5 m d lq') j b = taken m d j b := by
  refine (bestAt_congr 63 fun k hk => ?_).2
  unfold gScore scoreOf
  rw [g_at m d j b k hj hb (by omega), lq_at m d k b (by omega) hb]

/-! ## The indices and the rows -/

theorem V9_i : V9 m d i' = shapeCast S512x128 (show IVec S64x1024 32 from (args m).places d) shapeCasts_S64x1024_S512x128 := by
  refine (StableHlo.reshape_result _ _ _ _ _ _ _).trans ?_
  refine congrArg (shapeCast S512x128 · shapeCasts_S64x1024_S512x128) ?_
  exact (off (y := x') rfl (V7 m d) (by decide)).trans ((normV_of (V6 m d) (by decide)).trans (V6_idx m d))

theorem V9_x : V9 m d x' = shapeCast S65536x2x128 (tabIn m d) shapeCasts_S65536x256_S65536x2x128 := by
  refine (off (y := i') rfl (V8 m d) (by decide)).trans ?_
  refine (StableHlo.reshape_result _ _ _ _ _ _ _).trans ?_
  refine congrArg (shapeCast S65536x2x128 · shapeCasts_S65536x256_S65536x2x128) ?_
  refine (normV_of (V6 m d) (by decide)).trans ((V6_of m d (by decide) (by decide)).trans ?_)
  refine (V5_of m d (by decide) (by decide) (by decide)).trans ((VD_of m d (by decide)).trans ?_)
  exact (prepV_of (V1 m d) (by decide) (by decide)).trans (off (y := p0') rfl (V0 m d) (by decide))

/-- Index `y` of the array handed to the gather. -/
theorem index_at (y : S512x128.Idx) : (show BitVec 32 from (args m).i d y) = BitVec.ofNat 32 (source m d ((y 0).val * 128 + (y 1).val)) := by
  have h0 : (y 0).val < 512 := (y 0).isLt
  have h1 : (y 1).val < 128 := (y 1).isLt
  let n := (y 0).val * 128 + (y 1).val
  have hn : n < 65536 := by show (y 0).val * 128 + (y 1).val < 65536; omega
  show V9 m d i' y = _
  rw [V9_i]
  refine (shapeCast_apply (s := S64x1024) _ _ y (ix2 (⟨n / 1024, by omega⟩ : Fin 64) (⟨n % 1024, by omega⟩ : Fin 1024)) ?_).trans ?_
  · rw [Shape.rowMajor_val_two, Shape.rowMajor_val_two]
    show n / 1024 * 1024 + n % 1024 = n
    omega
  · show BitVec.ofNat 32 (1024 * pick (show FVec F S4x64x64x256 .f32 from V5 m d g') (show FVec F S64x1024 .f32 from V5 m d lq') (n / 1024) (n % 1024) + n % 1024) = _
    rw [pick_eq m d _ _ (by omega) (by omega)]
    rfl

theorem toNat_source (n : ℕ) : (BitVec.ofNat 32 (source m d n)).toNat = source m d n := by
  have := source_lt m d n
  rw [BitVec.toNat_ofNat, Nat.mod_eq_of_lt (by omega)]

/-- Every index names a row of the table. -/
theorem args_ok : (args m).Ok := fun d y => by
  rw [index_at, toNat_source]
  exact source_lt m d _

/-- The first result at row `n`, column `y`. -/
theorem rows_at (n : Fin 65536) (y : Fin 256) :
    (show FVec F S65536x256 .f32 from V12 m d r') (ix2 n y) = tabIn m d (ix2 (⟨source m d n.val, source_lt m d _⟩ : Fin 65536) y) := by
  have hn := n.isLt
  have hy := y.isLt
  have hr : V12 m d r' = shapeCast S65536x256 (show FVec F S65536x2x128 .f32 from (args m).out d) shapeCasts_S65536x2x128_S65536x256 := by
    refine (off (y := w') rfl (V11 m d) (by decide)).trans ?_
    refine (StableHlo.reshape_result _ _ _ _ _ _ _).trans ?_
    exact congrArg (shapeCast S65536x256 · shapeCasts_S65536x2x128_S65536x256) (V10_o m d)
  let p : S65536x2x128.Idx := ix3 n (⟨y.val / 128, by omega⟩ : Fin 2) (⟨y.val % 128, Nat.mod_lt _ (by decide)⟩ : Fin 128)
  rw [hr]
  refine (shapeCast_apply (s := S65536x2x128) _ _ (ix2 n y) p ?_).trans ?_
  · rw [Shape.rowMajor_val_three, Shape.rowMajor_val_two]
    show (n.val * 2 + y.val / 128) * 128 + y.val % 128 = n.val * 256 + y.val
    omega
  have hi : (show BitVec 32 from (args m).i d (placeOf n)) = BitVec.ofNat 32 (source m d n.val) := by
    rw [index_at]
    show BitVec.ofNat 32 (source m d (n.val / 128 * 128 + n.val % 128)) = _
    rw [show n.val / 128 * 128 + n.val % 128 = n.val by omega]
  show (show FVec F S65536x2x128 .f32 from V9 m d x') (atRow (rowOf (show BitVec 32 from (args m).i d (placeOf n))) p) = _
  rw [hi, V9_x]
  refine shapeCast_apply (s := S65536x256) _ _ _ _ ?_
  rw [Shape.rowMajor_val_three, Shape.rowMajor_val_two]
  have hs := source_lt m d n.val
  show source m d n.val * 256 + y.val = ((BitVec.ofNat 32 (source m d n.val)).toNat % 65536 * 2 + y.val / 128) * 128 + y.val % 128
  rw [toNat_source]
  omega

/-! ## The weights -/

/-- The weights handed to the last call. -/
abbrev weightsIn : FVec F S64x1024 .f32 := (args m).weights d

theorem weights_at (j : Fin 64) (b : Fin 1024) : weightsIn m d (ix2 j b)
    = FloatOps.subf (pAt m d (source m d (1024 * j.val + b.val))) (logMix (pAt m d (source m d (1024 * j.val + b.val)))) := by
  have hj := j.isLt
  have hb := b.isLt
  show qAt (show FVec F S64x1024 .f32 from V5 m d lv')
    (pick (show FVec F S4x64x64x256 .f32 from V5 m d g') (show FVec F S64x1024 .f32 from V5 m d lq') j.val b.val) b.val = _
  rw [pick_eq m d _ _ hj hb, lv_at m d _ _ (taken_lt m d _ _) hb]
  unfold source
  rw [show (1024 * j.val + b.val) / 1024 = j.val by omega, show (1024 * j.val + b.val) % 1024 = b.val by omega]

/-- The second result at row `n`. -/
theorem weight_at (n : Fin 65536) (y : Fin 1) : (show FVec F S65536x1 .f32 from V12 m d w') (ix2 n y)
    = k2_pay1 (F := F) (weightsIn m d) (ix2 (⟨n.val / 1024, by have := n.isLt; omega⟩ : Fin 64) (⟨n.val % 1024, Nat.mod_lt _ (by decide)⟩ : Fin 1024)) := by
  have hw : V12 m d w' = shapeCast S65536x1 (k2_pay1 (F := F) (weightsIn m d)) shapeCasts_S64x1024_S65536x1 := by
    refine (StableHlo.reshape_result _ _ _ _ _ _ _).trans ?_
    refine congrArg (shapeCast S65536x1 · shapeCasts_S64x1024_S65536x1) ?_
    refine (off (y := r') rfl (V10 m d) (by decide)).trans ((V10_of m d (by decide)).trans ?_)
    refine (off (y := i') rfl (V8 m d) (by decide)).trans ((off (y := x') rfl (V7 m d) (by decide)).trans ?_)
    refine (normV_n (V6 m d)).trans ?_
    exact congrArg (k2_pay1 (F := F)) (V6_lvw m d)
  rw [hw]
  refine shapeCast_apply (s := S64x1024) _ _ _ _ ?_
  rw [Shape.rowMajor_val_two, Shape.rowMajor_val_two]
  have := y.isLt
  show n.val / 1024 * 1024 + n.val % 1024 = n.val * 1 + y.val
  omega

end Cert.KernelIdeal.Whole

end
-- ==== Proof.Take.lean ====
/- The reference's two `take`s read at one element: with every index naming a row of the table, row `n` of the result
   is the row of the table that index `n` names. -/
module

public import proofs.«01_k».proof.Defs
public import proofs.«01_k».proof.Proof.Gen.ReferenceIdeal
public import Idealize.ShloMosaic.Lib.Routing.Ops
public import Idealize.ShloMosaic.Lib.ReduceAll
public import Idealize.ShloMosaic.Lib.Pipeline.Value

@[expose] public section

noncomputable section

namespace Cert.ReferenceIdeal.Take

open Cert.ReferenceIdeal Cert.ReferenceIdeal.Gen Idealize.ShloMosaic Idealize.ShloMosaic.ValueIdx

variable {F : FTy → Type} [FloatOps F]

/-- The index of row `n` of a list of 65536. -/
abbrev at1 (n : Fin 65536) : S65536.Idx := fun | 0 => n

/-- The indices the reference gathers at: a negative one counted from the table's end. -/
abbrev wrapped (J : IVec S65536 32) : IVec S65536x1 32 :=
  broadcastInDim S65536x1 ![0] bcast_S65536_S65536x1_0 (select (cmpi .slt J (broadcastInDim S65536 ![] bcast_S_S65536 (constantI S_ 32 0#32)))
    (addi J (broadcastInDim S65536 ![] bcast_S_S65536 (constantI S_ 32 65536#32))) J)

/-- Which of them name a row. -/
abbrev named (I : IVec S65536x1 32) : IVec S65536 1 :=
  Host.reduce IntOp.andi (andi (cmpi .sge I (broadcastInDim S65536x1 ![] bcast_S_S65536x1 (constantI S_ 32 0#32)))
      (cmpi .sle I (broadcastInDim S65536x1 ![0, 1] bcast_S1x1_S65536x1_0_1 (broadcastInDim S1x1 ![1] bcast_S1_S1x1_1 (constantI S1 32 65535#32)))))
    (constantI S_ 1 1#1) reducesTo_S65536x1_S65536_d1 h_S_

/-- The rows of the table at the indices. -/
abbrev take (x : FVec F S65536x256 .f32) (J : IVec S65536 32) : FVec F S65536x256 .f32 :=
  select (broadcastInDim S65536x256 ![0] bcast_S65536_S65536x256_0 (named (wrapped J)))
    (Host.gather gather_S65536x256_S65536x1_S65536x256_1_0_n_n_0_1_1256 x (wrapped J))
    (broadcastInDim S65536x256 ![] bcast_S_S65536x256 (constant S_ .f32 0x7FC00000#32))

/-- The log-weights at the indices. -/
abbrev take1 (x : FVec F S65536x1 .f32) (J : IVec S65536 32) : FVec F S65536x1 .f32 :=
  select (broadcastInDim S65536x1 ![0] bcast_S65536_S65536x1_0 (named (wrapped J)))
    (Host.gather gather_S65536x1_S65536x1_S65536x1_1_0_n_n_0_1_11 x (wrapped J))
    (broadcastInDim S65536x1 ![] bcast_S_S65536x1 (constant S_ .f32 0x7FC00000#32))

theorem slt_zero (w : BitVec 32) (h : w.toNat < 65536) : IntOp.cmpi .slt w 0#32 = 0#1 := by
  have h2 : BitVec.slt w 0#32 = false := by
    rw [BitVec.slt_eq_decide, decide_eq_false_iff_not, BitVec.toInt_eq_toNat_cond]
    simp; omega
  simp [IntOp.cmpi, h2]

theorem sge_zero (w : BitVec 32) (h : w.toNat < 65536) : IntOp.cmpi .sge w 0#32 = 1#1 := by
  have h2 : BitVec.sle 0#32 w = true := by
    rw [BitVec.sle_eq_decide, decide_eq_true_eq, BitVec.toInt_eq_toNat_cond w]
    simp; omega
  simp [IntOp.cmpi, h2]

theorem sle_last (w : BitVec 32) (h : w.toNat < 65536) : IntOp.cmpi .sle w 65535#32 = 1#1 := by
  have h2 : BitVec.sle w 65535#32 = true := by
    rw [BitVec.sle_eq_decide, decide_eq_true_eq, BitVec.toInt_eq_toNat_cond w]
    simp; omega
  simp [IntOp.cmpi, h2]

/-- An index that names a row is left as it is. -/
theorem wrapped_at (J : IVec S65536 32) (hJ : ∀ n, (J n).toNat < 65536) (k : S65536x1.Idx) : wrapped J k = J (at1 (k 0)) := by
  unfold wrapped
  rw [broadcastInDim_apply _ _ _ k (at1 (k 0)) (fun a => by match a with | 0 => rfl)]
  show (if IntOp.cmpi .slt (J (at1 (k 0))) 0#32 = 1#1 then _ else _) = _
  rw [slt_zero _ (hJ _), if_neg (by decide)]

theorem named_at (J : IVec S65536 32) (hJ : ∀ n, (J n).toNat < 65536) (k : S65536.Idx) : named (wrapped J) k = 1#1 := by
  unfold named
  refine Host.reduce_andi_one _ _ _ _ _ rfl fun i => ?_
  show IntOp.andi (IntOp.cmpi .sge (wrapped J i) 0#32) (IntOp.cmpi .sle (wrapped J i) 65535#32) = 1#1
  rw [wrapped_at J hJ, sge_zero _ (hJ _), sle_last _ (hJ _)]
  rfl

theorem select_pos {s : Shape} {α : Type} (c : IVec s 1) (a b : s.Idx → α) (i : s.Idx) (h : c i = 1#1) : select c a b i = a i := if_pos h

/-- The reference at row `n`, column `y`: column `y` of the row that index `n` names. -/
theorem take_at (x : FVec F S65536x256 .f32) (J : IVec S65536 32) (hJ : ∀ n, (J n).toNat < 65536) (n : Fin 65536) (y : Fin 256) :
    take x J (ix2 n y) = x (ix2 (⟨(J (at1 n)).toNat, hJ _⟩ : Fin 65536) y) := by
  have hm : broadcastInDim S65536x256 ![0] bcast_S65536_S65536x256_0 (named (wrapped J)) (ix2 n y) = 1#1 := by
    rw [broadcastInDim_apply _ _ _ (ix2 n y) (at1 n) (fun a => by match a with | 0 => rfl)]
    exact named_at J hJ _
  refine (select_pos _ _ _ _ hm).trans ?_
  refine Routing.gather_row (gather_S65536x256_S65536x1_S65536x256_1_0_n_n_0_1_1256) rfl rfl rfl rfl rfl x (wrapped J) n y
    (⟨(J (at1 n)).toNat, hJ _⟩ : Fin 65536) ?_ (by decide)
  rw [wrapped_at J hJ]
  exact BitVec.eq_of_toNat_eq (by rw [BitVec.toNat_ofNat]; exact (Nat.mod_eq_of_lt (J (at1 n)).isLt).symm)

/-- The same of the log-weights. -/
theorem take1_at (x : FVec F S65536x1 .f32) (J : IVec S65536 32) (hJ : ∀ n, (J n).toNat < 65536) (n : Fin 65536) (y : Fin 1) :
    take1 x J (ix2 n y) = x (ix2 (⟨(J (at1 n)).toNat, hJ _⟩ : Fin 65536) y) := by
  have hm : broadcastInDim S65536x1 ![0] bcast_S65536_S65536x1_0 (named (wrapped J)) (ix2 n y) = 1#1 := by
    rw [broadcastInDim_apply _ _ _ (ix2 n y) (at1 n) (fun a => by match a with | 0 => rfl)]
    exact named_at J hJ _
  refine (select_pos _ _ _ _ hm).trans ?_
  refine Routing.gather_row (gather_S65536x1_S65536x1_S65536x1_1_0_n_n_0_1_11) rfl rfl rfl rfl rfl x (wrapped J) n y
    (⟨(J (at1 n)).toNat, hJ _⟩ : Fin 65536) ?_ (by decide)
  rw [wrapped_at J hJ]
  exact BitVec.eq_of_toNat_eq (by rw [BitVec.toNat_ofNat]; exact (Nat.mod_eq_of_lt (J (at1 n)).isLt).symm)

end Cert.ReferenceIdeal.Take

end
-- ==== Proof.RefDraw.lean ====
/- The reference's draw of the noise: its operations in seven stretches, each read back as the function it computes, and what each leaves alone. -/
module

public import proofs.«01_k».proof.Proof.Gen.ReferenceIdeal
public import proofs.«01_k».proof.Proof.Noise
public import Idealize.ShloMosaic.Lib.StableHlo.Run

@[expose] public section

noncomputable section

namespace Cert.ReferenceIdeal.Draw

open Cert.ReferenceIdeal Cert.ReferenceIdeal.Gen Idealize.ShloMosaic Idealize.ShloMosaic.TcCoe Idealize.SL.Sem Idealize.ShloMosaic.StableHlo
open Cert.Noise (Word wide)

variable {F : FTy → Type} [FloatOps F]

/-! ## The operations -/

/-- The arrays of the draw, of the uniform numbers it is made of, of their words, and the key's. -/
abbrev g : fn_gumbel.Bufs := main_call0
abbrev u : fn_uniform.Bufs := main_call0_call0
abbrev t : fn_threefry2x32.Bufs := main_call0_call0_call0
abbrev k : TRef sig ⟨S2, .i32⟩ := .of main_v14

/-- The key, the counters and the keys added to them. -/
abbrev startOps : List (HloOp τ sig (Elt F)) :=
  [ nullary main_c (constantI S_ 32 42#32),
    nullary main_c_1 (constantI S_ 32 32#32),
    binary main_c main_c_1 main_v8 (Host.shrui : (⟨S_, .i32⟩ : BufTy).Contents (Elt F) → (⟨S_, .i32⟩ : BufTy).Contents (Elt F) → (⟨S_, .i32⟩ : BufTy).Contents (Elt F)),
    unary main_v8 main_v9 (id : (⟨S_, .i32⟩ : BufTy).Contents (Elt F) → (⟨S_, .i32⟩ : BufTy).Contents (Elt F)),
    unary main_v9 main_v10 (broadcastInDim S1 ![] bcast_S_S1 : (⟨S_, .i32⟩ : BufTy).Contents (Elt F) → (⟨S1, .i32⟩ : BufTy).Contents (Elt F)),
    nullary main_c_2 (constantI S_ 32 4294967295#32),
    binary main_c main_c_2 main_v11 (andi : (⟨S_, .i32⟩ : BufTy).Contents (Elt F) → (⟨S_, .i32⟩ : BufTy).Contents (Elt F) → (⟨S_, .i32⟩ : BufTy).Contents (Elt F)),
    unary main_v11 main_v12 (id : (⟨S_, .i32⟩ : BufTy).Contents (Elt F) → (⟨S_, .i32⟩ : BufTy).Contents (Elt F)),
    unary main_v12 main_v13 (broadcastInDim S1 ![] bcast_S_S1 : (⟨S_, .i32⟩ : BufTy).Contents (Elt F) → (⟨S1, .i32⟩ : BufTy).Contents (Elt F)),
    binary main_v10 main_v13 main_v14 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    unary main_v7 main_v15 (broadcastInDim S1024x1x64 ![0, 2] bcast_S1024x64_S1024x1x64_0_2 : (⟨S1024x64, .f32⟩ : BufTy).Contents (Elt F) → (⟨S1024x1x64, .f32⟩ : BufTy).Contents (Elt F)),
    TRef.nullary g.cst (constant S_ .f32 0x3F800000#32),
    TRef.nullary g.cst_0 (constant S_ .f32 0x00800000#32),
    TRef.unary g.cst u.v0 id,
    TRef.unary g.cst_0 u.v1 (broadcastInDim S1x1x1 ![] bcast_S_S1x1x1),
    TRef.unary u.v0 u.v2 (broadcastInDim S1x1x1 ![] bcast_S_S1x1x1),
    TRef.unary k u.v3 (extractStridedSlice S1 ![0] · slices_S2_S1_0),
    TRef.reshape u.v3 u.v4 (rfl : (.i32 : EltTy) = .i32) shapeCasts_S1_S_,
    TRef.unary k u.v5 (extractStridedSlice S1 ![1] · slices_S2_S1_1),
    TRef.reshape u.v5 u.v6 (rfl : (.i32 : EltTy) = .i32) shapeCasts_S1_S_,
    TRef.nullary u.v7 (iotaInDim S1024x64x64 64 0),
    TRef.nullary u.v8 (iotaInDim S1024x64x64 64 1),
    TRef.nullary u.v9 (iotaInDim S1024x64x64 64 2),
    TRef.nullary u.c (constantI S_ 64 4096#64),
    TRef.unary u.c u.v10 (broadcastInDim S1024x64x64 ![] bcast_S_S1024x64x64),
    TRef.binary u.v10 u.v7 u.v11 muli,
    TRef.nullary u.c_0 (constantI S_ 64 64#64),
    TRef.unary u.c_0 u.v12 (broadcastInDim S1024x64x64 ![] bcast_S_S1024x64x64),
    TRef.binary u.v12 u.v8 u.v13 muli,
    TRef.nullary u.c_1 (constantI S_ 64 1#64),
    TRef.unary u.c_1 u.v14 (broadcastInDim S1024x64x64 ![] bcast_S_S1024x64x64),
    TRef.binary u.v14 u.v9 u.v15 muli,
    TRef.binary u.v11 u.v13 u.v16 addi,
    TRef.binary u.v16 u.v15 u.v17 addi,
    TRef.nullary u.c_2 (constantI S_ 64 32#64),
    TRef.unary u.c_2 u.v18 (broadcastInDim S1024x64x64 ![] bcast_S_S1024x64x64),
    TRef.binary u.v17 u.v18 u.v19 Host.shrui,
    TRef.unary u.v17 u.v20 (trunci 32 · natLt_32_64),
    TRef.unary u.v19 u.v21 (trunci 32 · natLt_32_64),
    TRef.binary u.v4 u.v6 t.v0 xori,
    TRef.nullary t.c (constantI S_ 32 466688986#32),
    TRef.binary t.v0 t.c t.v1 xori,
    TRef.unary u.v4 t.v2 (broadcastInDim S1024x64x64 ![] bcast_S_S1024x64x64),
    TRef.binary u.v21 t.v2 t.v3 addi,
    TRef.unary u.v6 t.v4 (broadcastInDim S1024x64x64 ![] bcast_S_S1024x64x64),
    TRef.binary u.v20 t.v4 t.v5 addi ]

theorem startOps_sub : (startOps : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., unary_bufs_sub .., nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub ..⟩

/-- What they write. -/
abbrev startW : List (Ref sig .tc) := [main_c, main_c_1, main_v8, main_v9, main_v10, main_c_2, main_v11, main_v12, main_v13, main_v14, main_v15, g.cst.ref, g.cst_0.ref, u.v0.ref, u.v1.ref, u.v2.ref, u.v3.ref, u.v4.ref, u.v5.ref, u.v6.ref, u.v7.ref, u.v8.ref, u.v9.ref, u.c.ref, u.v10.ref, u.v11.ref, u.c_0.ref, u.v12.ref, u.v13.ref, u.c_1.ref, u.v14.ref, u.v15.ref, u.v16.ref, u.v17.ref, u.c_2.ref, u.v18.ref, u.v19.ref, u.v20.ref, u.v21.ref, t.v0.ref, t.c.ref, t.v1.ref, t.v2.ref, t.v3.ref, t.v4.ref, t.v5.ref]
theorem start_keep (V : Valuation τ sig (Elt F)) {b : Ref sig .tc} (h : b ∉ startW) : after startOps V (Proc.devRef .tc b) = V (Proc.devRef .tc b) :=
  after_of_writes_sub startOps V (forall_writes_sub_of_map rfl) h

/-- Round 1 of the five: four turns, then the keys of the round. -/
abbrev round1Ops : List (HloOp τ sig (Elt F)) :=
  [ TRef.binary t.v3 t.v5 t.v6 addi,
    TRef.nullary t.c_0 (constantI S_ 32 13#32),
    TRef.unary t.c_0 t.v7 (broadcastInDim S1024x64x64 ![] bcast_S_S1024x64x64),
    TRef.binary t.v5 t.v7 t.v8 Host.shli,
    TRef.nullary t.c_1 (constantI S_ 32 19#32),
    TRef.unary t.c_1 t.v9 (broadcastInDim S1024x64x64 ![] bcast_S_S1024x64x64),
    TRef.binary t.v5 t.v9 t.v10 Host.shrui,
    TRef.binary t.v8 t.v10 t.v11 ori,
    TRef.binary t.v6 t.v11 t.v12 xori,
    TRef.binary t.v6 t.v12 t.v13 addi,
    TRef.nullary t.c_2 (constantI S_ 32 15#32),
    TRef.unary t.c_2 t.v14 (broadcastInDim S1024x64x64 ![] bcast_S_S1024x64x64),
    TRef.binary t.v12 t.v14 t.v15 Host.shli,
    TRef.nullary t.c_3 (constantI S_ 32 17#32),
    TRef.unary t.c_3 t.v16 (broadcastInDim S1024x64x64 ![] bcast_S_S1024x64x64),
    TRef.binary t.v12 t.v16 t.v17 Host.shrui,
    TRef.binary t.v15 t.v17 t.v18 ori,
    TRef.binary t.v13 t.v18 t.v19 xori,
    TRef.binary t.v13 t.v19 t.v20 addi,
    TRef.nullary t.c_4 (constantI S_ 32 26#32),
    TRef.unary t.c_4 t.v21 (broadcastInDim S1024x64x64 ![] bcast_S_S1024x64x64),
    TRef.binary t.v19 t.v21 t.v22 Host.shli,
    TRef.nullary t.c_5 (constantI S_ 32 6#32),
    TRef.unary t.c_5 t.v23 (broadcastInDim S1024x64x64 ![] bcast_S_S1024x64x64),
    TRef.binary t.v19 t.v23 t.v24 Host.shrui,
    TRef.binary t.v22 t.v24 t.v25 ori,
    TRef.binary t.v20 t.v25 t.v26 xori,
    TRef.binary t.v20 t.v26 t.v27 addi,
    TRef.nullary t.c_6 (constantI S_ 32 6#32),
    TRef.unary t.c_6 t.v28 (broadcastInDim S1024x64x64 ![] bcast_S_S1024x64x64),
    TRef.binary t.v26 t.v28 t.v29 Host.shli,
    TRef.nullary t.c_7 (constantI S_ 32 26#32),
    TRef.unary t.c_7 t.v30 (broadcastInDim S1024x64x64 ![] bcast_S_S1024x64x64),
    TRef.binary t.v26 t.v30 t.v31 Host.shrui,
    TRef.binary t.v29 t.v31 t.v32 ori,
    TRef.binary t.v27 t.v32 t.v33 xori,
    TRef.unary u.v6 t.v34 (broadcastInDim S1024x64x64 ![] bcast_S_S1024x64x64),
    TRef.binary t.v27 t.v34 t.v35 addi,
    TRef.unary t.v1 t.v36 (broadcastInDim S1024x64x64 ![] bcast_S_S1024x64x64),
    TRef.binary t.v33 t.v36 t.v37 addi,
    TRef.nullary t.c_8 (constantI S_ 32 1#32),
    TRef.unary t.c_8 t.v38 (broadcastInDim S1024x64x64 ![] bcast_S_S1024x64x64),
    TRef.binary t.v37 t.v38 t.v39 addi ]

theorem round1Ops_sub : (round1Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round1W : List (Ref sig .tc) := [t.v6.ref, t.c_0.ref, t.v7.ref, t.v8.ref, t.c_1.ref, t.v9.ref, t.v10.ref, t.v11.ref, t.v12.ref, t.v13.ref, t.c_2.ref, t.v14.ref, t.v15.ref, t.c_3.ref, t.v16.ref, t.v17.ref, t.v18.ref, t.v19.ref, t.v20.ref, t.c_4.ref, t.v21.ref, t.v22.ref, t.c_5.ref, t.v23.ref, t.v24.ref, t.v25.ref, t.v26.ref, t.v27.ref, t.c_6.ref, t.v28.ref, t.v29.ref, t.c_7.ref, t.v30.ref, t.v31.ref, t.v32.ref, t.v33.ref, t.v34.ref, t.v35.ref, t.v36.ref, t.v37.ref, t.c_8.ref, t.v38.ref, t.v39.ref]
theorem round1_keep (V : Valuation τ sig (Elt F)) {b : Ref sig .tc} (h : b ∉ round1W) : after round1Ops V (Proc.devRef .tc b) = V (Proc.devRef .tc b) :=
  after_of_writes_sub round1Ops V (forall_writes_sub_of_map rfl) h

/-- Round 2 of the five: four turns, then the keys of the round. -/
abbrev round2Ops : List (HloOp τ sig (Elt F)) :=
  [ TRef.binary t.v35 t.v39 t.v40 addi,
    TRef.nullary t.c_9 (constantI S_ 32 17#32),
    TRef.unary t.c_9 t.v41 (broadcastInDim S1024x64x64 ![] bcast_S_S1024x64x64),
    TRef.binary t.v39 t.v41 t.v42 Host.shli,
    TRef.nullary t.c_10 (constantI S_ 32 15#32),
    TRef.unary t.c_10 t.v43 (broadcastInDim S1024x64x64 ![] bcast_S_S1024x64x64),
    TRef.binary t.v39 t.v43 t.v44 Host.shrui,
    TRef.binary t.v42 t.v44 t.v45 ori,
    TRef.binary t.v40 t.v45 t.v46 xori,
    TRef.binary t.v40 t.v46 t.v47 addi,
    TRef.nullary t.c_11 (constantI S_ 32 29#32),
    TRef.unary t.c_11 t.v48 (broadcastInDim S1024x64x64 ![] bcast_S_S1024x64x64),
    TRef.binary t.v46 t.v48 t.v49 Host.shli,
    TRef.nullary t.c_12 (constantI S_ 32 3#32),
    TRef.unary t.c_12 t.v50 (broadcastInDim S1024x64x64 ![] bcast_S_S1024x64x64),
    TRef.binary t.v46 t.v50 t.v51 Host.shrui,
    TRef.binary t.v49 t.v51 t.v52 ori,
    TRef.binary t.v47 t.v52 t.v53 xori,
    TRef.binary t.v47 t.v53 t.v54 addi,
    TRef.nullary t.c_13 (constantI S_ 32 16#32),
    TRef.unary t.c_13 t.v55 (broadcastInDim S1024x64x64 ![] bcast_S_S1024x64x64),
    TRef.binary t.v53 t.v55 t.v56 Host.shli,
    TRef.nullary t.c_14 (constantI S_ 32 16#32),
    TRef.unary t.c_14 t.v57 (broadcastInDim S1024x64x64 ![] bcast_S_S1024x64x64),
    TRef.binary t.v53 t.v57 t.v58 Host.shrui,
    TRef.binary t.v56 t.v58 t.v59 ori,
    TRef.binary t.v54 t.v59 t.v60 xori,
    TRef.binary t.v54 t.v60 t.v61 addi,
    TRef.nullary t.c_15 (constantI S_ 32 24#32),
    TRef.unary t.c_15 t.v62 (broadcastInDim S1024x64x64 ![] bcast_S_S1024x64x64),
    TRef.binary t.v60 t.v62 t.v63 Host.shli,
    TRef.nullary t.c_16 (constantI S_ 32 8#32),
    TRef.unary t.c_16 t.v64 (broadcastInDim S1024x64x64 ![] bcast_S_S1024x64x64),
    TRef.binary t.v60 t.v64 t.v65 Host.shrui,
    TRef.binary t.v63 t.v65 t.v66 ori,
    TRef.binary t.v61 t.v66 t.v67 xori,
    TRef.unary t.v1 t.v68 (broadcastInDim S1024x64x64 ![] bcast_S_S1024x64x64),
    TRef.binary t.v61 t.v68 t.v69 addi,
    TRef.unary u.v4 t.v70 (broadcastInDim S1024x64x64 ![] bcast_S_S1024x64x64),
    TRef.binary t.v67 t.v70 t.v71 addi,
    TRef.nullary t.c_17 (constantI S_ 32 2#32),
    TRef.unary t.c_17 t.v72 (broadcastInDim S1024x64x64 ![] bcast_S_S1024x64x64),
    TRef.binary t.v71 t.v72 t.v73 addi ]

theorem round2Ops_sub : (round2Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round2W : List (Ref sig .tc) := [t.v40.ref, t.c_9.ref, t.v41.ref, t.v42.ref, t.c_10.ref, t.v43.ref, t.v44.ref, t.v45.ref, t.v46.ref, t.v47.ref, t.c_11.ref, t.v48.ref, t.v49.ref, t.c_12.ref, t.v50.ref, t.v51.ref, t.v52.ref, t.v53.ref, t.v54.ref, t.c_13.ref, t.v55.ref, t.v56.ref, t.c_14.ref, t.v57.ref, t.v58.ref, t.v59.ref, t.v60.ref, t.v61.ref, t.c_15.ref, t.v62.ref, t.v63.ref, t.c_16.ref, t.v64.ref, t.v65.ref, t.v66.ref, t.v67.ref, t.v68.ref, t.v69.ref, t.v70.ref, t.v71.ref, t.c_17.ref, t.v72.ref, t.v73.ref]
theorem round2_keep (V : Valuation τ sig (Elt F)) {b : Ref sig .tc} (h : b ∉ round2W) : after round2Ops V (Proc.devRef .tc b) = V (Proc.devRef .tc b) :=
  after_of_writes_sub round2Ops V (forall_writes_sub_of_map rfl) h

/-- Round 3 of the five: four turns, then the keys of the round. -/
abbrev round3Ops : List (HloOp τ sig (Elt F)) :=
  [ TRef.binary t.v69 t.v73 t.v74 addi,
    TRef.nullary t.c_18 (constantI S_ 32 13#32),
    TRef.unary t.c_18 t.v75 (broadcastInDim S1024x64x64 ![] bcast_S_S1024x64x64),
    TRef.binary t.v73 t.v75 t.v76 Host.shli,
    TRef.nullary t.c_19 (constantI S_ 32 19#32),
    TRef.unary t.c_19 t.v77 (broadcastInDim S1024x64x64 ![] bcast_S_S1024x64x64),
    TRef.binary t.v73 t.v77 t.v78 Host.shrui,
    TRef.binary t.v76 t.v78 t.v79 ori,
    TRef.binary t.v74 t.v79 t.v80 xori,
    TRef.binary t.v74 t.v80 t.v81 addi,
    TRef.nullary t.c_20 (constantI S_ 32 15#32),
    TRef.unary t.c_20 t.v82 (broadcastInDim S1024x64x64 ![] bcast_S_S1024x64x64),
    TRef.binary t.v80 t.v82 t.v83 Host.shli,
    TRef.nullary t.c_21 (constantI S_ 32 17#32),
    TRef.unary t.c_21 t.v84 (broadcastInDim S1024x64x64 ![] bcast_S_S1024x64x64),
    TRef.binary t.v80 t.v84 t.v85 Host.shrui,
    TRef.binary t.v83 t.v85 t.v86 ori,
    TRef.binary t.v81 t.v86 t.v87 xori,
    TRef.binary t.v81 t.v87 t.v88 addi,
    TRef.nullary t.c_22 (constantI S_ 32 26#32),
    TRef.unary t.c_22 t.v89 (broadcastInDim S1024x64x64 ![] bcast_S_S1024x64x64),
    TRef.binary t.v87 t.v89 t.v90 Host.shli,
    TRef.nullary t.c_23 (constantI S_ 32 6#32),
    TRef.unary t.c_23 t.v91 (broadcastInDim S1024x64x64 ![] bcast_S_S1024x64x64),
    TRef.binary t.v87 t.v91 t.v92 Host.shrui,
    TRef.binary t.v90 t.v92 t.v93 ori,
    TRef.binary t.v88 t.v93 t.v94 xori,
    TRef.binary t.v88 t.v94 t.v95 addi,
    TRef.nullary t.c_24 (constantI S_ 32 6#32),
    TRef.unary t.c_24 t.v96 (broadcastInDim S1024x64x64 ![] bcast_S_S1024x64x64),
    TRef.binary t.v94 t.v96 t.v97 Host.shli,
    TRef.nullary t.c_25 (constantI S_ 32 26#32),
    TRef.unary t.c_25 t.v98 (broadcastInDim S1024x64x64 ![] bcast_S_S1024x64x64),
    TRef.binary t.v94 t.v98 t.v99 Host.shrui,
    TRef.binary t.v97 t.v99 t.v100 ori,
    TRef.binary t.v95 t.v100 t.v101 xori,
    TRef.unary u.v4 t.v102 (broadcastInDim S1024x64x64 ![] bcast_S_S1024x64x64),
    TRef.binary t.v95 t.v102 t.v103 addi,
    TRef.unary u.v6 t.v104 (broadcastInDim S1024x64x64 ![] bcast_S_S1024x64x64),
    TRef.binary t.v101 t.v104 t.v105 addi,
    TRef.nullary t.c_26 (constantI S_ 32 3#32),
    TRef.unary t.c_26 t.v106 (broadcastInDim S1024x64x64 ![] bcast_S_S1024x64x64),
    TRef.binary t.v105 t.v106 t.v107 addi ]

theorem round3Ops_sub : (round3Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round3W : List (Ref sig .tc) := [t.v74.ref, t.c_18.ref, t.v75.ref, t.v76.ref, t.c_19.ref, t.v77.ref, t.v78.ref, t.v79.ref, t.v80.ref, t.v81.ref, t.c_20.ref, t.v82.ref, t.v83.ref, t.c_21.ref, t.v84.ref, t.v85.ref, t.v86.ref, t.v87.ref, t.v88.ref, t.c_22.ref, t.v89.ref, t.v90.ref, t.c_23.ref, t.v91.ref, t.v92.ref, t.v93.ref, t.v94.ref, t.v95.ref, t.c_24.ref, t.v96.ref, t.v97.ref, t.c_25.ref, t.v98.ref, t.v99.ref, t.v100.ref, t.v101.ref, t.v102.ref, t.v103.ref, t.v104.ref, t.v105.ref, t.c_26.ref, t.v106.ref, t.v107.ref]
theorem round3_keep (V : Valuation τ sig (Elt F)) {b : Ref sig .tc} (h : b ∉ round3W) : after round3Ops V (Proc.devRef .tc b) = V (Proc.devRef .tc b) :=
  after_of_writes_sub round3Ops V (forall_writes_sub_of_map rfl) h

/-- Round 4 of the five: four turns, then the keys of the round. -/
abbrev round4Ops : List (HloOp τ sig (Elt F)) :=
  [ TRef.binary t.v103 t.v107 t.v108 addi,
    TRef.nullary t.c_27 (constantI S_ 32 17#32),
    TRef.unary t.c_27 t.v109 (broadcastInDim S1024x64x64 ![] bcast_S_S1024x64x64),
    TRef.binary t.v107 t.v109 t.v110 Host.shli,
    TRef.nullary t.c_28 (constantI S_ 32 15#32),
    TRef.unary t.c_28 t.v111 (broadcastInDim S1024x64x64 ![] bcast_S_S1024x64x64),
    TRef.binary t.v107 t.v111 t.v112 Host.shrui,
    TRef.binary t.v110 t.v112 t.v113 ori,
    TRef.binary t.v108 t.v113 t.v114 xori,
    TRef.binary t.v108 t.v114 t.v115 addi,
    TRef.nullary t.c_29 (constantI S_ 32 29#32),
    TRef.unary t.c_29 t.v116 (broadcastInDim S1024x64x64 ![] bcast_S_S1024x64x64),
    TRef.binary t.v114 t.v116 t.v117 Host.shli,
    TRef.nullary t.c_30 (constantI S_ 32 3#32),
    TRef.unary t.c_30 t.v118 (broadcastInDim S1024x64x64 ![] bcast_S_S1024x64x64),
    TRef.binary t.v114 t.v118 t.v119 Host.shrui,
    TRef.binary t.v117 t.v119 t.v120 ori,
    TRef.binary t.v115 t.v120 t.v121 xori,
    TRef.binary t.v115 t.v121 t.v122 addi,
    TRef.nullary t.c_31 (constantI S_ 32 16#32),
    TRef.unary t.c_31 t.v123 (broadcastInDim S1024x64x64 ![] bcast_S_S1024x64x64),
    TRef.binary t.v121 t.v123 t.v124 Host.shli,
    TRef.nullary t.c_32 (constantI S_ 32 16#32),
    TRef.unary t.c_32 t.v125 (broadcastInDim S1024x64x64 ![] bcast_S_S1024x64x64),
    TRef.binary t.v121 t.v125 t.v126 Host.shrui,
    TRef.binary t.v124 t.v126 t.v127 ori,
    TRef.binary t.v122 t.v127 t.v128 xori,
    TRef.binary t.v122 t.v128 t.v129 addi,
    TRef.nullary t.c_33 (constantI S_ 32 24#32),
    TRef.unary t.c_33 t.v130 (broadcastInDim S1024x64x64 ![] bcast_S_S1024x64x64),
    TRef.binary t.v128 t.v130 t.v131 Host.shli,
    TRef.nullary t.c_34 (constantI S_ 32 8#32),
    TRef.unary t.c_34 t.v132 (broadcastInDim S1024x64x64 ![] bcast_S_S1024x64x64),
    TRef.binary t.v128 t.v132 t.v133 Host.shrui,
    TRef.binary t.v131 t.v133 t.v134 ori,
    TRef.binary t.v129 t.v134 t.v135 xori,
    TRef.unary u.v6 t.v136 (broadcastInDim S1024x64x64 ![] bcast_S_S1024x64x64),
    TRef.binary t.v129 t.v136 t.v137 addi,
    TRef.unary t.v1 t.v138 (broadcastInDim S1024x64x64 ![] bcast_S_S1024x64x64),
    TRef.binary t.v135 t.v138 t.v139 addi,
    TRef.nullary t.c_35 (constantI S_ 32 4#32),
    TRef.unary t.c_35 t.v140 (broadcastInDim S1024x64x64 ![] bcast_S_S1024x64x64),
    TRef.binary t.v139 t.v140 t.v141 addi ]

theorem round4Ops_sub : (round4Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round4W : List (Ref sig .tc) := [t.v108.ref, t.c_27.ref, t.v109.ref, t.v110.ref, t.c_28.ref, t.v111.ref, t.v112.ref, t.v113.ref, t.v114.ref, t.v115.ref, t.c_29.ref, t.v116.ref, t.v117.ref, t.c_30.ref, t.v118.ref, t.v119.ref, t.v120.ref, t.v121.ref, t.v122.ref, t.c_31.ref, t.v123.ref, t.v124.ref, t.c_32.ref, t.v125.ref, t.v126.ref, t.v127.ref, t.v128.ref, t.v129.ref, t.c_33.ref, t.v130.ref, t.v131.ref, t.c_34.ref, t.v132.ref, t.v133.ref, t.v134.ref, t.v135.ref, t.v136.ref, t.v137.ref, t.v138.ref, t.v139.ref, t.c_35.ref, t.v140.ref, t.v141.ref]
theorem round4_keep (V : Valuation τ sig (Elt F)) {b : Ref sig .tc} (h : b ∉ round4W) : after round4Ops V (Proc.devRef .tc b) = V (Proc.devRef .tc b) :=
  after_of_writes_sub round4Ops V (forall_writes_sub_of_map rfl) h

/-- Round 5 of the five: four turns, then the keys of the round. -/
abbrev round5Ops : List (HloOp τ sig (Elt F)) :=
  [ TRef.binary t.v137 t.v141 t.v142 addi,
    TRef.nullary t.c_36 (constantI S_ 32 13#32),
    TRef.unary t.c_36 t.v143 (broadcastInDim S1024x64x64 ![] bcast_S_S1024x64x64),
    TRef.binary t.v141 t.v143 t.v144 Host.shli,
    TRef.nullary t.c_37 (constantI S_ 32 19#32),
    TRef.unary t.c_37 t.v145 (broadcastInDim S1024x64x64 ![] bcast_S_S1024x64x64),
    TRef.binary t.v141 t.v145 t.v146 Host.shrui,
    TRef.binary t.v144 t.v146 t.v147 ori,
    TRef.binary t.v142 t.v147 t.v148 xori,
    TRef.binary t.v142 t.v148 t.v149 addi,
    TRef.nullary t.c_38 (constantI S_ 32 15#32),
    TRef.unary t.c_38 t.v150 (broadcastInDim S1024x64x64 ![] bcast_S_S1024x64x64),
    TRef.binary t.v148 t.v150 t.v151 Host.shli,
    TRef.nullary t.c_39 (constantI S_ 32 17#32),
    TRef.unary t.c_39 t.v152 (broadcastInDim S1024x64x64 ![] bcast_S_S1024x64x64),
    TRef.binary t.v148 t.v152 t.v153 Host.shrui,
    TRef.binary t.v151 t.v153 t.v154 ori,
    TRef.binary t.v149 t.v154 t.v155 xori,
    TRef.binary t.v149 t.v155 t.v156 addi,
    TRef.nullary t.c_40 (constantI S_ 32 26#32),
    TRef.unary t.c_40 t.v157 (broadcastInDim S1024x64x64 ![] bcast_S_S1024x64x64),
    TRef.binary t.v155 t.v157 t.v158 Host.shli,
    TRef.nullary t.c_41 (constantI S_ 32 6#32),
    TRef.unary t.c_41 t.v159 (broadcastInDim S1024x64x64 ![] bcast_S_S1024x64x64),
    TRef.binary t.v155 t.v159 t.v160 Host.shrui,
    TRef.binary t.v158 t.v160 t.v161 ori,
    TRef.binary t.v156 t.v161 t.v162 xori,
    TRef.binary t.v156 t.v162 t.v163 addi,
    TRef.nullary t.c_42 (constantI S_ 32 6#32),
    TRef.unary t.c_42 t.v164 (broadcastInDim S1024x64x64 ![] bcast_S_S1024x64x64),
    TRef.binary t.v162 t.v164 t.v165 Host.shli,
    TRef.nullary t.c_43 (constantI S_ 32 26#32),
    TRef.unary t.c_43 t.v166 (broadcastInDim S1024x64x64 ![] bcast_S_S1024x64x64),
    TRef.binary t.v162 t.v166 t.v167 Host.shrui,
    TRef.binary t.v165 t.v167 t.v168 ori,
    TRef.binary t.v163 t.v168 t.v169 xori,
    TRef.unary t.v1 t.v170 (broadcastInDim S1024x64x64 ![] bcast_S_S1024x64x64),
    TRef.binary t.v163 t.v170 t.v171 addi,
    TRef.unary u.v4 t.v172 (broadcastInDim S1024x64x64 ![] bcast_S_S1024x64x64),
    TRef.binary t.v169 t.v172 t.v173 addi,
    TRef.nullary t.c_44 (constantI S_ 32 5#32),
    TRef.unary t.c_44 t.v174 (broadcastInDim S1024x64x64 ![] bcast_S_S1024x64x64),
    TRef.binary t.v173 t.v174 t.v175 addi ]

theorem round5Ops_sub : (round5Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- What they write. -/
abbrev round5W : List (Ref sig .tc) := [t.v142.ref, t.c_36.ref, t.v143.ref, t.v144.ref, t.c_37.ref, t.v145.ref, t.v146.ref, t.v147.ref, t.v148.ref, t.v149.ref, t.c_38.ref, t.v150.ref, t.v151.ref, t.c_39.ref, t.v152.ref, t.v153.ref, t.v154.ref, t.v155.ref, t.v156.ref, t.c_40.ref, t.v157.ref, t.v158.ref, t.c_41.ref, t.v159.ref, t.v160.ref, t.v161.ref, t.v162.ref, t.v163.ref, t.c_42.ref, t.v164.ref, t.v165.ref, t.c_43.ref, t.v166.ref, t.v167.ref, t.v168.ref, t.v169.ref, t.v170.ref, t.v171.ref, t.v172.ref, t.v173.ref, t.c_44.ref, t.v174.ref, t.v175.ref]
theorem round5_keep (V : Valuation τ sig (Elt F)) {b : Ref sig .tc} (h : b ∉ round5W) : after round5Ops V (Proc.devRef .tc b) = V (Proc.devRef .tc b) :=
  after_of_writes_sub round5Ops V (forall_writes_sub_of_map rfl) h

/-- The words made numbers between zero and one, and these the noise. -/
abbrev finishOps : List (HloOp τ sig (Elt F)) :=
  [ TRef.binary t.v171 t.v175 u.v23 xori,
    TRef.nullary u.c_3 (constantI S_ 32 9#32),
    TRef.unary u.c_3 u.v24 (broadcastInDim S1024x64x64 ![] bcast_S_S1024x64x64),
    TRef.binary u.v23 u.v24 u.v25 Host.shrui,
    TRef.nullary u.c_4 (constantI S_ 32 1065353216#32),
    TRef.unary u.c_4 u.v26 (broadcastInDim S1024x64x64 ![] bcast_S_S1024x64x64),
    TRef.binary u.v25 u.v26 u.v27 ori,
    TRef.unary u.v27 u.v28 (bitcastToFloat .f32),
    TRef.nullary u.cst (constant S_ .f32 0x3F800000#32),
    TRef.unary u.cst u.v29 (broadcastInDim S1024x64x64 ![] bcast_S_S1024x64x64),
    TRef.binary u.v28 u.v29 u.v30 subf,
    TRef.binary u.v2 u.v1 u.v31 subf,
    TRef.unary u.v31 u.v32 (broadcastInDim S1024x64x64 ![0, 1, 2] bcast_S1x1x1_S1024x64x64_0_1_2),
    TRef.binary u.v30 u.v32 u.v33 mulf,
    TRef.unary u.v1 u.v34 (broadcastInDim S1024x64x64 ![0, 1, 2] bcast_S1x1x1_S1024x64x64_0_1_2),
    TRef.binary u.v33 u.v34 u.v35 addf,
    TRef.unary u.v1 u.v36 (broadcastInDim S1024x64x64 ![0, 1, 2] bcast_S1x1x1_S1024x64x64_0_1_2),
    TRef.binary u.v36 u.v35 u.v37 maximumf,
    TRef.unary u.v37 g.v1 Host.log,
    TRef.unary g.v1 g.v2 Host.negf,
    TRef.unary g.v2 g.v3 Host.log,
    TRef.unary g.v3 g.v4 Host.negf ]

theorem finishOps_sub : (finishOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩

/-- What they write. -/
abbrev finishW : List (Ref sig .tc) := [u.v23.ref, u.c_3.ref, u.v24.ref, u.v25.ref, u.c_4.ref, u.v26.ref, u.v27.ref, u.v28.ref, u.cst.ref, u.v29.ref, u.v30.ref, u.v31.ref, u.v32.ref, u.v33.ref, u.v34.ref, u.v35.ref, u.v36.ref, u.v37.ref, g.v1.ref, g.v2.ref, g.v3.ref, g.v4.ref]
theorem finish_keep (V : Valuation τ sig (Elt F)) {b : Ref sig .tc} (h : b ∉ finishW) : after finishOps V (Proc.devRef .tc b) = V (Proc.devRef .tc b) :=
  after_of_writes_sub finishOps V (forall_writes_sub_of_map rfl) h

/-! ## What each stretch computes -/

variable (V : Valuation τ sig (Elt F))

set_option maxHeartbeats 8000000 in
set_option maxRecDepth 16384 in
theorem start_ka : after startOps V (Proc.devRef .tc u.v4.ref) = Cert.Noise.ka := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_kb : after startOps V (Proc.devRef .tc u.v6.ref) = Cert.Noise.kb := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_kc : after startOps V (Proc.devRef .tc t.v1.ref) = Cert.Noise.kc := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_x : after startOps V (Proc.devRef .tc t.v3.ref) = Cert.Noise.first.1 := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_y : after startOps V (Proc.devRef .tc t.v5.ref) = Cert.Noise.first.2 := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_lo : after startOps V (Proc.devRef .tc u.v1.ref) = (Cert.Noise.lo : FVec F Cert.ReferenceIdeal.S1x1x1 .f32) := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem start_hi : after startOps V (Proc.devRef .tc u.v2.ref) = (Cert.Noise.hi : FVec F Cert.ReferenceIdeal.S1x1x1 .f32) := by
  simp only [startOps, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round1_x : after round1Ops V (Proc.devRef .tc t.v35.ref) = (Cert.Noise.keyed (V (Proc.devRef .tc u.v6.ref)) (V (Proc.devRef .tc t.v1.ref)) 1#32 (Cert.Noise.turnsA ((V (Proc.devRef .tc t.v3.ref)), (V (Proc.devRef .tc t.v5.ref))))).1 := by
  simp only [round1Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round1_y : after round1Ops V (Proc.devRef .tc t.v39.ref) = (Cert.Noise.keyed (V (Proc.devRef .tc u.v6.ref)) (V (Proc.devRef .tc t.v1.ref)) 1#32 (Cert.Noise.turnsA ((V (Proc.devRef .tc t.v3.ref)), (V (Proc.devRef .tc t.v5.ref))))).2 := by
  simp only [round1Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round2_x : after round2Ops V (Proc.devRef .tc t.v69.ref) = (Cert.Noise.keyed (V (Proc.devRef .tc t.v1.ref)) (V (Proc.devRef .tc u.v4.ref)) 2#32 (Cert.Noise.turnsB ((V (Proc.devRef .tc t.v35.ref)), (V (Proc.devRef .tc t.v39.ref))))).1 := by
  simp only [round2Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round2_y : after round2Ops V (Proc.devRef .tc t.v73.ref) = (Cert.Noise.keyed (V (Proc.devRef .tc t.v1.ref)) (V (Proc.devRef .tc u.v4.ref)) 2#32 (Cert.Noise.turnsB ((V (Proc.devRef .tc t.v35.ref)), (V (Proc.devRef .tc t.v39.ref))))).2 := by
  simp only [round2Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round3_x : after round3Ops V (Proc.devRef .tc t.v103.ref) = (Cert.Noise.keyed (V (Proc.devRef .tc u.v4.ref)) (V (Proc.devRef .tc u.v6.ref)) 3#32 (Cert.Noise.turnsA ((V (Proc.devRef .tc t.v69.ref)), (V (Proc.devRef .tc t.v73.ref))))).1 := by
  simp only [round3Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round3_y : after round3Ops V (Proc.devRef .tc t.v107.ref) = (Cert.Noise.keyed (V (Proc.devRef .tc u.v4.ref)) (V (Proc.devRef .tc u.v6.ref)) 3#32 (Cert.Noise.turnsA ((V (Proc.devRef .tc t.v69.ref)), (V (Proc.devRef .tc t.v73.ref))))).2 := by
  simp only [round3Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round4_x : after round4Ops V (Proc.devRef .tc t.v137.ref) = (Cert.Noise.keyed (V (Proc.devRef .tc u.v6.ref)) (V (Proc.devRef .tc t.v1.ref)) 4#32 (Cert.Noise.turnsB ((V (Proc.devRef .tc t.v103.ref)), (V (Proc.devRef .tc t.v107.ref))))).1 := by
  simp only [round4Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round4_y : after round4Ops V (Proc.devRef .tc t.v141.ref) = (Cert.Noise.keyed (V (Proc.devRef .tc u.v6.ref)) (V (Proc.devRef .tc t.v1.ref)) 4#32 (Cert.Noise.turnsB ((V (Proc.devRef .tc t.v103.ref)), (V (Proc.devRef .tc t.v107.ref))))).2 := by
  simp only [round4Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round5_x : after round5Ops V (Proc.devRef .tc t.v171.ref) = (Cert.Noise.keyed (V (Proc.devRef .tc t.v1.ref)) (V (Proc.devRef .tc u.v4.ref)) 5#32 (Cert.Noise.turnsA ((V (Proc.devRef .tc t.v137.ref)), (V (Proc.devRef .tc t.v141.ref))))).1 := by
  simp only [round5Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem round5_y : after round5Ops V (Proc.devRef .tc t.v175.ref) = (Cert.Noise.keyed (V (Proc.devRef .tc t.v1.ref)) (V (Proc.devRef .tc u.v4.ref)) 5#32 (Cert.Noise.turnsA ((V (Proc.devRef .tc t.v137.ref)), (V (Proc.devRef .tc t.v141.ref))))).2 := by
  simp only [round5Ops, g, u, t, k, main_call0, main_call0_call0, main_call0_call0_call0, TRef.nullary, TRef.unary, TRef.binary, TRef.reshape, TRef.toBuf, TRef.ofBuf, cast_eq]; after_results <;> rfl
set_option maxHeartbeats 8000000 in
set_option maxRecDepth 16384 in
theorem finish_read : after finishOps V (Proc.devRef .tc main_v16) = Cert.Noise.made (V (Proc.devRef .tc t.v171.ref)) (V (Proc.devRef .tc t.v175.ref)) (V (Proc.devRef .tc u.v1.ref)) (V (Proc.devRef .tc u.v2.ref)) := by
  simp only [finishOps, g, u, t, k, main_call0, main_call0_call0, main_call0_call0_call0, TRef.nullary, TRef.unary, TRef.binary, TRef.reshape, TRef.toBuf, TRef.ofBuf, cast_eq]; after_results <;> rfl

/-! ## The whole draw -/

/-- The operations of the draw. -/
abbrev ops : List (HloOp τ sig (Elt F)) := startOps ++ (round1Ops ++ (round2Ops ++ (round3Ops ++ (round4Ops ++ (round5Ops ++ finishOps)))))

theorem ops_sub : (ops : List (HloOp τ sig (Elt F))).Forall fun op => op.bufs ⊆ tcRefs τ sig :=
  List.forall_append.2 ⟨startOps_sub, List.forall_append.2 ⟨round1Ops_sub, List.forall_append.2 ⟨round2Ops_sub, List.forall_append.2 ⟨round3Ops_sub,
    List.forall_append.2 ⟨round4Ops_sub, List.forall_append.2 ⟨round5Ops_sub, finishOps_sub⟩⟩⟩⟩⟩⟩

/-- Two lists of operations one after the other. -/
theorem after_two (a b : List (HloOp τ sig (Elt F))) (V : Valuation τ sig (Elt F)) : after (a ++ b) V = after b (after a V) := by
  induction a generalizing V with
  | nil => rfl
  | cons x a ih => exact ih _

theorem after_ops : after ops V = after finishOps (after round5Ops (after round4Ops (after round3Ops (after round2Ops (after round1Ops (after startOps V)))))) := by
  rw [after_two, after_two, after_two, after_two, after_two, after_two]

/-- An array none of them writes is left as it was. -/
theorem keep {b : Ref sig .tc} (h0 : b ∉ startW) (h1 : b ∉ round1W) (h2 : b ∉ round2W) (h3 : b ∉ round3W) (h4 : b ∉ round4W) (h5 : b ∉ round5W)
    (h6 : b ∉ finishW) : after ops V (Proc.devRef .tc b) = V (Proc.devRef .tc b) := by
  rw [after_ops, finish_keep _ h6, round5_keep _ h5, round4_keep _ h4, round3_keep _ h3, round2_keep _ h2, round1_keep _ h1, start_keep _ h0]

theorem fresh : ∀ op ∈ (ops : List (HloOp τ sig (Elt F))), op.fresh = ∅ := by
  intro op hop
  have hf : (ops : List (HloOp τ sig (Elt F))).map HloOp.fresh = List.replicate 283 ∅ := rfl
  have := List.mem_map_of_mem (f := HloOp.fresh) hop
  rw [hf] at this
  exact List.eq_of_mem_replicate this

/-- What the draw leaves in its result. -/
theorem read : after ops V (Proc.devRef .tc main_v16) = (Cert.Noise.noise : FVec F Cert.ReferenceIdeal.S1024x64x64 .f32) := by
  rw [after_ops, finish_read]
  have hlo : after round5Ops (after round4Ops (after round3Ops (after round2Ops (after round1Ops (after startOps V))))) (Proc.devRef .tc u.v1.ref) = (Cert.Noise.lo : FVec F Cert.ReferenceIdeal.S1x1x1 .f32) := by
    rw [round5_keep _ (b := u.v1.ref) (by decide), round4_keep _ (b := u.v1.ref) (by decide), round3_keep _ (b := u.v1.ref) (by decide), round2_keep _ (b := u.v1.ref) (by decide), round1_keep _ (b := u.v1.ref) (by decide), start_lo]
  have hhi : after round5Ops (after round4Ops (after round3Ops (after round2Ops (after round1Ops (after startOps V))))) (Proc.devRef .tc u.v2.ref) = (Cert.Noise.hi : FVec F Cert.ReferenceIdeal.S1x1x1 .f32) := by
    rw [round5_keep _ (b := u.v2.ref) (by decide), round4_keep _ (b := u.v2.ref) (by decide), round3_keep _ (b := u.v2.ref) (by decide), round2_keep _ (b := u.v2.ref) (by decide), round1_keep _ (b := u.v2.ref) (by decide), start_hi]
  have h0x : after startOps V (Proc.devRef .tc t.v3.ref) = Cert.Noise.state0.1 := start_x V
  have h0y : after startOps V (Proc.devRef .tc t.v5.ref) = Cert.Noise.state0.2 := start_y V
  have h1x : after round1Ops (after startOps V) (Proc.devRef .tc t.v35.ref) = Cert.Noise.state1.1 := by
    rw [round1_x, h0x, h0y, start_kb, start_kc]
    rfl
  have h1y : after round1Ops (after startOps V) (Proc.devRef .tc t.v39.ref) = Cert.Noise.state1.2 := by
    rw [round1_y, h0x, h0y, start_kb, start_kc]
    rfl
  have h2x : after round2Ops (after round1Ops (after startOps V)) (Proc.devRef .tc t.v69.ref) = Cert.Noise.state2.1 := by
    rw [round2_x, h1x, h1y, round1_keep _ (b := t.v1.ref) (by decide), start_kc, round1_keep _ (b := u.v4.ref) (by decide), start_ka]
    rfl
  have h2y : after round2Ops (after round1Ops (after startOps V)) (Proc.devRef .tc t.v73.ref) = Cert.Noise.state2.2 := by
    rw [round2_y, h1x, h1y, round1_keep _ (b := t.v1.ref) (by decide), start_kc, round1_keep _ (b := u.v4.ref) (by decide), start_ka]
    rfl
  have h3x : after round3Ops (after round2Ops (after round1Ops (after startOps V))) (Proc.devRef .tc t.v103.ref) = Cert.Noise.state3.1 := by
    rw [round3_x, h2x, h2y, round2_keep _ (b := u.v4.ref) (by decide), round1_keep _ (b := u.v4.ref) (by decide), start_ka, round2_keep _ (b := u.v6.ref) (by decide), round1_keep _ (b := u.v6.ref) (by decide), start_kb]
    rfl
  have h3y : after round3Ops (after round2Ops (after round1Ops (after startOps V))) (Proc.devRef .tc t.v107.ref) = Cert.Noise.state3.2 := by
    rw [round3_y, h2x, h2y, round2_keep _ (b := u.v4.ref) (by decide), round1_keep _ (b := u.v4.ref) (by decide), start_ka, round2_keep _ (b := u.v6.ref) (by decide), round1_keep _ (b := u.v6.ref) (by decide), start_kb]
    rfl
  have h4x : after round4Ops (after round3Ops (after round2Ops (after round1Ops (after startOps V)))) (Proc.devRef .tc t.v137.ref) = Cert.Noise.state4.1 := by
    rw [round4_x, h3x, h3y, round3_keep _ (b := u.v6.ref) (by decide), round2_keep _ (b := u.v6.ref) (by decide), round1_keep _ (b := u.v6.ref) (by decide), start_kb, round3_keep _ (b := t.v1.ref) (by decide), round2_keep _ (b := t.v1.ref) (by decide), round1_keep _ (b := t.v1.ref) (by decide), start_kc]
    rfl
  have h4y : after round4Ops (after round3Ops (after round2Ops (after round1Ops (after startOps V)))) (Proc.devRef .tc t.v141.ref) = Cert.Noise.state4.2 := by
    rw [round4_y, h3x, h3y, round3_keep _ (b := u.v6.ref) (by decide), round2_keep _ (b := u.v6.ref) (by decide), round1_keep _ (b := u.v6.ref) (by decide), start_kb, round3_keep _ (b := t.v1.ref) (by decide), round2_keep _ (b := t.v1.ref) (by decide), round1_keep _ (b := t.v1.ref) (by decide), start_kc]
    rfl
  have h5x : after round5Ops (after round4Ops (after round3Ops (after round2Ops (after round1Ops (after startOps V))))) (Proc.devRef .tc t.v171.ref) = Cert.Noise.state5.1 := by
    rw [round5_x, h4x, h4y, round4_keep _ (b := t.v1.ref) (by decide), round3_keep _ (b := t.v1.ref) (by decide), round2_keep _ (b := t.v1.ref) (by decide), round1_keep _ (b := t.v1.ref) (by decide), start_kc, round4_keep _ (b := u.v4.ref) (by decide), round3_keep _ (b := u.v4.ref) (by decide), round2_keep _ (b := u.v4.ref) (by decide), round1_keep _ (b := u.v4.ref) (by decide), start_ka]
    rfl
  have h5y : after round5Ops (after round4Ops (after round3Ops (after round2Ops (after round1Ops (after startOps V))))) (Proc.devRef .tc t.v175.ref) = Cert.Noise.state5.2 := by
    rw [round5_y, h4x, h4y, round4_keep _ (b := t.v1.ref) (by decide), round3_keep _ (b := t.v1.ref) (by decide), round2_keep _ (b := t.v1.ref) (by decide), round1_keep _ (b := t.v1.ref) (by decide), start_kc, round4_keep _ (b := u.v4.ref) (by decide), round3_keep _ (b := u.v4.ref) (by decide), round2_keep _ (b := u.v4.ref) (by decide), round1_keep _ (b := u.v4.ref) (by decide), start_ka]
    rfl
  rw [h5x, h5y, hlo, hhi]
  rfl

/-- The logits, laid out one row for each column, among the operations of the start. -/
theorem start_row : after startOps V (Proc.devRef .tc main_v15)
    = broadcastInDim S1024x1x64 ![0, 2] bcast_S1024x64_S1024x1x64_0_2 (show FVec F S1024x64 .f32 from V (Proc.devRef .tc main_v7)) := by
  simp only [startOps, g, u, t, k, main_call0, main_call0_call0, main_call0_call0_call0, TRef.nullary, TRef.unary, TRef.binary, TRef.reshape, TRef.toBuf, TRef.ofBuf, cast_eq]; after_results <;> rfl

theorem row : after ops V (Proc.devRef .tc main_v15)
    = broadcastInDim S1024x1x64 ![0, 2] bcast_S1024x64_S1024x1x64_0_2 (show FVec F S1024x64 .f32 from V (Proc.devRef .tc main_v7)) := by
  rw [after_ops, finish_keep _ (by decide), round5_keep _ (by decide), round4_keep _ (by decide), round3_keep _ (by decide), round2_keep _ (by decide),
    round1_keep _ (by decide), start_row]

end Cert.ReferenceIdeal.Draw

end
-- ==== Proof.RefRun.lean ====
/- The reference's run: its operations in stretches, each read back as the function it computes, and what the whole
   leaves in the two results. -/
module

public import proofs.«01_k».proof.Proof.Gen.ReferenceIdeal
public import proofs.«01_k».proof.Proof.Take
public import proofs.«01_k».proof.Proof.RefDraw
public import Idealize.ShloMosaic.Lib.StableHlo.Run

@[expose] public section

noncomputable section

namespace Cert.ReferenceIdeal.Value

open Cert.ReferenceIdeal Cert.ReferenceIdeal.Gen Cert.ReferenceIdeal.Take Idealize.ShloMosaic Idealize.ShloMosaic.TcCoe Idealize.SL.Sem Idealize.ShloMosaic.StableHlo

variable {F : FTy → Type} [FloatOps F]

/-! ## What it computes -/

/-- The mixture a log-weight stands for: half the weight and a constant. -/
def mixture (p : FVec F S65536x1 .f32) : FVec F S65536x1 .f32 :=
  addf (mulf (broadcastInDim S65536x1 ![] bcast_S_S65536x1 (constant S_ .f32 0x3F000000#32)) (Host.exp p))
    (broadcastInDim S65536x1 ![] bcast_S_S65536x1 (constant S_ .f32 0x3C000000#32))

/-- The logits: one row for each of the 1024 columns. -/
def logits (p : FVec F S65536x1 .f32) : FVec F S1024x64 .f32 :=
  Host.log (transpose S1024x64 [1, 0] (shapeCast S64x1024 (mixture p) shapeCasts_S65536x1_S64x1024) transposes_S64x1024_S1024x64_1_0)

/-- The noise added to the logits. -/
def scores (p : FVec F S65536x1 .f32) (g : FVec F S1024x64x64 .f32) : FVec F S1024x64x64 .f32 :=
  addf g (broadcastInDim S1024x64x64 ![0, 1, 2] bcast_S1024x1x64_S1024x64x64_0_1_2 (broadcastInDim S1024x1x64 ![0, 2] bcast_S1024x64_S1024x1x64_0_2 (logits p)))

/-- The place of the greatest of each 64 scores. -/
def best (x : FVec F S1024x64x64 .f32) : IVec S1024x64 32 :=
  fun j => (Host.argReduce reducer_argmax_f32_i32 x (iotaInDim S1024x64x64 32 2) (constant S_ .f32 0xFF800000#32) (constantI S_ 32 0#32)
    reducesTo_S1024x64x64_S1024x64_d2 h_S_ j).2

/-- The rows to take. -/
def flat (k : IVec S1024x64 32) : IVec S65536 32 :=
  shapeCast S65536 (addi (broadcastInDim S64x1024 ![0, 1] bcast_S1x1024_S64x1024_0_1 (broadcastInDim S1x1024 ![1] bcast_S1024_S1x1024_1 (iotaInDim S1024 32 0)))
    (muli (transpose S64x1024 [1, 0] k transposes_S1024x64_S64x1024_1_0) (broadcastInDim S64x1024 ![] bcast_S_S64x1024 (constantI S_ 32 1024#32))))
    shapeCasts_S64x1024_S65536

/-- The log of a weight over its mixture, laid out 64 by 1024. -/
def logw (q : FVec F S65536x1 .f32) : FVec F S64x1024x1 .f32 :=
  shapeCast S64x1024x1 (Host.log (Host.divf (Host.exp q) (mixture q))) shapeCasts_S65536x1_S64x1024x1

/-- The greatest down each of the 1024 columns. -/
def top (l : FVec F S64x1024x1 .f32) : FVec F S1x1024x1 .f32 :=
  broadcastInDim S1x1024x1 ![1, 2] bcast_S1024x1_S1x1024x1_1_2
    (Host.reduce FloatOps.maximumf l (constant S_ .f32 0xFF800000#32) reducesTo_S64x1024x1_S1024x1_d0 h_S_)

/-- That where it is finite, and zero elsewhere. -/
def shift (l : FVec F S64x1024x1 .f32) : FVec F S1x1024x1 .f32 :=
  select (cmpf .olt (Host.absf (top l)) (broadcastInDim S1x1024x1 ![] bcast_S_S1x1024x1 (constant S_ .f32 0x7F800000#32))) (top l)
    (broadcastInDim S1x1024x1 ![] bcast_S_S1x1024x1 (constant S_ .f32 0x00000000#32))

/-- The log-weights less the log of their sum down each column. -/
def normalized (l : FVec F S64x1024x1 .f32) : FVec F S65536x1 .f32 :=
  shapeCast S65536x1 (subf l (broadcastInDim S64x1024x1 ![0, 1, 2] bcast_S1x1024x1_S64x1024x1_0_1_2
    (addf (Host.log (broadcastInDim S1x1024x1 ![1, 2] bcast_S1024x1_S1x1024x1_1_2
      (Host.reduceAdd (Host.exp (subf l (broadcastInDim S64x1024x1 ![0, 1, 2] bcast_S1x1024x1_S64x1024x1_0_1_2 (shift l)))) (constant S_ .f32 0x00000000#32)
        reducesTo_S64x1024x1_S1024x1_d0 h_S_))) (shift l))))
    shapeCasts_S64x1024x1_S65536x1

/-! ## Its operations -/

/-- The logits. -/
abbrev logitsOps : List (HloOp τ sig (Elt F)) :=
  [ unary main_arg1 main_v0 (Host.exp : (⟨S65536x1, .f32⟩ : BufTy).Contents (Elt F) → (⟨S65536x1, .f32⟩ : BufTy).Contents (Elt F)),
    nullary main_cst (constant S_ .f32 0x3F000000#32),
    unary main_cst main_v1 (broadcastInDim S65536x1 ![] bcast_S_S65536x1 : (⟨S_, .f32⟩ : BufTy).Contents (Elt F) → (⟨S65536x1, .f32⟩ : BufTy).Contents (Elt F)),
    binary main_v1 main_v0 main_v2 (mulf : (⟨S65536x1, .f32⟩ : BufTy).Contents (Elt F) → (⟨S65536x1, .f32⟩ : BufTy).Contents (Elt F) → (⟨S65536x1, .f32⟩ : BufTy).Contents (Elt F)),
    nullary main_cst_0 (constant S_ .f32 0x3C000000#32),
    unary main_cst_0 main_v3 (broadcastInDim S65536x1 ![] bcast_S_S65536x1 : (⟨S_, .f32⟩ : BufTy).Contents (Elt F) → (⟨S65536x1, .f32⟩ : BufTy).Contents (Elt F)),
    binary main_v2 main_v3 main_v4 (addf : (⟨S65536x1, .f32⟩ : BufTy).Contents (Elt F) → (⟨S65536x1, .f32⟩ : BufTy).Contents (Elt F) → (⟨S65536x1, .f32⟩ : BufTy).Contents (Elt F)),
    reshape main_v4 main_v5 (rfl : (.f32 : EltTy) = .f32) shapeCasts_S65536x1_S64x1024,
    unary main_v5 main_v6 ((transpose S1024x64 [1, 0] · transposes_S64x1024_S1024x64_1_0) : (⟨S64x1024, .f32⟩ : BufTy).Contents (Elt F) → (⟨S1024x64, .f32⟩ : BufTy).Contents (Elt F)),
    unary main_v6 main_v7 (Host.log : (⟨S1024x64, .f32⟩ : BufTy).Contents (Elt F) → (⟨S1024x64, .f32⟩ : BufTy).Contents (Elt F)) ]

theorem logitsOps_sub : (logitsOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., reshape_bufs_sub .., unary_bufs_sub .., unary_bufs_sub ..⟩

/-- The argmax over the noise and the logits, made the list of rows to take. -/
abbrev placesOps : List (HloOp τ sig (Elt F)) :=
  [ unary main_v15 main_v17 (broadcastInDim S1024x64x64 ![0, 1, 2] bcast_S1024x1x64_S1024x64x64_0_1_2 : (⟨S1024x1x64, .f32⟩ : BufTy).Contents (Elt F) → (⟨S1024x64x64, .f32⟩ : BufTy).Contents (Elt F)),
    binary main_v16 main_v17 main_v18 (addf : (⟨S1024x64x64, .f32⟩ : BufTy).Contents (Elt F) → (⟨S1024x64x64, .f32⟩ : BufTy).Contents (Elt F) → (⟨S1024x64x64, .f32⟩ : BufTy).Contents (Elt F)),
    TRef.nullary (TRef.of (T := ⟨S1024x64x64, .i32⟩) main_call1_v0) (iotaInDim S1024x64x64 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1024x64x64, .f32⟩) main_v18) (TRef.of (T := ⟨S1024x64x64, .i32⟩) main_call1_v0) (TRef.of (T := ⟨S_, .f32⟩) main_call1_cst) (TRef.of (T := ⟨S_, .i32⟩) main_call1_c) (TRef.of (T := ⟨S1024x64, .f32⟩) main_call1_v1_0) (fun x y u v j => (Host.argReduce reducer_argmax_f32_i32 x y u v reducesTo_S1024x64x64_S1024x64_d2 h_S_ j).1),
    TRef.quaternary (TRef.of (T := ⟨S1024x64x64, .f32⟩) main_v18) (TRef.of (T := ⟨S1024x64x64, .i32⟩) main_call1_v0) (TRef.of (T := ⟨S_, .f32⟩) main_call1_cst) (TRef.of (T := ⟨S_, .i32⟩) main_call1_c) (TRef.of (T := ⟨S1024x64, .i32⟩) main_v19) (fun x y u v j => (Host.argReduce reducer_argmax_f32_i32 x y u v reducesTo_S1024x64x64_S1024x64_d2 h_S_ j).2),
    unary main_v19 main_v20 ((transpose S64x1024 [1, 0] · transposes_S1024x64_S64x1024_1_0) : (⟨S1024x64, .i32⟩ : BufTy).Contents (Elt F) → (⟨S64x1024, .i32⟩ : BufTy).Contents (Elt F)),
    nullary main_v21 (iotaInDim S1024 32 0),
    unary main_v21 main_v22 (broadcastInDim S1x1024 ![1] bcast_S1024_S1x1024_1 : (⟨S1024, .i32⟩ : BufTy).Contents (Elt F) → (⟨S1x1024, .i32⟩ : BufTy).Contents (Elt F)),
    nullary main_c_3 (constantI S_ 32 1024#32),
    unary main_c_3 main_v23 (broadcastInDim S64x1024 ![] bcast_S_S64x1024 : (⟨S_, .i32⟩ : BufTy).Contents (Elt F) → (⟨S64x1024, .i32⟩ : BufTy).Contents (Elt F)),
    binary main_v20 main_v23 main_v24 (muli : (⟨S64x1024, .i32⟩ : BufTy).Contents (Elt F) → (⟨S64x1024, .i32⟩ : BufTy).Contents (Elt F) → (⟨S64x1024, .i32⟩ : BufTy).Contents (Elt F)),
    unary main_v22 main_v25 (broadcastInDim S64x1024 ![0, 1] bcast_S1x1024_S64x1024_0_1 : (⟨S1x1024, .i32⟩ : BufTy).Contents (Elt F) → (⟨S64x1024, .i32⟩ : BufTy).Contents (Elt F)),
    binary main_v25 main_v24 main_v26 (addi : (⟨S64x1024, .i32⟩ : BufTy).Contents (Elt F) → (⟨S64x1024, .i32⟩ : BufTy).Contents (Elt F) → (⟨S64x1024, .i32⟩ : BufTy).Contents (Elt F)),
    reshape main_v26 main_v27 (rfl : (.i32 : EltTy) = .i32) shapeCasts_S64x1024_S65536 ]

theorem placesOps_sub : (placesOps : List (HloOp τ sig (Elt F))).Forall fun op => op.bufs ⊆ tcRefs τ sig :=
  ⟨unary_bufs_sub .., binary_bufs_sub .., nullary_bufs_sub .., nullary_bufs_sub .., nullary_bufs_sub .., quaternary_bufs_sub .., quaternary_bufs_sub .., unary_bufs_sub .., nullary_bufs_sub .., unary_bufs_sub .., nullary_bufs_sub .., unary_bufs_sub .., binary_bufs_sub .., unary_bufs_sub .., binary_bufs_sub .., reshape_bufs_sub ..⟩

/-- Those rows of the table taken. -/
abbrev rowsOps : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S65536, .i32⟩) main_call2_v0) (broadcastInDim S65536 ![] bcast_S_S65536),
    TRef.binary (TRef.of (T := ⟨S65536, .i32⟩) main_v27) (TRef.of (T := ⟨S65536, .i32⟩) main_call2_v0) (TRef.of (T := ⟨S65536, .i1⟩) main_call2_v1) (cmpi .slt),
    TRef.nullary (TRef.of (T := ⟨S_, .i32⟩) main_call2_c_0) (constantI S_ 32 65536#32),
    TRef.unary (TRef.of (T := ⟨S_, .i32⟩) main_call2_c_0) (TRef.of (T := ⟨S65536, .i32⟩) main_call2_v2) (broadcastInDim S65536 ![] bcast_S_S65536),
    TRef.binary (TRef.of (T := ⟨S65536, .i32⟩) main_v27) (TRef.of (T := ⟨S65536, .i32⟩) main_call2_v2) (TRef.of (T := ⟨S65536, .i32⟩) main_call2_v3) addi,
    TRef.ternary (TRef.of (T := ⟨S65536, .i1⟩) main_call2_v1) (TRef.of (T := ⟨S65536, .i32⟩) main_call2_v3) (TRef.of (T := ⟨S65536, .i32⟩) main_v27) (TRef.of (T := ⟨S65536, .i32⟩) main_call2_v4) select,
    TRef.unary (TRef.of (T := ⟨S65536, .i32⟩) main_call2_v4) (TRef.of (T := ⟨S65536x1, .i32⟩) main_call2_v5) (broadcastInDim S65536x1 ![0] bcast_S65536_S65536x1_0),
    TRef.nullary (TRef.of (T := ⟨S1, .i32⟩) main_call2_c_1) (constantI S1 32 65535#32),
    TRef.nullary (TRef.of (T := ⟨S_, .i32⟩) main_call2_c_2) (constantI S_ 32 0#32),
    TRef.unary (TRef.of (T := ⟨S_, .i32⟩) main_call2_c_2) (TRef.of (T := ⟨S65536x1, .i32⟩) main_call2_v6) (broadcastInDim S65536x1 ![] bcast_S_S65536x1),
    TRef.binary (TRef.of (T := ⟨S65536x1, .i32⟩) main_call2_v5) (TRef.of (T := ⟨S65536x1, .i32⟩) main_call2_v6) (TRef.of (T := ⟨S65536x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S65536x1, .i32⟩) main_call2_v9) (broadcastInDim S65536x1 ![0, 1] bcast_S1x1_S65536x1_0_1),
    TRef.binary (TRef.of (T := ⟨S65536x1, .i32⟩) main_call2_v5) (TRef.of (T := ⟨S65536x1, .i32⟩) main_call2_v9) (TRef.of (T := ⟨S65536x1, .i1⟩) main_call2_v10) (cmpi .sle),
    TRef.binary (TRef.of (T := ⟨S65536x1, .i1⟩) main_call2_v7) (TRef.of (T := ⟨S65536x1, .i1⟩) main_call2_v10) (TRef.of (T := ⟨S65536x1, .i1⟩) main_call2_v11) andi,
    TRef.nullary (TRef.of (T := ⟨S_, .i1⟩) main_call2_c_3) (constantI S_ 1 1#1),
    TRef.binary (TRef.of (T := ⟨S65536x1, .i1⟩) main_call2_v11) (TRef.of (T := ⟨S_, .i1⟩) main_call2_c_3) (TRef.of (T := ⟨S65536, .i1⟩) main_call2_v12) (fun x v => Host.reduce IntOp.andi x v reducesTo_S65536x1_S65536_d1 h_S_),
    TRef.binary (TRef.of (T := ⟨S65536x256, .f32⟩) main_arg0) (TRef.of (T := ⟨S65536x1, .i32⟩) main_call2_v5) (TRef.of (T := ⟨S65536x256, .f32⟩) main_call2_v13) (fun x i => Host.gather gather_S65536x256_S65536x1_S65536x256_1_0_n_n_0_1_1256 x i),
    TRef.unary (TRef.of (T := ⟨S65536, .i1⟩) main_call2_v12) (TRef.of (T := ⟨S65536x256, .i1⟩) main_call2_v14) (broadcastInDim S65536x256 ![0] bcast_S65536_S65536x256_0),
    TRef.nullary (TRef.of (T := ⟨S_, .f32⟩) main_call2_cst) (constant S_ .f32 0x7FC00000#32),
    TRef.unary (TRef.of (T := ⟨S_, .f32⟩) main_call2_cst) (TRef.of (T := ⟨S65536x256, .f32⟩) main_call2_v15) (broadcastInDim S65536x256 ![] bcast_S_S65536x256),
    TRef.ternary (TRef.of (T := ⟨S65536x256, .i1⟩) main_call2_v14) (TRef.of (T := ⟨S65536x256, .f32⟩) main_call2_v13) (TRef.of (T := ⟨S65536x256, .f32⟩) main_call2_v15) (TRef.of (T := ⟨S65536x256, .f32⟩) main_v28) select ]

theorem rowsOps_sub : (rowsOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The same rows of the log-weights taken. -/
abbrev weightsOps : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S65536, .i32⟩) main_call3_v0) (broadcastInDim S65536 ![] bcast_S_S65536),
    TRef.binary (TRef.of (T := ⟨S65536, .i32⟩) main_v27) (TRef.of (T := ⟨S65536, .i32⟩) main_call3_v0) (TRef.of (T := ⟨S65536, .i1⟩) main_call3_v1) (cmpi .slt),
    TRef.nullary (TRef.of (T := ⟨S_, .i32⟩) main_call3_c_0) (constantI S_ 32 65536#32),
    TRef.unary (TRef.of (T := ⟨S_, .i32⟩) main_call3_c_0) (TRef.of (T := ⟨S65536, .i32⟩) main_call3_v2) (broadcastInDim S65536 ![] bcast_S_S65536),
    TRef.binary (TRef.of (T := ⟨S65536, .i32⟩) main_v27) (TRef.of (T := ⟨S65536, .i32⟩) main_call3_v2) (TRef.of (T := ⟨S65536, .i32⟩) main_call3_v3) addi,
    TRef.ternary (TRef.of (T := ⟨S65536, .i1⟩) main_call3_v1) (TRef.of (T := ⟨S65536, .i32⟩) main_call3_v3) (TRef.of (T := ⟨S65536, .i32⟩) main_v27) (TRef.of (T := ⟨S65536, .i32⟩) main_call3_v4) select,
    TRef.unary (TRef.of (T := ⟨S65536, .i32⟩) main_call3_v4) (TRef.of (T := ⟨S65536x1, .i32⟩) main_call3_v5) (broadcastInDim S65536x1 ![0] bcast_S65536_S65536x1_0),
    TRef.nullary (TRef.of (T := ⟨S1, .i32⟩) main_call3_c_1) (constantI S1 32 65535#32),
    TRef.nullary (TRef.of (T := ⟨S_, .i32⟩) main_call3_c_2) (constantI S_ 32 0#32),
    TRef.unary (TRef.of (T := ⟨S_, .i32⟩) main_call3_c_2) (TRef.of (T := ⟨S65536x1, .i32⟩) main_call3_v6) (broadcastInDim S65536x1 ![] bcast_S_S65536x1),
    TRef.binary (TRef.of (T := ⟨S65536x1, .i32⟩) main_call3_v5) (TRef.of (T := ⟨S65536x1, .i32⟩) main_call3_v6) (TRef.of (T := ⟨S65536x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S65536x1, .i32⟩) main_call3_v9) (broadcastInDim S65536x1 ![0, 1] bcast_S1x1_S65536x1_0_1),
    TRef.binary (TRef.of (T := ⟨S65536x1, .i32⟩) main_call3_v5) (TRef.of (T := ⟨S65536x1, .i32⟩) main_call3_v9) (TRef.of (T := ⟨S65536x1, .i1⟩) main_call3_v10) (cmpi .sle),
    TRef.binary (TRef.of (T := ⟨S65536x1, .i1⟩) main_call3_v7) (TRef.of (T := ⟨S65536x1, .i1⟩) main_call3_v10) (TRef.of (T := ⟨S65536x1, .i1⟩) main_call3_v11) andi,
    TRef.nullary (TRef.of (T := ⟨S_, .i1⟩) main_call3_c_3) (constantI S_ 1 1#1),
    TRef.binary (TRef.of (T := ⟨S65536x1, .i1⟩) main_call3_v11) (TRef.of (T := ⟨S_, .i1⟩) main_call3_c_3) (TRef.of (T := ⟨S65536, .i1⟩) main_call3_v12) (fun x v => Host.reduce IntOp.andi x v reducesTo_S65536x1_S65536_d1 h_S_),
    TRef.binary (TRef.of (T := ⟨S65536x1, .f32⟩) main_arg1) (TRef.of (T := ⟨S65536x1, .i32⟩) main_call3_v5) (TRef.of (T := ⟨S65536x1, .f32⟩) main_call3_v13) (fun x i => Host.gather gather_S65536x1_S65536x1_S65536x1_1_0_n_n_0_1_11 x i),
    TRef.unary (TRef.of (T := ⟨S65536, .i1⟩) main_call3_v12) (TRef.of (T := ⟨S65536x1, .i1⟩) main_call3_v14) (broadcastInDim S65536x1 ![0] bcast_S65536_S65536x1_0),
    TRef.nullary (TRef.of (T := ⟨S_, .f32⟩) main_call3_cst) (constant S_ .f32 0x7FC00000#32),
    TRef.unary (TRef.of (T := ⟨S_, .f32⟩) main_call3_cst) (TRef.of (T := ⟨S65536x1, .f32⟩) main_call3_v15) (broadcastInDim S65536x1 ![] bcast_S_S65536x1),
    TRef.ternary (TRef.of (T := ⟨S65536x1, .i1⟩) main_call3_v14) (TRef.of (T := ⟨S65536x1, .f32⟩) main_call3_v13) (TRef.of (T := ⟨S65536x1, .f32⟩) main_call3_v15) (TRef.of (T := ⟨S65536x1, .f32⟩) main_v29) select ]

theorem weightsOps_sub : (weightsOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The log-weights taken, over their importance weights, normalized. -/
abbrev normOps : List (HloOp τ sig (Elt F)) :=
  [ unary main_v29 main_v30 (Host.exp : (⟨S65536x1, .f32⟩ : BufTy).Contents (Elt F) → (⟨S65536x1, .f32⟩ : BufTy).Contents (Elt F)),
    nullary main_cst_4 (constant S_ .f32 0x3F000000#32),
    unary main_cst_4 main_v31 (broadcastInDim S65536x1 ![] bcast_S_S65536x1 : (⟨S_, .f32⟩ : BufTy).Contents (Elt F) → (⟨S65536x1, .f32⟩ : BufTy).Contents (Elt F)),
    binary main_v31 main_v30 main_v32 (mulf : (⟨S65536x1, .f32⟩ : BufTy).Contents (Elt F) → (⟨S65536x1, .f32⟩ : BufTy).Contents (Elt F) → (⟨S65536x1, .f32⟩ : BufTy).Contents (Elt F)),
    nullary main_cst_5 (constant S_ .f32 0x3C000000#32),
    unary main_cst_5 main_v33 (broadcastInDim S65536x1 ![] bcast_S_S65536x1 : (⟨S_, .f32⟩ : BufTy).Contents (Elt F) → (⟨S65536x1, .f32⟩ : BufTy).Contents (Elt F)),
    binary main_v32 main_v33 main_v34 (addf : (⟨S65536x1, .f32⟩ : BufTy).Contents (Elt F) → (⟨S65536x1, .f32⟩ : BufTy).Contents (Elt F) → (⟨S65536x1, .f32⟩ : BufTy).Contents (Elt F)),
    binary main_v30 main_v34 main_v35 (Host.divf : (⟨S65536x1, .f32⟩ : BufTy).Contents (Elt F) → (⟨S65536x1, .f32⟩ : BufTy).Contents (Elt F) → (⟨S65536x1, .f32⟩ : BufTy).Contents (Elt F)),
    unary main_v35 main_v36 (Host.log : (⟨S65536x1, .f32⟩ : BufTy).Contents (Elt F) → (⟨S65536x1, .f32⟩ : BufTy).Contents (Elt F)),
    reshape main_v36 main_v37 (rfl : (.f32 : EltTy) = .f32) shapeCasts_S65536x1_S64x1024x1,
    nullary main_cst_6 (constant S_ .f32 0xFF800000#32),
    binary main_v37 main_cst_6 main_v38 ((fun x v => Host.reduce FloatOps.maximumf x v reducesTo_S64x1024x1_S1024x1_d0 h_S_) : (⟨S64x1024x1, .f32⟩ : BufTy).Contents (Elt F) → (⟨S_, .f32⟩ : BufTy).Contents (Elt F) → (⟨S1024x1, .f32⟩ : BufTy).Contents (Elt F)),
    unary main_v38 main_v39 (broadcastInDim S1x1024x1 ![1, 2] bcast_S1024x1_S1x1024x1_1_2 : (⟨S1024x1, .f32⟩ : BufTy).Contents (Elt F) → (⟨S1x1024x1, .f32⟩ : BufTy).Contents (Elt F)),
    unary main_v39 main_v40 (Host.absf : (⟨S1x1024x1, .f32⟩ : BufTy).Contents (Elt F) → (⟨S1x1024x1, .f32⟩ : BufTy).Contents (Elt F)),
    nullary main_cst_7 (constant S_ .f32 0x7F800000#32),
    unary main_cst_7 main_v41 (broadcastInDim S1x1024x1 ![] bcast_S_S1x1024x1 : (⟨S_, .f32⟩ : BufTy).Contents (Elt F) → (⟨S1x1024x1, .f32⟩ : BufTy).Contents (Elt F)),
    binary main_v40 main_v41 main_v42 (cmpf .olt : (⟨S1x1024x1, .f32⟩ : BufTy).Contents (Elt F) → (⟨S1x1024x1, .f32⟩ : BufTy).Contents (Elt F) → (⟨S1x1024x1, .i1⟩ : BufTy).Contents (Elt F)),
    nullary main_cst_8 (constant S_ .f32 0x00000000#32),
    TRef.unary (TRef.of (T := ⟨S_, .f32⟩) main_cst_8) (TRef.of (T := ⟨S_, .f32⟩) main_call4_v0) id,
    TRef.unary (TRef.of (T := ⟨S_, .f32⟩) main_call4_v0) (TRef.of (T := ⟨S1x1024x1, .f32⟩) main_call4_v1) (broadcastInDim S1x1024x1 ![] bcast_S_S1x1024x1),
    TRef.ternary (TRef.of (T := ⟨S1x1024x1, .i1⟩) main_v42) (TRef.of (T := ⟨S1x1024x1, .f32⟩) main_v39) (TRef.of (T := ⟨S1x1024x1, .f32⟩) main_call4_v1) (TRef.of (T := ⟨S1x1024x1, .f32⟩) main_v43) select,
    unary main_v43 main_v44 (broadcastInDim S64x1024x1 ![0, 1, 2] bcast_S1x1024x1_S64x1024x1_0_1_2 : (⟨S1x1024x1, .f32⟩ : BufTy).Contents (Elt F) → (⟨S64x1024x1, .f32⟩ : BufTy).Contents (Elt F)),
    binary main_v37 main_v44 main_v45 (subf : (⟨S64x1024x1, .f32⟩ : BufTy).Contents (Elt F) → (⟨S64x1024x1, .f32⟩ : BufTy).Contents (Elt F) → (⟨S64x1024x1, .f32⟩ : BufTy).Contents (Elt F)),
    unary main_v45 main_v46 (Host.exp : (⟨S64x1024x1, .f32⟩ : BufTy).Contents (Elt F) → (⟨S64x1024x1, .f32⟩ : BufTy).Contents (Elt F)),
    nullary main_cst_9 (constant S_ .f32 0x00000000#32),
    binary main_v46 main_cst_9 main_v47 ((fun x v => Host.reduceAdd x v reducesTo_S64x1024x1_S1024x1_d0 h_S_) : (⟨S64x1024x1, .f32⟩ : BufTy).Contents (Elt F) → (⟨S_, .f32⟩ : BufTy).Contents (Elt F) → (⟨S1024x1, .f32⟩ : BufTy).Contents (Elt F)),
    unary main_v47 main_v48 (broadcastInDim S1x1024x1 ![1, 2] bcast_S1024x1_S1x1024x1_1_2 : (⟨S1024x1, .f32⟩ : BufTy).Contents (Elt F) → (⟨S1x1024x1, .f32⟩ : BufTy).Contents (Elt F)),
    unary main_v48 main_v49 (Host.log : (⟨S1x1024x1, .f32⟩ : BufTy).Contents (Elt F) → (⟨S1x1024x1, .f32⟩ : BufTy).Contents (Elt F)),
    binary main_v49 main_v43 main_v50 (addf : (⟨S1x1024x1, .f32⟩ : BufTy).Contents (Elt F) → (⟨S1x1024x1, .f32⟩ : BufTy).Contents (Elt F) → (⟨S1x1024x1, .f32⟩ : BufTy).Contents (Elt F)),
    unary main_v50 main_v51 (broadcastInDim S64x1024x1 ![0, 1, 2] bcast_S1x1024x1_S64x1024x1_0_1_2 : (⟨S1x1024x1, .f32⟩ : BufTy).Contents (Elt F) → (⟨S64x1024x1, .f32⟩ : BufTy).Contents (Elt F)),
    binary main_v37 main_v51 main_v52 (subf : (⟨S64x1024x1, .f32⟩ : BufTy).Contents (Elt F) → (⟨S64x1024x1, .f32⟩ : BufTy).Contents (Elt F) → (⟨S64x1024x1, .f32⟩ : BufTy).Contents (Elt F)),
    reshape main_v52 main_v53 (rfl : (.f32 : EltTy) = .f32) shapeCasts_S64x1024x1_S65536x1 ]

theorem normOps_sub : (normOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub .., unary_bufs_sub .., reshape_bufs_sub .., nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., nullary_bufs_sub .., binary_bufs_sub .., unary_bufs_sub .., unary_bufs_sub .., binary_bufs_sub .., unary_bufs_sub .., binary_bufs_sub .., reshape_bufs_sub ..⟩

/-- @main's operations. -/
abbrev ops : List (HloOp τ sig (Elt F)) := logitsOps ++ (Draw.ops ++ (placesOps ++ (rowsOps ++ (weightsOps ++ normOps))))

set_option maxHeartbeats 4000000 in
set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.2 ⟨logitsOps_sub, List.forall_append.2 ⟨Draw.ops_sub, List.forall_append.2 ⟨placesOps_sub,
    List.forall_append.2 ⟨rowsOps_sub, List.forall_append.2 ⟨weightsOps_sub, normOps_sub⟩⟩⟩⟩⟩

variable (V : Valuation τ sig (Elt F))

set_option maxHeartbeats 2000000 in
theorem logits_read : after logitsOps V (Proc.devRef .tc main_v7) = logits (V (Proc.devRef .tc main_arg1)) := by
  simp only [logitsOps]; after_results <;> rfl
set_option maxHeartbeats 2000000 in
theorem places_read : after placesOps V (Proc.devRef .tc main_v27) = flat (best (addf (show FVec F S1024x64x64 .f32 from V (Proc.devRef .tc main_v16))
    (broadcastInDim S1024x64x64 ![0, 1, 2] bcast_S1024x1x64_S1024x64x64_0_1_2 (show FVec F S1024x1x64 .f32 from V (Proc.devRef .tc main_v15))))) := by
  simp only [placesOps, TRef.quaternary, TRef.binary, TRef.nullary, TRef.ternary, TRef.unary, TRef.toBuf, TRef.ofBuf, cast_eq]; after_results <;> rfl
set_option maxHeartbeats 2000000 in
theorem rows_read : after rowsOps V (Proc.devRef .tc main_v28) = take (V (Proc.devRef .tc main_arg0)) (V (Proc.devRef .tc main_v27)) := by
  simp only [rowsOps, TRef.binary, TRef.nullary, TRef.ternary, TRef.unary, TRef.toBuf, TRef.ofBuf, cast_eq]; after_results <;> rfl
set_option maxHeartbeats 2000000 in
theorem weights_read : after weightsOps V (Proc.devRef .tc main_v29) = take1 (V (Proc.devRef .tc main_arg1)) (V (Proc.devRef .tc main_v27)) := by
  simp only [weightsOps, TRef.binary, TRef.nullary, TRef.ternary, TRef.unary, TRef.toBuf, TRef.ofBuf, cast_eq]; after_results <;> rfl
set_option maxHeartbeats 2000000 in
theorem norm_read : after normOps V (Proc.devRef .tc main_v53) = normalized (logw (V (Proc.devRef .tc main_v29))) := by
  simp only [normOps, TRef.ternary, TRef.unary, TRef.toBuf, TRef.ofBuf, cast_eq]; after_results <;> rfl

/-! ## What each stretch leaves alone -/

abbrev logitsW : List (Ref sig .tc) := [main_v0, main_cst, main_v1, main_v2, main_cst_0, main_v3, main_v4, main_v5, main_v6, main_v7]
theorem logits_keep {b : Ref sig .tc} (h : b ∉ logitsW) : after logitsOps V (Proc.devRef .tc b) = V (Proc.devRef .tc b) :=
  after_of_writes_sub logitsOps V (forall_writes_sub_of_map rfl) h
abbrev placesW : List (Ref sig .tc) := [main_v17, main_v18, main_call1_v0, main_call1_cst, main_call1_c, main_call1_v1_0, main_v19, main_v20, main_v21, main_v22, main_c_3, main_v23, main_v24, main_v25, main_v26, main_v27]
theorem places_keep {b : Ref sig .tc} (h : b ∉ placesW) : after placesOps V (Proc.devRef .tc b) = V (Proc.devRef .tc b) :=
  after_of_writes_sub placesOps V (forall_writes_sub_of_map rfl) h
abbrev rowsW : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v28]
theorem rows_keep {b : Ref sig .tc} (h : b ∉ rowsW) : after rowsOps V (Proc.devRef .tc b) = V (Proc.devRef .tc b) :=
  after_of_writes_sub rowsOps V (forall_writes_sub_of_map rfl) h
abbrev weightsW : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v29]
theorem weights_keep {b : Ref sig .tc} (h : b ∉ weightsW) : after weightsOps V (Proc.devRef .tc b) = V (Proc.devRef .tc b) :=
  after_of_writes_sub weightsOps V (forall_writes_sub_of_map rfl) h
abbrev normW : List (Ref sig .tc) := [main_v30, main_cst_4, main_v31, main_v32, main_cst_5, main_v33, main_v34, main_v35, main_v36, main_v37, main_cst_6, main_v38, main_v39, main_v40, main_cst_7, main_v41, main_v42, main_cst_8, main_call4_v0, main_call4_v1, main_v43, main_v44, main_v45, main_v46, main_cst_9, main_v47, main_v48, main_v49, main_v50, main_v51, main_v52, main_v53]
theorem norm_keep {b : Ref sig .tc} (h : b ∉ normW) : after normOps V (Proc.devRef .tc b) = V (Proc.devRef .tc b) :=
  after_of_writes_sub normOps V (forall_writes_sub_of_map rfl) h

/-- On every device, for any float values, from any memory with zero counters: every weakly fair execution of @main
    terminates with each result at its function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = take (m ((c.tc : Thread nD τ).loc main_arg0))
          (flat (best (scores (m ((c.tc : Thread nD τ).loc main_arg1)) Cert.Noise.noise)))
      ∧ r.2.mem ((c.tc : Thread nD τ).loc main_v53) = normalized (logw (take1 (m ((c.tc : Thread nD τ).loc main_arg1))
          (flat (best (scores (m ((c.tc : Thread nD τ).loc main_arg1)) Cert.Noise.noise)))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_seq scopedRefs_eq scopedSems_eq defs main (fun _ => ops) main_eq (fun _ => ops_sub) m ρ ?_)
  · have h' : ∀ b : Ref sig .tc, r.2.mem ((c.tc : Thread nD τ).loc b)
        = after normOps (after weightsOps (after rowsOps (after placesOps (after Draw.ops (after logitsOps (launchContents m c)))))) (Proc.devRef .tc b) :=
      fun b => (h c b).trans (by rw [Draw.after_two, Draw.after_two, Draw.after_two, Draw.after_two, Draw.after_two])
    have hd : ∀ b : Ref sig .tc, b = main_arg0 ∨ b = main_arg1 → after Draw.ops (after logitsOps (launchContents m c)) (Proc.devRef .tc b) = m ((c.tc : Thread nD τ).loc b) :=
      fun b hb => by
        rcases hb with rfl | rfl <;>
          rw [Draw.keep _ (by decide) (by decide) (by decide) (by decide) (by decide) (by decide) (by decide), logits_keep _ (by decide)]
    have hk : ∀ b : Ref sig .tc, b = main_arg0 ∨ b = main_arg1 → b ∉ placesW → b ∉ rowsW → b ∉ weightsW → b ∉ normW → r.2.mem ((c.tc : Thread nD τ).loc b) = m ((c.tc : Thread nD τ).loc b) :=
      fun b hb h1 h2 h3 h4 => by rw [h' b, norm_keep _ h4, weights_keep _ h3, rows_keep _ h2, places_keep _ h1, hd b hb]
    have hp : after placesOps (after Draw.ops (after logitsOps (launchContents m c))) (Proc.devRef .tc main_v27)
        = flat (best (scores (m ((c.tc : Thread nD τ).loc main_arg1)) Cert.Noise.noise)) := by
      rw [places_read, Draw.read, Draw.row, logits_read]
      rfl
    refine ⟨?_, ?_, hk _ (Or.inl rfl) (by decide) (by decide) (by decide) (by decide), hk _ (Or.inr rfl) (by decide) (by decide) (by decide) (by decide)⟩
    · rw [h', norm_keep _ (by decide), weights_keep _ (by decide), rows_read, hp, places_keep _ (by decide), hd _ (Or.inl rfl)]
    · rw [h', norm_read, weights_read, rows_keep _ (by decide), rows_keep _ (by decide), hp, places_keep _ (by decide), hd _ (Or.inr rfl)]
  · intro _ op hop
    have hf : (ops : List (HloOp τ sig (Elt F))).map HloOp.fresh = List.replicate 387 ∅ := rfl
    have := List.mem_map_of_mem (f := HloOp.fresh) hop
    rw [hf] at this
    exact List.eq_of_mem_replicate this

end Cert.ReferenceIdeal.Value

end
-- ==== Proof.Best.lean ====
/- The reference's argmax at the extended reals: of 64 scores it takes the first one that none exceeds. -/
module

public import proofs.«01_k».proof.Proof.RefRun
public import proofs.«01_k».proof.Proof.ScanIdeal
public import Idealize.ShloMosaic.PureOps.Ideal.Laws
public import Mathlib.Data.List.Sort

@[expose] public section

noncomputable section

namespace Cert.ReferenceIdeal.Value

open Cert.ReferenceIdeal Cert.ReferenceIdeal.Gen Cert.ReferenceIdeal.Take Idealize.ShloMosaic Idealize.ShloMosaic.ValueIdx
open Cert.KernelIdeal.Whole (bestAt bestVal bestAt_le)

theorem slt_ofNat (a b : ℕ) (ha : a < 64) (hb : b < 64) : IntOp.cmpi .slt (BitVec.ofNat 32 a) (BitVec.ofNat 32 b) = BitVec.ofBool (decide (a < b)) := by
  show BitVec.ofBool (BitVec.slt _ _) = _
  congr 1
  rw [BitVec.slt_eq_decide, BitVec.toInt_ofNat', BitVec.toInt_ofNat', Int.bmod_eq_of_le (by omega) (by omega), Int.bmod_eq_of_le (by omega) (by omega)]
  exact decide_eq_decide.mpr Int.ofNat_lt

/-- One comparison: the later of the two only if it is greater, or if it stands first. -/
theorem reducer_at (M x : EReal) (a b : ℕ) (ha : a < 64) (hb : b < 64) (h : a < b ∨ (a = b ∧ M ≤ x)) :
    reducer_argmax_f32_i32 (F := Ideal) (M, BitVec.ofNat 32 a) (x, BitVec.ofNat 32 b) = (max M x, BitVec.ofNat 32 (if M < x then b else a)) := by
  unfold reducer_argmax_f32_i32
  dsimp only
  rw [slt_ofNat a b ha hb, Ideal.cmpf_def, Ideal.cmpf_def, Ideal.cmpf_def]
  unfold Ideal.cmp
  rcases lt_trichotomy M x with hx | hx | hx
  · have h1 : ¬ x < M := not_lt.mpr hx.le
    have h2 : M ≠ x := hx.ne
    simp [h1, h2, hx, hx.le, IntOp.ori, IntOp.andi, Scalar.select]
  · subst hx
    rcases h with h | ⟨h, -⟩
    · simp [h, IntOp.ori, IntOp.andi, Scalar.select]
    · simp [h, IntOp.ori, IntOp.andi, Scalar.select]
  · rcases h with h | ⟨h, hM⟩
    · have h1 : ¬ M < x := not_lt.mpr hx.le
      have h2 : M ≠ x := hx.ne'
      simp [h1, h2, hx, hx.le, IntOp.ori, IntOp.andi, Scalar.select]
    · exact absurd hx (not_lt.mpr hM)

/-- The fold over the first scores. -/
theorem fold_best (s : ℕ → EReal) (n : ℕ) (hn : n < 64) :
    ((List.range (n + 1)).map fun k => ((s k, BitVec.ofNat 32 k) : EReal × BitVec 32)).foldl (reducer_argmax_f32_i32 (F := Ideal)) (⊥, 0#32)
      = (bestVal (F := Ideal) s n, BitVec.ofNat 32 (bestAt (F := Ideal) s n)) := by
  induction n with
  | zero =>
    show reducer_argmax_f32_i32 (F := Ideal) (⊥, BitVec.ofNat 32 0) (s 0, BitVec.ofNat 32 0) = _
    rw [reducer_at ⊥ (s 0) 0 0 hn hn (.inr ⟨rfl, bot_le⟩), max_eq_right bot_le, ite_self]
    rfl
  | succ n ih =>
    rw [List.range_succ, List.map_append, List.foldl_append, ih (by omega)]
    have hle := bestAt_le (F := Ideal) s n
    show reducer_argmax_f32_i32 (F := Ideal) (bestVal (F := Ideal) s n, BitVec.ofNat 32 (bestAt (F := Ideal) s n)) (s (n + 1), BitVec.ofNat 32 (n + 1)) = _
    rw [reducer_at _ _ _ _ (by omega) hn (.inl (by omega))]
    refine Prod.ext rfl (congrArg (BitVec.ofNat 32) ?_)
    conv_rhs => unfold bestAt
    rw [Ideal.cmpf_def]
    unfold Ideal.cmp
    by_cases h : bestVal (F := Ideal) s n < s (n + 1)
    · rw [if_pos h, if_pos (by simp [h])]
    · rw [if_neg h, if_neg (by simp [h])]

/-- The places an argmax along the last axis compares, in order. -/
theorem fiber (x : FVec Ideal S1024x64x64 .f32) (b : Fin 1024) (j : Fin 64) :
    Host.argReduceFiber x (iotaInDim S1024x64x64 32 2) reducesTo_S1024x64x64_S1024x64_d2 (ix2 b j)
      = (List.finRange 64).map fun k => (x (ix3 b j k), BitVec.ofNat 32 k.val) := by
  have key : ((List.finRange S1024x64x64.numel).filter fun n => reducesTo_S1024x64x64_S1024x64_d2.drop (S1024x64x64.rowMajor.symm n) = (ix2 b j : S1024x64.Idx))
      = (List.finRange 64).map fun k => S1024x64x64.rowMajor (ix3 b j k) := by
    refine List.Pairwise.eq_of_mem_iff (r := (· < ·)) ((List.pairwise_lt_finRange _).filter _) ?_ fun n => ?_
    · refine List.pairwise_map.mpr ((List.pairwise_lt_finRange 64).imp fun {k k'} h => ?_)
      show (S1024x64x64.rowMajor (ix3 b j k)).val < (S1024x64x64.rowMajor (ix3 b j k')).val
      rw [Shape.rowMajor_val_three, Shape.rowMajor_val_three]
      exact Nat.add_lt_add_left h _
    · rw [List.mem_filter, List.mem_map]
      constructor
      · rintro ⟨-, h⟩
        have h := of_decide_eq_true h
        have e : ∀ i : S1024x64x64.Idx, reducesTo_S1024x64x64_S1024x64_d2.drop i = (ix2 b j : S1024x64.Idx) → i = ix3 b j (i 2) := fun i hi => by
          have h0 := (Shape.ReducesTo.drop_apply_val_of_eq reducesTo_S1024x64x64_S1024x64_d2 i 0 0).symm.trans (congrArg (fun q : S1024x64.Idx => (q 0).val) hi)
          have h1 := (Shape.ReducesTo.drop_apply_val_of_eq reducesTo_S1024x64x64_S1024x64_d2 i 1 1).symm.trans (congrArg (fun q : S1024x64.Idx => (q 1).val) hi)
          funext a
          match a with
          | 0 => exact Fin.ext h0
          | 1 => exact Fin.ext h1
          | 2 => rfl
        refine ⟨(S1024x64x64.rowMajor.symm n) 2, List.mem_finRange _, ?_⟩
        exact (congrArg S1024x64x64.rowMajor (e _ h).symm).trans (S1024x64x64.rowMajor.apply_symm_apply n)
      · rintro ⟨k, -, rfl⟩
        refine ⟨List.mem_finRange _, decide_eq_true ?_⟩
        rw [Equiv.symm_apply_apply]
        funext a
        match a with
        | 0 => exact Fin.ext (Shape.ReducesTo.drop_apply_val_of_eq reducesTo_S1024x64x64_S1024x64_d2 (ix3 b j k) 0 0)
        | 1 => exact Fin.ext (Shape.ReducesTo.drop_apply_val_of_eq reducesTo_S1024x64x64_S1024x64_d2 (ix3 b j k) 1 1)
  unfold Host.argReduceFiber
  rw [key, List.map_map]
  refine List.map_congr_left fun k _ => ?_
  show (x (S1024x64x64.rowMajor.symm (S1024x64x64.rowMajor (ix3 b j k))), iotaInDim S1024x64x64 32 2 (S1024x64x64.rowMajor.symm (S1024x64x64.rowMajor (ix3 b j k)))) = _
  rw [Equiv.symm_apply_apply]
  rfl

/-- The place the whole fold ends with. -/
theorem fold_place (s : ℕ → EReal) (L : List (EReal × BitVec 32)) (i : EReal × BitVec 32)
    (hL : L = (List.range (63 + 1)).map fun k => ((s k, BitVec.ofNat 32 k) : EReal × BitVec 32)) (hi : i = (⊥, 0#32)) :
    (L.foldl (reducer_argmax_f32_i32 (F := Ideal)) i).2 = BitVec.ofNat 32 (bestAt (F := Ideal) s 63) := by
  rw [hL, hi, fold_best s 63 (by decide)]

/-- The fold's first pair. -/
theorem first_pair : (((constant (F := Ideal) S_ .f32 0xFF800000#32) (Shape.Idx.first h_S_), (constantI S_ 32 0#32) (Shape.Idx.first h_S_)) : EReal × BitVec 32) = (⊥, 0#32) := by
  refine Prod.ext ?_ rfl
  show Ideal.ofBits .f32 0xFF800000#32 = ⊥
  simp [Ideal.ofBits, Ideal.ieee]

/-- The pairs the fold runs over. -/
theorem pairs (x : FVec Ideal S1024x64x64 .f32) (s : ℕ → EReal) (b : Fin 1024) (j : Fin 64) (hs : ∀ k : Fin 64, x (ix3 b j k) = s k.val) :
    ((List.finRange 64).map fun k => ((x (ix3 b j k), BitVec.ofNat 32 k.val) : EReal × BitVec 32))
      = (List.range (63 + 1)).map fun k => ((s k, BitVec.ofNat 32 k) : EReal × BitVec 32) := by
  show _ = (List.range 64).map _
  rw [← List.map_coe_finRange_eq_range, List.map_map]
  exact List.map_congr_left fun k _ => Prod.ext (hs k) rfl

/-- The argmax as the place of one pair. -/
theorem best_def (x : FVec Ideal S1024x64x64 .f32) (j : S1024x64.Idx) : best x j
    = (Host.argReduce reducer_argmax_f32_i32 x (iotaInDim S1024x64x64 32 2) (constant S_ .f32 0xFF800000#32) (constantI S_ 32 0#32)
      reducesTo_S1024x64x64_S1024x64_d2 h_S_ j).2 := by
  have h : best x = fun j => (Host.argReduce reducer_argmax_f32_i32 x (iotaInDim S1024x64x64 32 2) (constant S_ .f32 0xFF800000#32) (constantI S_ 32 0#32)
      reducesTo_S1024x64x64_S1024x64_d2 h_S_ j).2 := by
    delta best
    exact Eq.refl _
  rw [h]

/-- That pair is what the fold over the pairs compared ends with. -/
theorem pair_fold (x : FVec Ideal S1024x64x64 .f32) (j : S1024x64.Idx) :
    Host.argReduce reducer_argmax_f32_i32 x (iotaInDim S1024x64x64 32 2) (constant S_ .f32 0xFF800000#32) (constantI S_ 32 0#32)
      reducesTo_S1024x64x64_S1024x64_d2 h_S_ j
    = (Host.argReduceFiber x (iotaInDim S1024x64x64 32 2) reducesTo_S1024x64x64_S1024x64_d2 j).foldl (reducer_argmax_f32_i32 (F := Ideal))
        ((constant (F := Ideal) S_ .f32 0xFF800000#32) (Shape.Idx.first h_S_), (constantI S_ 32 0#32) (Shape.Idx.first h_S_)) :=
  (congrFun (Ideal.argReduce_eq_reduce2 _ _ _ _ _ _ _) _).trans (Host.reduce2_eq_foldl_fiber _ _ _ _ _ _ _ _)

/-- The argmax read at one place. -/
theorem best_at (x : FVec Ideal S1024x64x64 .f32) (s : ℕ → EReal) (b : Fin 1024) (j : Fin 64) (hs : ∀ k : Fin 64, x (ix3 b j k) = s k.val) :
    best x (ix2 b j) = BitVec.ofNat 32 (bestAt (F := Ideal) s 63) :=
  (best_def x (ix2 b j)).trans ((congrArg Prod.snd (pair_fold x (ix2 b j))).trans (fold_place s _ _ ((fiber x b j).trans (pairs x s b j hs)) first_pair))

end Cert.ReferenceIdeal.Value

end
-- ==== Proof.Norm.lean ====
/- The last TensorCore call and the reference's normalization are the same function of the same weights, and the weight
   the kernel carries, a difference of logs, is the log of the reference's quotient. At the extended reals. -/
module

public import proofs.«01_k».proof.Proof.RefRun
public import proofs.«01_k».proof.Proof.Gen.KernelIdeal.Skeleton
public import Idealize.ShloMosaic.PureOps.Ideal.Laws
public import Idealize.ShloMosaic.Lib.Pipeline.Value

@[expose] public section

noncomputable section

namespace Cert.ReferenceIdeal.Value

open Cert.ReferenceIdeal Cert.ReferenceIdeal.Gen Cert.ReferenceIdeal.Take Idealize.ShloMosaic Idealize.ShloMosaic.ValueIdx

/-! ## The quotient -/

theorem half_eq : Ideal.ofBits .f32 0x3F000000#32 = ((1 / 2 : ℝ) : EReal) := by
  simp [Ideal.ofBits, Ideal.ieee]
  rw [← EReal.coe_mul]
  norm_num
theorem unit_eq : Ideal.ofBits .f32 0x3C000000#32 = ((1 / 128 : ℝ) : EReal) := by
  simp [Ideal.ofBits, Ideal.ieee]
  rw [← EReal.coe_mul]
  norm_num

/-- The log of a weight over its mixture is its log less the mixture's. -/
theorem log_quotient (p : EReal) :
    Ideal.log (Ideal.div (Ideal.exp p) (Ideal.ofBits .f32 0x3F000000#32 * Ideal.exp p + Ideal.ofBits .f32 0x3C000000#32))
      = p - Ideal.log (Ideal.ofBits .f32 0x3F000000#32 * Ideal.exp p + Ideal.ofBits .f32 0x3C000000#32) := by
  rw [half_eq, unit_eq]
  induction p with
  | bot =>
    rw [Ideal.exp_bot, mul_zero, zero_add, EReal.bot_sub]
    rw [Ideal.div_coe (by norm_num), zero_mul]
    show Ideal.log ((0 : ℝ) : EReal) = ⊥
    rw [Ideal.log_coe, if_pos le_rfl]
  | top =>
    rw [Ideal.exp_top, EReal.coe_mul_top_of_pos (by norm_num), EReal.top_add_coe, Ideal.log_top]
    unfold Ideal.div
    rw [if_neg (by simp), EReal.inv_top, mul_zero]
    show Ideal.log ((0 : ℝ) : EReal) = ⊤ - ⊤
    rw [Ideal.log_coe, if_pos le_rfl]
    rfl
  | coe r =>
    have hx : 0 < Real.exp r := Real.exp_pos r
    have hy : 0 < 1 / 2 * Real.exp r + 1 / 128 := by positivity
    rw [Ideal.exp_coe, ← EReal.coe_mul, ← EReal.coe_add, Ideal.div_coe hy.ne', ← EReal.coe_mul, Ideal.log_coe, Ideal.log_coe,
      if_neg (not_le.mpr hy), if_neg (not_le.mpr (by positivity)), ← EReal.coe_sub]
    rw [Real.log_mul hx.ne' (by positivity), Real.log_exp, one_div (1 / 2 * Real.exp r + 1 / 128), Real.log_inv, sub_eq_add_neg]

/-! ## The normalization -/

/-- The greatest of column `b`. -/
def colTop (W : Fin 64 → Fin 1024 → EReal) (b : Fin 1024) : EReal :=
  (Finset.univ : Finset (Fin 64)).fold max (Ideal.ofBits .f32 0xFF800000#32) fun k => W k b
/-- The log-weights of column `b` less the log of their sum. -/
def colNorm (W : Fin 64 → Fin 1024 → EReal) (j : Fin 64) (b : Fin 1024) : EReal :=
  W j b - (Ideal.log (∑ k : Fin 64, Ideal.exp (W k b - colTop W b)) + colTop W b)

theorem reduces3 : S64x1024x1.Reduces [0] S1024x1 := by decide

theorem lift3 (b : Fin 1024) (y : Fin 1) (k : Fin 64) : reduces3.lift (ix2 b y) k = ix3 k b y := by
  funext a
  match a with
  | 0 => rfl
  | 1 => rfl
  | 2 => rfl

theorem top_at (l : FVec Ideal S64x1024x1 .f32) (x : Fin 1) (b : Fin 1024) (y : Fin 1) :
    top l (ix3 x b y) = colTop (fun k b => l (ix3 k b 0)) b := by
  unfold top
  refine (broadcastInDim_apply _ _ _ _ (ix2 b y) (fun a => by match a with | 0 => rfl | 1 => exact Nat.lt_one_iff.mp y.isLt)).trans ?_
  refine (Host.reduce_eq_fold_single (FloatOps.maximumf (F := Ideal) (φ := .f32)) l _ reducesTo_S64x1024x1_S1024x1_d0 reduces3 h_S_ (ix2 b y)).trans ?_
  have e : (l ∘ reduces3.lift (ix2 b y)) = fun k : Fin 64 => l (ix3 k b 0) := by
    funext k
    exact congrArg l ((lift3 b y k).trans (by rw [Subsingleton.elim y 0]))
  rw [e]
  rfl

theorem sum_at (l : FVec Ideal S64x1024x1 .f32) (b : Fin 1024) (y : Fin 1) :
    Host.reduceAdd l (constant (F := Ideal) S_ .f32 0x00000000#32) reducesTo_S64x1024x1_S1024x1_d0 h_S_ (ix2 b y) = ∑ k : Fin 64, l (ix3 k b 0) := by
  refine (Ideal.hostReduceAdd_single reducesTo_S64x1024x1_S1024x1_d0 reduces3 l _ (ix2 b y)).trans ?_
  have h0 : (constant (F := Ideal) S_ .f32 0x00000000#32) (Shape.Idx.first h_S_) = (0 : EReal) := Ideal.ofBits_zero_f32
  rw [h0, zero_add]
  refine Finset.sum_congr rfl fun k _ => ?_
  exact congrArg l ((lift3 b y k).trans (by rw [Subsingleton.elim y 0]))

theorem inf_eq : Ideal.ofBits .f32 0x7F800000#32 = ⊤ := by simp [Ideal.ofBits, Ideal.ieee]
theorem neg_inf_eq : Ideal.ofBits .f32 0xFF800000#32 = ⊥ := by simp [Ideal.ofBits, Ideal.ieee]

/-- What the reference takes off column `b` before the exponential: the greatest, or zero where that is not finite. -/
def colShift (W : Fin 64 → Fin 1024 → EReal) (b : Fin 1024) : EReal :=
  if max (colTop W b) (-colTop W b) < ⊤ then colTop W b else 0

theorem shift_at (l : FVec Ideal S64x1024x1 .f32) (x : Fin 1) (b : Fin 1024) (y : Fin 1) :
    shift l (ix3 x b y) = colShift (fun k b => l (ix3 k b 0)) b := by
  show Scalar.select (FloatOps.cmpf (F := Ideal) (φ := .f32) .olt (max (top l (ix3 x b y)) (-top l (ix3 x b y))) (Ideal.ofBits .f32 0x7F800000#32)) (top l (ix3 x b y))
    (Ideal.ofBits .f32 0x00000000#32) = _
  rw [top_at, inf_eq, Ideal.ofBits_zero_f32, Ideal.cmpf_def]
  unfold Ideal.cmp colShift
  by_cases h : max (colTop (fun k b => l (ix3 k b 0)) b) (-colTop (fun k b => l (ix3 k b 0)) b) < ⊤
  · rw [if_pos h]
    simp only [h, decide_true]
    rfl
  · rw [if_neg h]
    simp only [h, decide_false]
    rfl

theorem le_colTop (W : Fin 64 → Fin 1024 → EReal) (j : Fin 64) (b : Fin 1024) : W j b ≤ colTop W b :=
  (Finset.le_fold_max _).mpr (.inr ⟨j, Finset.mem_univ j, le_rfl⟩)

theorem colTop_ne_top (W : Fin 64 → Fin 1024 → EReal) (b : Fin 1024) (h : ∀ k, W k b ≠ ⊤) : colTop W b ≠ ⊤ := by
  refine ne_of_lt ((Finset.fold_max_lt _).mpr ⟨?_, fun k _ => lt_top_iff_ne_top.mpr (h k)⟩)
  rw [neg_inf_eq]
  exact bot_lt_top

/-- Where no weight of the column is infinite upwards, taking off the shift or the greatest comes to the same. -/
theorem shifted_eq (W : Fin 64 → Fin 1024 → EReal) (j : Fin 64) (b : Fin 1024) (h : ∀ k, W k b ≠ ⊤) :
    W j b - (Ideal.log (∑ k : Fin 64, Ideal.exp (W k b - colShift W b)) + colShift W b) = colNorm W j b := by
  rcases eq_or_ne (colTop W b) ⊥ with e | e
  · have hj : W j b = ⊥ := le_bot_iff.mp (e ▸ le_colTop W j b)
    unfold colNorm
    rw [hj, EReal.bot_sub, EReal.bot_sub]
  · have e' : colShift W b = colTop W b := by
      refine if_pos (max_lt (lt_top_iff_ne_top.mpr (colTop_ne_top W b h)) (lt_top_iff_ne_top.mpr fun hn => e ?_))
      rwa [EReal.neg_eq_top_iff] at hn
    rw [e']
    rfl

/-- The log of a weight over its mixture is never infinite upwards. -/
theorem log_weight_ne_top (p : EReal) : p - Ideal.log (Ideal.ofBits .f32 0x3F000000#32 * Ideal.exp p + Ideal.ofBits .f32 0x3C000000#32) ≠ ⊤ := by
  rw [half_eq, unit_eq]
  induction p with
  | bot => rw [EReal.bot_sub]; exact bot_ne_top
  | top =>
    rw [Ideal.exp_top, EReal.coe_mul_top_of_pos (by norm_num), EReal.top_add_coe, Ideal.log_top]
    exact bot_ne_top
  | coe r =>
    have hy : 0 < 1 / 2 * Real.exp r + 1 / 128 := by positivity
    rw [Ideal.exp_coe, ← EReal.coe_mul, ← EReal.coe_add, Ideal.log_coe, if_neg (not_le.mpr hy), ← EReal.coe_sub]
    exact EReal.coe_ne_top _

theorem normalized_at (l : FVec Ideal S64x1024x1 .f32) (hl : ∀ k b, l (ix3 k b (0 : Fin 1)) ≠ (⊤ : EReal)) (n : Fin 65536) (y : Fin 1) :
    normalized l (ix2 n y) = colNorm (fun k b => l (ix3 k b 0)) (⟨n.val / 1024, by have := n.isLt; omega⟩ : Fin 64) (⟨n.val % 1024, Nat.mod_lt _ (by decide)⟩ : Fin 1024) := by
  have hn := n.isLt
  let j : Fin 64 := ⟨n.val / 1024, by omega⟩
  let b : Fin 1024 := ⟨n.val % 1024, Nat.mod_lt _ (by decide)⟩
  unfold normalized
  refine (shapeCast_apply (s := S64x1024x1) _ _ (ix2 n y) (ix3 j b (0 : Fin 1)) ?_).trans ?_
  · rw [Shape.rowMajor_val_three, Shape.rowMajor_val_two]
    have := y.isLt
    show (n.val / 1024 * 1024 + n.val % 1024) * 1 + 0 = n.val * 1 + y.val
    omega
  have hb : ∀ (z : FVec Ideal S1x1024x1 .f32) (k : Fin 64), broadcastInDim S64x1024x1 ![0, 1, 2] bcast_S1x1024x1_S64x1024x1_0_1_2 z (ix3 k b (0 : Fin 1))
      = z (ix3 (0 : Fin 1) b (0 : Fin 1)) := fun z k =>
    broadcastInDim_apply _ _ _ _ _ (fun a => by match a with | 0 => rfl | 1 => rfl | 2 => rfl)
  refine Eq.trans ?_ (shifted_eq (fun k b => l (ix3 k b 0)) j b fun k => hl k b)
  refine congrArg (fun z : EReal => l (ix3 j b 0) - z) ((hb _ j).trans ?_)
  refine congrArg₂ (fun x y : EReal => x + y) ?_ (shift_at l 0 b 0)
  refine congrArg Ideal.log ?_
  refine (broadcastInDim_apply _ _ _ (ix3 (0 : Fin 1) b (0 : Fin 1)) (ix2 b (0 : Fin 1)) (fun a => by match a with | 0 => rfl | 1 => rfl)).trans ?_
  refine (sum_at _ b 0).trans (Finset.sum_congr rfl fun k _ => ?_)
  show Ideal.exp (l (ix3 k b 0) - broadcastInDim S64x1024x1 ![0, 1, 2] bcast_S1x1024x1_S64x1024x1_0_1_2 (shift l) (ix3 k b (0 : Fin 1))) = _
  rw [hb, shift_at]

end Cert.ReferenceIdeal.Value

namespace Cert.KernelIdeal.Norm

open Cert.KernelIdeal Cert.KernelIdeal.Gen Idealize.ShloMosaic Idealize.ShloMosaic.ValueIdx
open Cert.ReferenceIdeal.Value (colTop colNorm)

theorem lift2 (b : Fin 1024) (k : Fin 64) : reduces_S64x1024_S1024.lift (ix1 b) k = ix2 k b := by
  funext a
  match a with
  | 0 => rfl
  | 1 => rfl

theorem top_at (v : FVec Ideal S64x1024 .f32) (b : Fin 1024) :
    multiReduction .maximumf [0] S1024 v 0xFF800000#32 reduces_S64x1024_S1024 (.inl rfl) rfl (ix1 b) = colTop (fun k b => v (ix2 k b)) b := by
  refine (Ideal.multiReduction_maximumf_single v _ reduces_S64x1024_S1024 _ _ (ix1 b)).trans ?_
  have e : (v ∘ reduces_S64x1024_S1024.lift (ix1 b)) = fun k : Fin 64 => v (ix2 k b) := by
    funext k
    exact congrArg v (lift2 b k)
  rw [e]
  rfl

theorem sum_at (v : FVec Ideal S64x1024 .f32) (b : Fin 1024) :
    multiReduction .add [0] S1024 v 0x00000000#32 reduces_S64x1024_S1024 (.inl rfl) rfl (ix1 b) = ∑ k : Fin 64, v (ix2 k b) :=
  (Ideal.multiReduction_add_single v _ reduces_S64x1024_S1024 _ _ (ix1 b)).trans (Finset.sum_congr rfl fun k _ => congrArg v (lift2 b k))

theorem norm_at (v : FVec Ideal S64x1024 .f32) (j : Fin 64) (b : Fin 1024) : k2_pay1 (F := Ideal) v (ix2 j b) = colNorm (fun k b => v (ix2 k b)) j b := by
  have hr : ∀ z : FVec Ideal S1024 .f32, shapeCast S1x1024 z shapeCasts_S1024_S1x1024 (ix2 (0 : Fin 1) b) = z (ix1 b) := fun z => by
    refine shapeCast_apply (s := S1024) _ _ _ _ ?_
    rw [Shape.rowMajor_val_one, Shape.rowMajor_val_two]
    show b.val = 0 * 1024 + b.val
    omega
  have hb : ∀ (z : FVec Ideal S1x1024 .f32) (k : Fin 64), broadcastTo S64x1024 z broadcasts_S1x1024_S64x1024 (ix2 k b) = z (ix2 (0 : Fin 1) b) := fun z k =>
    broadcastTo_apply _ _ _ _ (fun a => by match a with | 0 => rfl | 1 => rfl)
  unfold k2_pay1
  simp only [shapeCast_self]
  unfold colNorm
  refine congrArg (fun z : EReal => v (ix2 j b) - z) ((hb _ j).trans ?_)
  refine congrArg₂ (fun x y : EReal => x + y) ?_ ((hr _).trans (top_at v b))
  refine congrArg Ideal.log ?_
  refine (hr _).trans ((sum_at _ b).trans (Finset.sum_congr rfl fun k _ => ?_))
  show Ideal.exp (v (ix2 k b) - broadcastTo S64x1024 _ broadcasts_S1x1024_S64x1024 (ix2 k b)) = _
  rw [hb, hr, top_at]

end Cert.KernelIdeal.Norm

end
-- ==== Proof.Value.lean ====
/- The kernel's two results are the reference's, at the extended reals. -/
module

public import proofs.«01_k».proof.Proof.RowsIdeal
public import proofs.«01_k».proof.Proof.Best
public import proofs.«01_k».proof.Proof.Norm

@[expose] public section

noncomputable section

namespace Cert.Proof

open Idealize.ShloMosaic Idealize.ShloMosaic.ValueIdx
open Cert.KernelIdeal.Whole
open Cert.ReferenceIdeal.Value (scores best flat logw normalized mixture)
open Cert.ReferenceIdeal.Take (at1 take take1)

variable (m : (ℓ : Loc Cert.KernelIdeal.nD Cert.KernelIdeal.τ Cert.KernelIdeal.sig) → Buf (Elt Ideal) ℓ) (d : Dev Cert.KernelIdeal.nD)

/-- The reference's arguments: the kernel's. -/
abbrev tabR : FVec Ideal Cert.ReferenceIdeal.S65536x256 .f32 := tabIn m d
abbrev probR : FVec Ideal Cert.ReferenceIdeal.S65536x1 .f32 := probIn m d
/-- The noise both draw. -/
abbrev gumR : FVec Ideal Cert.ReferenceIdeal.S1024x64x64 .f32 := gumIn (F := Ideal)

/-- The log of the mixture at entry `n`. -/
theorem log_mixture (n : Fin 65536) (y : Fin 1) :
    Ideal.log (mixture (probR m d) (ix2 n y)) = logMix (F := Ideal) (pAt m d n.val) := by
  have hn := n.isLt
  have e : (ix2 n y : Cert.ReferenceIdeal.S65536x1.Idx) = ix2 (⟨n.val % 65536, Nat.mod_lt _ (by decide)⟩ : Fin 65536) (0 : Fin 1) := by
    rw [Subsingleton.elim y 0]
    exact congrArg (fun k : Fin 65536 => (ix2 k (0 : Fin 1) : Cert.ReferenceIdeal.S65536x1.Idx)) (Fin.ext (Nat.mod_eq_of_lt hn).symm)
  rw [e]
  rfl

/-- The reference's score with any noise `g`. -/
theorem score_with (g : FVec Ideal Cert.ReferenceIdeal.S1024x64x64 .f32) (b : Fin 1024) (j k : Fin 64) : scores (probR m d) g (ix3 b j k)
    = FloatOps.addf (F := Ideal) (φ := .f32) (g (ix3 (⟨b.val % 1024, Nat.mod_lt _ (by decide)⟩ : Fin 1024)
        (⟨j.val % 64, Nat.mod_lt _ (by decide)⟩ : Fin 64) (⟨k.val % 64, Nat.mod_lt _ (by decide)⟩ : Fin 64)))
      (logMix (F := Ideal) (pAt m d (1024 * k.val + b.val))) := by
  have hb := b.isLt
  have hj := j.isLt
  have hk := k.isLt
  unfold scores
  refine congrArg₂ (fun x y : EReal => x + y) ?_ ?_
  · have e : (ix3 b j k : Cert.KernelIdeal.S1024x64x64.Idx) = ix3 (⟨b.val % 1024, Nat.mod_lt _ (by decide)⟩ : Fin 1024)
        (⟨j.val % 64, Nat.mod_lt _ (by decide)⟩ : Fin 64) (⟨k.val % 64, Nat.mod_lt _ (by decide)⟩ : Fin 64) := by
      have e1 : b = ⟨b.val % 1024, Nat.mod_lt _ (by decide)⟩ := Fin.ext (Nat.mod_eq_of_lt hb).symm
      have e2 : j = ⟨j.val % 64, Nat.mod_lt _ (by decide)⟩ := Fin.ext (Nat.mod_eq_of_lt hj).symm
      have e3 : k = ⟨k.val % 64, Nat.mod_lt _ (by decide)⟩ := Fin.ext (Nat.mod_eq_of_lt hk).symm
      rw [← e1, ← e2, ← e3]
    exact congrArg g e
  · refine (broadcastInDim_apply _ _ _ _ (ix3 b (0 : Fin 1) k) (fun a => by match a with | 0 => rfl | 1 => rfl | 2 => rfl)).trans ?_
    refine (broadcastInDim_apply _ _ _ _ (ix2 b k) (fun a => by match a with | 0 => rfl | 1 => rfl)).trans ?_
    refine Eq.trans ?_ (log_mixture m d (⟨1024 * k.val + b.val, by omega⟩ : Fin 65536) 0)
    refine congrArg Ideal.log ?_
    refine (transpose_apply _ _ _ _ (ix2 k b) (fun a => by match a with | 0 => rfl | 1 => rfl)).trans ?_
    refine shapeCast_apply _ _ _ _ ?_
    rw [Shape.rowMajor_val_two, Shape.rowMajor_val_two]
    show (1024 * k.val + b.val) * 1 + 0 = k.val * 1024 + b.val
    omega

/-- The reference's scores are the kernel's. -/
theorem score_at (b : Fin 1024) (j k : Fin 64) : scores (probR m d) gumR (ix3 b j k) = scoreOf m d j.val b.val k.val := by
  unfold scoreOf nAt
  exact score_with m d gumR b j k

/-- The rows the reference takes. -/
abbrev J : IVec Cert.ReferenceIdeal.S65536 32 := flat (best (scores (probR m d) gumR))

/-- They are those the kernel takes. -/
theorem J_at (n : Fin 65536) : J m d (at1 n) = BitVec.ofNat 32 (source m d n.val) := by
  have hn := n.isLt
  let j : Fin 64 := ⟨n.val / 1024, by omega⟩
  let b : Fin 1024 := ⟨n.val % 1024, Nat.mod_lt _ (by decide)⟩
  unfold J flat
  refine (shapeCast_apply (s := Cert.ReferenceIdeal.S64x1024) _ _ (at1 n) (ix2 j b) ?_).trans ?_
  · rw [Shape.rowMajor_val_one, Shape.rowMajor_val_two]
    show n.val / 1024 * 1024 + n.val % 1024 = n.val
    omega
  have h1 : transpose Cert.ReferenceIdeal.S64x1024 [1, 0] (best (scores (probR m d) gumR)) Cert.ReferenceIdeal.Gen.transposes_S1024x64_S64x1024_1_0 (ix2 j b)
      = BitVec.ofNat 32 (taken m d j.val b.val) := by
    refine (transpose_apply _ _ _ _ (ix2 b j) (fun a => by match a with | 0 => rfl | 1 => rfl)).trans ?_
    exact Cert.ReferenceIdeal.Value.best_at _ _ b j fun k => score_at m d b j k
  have h2 : broadcastInDim Cert.ReferenceIdeal.S64x1024 ![0, 1] Cert.ReferenceIdeal.Gen.bcast_S1x1024_S64x1024_0_1
      (broadcastInDim Cert.ReferenceIdeal.S1x1024 ![1] Cert.ReferenceIdeal.Gen.bcast_S1024_S1x1024_1 (iotaInDim Cert.ReferenceIdeal.S1024 32 0)) (ix2 j b)
      = BitVec.ofNat 32 b.val := by
    refine (broadcastInDim_apply _ _ _ _ (ix2 (0 : Fin 1) b) (fun a => by match a with | 0 => rfl | 1 => rfl)).trans ?_
    exact (broadcastInDim_apply _ _ _ _ (ix1 b) (fun a => by match a with | 0 => rfl)).trans rfl
  refine (congrArg₂ (fun x y : BitVec 32 => x + y * 1024#32) h2 h1).trans ?_
  show BitVec.ofNat 32 (n.val % 1024) + BitVec.ofNat 32 (taken m d (n.val / 1024) (n.val % 1024)) * 1024#32 = BitVec.ofNat 32 (source m d n.val)
  rw [← BitVec.ofNat_mul, ← BitVec.ofNat_add]
  unfold source
  exact congrArg (BitVec.ofNat 32) (by omega)

theorem J_lt (y : Cert.ReferenceIdeal.S65536.Idx) : (J m d y).toNat < 65536 := by
  have key : ∀ n : Fin 65536, (J m d (at1 n)).toNat < 65536 := fun n => by
    rw [J_at, toNat_source]
    exact source_lt m d _
  have e : y = at1 (y 0 : Fin 65536) := funext fun a => by match a with | 0 => rfl
  exact e ▸ key (y 0)

theorem J_toNat (n : Fin 65536) : (J m d (at1 n)).toNat = source m d n.val := by rw [J_at, toNat_source]

/-- The rows taken are the kernel's first result. -/
theorem rows_eq : take (tabR m d) (J m d) = (show FVec Ideal Cert.ReferenceIdeal.S65536x256 .f32 from V12 m d r') := by
  have key : ∀ (n : Fin 65536) (y : Fin 256), take (tabR m d) (J m d) (ix2 n y) = (show FVec Ideal Cert.KernelIdeal.S65536x256 .f32 from V12 m d r') (ix2 n y) := fun n y => by
    rw [Cert.ReferenceIdeal.Take.take_at _ _ (J_lt m d)]
    refine Eq.trans ?_ (rows_at m d n y).symm
    exact congrArg (fun k : Fin 65536 => tabIn m d (ix2 k y)) (Fin.ext (J_toNat m d n))
  funext y
  have e : y = ix2 (y 0 : Fin 65536) (y 1 : Fin 256) := eq_ix2 y
  exact e ▸ key (y 0) (y 1)

/-- One entry of the log of a quotient. -/
theorem quotient_at (q : FVec Ideal Cert.ReferenceIdeal.S65536x1 .f32) (i : Cert.ReferenceIdeal.S65536x1.Idx) :
    Host.log (Host.divf (Host.exp q) (mixture q)) i
      = Ideal.log (Ideal.div (Ideal.exp (q i)) (Ideal.ofBits .f32 0x3F000000#32 * Ideal.exp (q i) + Ideal.ofBits .f32 0x3C000000#32)) := rfl

/-- The reference's weights before the normalization are the kernel's. -/
theorem logw_at (j : Fin 64) (b : Fin 1024) : logw (take1 (probR m d) (J m d)) (ix3 j b (0 : Fin 1)) = weightsIn m d (ix2 j b) := by
  have hj := j.isLt
  have hb := b.isLt
  let n : Fin 65536 := ⟨1024 * j.val + b.val, by omega⟩
  have hp : take1 (probR m d) (J m d) (ix2 n (0 : Fin 1)) = pAt m d (source m d n.val) := by
    rw [Cert.ReferenceIdeal.Take.take1_at _ _ (J_lt m d)]
    have hs := source_lt m d n.val
    exact congrArg (fun k : Fin 65536 => probIn m d (ix2 k (0 : Fin 1))) (Fin.ext ((J_toNat m d n).trans (Nat.mod_eq_of_lt hs).symm))
  unfold logw
  refine (shapeCast_apply (s := Cert.ReferenceIdeal.S65536x1) _ _ (ix3 j b (0 : Fin 1)) (ix2 n (0 : Fin 1)) ?_).trans ?_
  · rw [Shape.rowMajor_val_two, Shape.rowMajor_val_three]
    show (1024 * j.val + b.val) * 1 + 0 = (j.val * 1024 + b.val) * 1 + 0
    omega
  rw [weights_at]
  refine Eq.trans ?_ (Cert.ReferenceIdeal.Value.log_quotient (pAt m d (source m d n.val)))
  exact (quotient_at _ _).trans (congrArg (fun q : EReal => Ideal.log (Ideal.div (Ideal.exp q) (Ideal.ofBits .f32 0x3F000000#32 * Ideal.exp q + Ideal.ofBits .f32 0x3C000000#32))) hp)

/-- The normalized weights are the kernel's second result. -/
theorem weights_eq : normalized (logw (take1 (probR m d) (J m d))) = (show FVec Ideal Cert.ReferenceIdeal.S65536x1 .f32 from V12 m d w') := by
  have key : ∀ (n : Fin 65536) (y : Fin 1), normalized (logw (take1 (probR m d) (J m d))) (ix2 n y)
      = (show FVec Ideal Cert.KernelIdeal.S65536x1 .f32 from V12 m d w') (ix2 n y) := fun n y => by
    rw [Cert.ReferenceIdeal.Value.normalized_at _ fun k b => by
      rw [logw_at m d k b, weights_at]
      exact Cert.ReferenceIdeal.Value.log_weight_ne_top _]
    refine Eq.trans ?_ (weight_at m d n y).symm
    refine Eq.trans ?_ (Cert.KernelIdeal.Norm.norm_at _ _ _).symm
    exact congrArg (fun W => Cert.ReferenceIdeal.Value.colNorm W _ _) (funext fun k => funext fun b => logw_at m d k b)
  funext y
  have e : y = ix2 (y 0 : Fin 65536) (y 1 : Fin 1) := eq_ix2 y
  exact e ▸ key (y 0) (y 1)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Rows
public import proofs.«01_k».proof.Proof.RowsIdeal
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem

/-- The kernel's run on the machine's floats. -/
theorem kernel_run (m : (ℓ : Loc Cert.Kernel.nD Cert.Kernel.τ Cert.Kernel.sig) → Buf (Elt Bits) ℓ) (g : Dev Cert.Kernel.nD → PrngReg) :
    θ_run (Cert.Kernel.defs (F := Bits)) (Cert.Kernel.threads (F := Bits)) ⟨m, fun _ => 0, g⟩ (Cert.Kernel.Whole.QC m) :=
  Cert.Kernel.Whole.run_main m g (Cert.Kernel.Whole.args_ok m)

/-- The kernel's run on the extended reals. -/
theorem ideal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (Cert.KernelIdeal.Whole.QC m) :=
  Cert.KernelIdeal.Whole.run_main m g (Cert.KernelIdeal.Whole.args_ok m)

/-- The reference's run ends with its arguments kept and its counters at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- The reference's rows, from the same arguments, are the kernel's. -/
theorem rows_of (m : (ℓ : Loc Cert.KernelIdeal.nD Cert.KernelIdeal.τ Cert.KernelIdeal.sig) → Buf (Elt Ideal) ℓ) (c : Dev Cert.KernelIdeal.nD)
    (x : FVec Ideal Cert.ReferenceIdeal.S65536x256 .f32) (p : FVec Ideal Cert.ReferenceIdeal.S65536x1 .f32)
    (hx : x = tabR m c) (hp : p = probR m c) :
    Cert.ReferenceIdeal.Take.take x (Cert.ReferenceIdeal.Value.flat (Cert.ReferenceIdeal.Value.best (Cert.ReferenceIdeal.Value.scores p Cert.Noise.noise)))
      = (show FVec Ideal Cert.ReferenceIdeal.S65536x256 .f32 from Cert.KernelIdeal.Whole.V12 m c Cert.KernelIdeal.Whole.r') := by
  subst hx hp
  exact rows_eq m c

/-- So are its weights. -/
theorem weights_of (m : (ℓ : Loc Cert.KernelIdeal.nD Cert.KernelIdeal.τ Cert.KernelIdeal.sig) → Buf (Elt Ideal) ℓ) (c : Dev Cert.KernelIdeal.nD)
    (p : FVec Ideal Cert.ReferenceIdeal.S65536x1 .f32)
    (hp : p = probR m c) :
    Cert.ReferenceIdeal.Value.normalized (Cert.ReferenceIdeal.Value.logw (Cert.ReferenceIdeal.Take.take1 p
        (Cert.ReferenceIdeal.Value.flat (Cert.ReferenceIdeal.Value.best (Cert.ReferenceIdeal.Value.scores p Cert.Noise.noise)))))
      = (show FVec Ideal Cert.ReferenceIdeal.S65536x1 .f32 from Cert.KernelIdeal.Whole.V12 m c Cert.KernelIdeal.Whole.w') := by
  subst hp
  exact weights_eq m c

theorem claim : Cert.Claim := by
  refine ⟨Cert.Kernel.Gen.facts, Cert.KernelIdeal.Gen.facts, Cert.ReferenceIdeal.Gen.facts, ?_, ?_, ?_, trivial, ?_⟩
  · exact fun m g _ => (θ_run Cert.Kernel.defs _ _).mono (fun _ hq => ⟨fun c => (hq.1 c).2.2, hq.2⟩) (kernel_run m g)
  · exact fun m g _ => (θ_run Cert.KernelIdeal.defs _ _).mono (fun _ hq => ⟨fun c => (hq.1 c).2.2, hq.2⟩) (ideal_run m g)
  · exact fun m g _ => reference_frame m g
  · intro m g m' g' _ hm
    refine ⟨fun c => Cert.KernelIdeal.Whole.V12 m c Cert.KernelIdeal.Whole.r', fun c => Cert.KernelIdeal.Whole.V12 m c Cert.KernelIdeal.Whole.w', ?_, ?_⟩
    · exact (θ_run Cert.KernelIdeal.defs _ _).mono (fun _ hq => hq.1) (ideal_run m g)
    · exact (θ_run Cert.ReferenceIdeal.defs _ _).mono
        (fun _ hq c => ⟨(hq c).1.trans (rows_of m c _ _ (hm c).1 (hm c).2),
          (hq c).2.1.trans (weights_of m c _ (hm c).2), (hq c).2.2⟩) (Cert.ReferenceIdeal.Value.run (F := Ideal) m' g')

end Cert.Proof

end
